-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_finite [hPre_ffn_finite : Cert.Pre_ffn_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))) = (fun _ => 1#1)

def Pre_WideGrad (m : (ℓ : Loc Cert.WideGrad.nD Cert.WideGrad.τ Cert.WideGrad.sig) → Buf (Elt Bits) ℓ) : Prop :=
  True

def Pre_WideGradIdeal (m : (ℓ : Loc Cert.WideGradIdeal.nD Cert.WideGradIdeal.τ Cert.WideGradIdeal.sig) → Buf (Elt Ideal) ℓ) : Prop :=
  True

def Pre_WideGradRefIdeal (m : (ℓ : Loc Cert.WideGradRefIdeal.nD Cert.WideGradRefIdeal.τ Cert.WideGradRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_LossFwd (m : (ℓ : Loc Cert.LossFwd.nD Cert.LossFwd.τ Cert.LossFwd.sig) → Buf (Elt Bits) ℓ) : Prop :=
  True

def Pre_LossFwdIdeal (m : (ℓ : Loc Cert.LossFwdIdeal.nD Cert.LossFwdIdeal.τ Cert.LossFwdIdeal.sig) → Buf (Elt Ideal) ℓ) : Prop :=
  True

def Pre_LossFwdRefIdeal (m : (ℓ : Loc Cert.LossFwdRefIdeal.nD Cert.LossFwdRefIdeal.τ Cert.LossFwdRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_QueryGrad (m : (ℓ : Loc Cert.QueryGrad.nD Cert.QueryGrad.τ Cert.QueryGrad.sig) → Buf (Elt Bits) ℓ) : Prop :=
  True

def Pre_QueryGradIdeal (m : (ℓ : Loc Cert.QueryGradIdeal.nD Cert.QueryGradIdeal.τ Cert.QueryGradIdeal.sig) → Buf (Elt Ideal) ℓ) : Prop :=
  True

def Pre_QueryGradRefIdeal (m : (ℓ : Loc Cert.QueryGradRefIdeal.nD Cert.QueryGradRefIdeal.τ Cert.QueryGradRefIdeal.sig) → Buf (Elt Ideal) ℓ) : Prop :=
  True

def Pre_KeyGrad (m : (ℓ : Loc Cert.KeyGrad.nD Cert.KeyGrad.τ Cert.KeyGrad.sig) → Buf (Elt Bits) ℓ) : Prop :=
  True

def Pre_KeyGradIdeal (m : (ℓ : Loc Cert.KeyGradIdeal.nD Cert.KeyGradIdeal.τ Cert.KeyGradIdeal.sig) → Buf (Elt Ideal) ℓ) : Prop :=
  True

def Pre_KeyGradRefIdeal (m : (ℓ : Loc Cert.KeyGradRefIdeal.nD Cert.KeyGradRefIdeal.τ Cert.KeyGradRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_LatentFwd (m : (ℓ : Loc Cert.LatentFwd.nD Cert.LatentFwd.τ Cert.LatentFwd.sig) → Buf (Elt Bits) ℓ) : Prop :=
  True

def Pre_LatentFwdIdeal (m : (ℓ : Loc Cert.LatentFwdIdeal.nD Cert.LatentFwdIdeal.τ Cert.LatentFwdIdeal.sig) → Buf (Elt Ideal) ℓ) : Prop :=
  True

def Pre_LatentFwdIdeal_latent_finite [hPre_latent_finite : Cert.Pre_latent_finite.Facts] (m : (ℓ : Loc Cert.LatentFwdIdeal.nD Cert.LatentFwdIdeal.τ Cert.LatentFwdIdeal.sig) → Buf (Elt Ideal) ℓ) : Prop :=
  ∀ c : Dev Cert.LatentFwdIdeal.nD,
    (Cert.Pre_latent_finite.fn (F := Ideal) (m ((c.tc : Thread Cert.LatentFwdIdeal.nD Cert.LatentFwdIdeal.τ).loc Cert.LatentFwdIdeal.main_arg0)) (m ((c.tc : Thread Cert.LatentFwdIdeal.nD Cert.LatentFwdIdeal.τ).loc Cert.LatentFwdIdeal.main_arg1)) (m ((c.tc : Thread Cert.LatentFwdIdeal.nD Cert.LatentFwdIdeal.τ).loc Cert.LatentFwdIdeal.main_arg2))) = (fun _ => 1#1)

def Pre_LatentFwdRefIdeal (m : (ℓ : Loc Cert.LatentFwdRefIdeal.nD Cert.LatentFwdRefIdeal.τ Cert.LatentFwdRefIdeal.sig) → Buf (Elt Ideal) ℓ) : Prop :=
  True

def Pre_LatentFwdRefIdeal_latent_finite [hPre_latent_finite : Cert.Pre_latent_finite.Facts] (m : (ℓ : Loc Cert.LatentFwdRefIdeal.nD Cert.LatentFwdRefIdeal.τ Cert.LatentFwdRefIdeal.sig) → Buf (Elt Ideal) ℓ) : Prop :=
  ∀ c : Dev Cert.LatentFwdRefIdeal.nD,
    (Cert.Pre_latent_finite.fn (F := Ideal) (m ((c.tc : Thread Cert.LatentFwdRefIdeal.nD Cert.LatentFwdRefIdeal.τ).loc Cert.LatentFwdRefIdeal.main_arg0)) (m ((c.tc : Thread Cert.LatentFwdRefIdeal.nD Cert.LatentFwdRefIdeal.τ).loc Cert.LatentFwdRefIdeal.main_arg1)) (m ((c.tc : Thread Cert.LatentFwdRefIdeal.nD Cert.LatentFwdRefIdeal.τ).loc Cert.LatentFwdRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_ffn_finite [hFfnBwdRefIdeal : Cert.FfnBwdRefIdeal.Facts] [hPre_ffn_finite : Cert.Pre_ffn_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_WideGrad [hWideGrad : Cert.WideGrad.Facts] : Prop :=
  ∀ (m : (ℓ : Loc Cert.WideGrad.nD Cert.WideGrad.τ Cert.WideGrad.sig) → Buf (Elt Bits) ℓ) (g : Dev Cert.WideGrad.nD → PrngReg), Pre_WideGrad m →
    θ_run (Cert.WideGrad.defs (F := Bits)) (onTc (τ := Cert.WideGrad.τ) (Cert.WideGrad.main (F := Bits))) ⟨m, fun _ => 0, g⟩ (fun r => (∀ c : Dev Cert.WideGrad.nD,
      r.2.mem ((c.tc : Thread Cert.WideGrad.nD Cert.WideGrad.τ).loc Cert.WideGrad.main_arg0) = m ((c.tc : Thread Cert.WideGrad.nD Cert.WideGrad.τ).loc Cert.WideGrad.main_arg0)
      ∧ r.2.mem ((c.tc : Thread Cert.WideGrad.nD Cert.WideGrad.τ).loc Cert.WideGrad.main_arg1) = m ((c.tc : Thread Cert.WideGrad.nD Cert.WideGrad.τ).loc Cert.WideGrad.main_arg1))
      ∧ r.2.sem = fun _ => 0)

def quiescent_WideGradIdeal [hWideGradIdeal : Cert.WideGradIdeal.Facts] : Prop :=
  ∀ (m : (ℓ : Loc Cert.WideGradIdeal.nD Cert.WideGradIdeal.τ Cert.WideGradIdeal.sig) → Buf (Elt Ideal) ℓ) (g : Dev Cert.WideGradIdeal.nD → PrngReg), Pre_WideGradIdeal m →
    θ_run (Cert.WideGradIdeal.defs (F := Ideal)) (onTc (τ := Cert.WideGradIdeal.τ) (Cert.WideGradIdeal.main (F := Ideal))) ⟨m, fun _ => 0, g⟩ (fun r => (∀ c : Dev Cert.WideGradIdeal.nD,
      r.2.mem ((c.tc : Thread Cert.WideGradIdeal.nD Cert.WideGradIdeal.τ).loc Cert.WideGradIdeal.main_arg0) = m ((c.tc : Thread Cert.WideGradIdeal.nD Cert.WideGradIdeal.τ).loc Cert.WideGradIdeal.main_arg0)
      ∧ r.2.mem ((c.tc : Thread Cert.WideGradIdeal.nD Cert.WideGradIdeal.τ).loc Cert.WideGradIdeal.main_arg1) = m ((c.tc : Thread Cert.WideGradIdeal.nD Cert.WideGradIdeal.τ).loc Cert.WideGradIdeal.main_arg1))
      ∧ r.2.sem = fun _ => 0)

def quiescent_WideGradRefIdeal [hWideGradRefIdeal : Cert.WideGradRefIdeal.Facts] : Prop :=
  ∀ (m : (ℓ : Loc Cert.WideGradRefIdeal.nD Cert.WideGradRefIdeal.τ Cert.WideGradRefIdeal.sig) → Buf (Elt Ideal) ℓ) (g : Dev Cert.WideGradRefIdeal.nD → PrngReg), Pre_WideGradRefIdeal m →
    θ_run (Cert.WideGradRefIdeal.defs (F := Ideal)) (onTc (τ := Cert.WideGradRefIdeal.τ) (Cert.WideGradRefIdeal.main (F := Ideal))) ⟨m, fun _ => 0, g⟩ (fun r => (∀ c : Dev Cert.WideGradRefIdeal.nD,
      r.2.mem ((c.tc : Thread Cert.WideGradRefIdeal.nD Cert.WideGradRefIdeal.τ).loc Cert.WideGradRefIdeal.main_arg0) = m ((c.tc : Thread Cert.WideGradRefIdeal.nD Cert.WideGradRefIdeal.τ).loc Cert.WideGradRefIdeal.main_arg0)
      ∧ r.2.mem ((c.tc : Thread Cert.WideGradRefIdeal.nD Cert.WideGradRefIdeal.τ).loc Cert.WideGradRefIdeal.main_arg1) = m ((c.tc : Thread Cert.WideGradRefIdeal.nD Cert.WideGradRefIdeal.τ).loc Cert.WideGradRefIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_LossFwd [hLossFwd : Cert.LossFwd.Facts] : Prop :=
  ∀ (m : (ℓ : Loc Cert.LossFwd.nD Cert.LossFwd.τ Cert.LossFwd.sig) → Buf (Elt Bits) ℓ) (g : Dev Cert.LossFwd.nD → PrngReg), Pre_LossFwd m →
    θ_run (Cert.LossFwd.defs (F := Bits)) (onTc (τ := Cert.LossFwd.τ) (Cert.LossFwd.main (F := Bits))) ⟨m, fun _ => 0, g⟩ (fun r => (∀ c : Dev Cert.LossFwd.nD,
      r.2.mem ((c.tc : Thread Cert.LossFwd.nD Cert.LossFwd.τ).loc Cert.LossFwd.main_arg0) = m ((c.tc : Thread Cert.LossFwd.nD Cert.LossFwd.τ).loc Cert.LossFwd.main_arg0)
      ∧ r.2.mem ((c.tc : Thread Cert.LossFwd.nD Cert.LossFwd.τ).loc Cert.LossFwd.main_arg1) = m ((c.tc : Thread Cert.LossFwd.nD Cert.LossFwd.τ).loc Cert.LossFwd.main_arg1)
      ∧ r.2.mem ((c.tc : Thread Cert.LossFwd.nD Cert.LossFwd.τ).loc Cert.LossFwd.main_arg2) = m ((c.tc : Thread Cert.LossFwd.nD Cert.LossFwd.τ).loc Cert.LossFwd.main_arg2)
      ∧ r.2.mem ((c.tc : Thread Cert.LossFwd.nD Cert.LossFwd.τ).loc Cert.LossFwd.main_arg3) = m ((c.tc : Thread Cert.LossFwd.nD Cert.LossFwd.τ).loc Cert.LossFwd.main_arg3)
      ∧ r.2.mem ((c.tc : Thread Cert.LossFwd.nD Cert.LossFwd.τ).loc Cert.LossFwd.main_arg4) = m ((c.tc : Thread Cert.LossFwd.nD Cert.LossFwd.τ).loc Cert.LossFwd.main_arg4)
      ∧ r.2.mem ((c.tc : Thread Cert.LossFwd.nD Cert.LossFwd.τ).loc Cert.LossFwd.main_arg5) = m ((c.tc : Thread Cert.LossFwd.nD Cert.LossFwd.τ).loc Cert.LossFwd.main_arg5)
      ∧ r.2.mem ((c.tc : Thread Cert.LossFwd.nD Cert.LossFwd.τ).loc Cert.LossFwd.main_arg6) = m ((c.tc : Thread Cert.LossFwd.nD Cert.LossFwd.τ).loc Cert.LossFwd.main_arg6))
      ∧ r.2.sem = fun _ => 0)

def quiescent_LossFwdIdeal [hLossFwdIdeal : Cert.LossFwdIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg), Pre_LossFwdIdeal m →
    θ_run (Cert.LossFwdIdeal.defs (F := Ideal)) (onTc (τ := Cert.LossFwdIdeal.τ) (Cert.LossFwdIdeal.main (F := Ideal))) ⟨m, fun _ => 0, g⟩ (fun r => (∀ c : Dev Cert.LossFwdIdeal.nD,
      r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
      ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1)
      ∧ r.2.mem ((c.tc : Thread Cert.LossFwdIdeal.nD Cert.LossFwdIdeal.τ).loc Cert.LossFwdIdeal.main_arg2) = m ((c.tc : Thread Cert.LossFwdIdeal.nD Cert.LossFwdIdeal.τ).loc Cert.LossFwdIdeal.main_arg2)
      ∧ r.2.mem ((c.tc : Thread Cert.LossFwdIdeal.nD Cert.LossFwdIdeal.τ).loc Cert.LossFwdIdeal.main_arg3) = m ((c.tc : Thread Cert.LossFwdIdeal.nD Cert.LossFwdIdeal.τ).loc Cert.LossFwdIdeal.main_arg3)
      ∧ r.2.mem ((c.tc : Thread Cert.LossFwdIdeal.nD Cert.LossFwdIdeal.τ).loc Cert.LossFwdIdeal.main_arg4) = m ((c.tc : Thread Cert.LossFwdIdeal.nD Cert.LossFwdIdeal.τ).loc Cert.LossFwdIdeal.main_arg4)
      ∧ r.2.mem ((c.tc : Thread Cert.LossFwdIdeal.nD Cert.LossFwdIdeal.τ).loc Cert.LossFwdIdeal.main_arg5) = m ((c.tc : Thread Cert.LossFwdIdeal.nD Cert.LossFwdIdeal.τ).loc Cert.LossFwdIdeal.main_arg5)
      ∧ r.2.mem ((c.tc : Thread Cert.LossFwdIdeal.nD Cert.LossFwdIdeal.τ).loc Cert.LossFwdIdeal.main_arg6) = m ((c.tc : Thread Cert.LossFwdIdeal.nD Cert.LossFwdIdeal.τ).loc Cert.LossFwdIdeal.main_arg6))
      ∧ r.2.sem = fun _ => 0)

def quiescent_LossFwdRefIdeal [hLossFwdRefIdeal : Cert.LossFwdRefIdeal.Facts] : Prop :=
  ∀ (m : (ℓ : Loc Cert.LossFwdRefIdeal.nD Cert.LossFwdRefIdeal.τ Cert.LossFwdRefIdeal.sig) → Buf (Elt Ideal) ℓ) (g : Dev Cert.LossFwdRefIdeal.nD → PrngReg), Pre_LossFwdRefIdeal m →
    θ_run (Cert.LossFwdRefIdeal.defs (F := Ideal)) (onTc (τ := Cert.LossFwdRefIdeal.τ) (Cert.LossFwdRefIdeal.main (F := Ideal))) ⟨m, fun _ => 0, g⟩ (fun r => (∀ c : Dev Cert.LossFwdRefIdeal.nD,
      r.2.mem ((c.tc : Thread Cert.LossFwdRefIdeal.nD Cert.LossFwdRefIdeal.τ).loc Cert.LossFwdRefIdeal.main_arg0) = m ((c.tc : Thread Cert.LossFwdRefIdeal.nD Cert.LossFwdRefIdeal.τ).loc Cert.LossFwdRefIdeal.main_arg0)
      ∧ r.2.mem ((c.tc : Thread Cert.LossFwdRefIdeal.nD Cert.LossFwdRefIdeal.τ).loc Cert.LossFwdRefIdeal.main_arg1) = m ((c.tc : Thread Cert.LossFwdRefIdeal.nD Cert.LossFwdRefIdeal.τ).loc Cert.LossFwdRefIdeal.main_arg1)
      ∧ r.2.mem ((c.tc : Thread Cert.LossFwdRefIdeal.nD Cert.LossFwdRefIdeal.τ).loc Cert.LossFwdRefIdeal.main_arg2) = m ((c.tc : Thread Cert.LossFwdRefIdeal.nD Cert.LossFwdRefIdeal.τ).loc Cert.LossFwdRefIdeal.main_arg2)
      ∧ r.2.mem ((c.tc : Thread Cert.LossFwdRefIdeal.nD Cert.LossFwdRefIdeal.τ).loc Cert.LossFwdRefIdeal.main_arg3) = m ((c.tc : Thread Cert.LossFwdRefIdeal.nD Cert.LossFwdRefIdeal.τ).loc Cert.LossFwdRefIdeal.main_arg3)
      ∧ r.2.mem ((c.tc : Thread Cert.LossFwdRefIdeal.nD Cert.LossFwdRefIdeal.τ).loc Cert.LossFwdRefIdeal.main_arg4) = m ((c.tc : Thread Cert.LossFwdRefIdeal.nD Cert.LossFwdRefIdeal.τ).loc Cert.LossFwdRefIdeal.main_arg4)
      ∧ r.2.mem ((c.tc : Thread Cert.LossFwdRefIdeal.nD Cert.LossFwdRefIdeal.τ).loc Cert.LossFwdRefIdeal.main_arg5) = m ((c.tc : Thread Cert.LossFwdRefIdeal.nD Cert.LossFwdRefIdeal.τ).loc Cert.LossFwdRefIdeal.main_arg5)
      ∧ r.2.mem ((c.tc : Thread Cert.LossFwdRefIdeal.nD Cert.LossFwdRefIdeal.τ).loc Cert.LossFwdRefIdeal.main_arg6) = m ((c.tc : Thread Cert.LossFwdRefIdeal.nD Cert.LossFwdRefIdeal.τ).loc Cert.LossFwdRefIdeal.main_arg6))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1))
      ∧ r.2.sem = fun _ => 0)

def quiescent_QueryGrad [hQueryGrad : Cert.QueryGrad.Facts] : Prop :=
  ∀ (m : (ℓ : Loc Cert.QueryGrad.nD Cert.QueryGrad.τ Cert.QueryGrad.sig) → Buf (Elt Bits) ℓ) (g : Dev Cert.QueryGrad.nD → PrngReg), Pre_QueryGrad m →
    θ_run (Cert.QueryGrad.defs (F := Bits)) (onTc (τ := Cert.QueryGrad.τ) (Cert.QueryGrad.main (F := Bits))) ⟨m, fun _ => 0, g⟩ (fun r => (∀ c : Dev Cert.QueryGrad.nD,
      r.2.mem ((c.tc : Thread Cert.QueryGrad.nD Cert.QueryGrad.τ).loc Cert.QueryGrad.main_arg0) = m ((c.tc : Thread Cert.QueryGrad.nD Cert.QueryGrad.τ).loc Cert.QueryGrad.main_arg0)
      ∧ r.2.mem ((c.tc : Thread Cert.QueryGrad.nD Cert.QueryGrad.τ).loc Cert.QueryGrad.main_arg1) = m ((c.tc : Thread Cert.QueryGrad.nD Cert.QueryGrad.τ).loc Cert.QueryGrad.main_arg1))
      ∧ r.2.sem = fun _ => 0)

def quiescent_QueryGradIdeal [hQueryGradIdeal : Cert.QueryGradIdeal.Facts] : Prop :=
  ∀ (m : (ℓ : Loc Cert.QueryGradIdeal.nD Cert.QueryGradIdeal.τ Cert.QueryGradIdeal.sig) → Buf (Elt Ideal) ℓ) (g : Dev Cert.QueryGradIdeal.nD → PrngReg), Pre_QueryGradIdeal m →
    θ_run (Cert.QueryGradIdeal.defs (F := Ideal)) (onTc (τ := Cert.QueryGradIdeal.τ) (Cert.QueryGradIdeal.main (F := Ideal))) ⟨m, fun _ => 0, g⟩ (fun r => (∀ c : Dev Cert.QueryGradIdeal.nD,
      r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
      ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1))
      ∧ r.2.sem = fun _ => 0)

def quiescent_QueryGradRefIdeal [hQueryGradRefIdeal : Cert.QueryGradRefIdeal.Facts] : Prop :=
  ∀ (m : (ℓ : Loc Cert.QueryGradRefIdeal.nD Cert.QueryGradRefIdeal.τ Cert.QueryGradRefIdeal.sig) → Buf (Elt Ideal) ℓ) (g : Dev Cert.QueryGradRefIdeal.nD → PrngReg), Pre_QueryGradRefIdeal m →
    θ_run (Cert.QueryGradRefIdeal.defs (F := Ideal)) (onTc (τ := Cert.QueryGradRefIdeal.τ) (Cert.QueryGradRefIdeal.main (F := Ideal))) ⟨m, fun _ => 0, g⟩ (fun r => (∀ c : Dev Cert.QueryGradRefIdeal.nD,
      r.2.mem ((c.tc : Thread Cert.QueryGradRefIdeal.nD Cert.QueryGradRefIdeal.τ).loc Cert.QueryGradRefIdeal.main_arg0) = m ((c.tc : Thread Cert.QueryGradRefIdeal.nD Cert.QueryGradRefIdeal.τ).loc Cert.QueryGradRefIdeal.main_arg0)
      ∧ r.2.mem ((c.tc : Thread Cert.QueryGradRefIdeal.nD Cert.QueryGradRefIdeal.τ).loc Cert.QueryGradRefIdeal.main_arg1) = m ((c.tc : Thread Cert.QueryGradRefIdeal.nD Cert.QueryGradRefIdeal.τ).loc Cert.QueryGradRefIdeal.main_arg1))
      ∧ r.2.sem = fun _ => 0)

def quiescent_KeyGrad [hKeyGrad : Cert.KeyGrad.Facts] : Prop :=
  ∀ (m : (ℓ : Loc Cert.KeyGrad.nD Cert.KeyGrad.τ Cert.KeyGrad.sig) → Buf (Elt Bits) ℓ) (g : Dev Cert.KeyGrad.nD → PrngReg), Pre_KeyGrad m →
    θ_run (Cert.KeyGrad.defs (F := Bits)) (onTc (τ := Cert.KeyGrad.τ) (Cert.KeyGrad.main (F := Bits))) ⟨m, fun _ => 0, g⟩ (fun r => (∀ c : Dev Cert.KeyGrad.nD,
      r.2.mem ((c.tc : Thread Cert.KeyGrad.nD Cert.KeyGrad.τ).loc Cert.KeyGrad.main_arg0) = m ((c.tc : Thread Cert.KeyGrad.nD Cert.KeyGrad.τ).loc Cert.KeyGrad.main_arg0)
      ∧ r.2.mem ((c.tc : Thread Cert.KeyGrad.nD Cert.KeyGrad.τ).loc Cert.KeyGrad.main_arg1) = m ((c.tc : Thread Cert.KeyGrad.nD Cert.KeyGrad.τ).loc Cert.KeyGrad.main_arg1))
      ∧ r.2.sem = fun _ => 0)

def quiescent_KeyGradIdeal [hKeyGradIdeal : Cert.KeyGradIdeal.Facts] : Prop :=
  ∀ (m : (ℓ : Loc Cert.KeyGradIdeal.nD Cert.KeyGradIdeal.τ Cert.KeyGradIdeal.sig) → Buf (Elt Ideal) ℓ) (g : Dev Cert.KeyGradIdeal.nD → PrngReg), Pre_KeyGradIdeal m →
    θ_run (Cert.KeyGradIdeal.defs (F := Ideal)) (onTc (τ := Cert.KeyGradIdeal.τ) (Cert.KeyGradIdeal.main (F := Ideal))) ⟨m, fun _ => 0, g⟩ (fun r => (∀ c : Dev Cert.KeyGradIdeal.nD,
      r.2.mem ((c.tc : Thread Cert.KeyGradIdeal.nD Cert.KeyGradIdeal.τ).loc Cert.KeyGradIdeal.main_arg0) = m ((c.tc : Thread Cert.KeyGradIdeal.nD Cert.KeyGradIdeal.τ).loc Cert.KeyGradIdeal.main_arg0)
      ∧ r.2.mem ((c.tc : Thread Cert.KeyGradIdeal.nD Cert.KeyGradIdeal.τ).loc Cert.KeyGradIdeal.main_arg1) = m ((c.tc : Thread Cert.KeyGradIdeal.nD Cert.KeyGradIdeal.τ).loc Cert.KeyGradIdeal.main_arg1))
      ∧ r.2.sem = fun _ => 0)

def quiescent_KeyGradRefIdeal [hKeyGradRefIdeal : Cert.KeyGradRefIdeal.Facts] : Prop :=
  ∀ (m : (ℓ : Loc Cert.KeyGradRefIdeal.nD Cert.KeyGradRefIdeal.τ Cert.KeyGradRefIdeal.sig) → Buf (Elt Ideal) ℓ) (g : Dev Cert.KeyGradRefIdeal.nD → PrngReg), Pre_KeyGradRefIdeal m →
    θ_run (Cert.KeyGradRefIdeal.defs (F := Ideal)) (onTc (τ := Cert.KeyGradRefIdeal.τ) (Cert.KeyGradRefIdeal.main (F := Ideal))) ⟨m, fun _ => 0, g⟩ (fun r => (∀ c : Dev Cert.KeyGradRefIdeal.nD,
      r.2.mem ((c.tc : Thread Cert.KeyGradRefIdeal.nD Cert.KeyGradRefIdeal.τ).loc Cert.KeyGradRefIdeal.main_arg0) = m ((c.tc : Thread Cert.KeyGradRefIdeal.nD Cert.KeyGradRefIdeal.τ).loc Cert.KeyGradRefIdeal.main_arg0)
      ∧ r.2.mem ((c.tc : Thread Cert.KeyGradRefIdeal.nD Cert.KeyGradRefIdeal.τ).loc Cert.KeyGradRefIdeal.main_arg1) = m ((c.tc : Thread Cert.KeyGradRefIdeal.nD Cert.KeyGradRefIdeal.τ).loc Cert.KeyGradRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5))
      ∧ r.2.sem = fun _ => 0)

def quiescent_LatentFwd [hLatentFwd : Cert.LatentFwd.Facts] : Prop :=
  ∀ (m : (ℓ : Loc Cert.LatentFwd.nD Cert.LatentFwd.τ Cert.LatentFwd.sig) → Buf (Elt Bits) ℓ) (g : Dev Cert.LatentFwd.nD → PrngReg), Pre_LatentFwd m →
    θ_run (Cert.LatentFwd.defs (F := Bits)) (onTc (τ := Cert.LatentFwd.τ) (Cert.LatentFwd.main (F := Bits))) ⟨m, fun _ => 0, g⟩ (fun r => (∀ c : Dev Cert.LatentFwd.nD,
      r.2.mem ((c.tc : Thread Cert.LatentFwd.nD Cert.LatentFwd.τ).loc Cert.LatentFwd.main_arg0) = m ((c.tc : Thread Cert.LatentFwd.nD Cert.LatentFwd.τ).loc Cert.LatentFwd.main_arg0)
      ∧ r.2.mem ((c.tc : Thread Cert.LatentFwd.nD Cert.LatentFwd.τ).loc Cert.LatentFwd.main_arg1) = m ((c.tc : Thread Cert.LatentFwd.nD Cert.LatentFwd.τ).loc Cert.LatentFwd.main_arg1)
      ∧ r.2.mem ((c.tc : Thread Cert.LatentFwd.nD Cert.LatentFwd.τ).loc Cert.LatentFwd.main_arg2) = m ((c.tc : Thread Cert.LatentFwd.nD Cert.LatentFwd.τ).loc Cert.LatentFwd.main_arg2))
      ∧ r.2.sem = fun _ => 0)

def quiescent_LatentFwdIdeal [hLatentFwdIdeal : Cert.LatentFwdIdeal.Facts] : Prop :=
  ∀ (m : (ℓ : Loc Cert.LatentFwdIdeal.nD Cert.LatentFwdIdeal.τ Cert.LatentFwdIdeal.sig) → Buf (Elt Ideal) ℓ) (g : Dev Cert.LatentFwdIdeal.nD → PrngReg), Pre_LatentFwdIdeal m →
    θ_run (Cert.LatentFwdIdeal.defs (F := Ideal)) (onTc (τ := Cert.LatentFwdIdeal.τ) (Cert.LatentFwdIdeal.main (F := Ideal))) ⟨m, fun _ => 0, g⟩ (fun r => (∀ c : Dev Cert.LatentFwdIdeal.nD,
      r.2.mem ((c.tc : Thread Cert.LatentFwdIdeal.nD Cert.LatentFwdIdeal.τ).loc Cert.LatentFwdIdeal.main_arg0) = m ((c.tc : Thread Cert.LatentFwdIdeal.nD Cert.LatentFwdIdeal.τ).loc Cert.LatentFwdIdeal.main_arg0)
      ∧ r.2.mem ((c.tc : Thread Cert.LatentFwdIdeal.nD Cert.LatentFwdIdeal.τ).loc Cert.LatentFwdIdeal.main_arg1) = m ((c.tc : Thread Cert.LatentFwdIdeal.nD Cert.LatentFwdIdeal.τ).loc Cert.LatentFwdIdeal.main_arg1)
      ∧ r.2.mem ((c.tc : Thread Cert.LatentFwdIdeal.nD Cert.LatentFwdIdeal.τ).loc Cert.LatentFwdIdeal.main_arg2) = m ((c.tc : Thread Cert.LatentFwdIdeal.nD Cert.LatentFwdIdeal.τ).loc Cert.LatentFwdIdeal.main_arg2))
      ∧ r.2.sem = fun _ => 0)

def quiescent_LatentFwdIdeal_pre_latent_finite [hLatentFwdIdeal : Cert.LatentFwdIdeal.Facts] [hPre_latent_finite : Cert.Pre_latent_finite.Facts] : Prop :=
  ∀ (m : (ℓ : Loc Cert.LatentFwdIdeal.nD Cert.LatentFwdIdeal.τ Cert.LatentFwdIdeal.sig) → Buf (Elt Ideal) ℓ) (g : Dev Cert.LatentFwdIdeal.nD → PrngReg), Pre_LatentFwdIdeal_latent_finite m →
    θ_run (Cert.LatentFwdIdeal.defs (F := Ideal)) (onTc (τ := Cert.LatentFwdIdeal.τ) (Cert.LatentFwdIdeal.main (F := Ideal))) ⟨m, fun _ => 0, g⟩ (fun r => (∀ c : Dev Cert.LatentFwdIdeal.nD,
      r.2.mem ((c.tc : Thread Cert.LatentFwdIdeal.nD Cert.LatentFwdIdeal.τ).loc Cert.LatentFwdIdeal.main_arg0) = m ((c.tc : Thread Cert.LatentFwdIdeal.nD Cert.LatentFwdIdeal.τ).loc Cert.LatentFwdIdeal.main_arg0)
      ∧ r.2.mem ((c.tc : Thread Cert.LatentFwdIdeal.nD Cert.LatentFwdIdeal.τ).loc Cert.LatentFwdIdeal.main_arg1) = m ((c.tc : Thread Cert.LatentFwdIdeal.nD Cert.LatentFwdIdeal.τ).loc Cert.LatentFwdIdeal.main_arg1)
      ∧ r.2.mem ((c.tc : Thread Cert.LatentFwdIdeal.nD Cert.LatentFwdIdeal.τ).loc Cert.LatentFwdIdeal.main_arg2) = m ((c.tc : Thread Cert.LatentFwdIdeal.nD Cert.LatentFwdIdeal.τ).loc Cert.LatentFwdIdeal.main_arg2))
      ∧ r.2.sem = fun _ => 0)

def quiescent_LatentFwdRefIdeal [hLatentFwdRefIdeal : Cert.LatentFwdRefIdeal.Facts] : Prop :=
  ∀ (m : (ℓ : Loc Cert.LatentFwdRefIdeal.nD Cert.LatentFwdRefIdeal.τ Cert.LatentFwdRefIdeal.sig) → Buf (Elt Ideal) ℓ) (g : Dev Cert.LatentFwdRefIdeal.nD → PrngReg), Pre_LatentFwdRefIdeal m →
    θ_run (Cert.LatentFwdRefIdeal.defs (F := Ideal)) (onTc (τ := Cert.LatentFwdRefIdeal.τ) (Cert.LatentFwdRefIdeal.main (F := Ideal))) ⟨m, fun _ => 0, g⟩ (fun r => (∀ c : Dev Cert.LatentFwdRefIdeal.nD,
      r.2.mem ((c.tc : Thread Cert.LatentFwdRefIdeal.nD Cert.LatentFwdRefIdeal.τ).loc Cert.LatentFwdRefIdeal.main_arg0) = m ((c.tc : Thread Cert.LatentFwdRefIdeal.nD Cert.LatentFwdRefIdeal.τ).loc Cert.LatentFwdRefIdeal.main_arg0)
      ∧ r.2.mem ((c.tc : Thread Cert.LatentFwdRefIdeal.nD Cert.LatentFwdRefIdeal.τ).loc Cert.LatentFwdRefIdeal.main_arg1) = m ((c.tc : Thread Cert.LatentFwdRefIdeal.nD Cert.LatentFwdRefIdeal.τ).loc Cert.LatentFwdRefIdeal.main_arg1)
      ∧ r.2.mem ((c.tc : Thread Cert.LatentFwdRefIdeal.nD Cert.LatentFwdRefIdeal.τ).loc Cert.LatentFwdRefIdeal.main_arg2) = m ((c.tc : Thread Cert.LatentFwdRefIdeal.nD Cert.LatentFwdRefIdeal.τ).loc Cert.LatentFwdRefIdeal.main_arg2))
      ∧ r.2.sem = fun _ => 0)

def quiescent_LatentFwdRefIdeal_pre_latent_finite [hLatentFwdRefIdeal : Cert.LatentFwdRefIdeal.Facts] [hPre_latent_finite : Cert.Pre_latent_finite.Facts] : Prop :=
  ∀ (m : (ℓ : Loc Cert.LatentFwdRefIdeal.nD Cert.LatentFwdRefIdeal.τ Cert.LatentFwdRefIdeal.sig) → Buf (Elt Ideal) ℓ) (g : Dev Cert.LatentFwdRefIdeal.nD → PrngReg), Pre_LatentFwdRefIdeal_latent_finite m →
    θ_run (Cert.LatentFwdRefIdeal.defs (F := Ideal)) (onTc (τ := Cert.LatentFwdRefIdeal.τ) (Cert.LatentFwdRefIdeal.main (F := Ideal))) ⟨m, fun _ => 0, g⟩ (fun r => (∀ c : Dev Cert.LatentFwdRefIdeal.nD,
      r.2.mem ((c.tc : Thread Cert.LatentFwdRefIdeal.nD Cert.LatentFwdRefIdeal.τ).loc Cert.LatentFwdRefIdeal.main_arg0) = m ((c.tc : Thread Cert.LatentFwdRefIdeal.nD Cert.LatentFwdRefIdeal.τ).loc Cert.LatentFwdRefIdeal.main_arg0)
      ∧ r.2.mem ((c.tc : Thread Cert.LatentFwdRefIdeal.nD Cert.LatentFwdRefIdeal.τ).loc Cert.LatentFwdRefIdeal.main_arg1) = m ((c.tc : Thread Cert.LatentFwdRefIdeal.nD Cert.LatentFwdRefIdeal.τ).loc Cert.LatentFwdRefIdeal.main_arg1)
      ∧ r.2.mem ((c.tc : Thread Cert.LatentFwdRefIdeal.nD Cert.LatentFwdRefIdeal.τ).loc Cert.LatentFwdRefIdeal.main_arg2) = m ((c.tc : Thread Cert.LatentFwdRefIdeal.nD Cert.LatentFwdRefIdeal.τ).loc Cert.LatentFwdRefIdeal.main_arg2))
      ∧ r.2.sem = fun _ => 0)

def preserves_Kernel_KernelIdeal : Prop :=
  IdealRules.named_const.Statement Cert.KernelIdeal.κ "scale2" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnBwd_FfnBwdIdeal : Prop :=
  True

def algebraic_FfnBwdIdeal_FfnBwdRefIdeal_pre_ffn_finite [hFfnBwdIdeal : Cert.FfnBwdIdeal.Facts] [hFfnBwdRefIdeal : Cert.FfnBwdRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v21_0)) (v1 : (c : Dev Cert.FfnBwdIdeal.nD) → Buf (Elt Ideal) ((c.tc : Thread Cert.FfnBwdIdeal.nD Cert.FfnBwdIdeal.τ).loc Cert.FfnBwdIdeal.main_v21_1)) (v2 : (c : Dev Cert.FfnBwdIdeal.nD) → Buf (Elt Ideal) ((c.tc : Thread Cert.FfnBwdIdeal.nD Cert.FfnBwdIdeal.τ).loc Cert.FfnBwdIdeal.main_v21_2)) (v3 : (c : Dev Cert.FfnBwdIdeal.nD) → Buf (Elt Ideal) ((c.tc : Thread Cert.FfnBwdIdeal.nD Cert.FfnBwdIdeal.τ).loc Cert.FfnBwdIdeal.main_v21_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v21_0) = v0 c
          ∧ r.2.mem ((c.tc : Thread Cert.FfnBwdIdeal.nD Cert.FfnBwdIdeal.τ).loc Cert.FfnBwdIdeal.main_v21_1) = v1 c
          ∧ r.2.mem ((c.tc : Thread Cert.FfnBwdIdeal.nD Cert.FfnBwdIdeal.τ).loc Cert.FfnBwdIdeal.main_v21_2) = v2 c
          ∧ r.2.mem ((c.tc : Thread Cert.FfnBwdIdeal.nD Cert.FfnBwdIdeal.τ).loc Cert.FfnBwdIdeal.main_v21_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v50) = v0 c
          ∧ r.2.mem ((c.tc : Thread Cert.FfnBwdRefIdeal.nD Cert.FfnBwdRefIdeal.τ).loc Cert.FfnBwdRefIdeal.main_v33) = v1 c
          ∧ r.2.mem ((c.tc : Thread Cert.FfnBwdRefIdeal.nD Cert.FfnBwdRefIdeal.τ).loc Cert.FfnBwdRefIdeal.main_v51) = v2 c
          ∧ r.2.mem ((c.tc : Thread Cert.FfnBwdRefIdeal.nD Cert.FfnBwdRefIdeal.τ).loc Cert.FfnBwdRefIdeal.main_v52) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_WideGrad_WideGradIdeal : Prop :=
  True

def algebraic_WideGradIdeal_WideGradRefIdeal [hWideGradIdeal : Cert.WideGradIdeal.Facts] [hWideGradRefIdeal : Cert.WideGradRefIdeal.Facts] : Prop :=
  ∀ (m : (ℓ : Loc Cert.WideGradIdeal.nD Cert.WideGradIdeal.τ Cert.WideGradIdeal.sig) → Buf (Elt Ideal) ℓ) (g : Dev Cert.WideGradIdeal.nD → PrngReg)
    (m' : (ℓ : Loc Cert.WideGradRefIdeal.nD Cert.WideGradRefIdeal.τ Cert.WideGradRefIdeal.sig) → Buf (Elt Ideal) ℓ) (g' : Dev Cert.WideGradRefIdeal.nD → PrngReg), Pre_WideGradIdeal m →
    (∀ c : Dev Cert.WideGradIdeal.nD,
      m' ((c.tc : Thread Cert.WideGradRefIdeal.nD Cert.WideGradRefIdeal.τ).loc Cert.WideGradRefIdeal.main_arg0) = m ((c.tc : Thread Cert.WideGradIdeal.nD Cert.WideGradIdeal.τ).loc Cert.WideGradIdeal.main_arg0)
      ∧ m' ((c.tc : Thread Cert.WideGradRefIdeal.nD Cert.WideGradRefIdeal.τ).loc Cert.WideGradRefIdeal.main_arg1) = m ((c.tc : Thread Cert.WideGradIdeal.nD Cert.WideGradIdeal.τ).loc Cert.WideGradIdeal.main_arg1)) →
    ∃ (v0 : (c : Dev Cert.WideGradIdeal.nD) → Buf (Elt Ideal) ((c.tc : Thread Cert.WideGradIdeal.nD Cert.WideGradIdeal.τ).loc Cert.WideGradIdeal.main_v0_0)) (v1 : (c : Dev Cert.WideGradIdeal.nD) → Buf (Elt Ideal) ((c.tc : Thread Cert.WideGradIdeal.nD Cert.WideGradIdeal.τ).loc Cert.WideGradIdeal.main_v0_1)),
      θ_run (Cert.WideGradIdeal.defs (F := Ideal)) (onTc (τ := Cert.WideGradIdeal.τ) (Cert.WideGradIdeal.main (F := Ideal))) ⟨m, fun _ => 0, g⟩ (fun r => ∀ c : Dev Cert.WideGradIdeal.nD,
          r.2.mem ((c.tc : Thread Cert.WideGradIdeal.nD Cert.WideGradIdeal.τ).loc Cert.WideGradIdeal.main_v0_0) = v0 c
          ∧ r.2.mem ((c.tc : Thread Cert.WideGradIdeal.nD Cert.WideGradIdeal.τ).loc Cert.WideGradIdeal.main_v0_1) = v1 c
          ∧ r.2.mem ((c.tc : Thread Cert.WideGradIdeal.nD Cert.WideGradIdeal.τ).loc Cert.WideGradIdeal.main_arg0) = m ((c.tc : Thread Cert.WideGradIdeal.nD Cert.WideGradIdeal.τ).loc Cert.WideGradIdeal.main_arg0)
          ∧ r.2.mem ((c.tc : Thread Cert.WideGradIdeal.nD Cert.WideGradIdeal.τ).loc Cert.WideGradIdeal.main_arg1) = m ((c.tc : Thread Cert.WideGradIdeal.nD Cert.WideGradIdeal.τ).loc Cert.WideGradIdeal.main_arg1))
      ∧ θ_run (Cert.WideGradRefIdeal.defs (F := Ideal)) (onTc (τ := Cert.WideGradRefIdeal.τ) (Cert.WideGradRefIdeal.main (F := Ideal))) ⟨m', fun _ => 0, g'⟩ (fun r => ∀ c : Dev Cert.WideGradRefIdeal.nD,
          r.2.mem ((c.tc : Thread Cert.WideGradRefIdeal.nD Cert.WideGradRefIdeal.τ).loc Cert.WideGradRefIdeal.main_v6) = v0 c
          ∧ r.2.mem ((c.tc : Thread Cert.WideGradRefIdeal.nD Cert.WideGradRefIdeal.τ).loc Cert.WideGradRefIdeal.main_v8) = v1 c
          ∧ r.2.mem ((c.tc : Thread Cert.WideGradRefIdeal.nD Cert.WideGradRefIdeal.τ).loc Cert.WideGradRefIdeal.main_arg0) = m' ((c.tc : Thread Cert.WideGradRefIdeal.nD Cert.WideGradRefIdeal.τ).loc Cert.WideGradRefIdeal.main_arg0)
          ∧ r.2.mem ((c.tc : Thread Cert.WideGradRefIdeal.nD Cert.WideGradRefIdeal.τ).loc Cert.WideGradRefIdeal.main_arg1) = m' ((c.tc : Thread Cert.WideGradRefIdeal.nD Cert.WideGradRefIdeal.τ).loc Cert.WideGradRefIdeal.main_arg1))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0_0)) (v1 : (c : Dev Cert.DownGradIdeal.nD) → Buf (Elt Ideal) ((c.tc : Thread Cert.DownGradIdeal.nD Cert.DownGradIdeal.τ).loc Cert.DownGradIdeal.main_v0_1)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0_0) = v0 c
          ∧ r.2.mem ((c.tc : Thread Cert.DownGradIdeal.nD Cert.DownGradIdeal.τ).loc Cert.DownGradIdeal.main_v0_1) = v1 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v8) = v0 c
          ∧ r.2.mem ((c.tc : Thread Cert.DownGradRefIdeal.nD Cert.DownGradRefIdeal.τ).loc Cert.DownGradRefIdeal.main_v9) = v1 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v5_0)) (v1 : (c : Dev Cert.FfnFwdIdeal.nD) → Buf (Elt Ideal) ((c.tc : Thread Cert.FfnFwdIdeal.nD Cert.FfnFwdIdeal.τ).loc Cert.FfnFwdIdeal.main_v5_1)) (v2 : (c : Dev Cert.FfnFwdIdeal.nD) → Buf (Elt Ideal) ((c.tc : Thread Cert.FfnFwdIdeal.nD Cert.FfnFwdIdeal.τ).loc Cert.FfnFwdIdeal.main_v5_2)) (v3 : (c : Dev Cert.FfnFwdIdeal.nD) → Buf (Elt Ideal) ((c.tc : Thread Cert.FfnFwdIdeal.nD Cert.FfnFwdIdeal.τ).loc Cert.FfnFwdIdeal.main_v5_3)) (v4 : (c : Dev Cert.FfnFwdIdeal.nD) → Buf (Elt Ideal) ((c.tc : Thread Cert.FfnFwdIdeal.nD Cert.FfnFwdIdeal.τ).loc Cert.FfnFwdIdeal.main_v5_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v5_0) = v0 c
          ∧ r.2.mem ((c.tc : Thread Cert.FfnFwdIdeal.nD Cert.FfnFwdIdeal.τ).loc Cert.FfnFwdIdeal.main_v5_1) = v1 c
          ∧ r.2.mem ((c.tc : Thread Cert.FfnFwdIdeal.nD Cert.FfnFwdIdeal.τ).loc Cert.FfnFwdIdeal.main_v5_2) = v2 c
          ∧ r.2.mem ((c.tc : Thread Cert.FfnFwdIdeal.nD Cert.FfnFwdIdeal.τ).loc Cert.FfnFwdIdeal.main_v5_3) = v3 c
          ∧ r.2.mem ((c.tc : Thread Cert.FfnFwdIdeal.nD Cert.FfnFwdIdeal.τ).loc Cert.FfnFwdIdeal.main_v5_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v19) = v0 c
          ∧ r.2.mem ((c.tc : Thread Cert.FfnFwdRefIdeal.nD Cert.FfnFwdRefIdeal.τ).loc Cert.FfnFwdRefIdeal.main_v20) = v1 c
          ∧ r.2.mem ((c.tc : Thread Cert.FfnFwdRefIdeal.nD Cert.FfnFwdRefIdeal.τ).loc Cert.FfnFwdRefIdeal.main_v21) = v2 c
          ∧ r.2.mem ((c.tc : Thread Cert.FfnFwdRefIdeal.nD Cert.FfnFwdRefIdeal.τ).loc Cert.FfnFwdRefIdeal.main_v22) = v3 c
          ∧ r.2.mem ((c.tc : Thread Cert.FfnFwdRefIdeal.nD Cert.FfnFwdRefIdeal.τ).loc Cert.FfnFwdRefIdeal.main_v23) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_LossFwd_LossFwdIdeal : Prop :=
  True

def algebraic_LossFwdIdeal_LossFwdRefIdeal [hLossFwdIdeal : Cert.LossFwdIdeal.Facts] [hLossFwdRefIdeal : Cert.LossFwdRefIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg)
    (m' : (ℓ : Loc Cert.LossFwdRefIdeal.nD Cert.LossFwdRefIdeal.τ Cert.LossFwdRefIdeal.sig) → Buf (Elt Ideal) ℓ) (g' : Dev Cert.LossFwdRefIdeal.nD → PrngReg), Pre_LossFwdIdeal m →
    (∀ c : Dev Cert.LossFwdIdeal.nD,
      m' ((c.tc : Thread Cert.LossFwdRefIdeal.nD Cert.LossFwdRefIdeal.τ).loc Cert.LossFwdRefIdeal.main_arg0) = m ((c.tc : Thread Cert.LossFwdIdeal.nD Cert.LossFwdIdeal.τ).loc Cert.LossFwdIdeal.main_arg0)
      ∧ m' ((c.tc : Thread Cert.LossFwdRefIdeal.nD Cert.LossFwdRefIdeal.τ).loc Cert.LossFwdRefIdeal.main_arg1) = m ((c.tc : Thread Cert.LossFwdIdeal.nD Cert.LossFwdIdeal.τ).loc Cert.LossFwdIdeal.main_arg1)
      ∧ m' ((c.tc : Thread Cert.LossFwdRefIdeal.nD Cert.LossFwdRefIdeal.τ).loc Cert.LossFwdRefIdeal.main_arg2) = m ((c.tc : Thread Cert.LossFwdIdeal.nD Cert.LossFwdIdeal.τ).loc Cert.LossFwdIdeal.main_arg2)
      ∧ m' ((c.tc : Thread Cert.LossFwdRefIdeal.nD Cert.LossFwdRefIdeal.τ).loc Cert.LossFwdRefIdeal.main_arg3) = m ((c.tc : Thread Cert.LossFwdIdeal.nD Cert.LossFwdIdeal.τ).loc Cert.LossFwdIdeal.main_arg3)
      ∧ m' ((c.tc : Thread Cert.LossFwdRefIdeal.nD Cert.LossFwdRefIdeal.τ).loc Cert.LossFwdRefIdeal.main_arg4) = m ((c.tc : Thread Cert.LossFwdIdeal.nD Cert.LossFwdIdeal.τ).loc Cert.LossFwdIdeal.main_arg4)
      ∧ m' ((c.tc : Thread Cert.LossFwdRefIdeal.nD Cert.LossFwdRefIdeal.τ).loc Cert.LossFwdRefIdeal.main_arg5) = m ((c.tc : Thread Cert.LossFwdIdeal.nD Cert.LossFwdIdeal.τ).loc Cert.LossFwdIdeal.main_arg5)
      ∧ m' ((c.tc : Thread Cert.LossFwdRefIdeal.nD Cert.LossFwdRefIdeal.τ).loc Cert.LossFwdRefIdeal.main_arg6) = m ((c.tc : Thread Cert.LossFwdIdeal.nD Cert.LossFwdIdeal.τ).loc Cert.LossFwdIdeal.main_arg6)) →
    ∃ (v0 : (c : Dev Cert.LossFwdIdeal.nD) → Buf (Elt Ideal) ((c.tc : Thread Cert.LossFwdIdeal.nD Cert.LossFwdIdeal.τ).loc Cert.LossFwdIdeal.main_v5_0)) (v1 : (c : Dev Cert.LossFwdIdeal.nD) → Buf (Elt Ideal) ((c.tc : Thread Cert.LossFwdIdeal.nD Cert.LossFwdIdeal.τ).loc Cert.LossFwdIdeal.main_v5_1)) (v2 : (c : Dev Cert.LossFwdIdeal.nD) → Buf (Elt Ideal) ((c.tc : Thread Cert.LossFwdIdeal.nD Cert.LossFwdIdeal.τ).loc Cert.LossFwdIdeal.main_v5_2)) (v3 : (c : Dev Cert.LossFwdIdeal.nD) → Buf (Elt Ideal) ((c.tc : Thread Cert.LossFwdIdeal.nD Cert.LossFwdIdeal.τ).loc Cert.LossFwdIdeal.main_v5_3)) (v4 : (c : Dev Cert.LossFwdIdeal.nD) → Buf (Elt Ideal) ((c.tc : Thread Cert.LossFwdIdeal.nD Cert.LossFwdIdeal.τ).loc Cert.LossFwdIdeal.main_v5_4)) (v5 : (c : Dev Cert.LossFwdIdeal.nD) → Buf (Elt Ideal) ((c.tc : Thread Cert.LossFwdIdeal.nD Cert.LossFwdIdeal.τ).loc Cert.LossFwdIdeal.main_v5_5)) (v6 : (c : Dev Cert.LossFwdIdeal.nD) → Buf (Elt Ideal) ((c.tc : Thread Cert.LossFwdIdeal.nD Cert.LossFwdIdeal.τ).loc Cert.LossFwdIdeal.main_v5_6)),
      θ_run (Cert.LossFwdIdeal.defs (F := Ideal)) (onTc (τ := Cert.LossFwdIdeal.τ) (Cert.LossFwdIdeal.main (F := Ideal))) ⟨m, fun _ => 0, g⟩ (fun r => ∀ c : Dev Cert.LossFwdIdeal.nD,
          r.2.mem ((c.tc : Thread Cert.LossFwdIdeal.nD Cert.LossFwdIdeal.τ).loc Cert.LossFwdIdeal.main_v5_0) = v0 c
          ∧ r.2.mem ((c.tc : Thread Cert.LossFwdIdeal.nD Cert.LossFwdIdeal.τ).loc Cert.LossFwdIdeal.main_v5_1) = v1 c
          ∧ r.2.mem ((c.tc : Thread Cert.LossFwdIdeal.nD Cert.LossFwdIdeal.τ).loc Cert.LossFwdIdeal.main_v5_2) = v2 c
          ∧ r.2.mem ((c.tc : Thread Cert.LossFwdIdeal.nD Cert.LossFwdIdeal.τ).loc Cert.LossFwdIdeal.main_v5_3) = v3 c
          ∧ r.2.mem ((c.tc : Thread Cert.LossFwdIdeal.nD Cert.LossFwdIdeal.τ).loc Cert.LossFwdIdeal.main_v5_4) = v4 c
          ∧ r.2.mem ((c.tc : Thread Cert.LossFwdIdeal.nD Cert.LossFwdIdeal.τ).loc Cert.LossFwdIdeal.main_v5_5) = v5 c
          ∧ r.2.mem ((c.tc : Thread Cert.LossFwdIdeal.nD Cert.LossFwdIdeal.τ).loc Cert.LossFwdIdeal.main_v5_6) = v6 c
          ∧ r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
          ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1)
          ∧ r.2.mem ((c.tc : Thread Cert.LossFwdIdeal.nD Cert.LossFwdIdeal.τ).loc Cert.LossFwdIdeal.main_arg2) = m ((c.tc : Thread Cert.LossFwdIdeal.nD Cert.LossFwdIdeal.τ).loc Cert.LossFwdIdeal.main_arg2)
          ∧ r.2.mem ((c.tc : Thread Cert.LossFwdIdeal.nD Cert.LossFwdIdeal.τ).loc Cert.LossFwdIdeal.main_arg3) = m ((c.tc : Thread Cert.LossFwdIdeal.nD Cert.LossFwdIdeal.τ).loc Cert.LossFwdIdeal.main_arg3)
          ∧ r.2.mem ((c.tc : Thread Cert.LossFwdIdeal.nD Cert.LossFwdIdeal.τ).loc Cert.LossFwdIdeal.main_arg4) = m ((c.tc : Thread Cert.LossFwdIdeal.nD Cert.LossFwdIdeal.τ).loc Cert.LossFwdIdeal.main_arg4)
          ∧ r.2.mem ((c.tc : Thread Cert.LossFwdIdeal.nD Cert.LossFwdIdeal.τ).loc Cert.LossFwdIdeal.main_arg5) = m ((c.tc : Thread Cert.LossFwdIdeal.nD Cert.LossFwdIdeal.τ).loc Cert.LossFwdIdeal.main_arg5)
          ∧ r.2.mem ((c.tc : Thread Cert.LossFwdIdeal.nD Cert.LossFwdIdeal.τ).loc Cert.LossFwdIdeal.main_arg6) = m ((c.tc : Thread Cert.LossFwdIdeal.nD Cert.LossFwdIdeal.τ).loc Cert.LossFwdIdeal.main_arg6))
      ∧ θ_run (Cert.LossFwdRefIdeal.defs (F := Ideal)) (onTc (τ := Cert.LossFwdRefIdeal.τ) (Cert.LossFwdRefIdeal.main (F := Ideal))) ⟨m', fun _ => 0, g'⟩ (fun r => ∀ c : Dev Cert.LossFwdRefIdeal.nD,
          r.2.mem ((c.tc : Thread Cert.LossFwdRefIdeal.nD Cert.LossFwdRefIdeal.τ).loc Cert.LossFwdRefIdeal.main_v72) = v0 c
          ∧ r.2.mem ((c.tc : Thread Cert.LossFwdRefIdeal.nD Cert.LossFwdRefIdeal.τ).loc Cert.LossFwdRefIdeal.main_v20) = v1 c
          ∧ r.2.mem ((c.tc : Thread Cert.LossFwdRefIdeal.nD Cert.LossFwdRefIdeal.τ).loc Cert.LossFwdRefIdeal.main_v21) = v2 c
          ∧ r.2.mem ((c.tc : Thread Cert.LossFwdRefIdeal.nD Cert.LossFwdRefIdeal.τ).loc Cert.LossFwdRefIdeal.main_v22) = v3 c
          ∧ r.2.mem ((c.tc : Thread Cert.LossFwdRefIdeal.nD Cert.LossFwdRefIdeal.τ).loc Cert.LossFwdRefIdeal.main_v23) = v4 c
          ∧ r.2.mem ((c.tc : Thread Cert.LossFwdRefIdeal.nD Cert.LossFwdRefIdeal.τ).loc Cert.LossFwdRefIdeal.main_v73) = v5 c
          ∧ r.2.mem ((c.tc : Thread Cert.LossFwdRefIdeal.nD Cert.LossFwdRefIdeal.τ).loc Cert.LossFwdRefIdeal.main_v56) = v6 c
          ∧ r.2.mem ((c.tc : Thread Cert.LossFwdRefIdeal.nD Cert.LossFwdRefIdeal.τ).loc Cert.LossFwdRefIdeal.main_arg0) = m' ((c.tc : Thread Cert.LossFwdRefIdeal.nD Cert.LossFwdRefIdeal.τ).loc Cert.LossFwdRefIdeal.main_arg0)
          ∧ r.2.mem ((c.tc : Thread Cert.LossFwdRefIdeal.nD Cert.LossFwdRefIdeal.τ).loc Cert.LossFwdRefIdeal.main_arg1) = m' ((c.tc : Thread Cert.LossFwdRefIdeal.nD Cert.LossFwdRefIdeal.τ).loc Cert.LossFwdRefIdeal.main_arg1)
          ∧ r.2.mem ((c.tc : Thread Cert.LossFwdRefIdeal.nD Cert.LossFwdRefIdeal.τ).loc Cert.LossFwdRefIdeal.main_arg2) = m' ((c.tc : Thread Cert.LossFwdRefIdeal.nD Cert.LossFwdRefIdeal.τ).loc Cert.LossFwdRefIdeal.main_arg2)
          ∧ r.2.mem ((c.tc : Thread Cert.LossFwdRefIdeal.nD Cert.LossFwdRefIdeal.τ).loc Cert.LossFwdRefIdeal.main_arg3) = m' ((c.tc : Thread Cert.LossFwdRefIdeal.nD Cert.LossFwdRefIdeal.τ).loc Cert.LossFwdRefIdeal.main_arg3)
          ∧ r.2.mem ((c.tc : Thread Cert.LossFwdRefIdeal.nD Cert.LossFwdRefIdeal.τ).loc Cert.LossFwdRefIdeal.main_arg4) = m' ((c.tc : Thread Cert.LossFwdRefIdeal.nD Cert.LossFwdRefIdeal.τ).loc Cert.LossFwdRefIdeal.main_arg4)
          ∧ r.2.mem ((c.tc : Thread Cert.LossFwdRefIdeal.nD Cert.LossFwdRefIdeal.τ).loc Cert.LossFwdRefIdeal.main_arg5) = m' ((c.tc : Thread Cert.LossFwdRefIdeal.nD Cert.LossFwdRefIdeal.τ).loc Cert.LossFwdRefIdeal.main_arg5)
          ∧ r.2.mem ((c.tc : Thread Cert.LossFwdRefIdeal.nD Cert.LossFwdRefIdeal.τ).loc Cert.LossFwdRefIdeal.main_arg6) = m' ((c.tc : Thread Cert.LossFwdRefIdeal.nD Cert.LossFwdRefIdeal.τ).loc Cert.LossFwdRefIdeal.main_arg6))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0_0)) (v1 : (c : Dev Cert.OutGradIdeal.nD) → Buf (Elt Ideal) ((c.tc : Thread Cert.OutGradIdeal.nD Cert.OutGradIdeal.τ).loc Cert.OutGradIdeal.main_v0_1)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0_0) = v0 c
          ∧ r.2.mem ((c.tc : Thread Cert.OutGradIdeal.nD Cert.OutGradIdeal.τ).loc Cert.OutGradIdeal.main_v0_1) = v1 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v4) = v0 c
          ∧ r.2.mem ((c.tc : Thread Cert.OutGradRefIdeal.nD Cert.OutGradRefIdeal.τ).loc Cert.OutGradRefIdeal.main_v5) = v1 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v0_0)) (v1 : (c : Dev Cert.InGradIdeal.nD) → Buf (Elt Ideal) ((c.tc : Thread Cert.InGradIdeal.nD Cert.InGradIdeal.τ).loc Cert.InGradIdeal.main_v0_1)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0_0) = v0 c
          ∧ r.2.mem ((c.tc : Thread Cert.InGradIdeal.nD Cert.InGradIdeal.τ).loc Cert.InGradIdeal.main_v0_1) = v1 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v6) = v0 c
          ∧ r.2.mem ((c.tc : Thread Cert.InGradRefIdeal.nD Cert.InGradRefIdeal.τ).loc Cert.InGradRefIdeal.main_v8) = v1 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1))

def preserves_QueryGrad_QueryGradIdeal : Prop :=
  True

def algebraic_QueryGradIdeal_QueryGradRefIdeal [hQueryGradIdeal : Cert.QueryGradIdeal.Facts] [hQueryGradRefIdeal : Cert.QueryGradRefIdeal.Facts] : Prop :=
  ∀ (m : (ℓ : Loc Cert.QueryGradIdeal.nD Cert.QueryGradIdeal.τ Cert.QueryGradIdeal.sig) → Buf (Elt Ideal) ℓ) (g : Dev Cert.QueryGradIdeal.nD → PrngReg)
    (m' : (ℓ : Loc Cert.QueryGradRefIdeal.nD Cert.QueryGradRefIdeal.τ Cert.QueryGradRefIdeal.sig) → Buf (Elt Ideal) ℓ) (g' : Dev Cert.QueryGradRefIdeal.nD → PrngReg), Pre_QueryGradIdeal m →
    (∀ c : Dev Cert.QueryGradIdeal.nD,
      m' ((c.tc : Thread Cert.QueryGradRefIdeal.nD Cert.QueryGradRefIdeal.τ).loc Cert.QueryGradRefIdeal.main_arg0) = m ((c.tc : Thread Cert.QueryGradIdeal.nD Cert.QueryGradIdeal.τ).loc Cert.QueryGradIdeal.main_arg0)
      ∧ m' ((c.tc : Thread Cert.QueryGradRefIdeal.nD Cert.QueryGradRefIdeal.τ).loc Cert.QueryGradRefIdeal.main_arg1) = m ((c.tc : Thread Cert.QueryGradIdeal.nD Cert.QueryGradIdeal.τ).loc Cert.QueryGradIdeal.main_arg1)) →
    ∃ (v0 : (c : Dev Cert.QueryGradIdeal.nD) → Buf (Elt Ideal) ((c.tc : Thread Cert.QueryGradIdeal.nD Cert.QueryGradIdeal.τ).loc Cert.QueryGradIdeal.main_v0_0)) (v1 : (c : Dev Cert.QueryGradIdeal.nD) → Buf (Elt Ideal) ((c.tc : Thread Cert.QueryGradIdeal.nD Cert.QueryGradIdeal.τ).loc Cert.QueryGradIdeal.main_v0_1)),
      θ_run (Cert.QueryGradIdeal.defs (F := Ideal)) (onTc (τ := Cert.QueryGradIdeal.τ) (Cert.QueryGradIdeal.main (F := Ideal))) ⟨m, fun _ => 0, g⟩ (fun r => ∀ c : Dev Cert.QueryGradIdeal.nD,
          r.2.mem ((c.tc : Thread Cert.QueryGradIdeal.nD Cert.QueryGradIdeal.τ).loc Cert.QueryGradIdeal.main_v0_0) = v0 c
          ∧ r.2.mem ((c.tc : Thread Cert.QueryGradIdeal.nD Cert.QueryGradIdeal.τ).loc Cert.QueryGradIdeal.main_v0_1) = v1 c
          ∧ r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
          ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1))
      ∧ θ_run (Cert.QueryGradRefIdeal.defs (F := Ideal)) (onTc (τ := Cert.QueryGradRefIdeal.τ) (Cert.QueryGradRefIdeal.main (F := Ideal))) ⟨m', fun _ => 0, g'⟩ (fun r => ∀ c : Dev Cert.QueryGradRefIdeal.nD,
          r.2.mem ((c.tc : Thread Cert.QueryGradRefIdeal.nD Cert.QueryGradRefIdeal.τ).loc Cert.QueryGradRefIdeal.main_v6) = v0 c
          ∧ r.2.mem ((c.tc : Thread Cert.QueryGradRefIdeal.nD Cert.QueryGradRefIdeal.τ).loc Cert.QueryGradRefIdeal.main_v8) = v1 c
          ∧ r.2.mem ((c.tc : Thread Cert.QueryGradRefIdeal.nD Cert.QueryGradRefIdeal.τ).loc Cert.QueryGradRefIdeal.main_arg0) = m' ((c.tc : Thread Cert.QueryGradRefIdeal.nD Cert.QueryGradRefIdeal.τ).loc Cert.QueryGradRefIdeal.main_arg0)
          ∧ r.2.mem ((c.tc : Thread Cert.QueryGradRefIdeal.nD Cert.QueryGradRefIdeal.τ).loc Cert.QueryGradRefIdeal.main_arg1) = m' ((c.tc : Thread Cert.QueryGradRefIdeal.nD Cert.QueryGradRefIdeal.τ).loc Cert.QueryGradRefIdeal.main_arg1))

def preserves_KeyGrad_KeyGradIdeal : Prop :=
  True

def algebraic_KeyGradIdeal_KeyGradRefIdeal [hKeyGradIdeal : Cert.KeyGradIdeal.Facts] [hKeyGradRefIdeal : Cert.KeyGradRefIdeal.Facts] : Prop :=
  ∀ (m : (ℓ : Loc Cert.KeyGradIdeal.nD Cert.KeyGradIdeal.τ Cert.KeyGradIdeal.sig) → Buf (Elt Ideal) ℓ) (g : Dev Cert.KeyGradIdeal.nD → PrngReg)
    (m' : (ℓ : Loc Cert.KeyGradRefIdeal.nD Cert.KeyGradRefIdeal.τ Cert.KeyGradRefIdeal.sig) → Buf (Elt Ideal) ℓ) (g' : Dev Cert.KeyGradRefIdeal.nD → PrngReg), Pre_KeyGradIdeal m →
    (∀ c : Dev Cert.KeyGradIdeal.nD,
      m' ((c.tc : Thread Cert.KeyGradRefIdeal.nD Cert.KeyGradRefIdeal.τ).loc Cert.KeyGradRefIdeal.main_arg0) = m ((c.tc : Thread Cert.KeyGradIdeal.nD Cert.KeyGradIdeal.τ).loc Cert.KeyGradIdeal.main_arg0)
      ∧ m' ((c.tc : Thread Cert.KeyGradRefIdeal.nD Cert.KeyGradRefIdeal.τ).loc Cert.KeyGradRefIdeal.main_arg1) = m ((c.tc : Thread Cert.KeyGradIdeal.nD Cert.KeyGradIdeal.τ).loc Cert.KeyGradIdeal.main_arg1)) →
    ∃ (v0 : (c : Dev Cert.KeyGradIdeal.nD) → Buf (Elt Ideal) ((c.tc : Thread Cert.KeyGradIdeal.nD Cert.KeyGradIdeal.τ).loc Cert.KeyGradIdeal.main_v0_0)) (v1 : (c : Dev Cert.KeyGradIdeal.nD) → Buf (Elt Ideal) ((c.tc : Thread Cert.KeyGradIdeal.nD Cert.KeyGradIdeal.τ).loc Cert.KeyGradIdeal.main_v0_1)),
      θ_run (Cert.KeyGradIdeal.defs (F := Ideal)) (onTc (τ := Cert.KeyGradIdeal.τ) (Cert.KeyGradIdeal.main (F := Ideal))) ⟨m, fun _ => 0, g⟩ (fun r => ∀ c : Dev Cert.KeyGradIdeal.nD,
          r.2.mem ((c.tc : Thread Cert.KeyGradIdeal.nD Cert.KeyGradIdeal.τ).loc Cert.KeyGradIdeal.main_v0_0) = v0 c
          ∧ r.2.mem ((c.tc : Thread Cert.KeyGradIdeal.nD Cert.KeyGradIdeal.τ).loc Cert.KeyGradIdeal.main_v0_1) = v1 c
          ∧ r.2.mem ((c.tc : Thread Cert.KeyGradIdeal.nD Cert.KeyGradIdeal.τ).loc Cert.KeyGradIdeal.main_arg0) = m ((c.tc : Thread Cert.KeyGradIdeal.nD Cert.KeyGradIdeal.τ).loc Cert.KeyGradIdeal.main_arg0)
          ∧ r.2.mem ((c.tc : Thread Cert.KeyGradIdeal.nD Cert.KeyGradIdeal.τ).loc Cert.KeyGradIdeal.main_arg1) = m ((c.tc : Thread Cert.KeyGradIdeal.nD Cert.KeyGradIdeal.τ).loc Cert.KeyGradIdeal.main_arg1))
      ∧ θ_run (Cert.KeyGradRefIdeal.defs (F := Ideal)) (onTc (τ := Cert.KeyGradRefIdeal.τ) (Cert.KeyGradRefIdeal.main (F := Ideal))) ⟨m', fun _ => 0, g'⟩ (fun r => ∀ c : Dev Cert.KeyGradRefIdeal.nD,
          r.2.mem ((c.tc : Thread Cert.KeyGradRefIdeal.nD Cert.KeyGradRefIdeal.τ).loc Cert.KeyGradRefIdeal.main_v6) = v0 c
          ∧ r.2.mem ((c.tc : Thread Cert.KeyGradRefIdeal.nD Cert.KeyGradRefIdeal.τ).loc Cert.KeyGradRefIdeal.main_v8) = v1 c
          ∧ r.2.mem ((c.tc : Thread Cert.KeyGradRefIdeal.nD Cert.KeyGradRefIdeal.τ).loc Cert.KeyGradRefIdeal.main_arg0) = m' ((c.tc : Thread Cert.KeyGradRefIdeal.nD Cert.KeyGradRefIdeal.τ).loc Cert.KeyGradRefIdeal.main_arg0)
          ∧ r.2.mem ((c.tc : Thread Cert.KeyGradRefIdeal.nD Cert.KeyGradRefIdeal.τ).loc Cert.KeyGradRefIdeal.main_arg1) = m' ((c.tc : Thread Cert.KeyGradRefIdeal.nD Cert.KeyGradRefIdeal.τ).loc Cert.KeyGradRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)) →
    ∃ (v0 : (c : Dev Cert.OutBwdIdeal.nD) → Buf (Elt Ideal) ((c.tc : Thread Cert.OutBwdIdeal.nD Cert.OutBwdIdeal.τ).loc Cert.OutBwdIdeal.main_v1_0)) (v1 : (c : Dev Cert.OutBwdIdeal.nD) → Buf (Elt Ideal) ((c.tc : Thread Cert.OutBwdIdeal.nD Cert.OutBwdIdeal.τ).loc Cert.OutBwdIdeal.main_v1_1)) (v2 : (c : Dev Cert.OutBwdIdeal.nD) → Buf (Elt Ideal) ((c.tc : Thread Cert.OutBwdIdeal.nD Cert.OutBwdIdeal.τ).loc Cert.OutBwdIdeal.main_v1_2)) (v3 : (c : Dev Cert.OutBwdIdeal.nD) → Buf (Elt Ideal) ((c.tc : Thread Cert.OutBwdIdeal.nD Cert.OutBwdIdeal.τ).loc Cert.OutBwdIdeal.main_v1_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v1_0) = v0 c
          ∧ r.2.mem ((c.tc : Thread Cert.OutBwdIdeal.nD Cert.OutBwdIdeal.τ).loc Cert.OutBwdIdeal.main_v1_1) = v1 c
          ∧ r.2.mem ((c.tc : Thread Cert.OutBwdIdeal.nD Cert.OutBwdIdeal.τ).loc Cert.OutBwdIdeal.main_v1_2) = v2 c
          ∧ r.2.mem ((c.tc : Thread Cert.OutBwdIdeal.nD Cert.OutBwdIdeal.τ).loc Cert.OutBwdIdeal.main_v1_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v72) = v0 c
          ∧ r.2.mem ((c.tc : Thread Cert.OutBwdRefIdeal.nD Cert.OutBwdRefIdeal.τ).loc Cert.OutBwdRefIdeal.main_v53) = v1 c
          ∧ r.2.mem ((c.tc : Thread Cert.OutBwdRefIdeal.nD Cert.OutBwdRefIdeal.τ).loc Cert.OutBwdRefIdeal.main_v56) = v2 c
          ∧ r.2.mem ((c.tc : Thread Cert.OutBwdRefIdeal.nD Cert.OutBwdRefIdeal.τ).loc Cert.OutBwdRefIdeal.main_v37) = v3 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)) →
    ∃ (v0 : (c : Dev Cert.OutFwdIdeal.nD) → Buf (Elt Ideal) ((c.tc : Thread Cert.OutFwdIdeal.nD Cert.OutFwdIdeal.τ).loc Cert.OutFwdIdeal.main_v1_0)) (v1 : (c : Dev Cert.OutFwdIdeal.nD) → Buf (Elt Ideal) ((c.tc : Thread Cert.OutFwdIdeal.nD Cert.OutFwdIdeal.τ).loc Cert.OutFwdIdeal.main_v1_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1_0) = v0 c
          ∧ r.2.mem ((c.tc : Thread Cert.OutFwdIdeal.nD Cert.OutFwdIdeal.τ).loc Cert.OutFwdIdeal.main_v1_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v26) = v0 c
          ∧ r.2.mem ((c.tc : Thread Cert.OutFwdRefIdeal.nD Cert.OutFwdRefIdeal.τ).loc Cert.OutFwdRefIdeal.main_v27) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5))

def preserves_LatentFwd_LatentFwdIdeal : Prop :=
  IdealRules.named_const.Statement Cert.LatentFwdIdeal.κ "scale2" .f32 0x3E16C740#32 (((3424635 / 33554432) * (Real.log 2)⁻¹ : ℝ) : EReal)
  ∧ IdealRules.named_const.Statement Cert.LatentFwdIdeal.κ "mask" .f32 0xF149F2CA#32 ⊥

def algebraic_LatentFwdIdeal_LatentFwdRefIdeal_pre_latent_finite [hLatentFwdIdeal : Cert.LatentFwdIdeal.Facts] [hLatentFwdRefIdeal : Cert.LatentFwdRefIdeal.Facts] [hPre_latent_finite : Cert.Pre_latent_finite.Facts] : Prop :=
  ∀ (m : (ℓ : Loc Cert.LatentFwdIdeal.nD Cert.LatentFwdIdeal.τ Cert.LatentFwdIdeal.sig) → Buf (Elt Ideal) ℓ) (g : Dev Cert.LatentFwdIdeal.nD → PrngReg)
    (m' : (ℓ : Loc Cert.LatentFwdRefIdeal.nD Cert.LatentFwdRefIdeal.τ Cert.LatentFwdRefIdeal.sig) → Buf (Elt Ideal) ℓ) (g' : Dev Cert.LatentFwdRefIdeal.nD → PrngReg), Pre_LatentFwdIdeal_latent_finite m →
    (∀ c : Dev Cert.LatentFwdIdeal.nD,
      m' ((c.tc : Thread Cert.LatentFwdRefIdeal.nD Cert.LatentFwdRefIdeal.τ).loc Cert.LatentFwdRefIdeal.main_arg0) = m ((c.tc : Thread Cert.LatentFwdIdeal.nD Cert.LatentFwdIdeal.τ).loc Cert.LatentFwdIdeal.main_arg0)
      ∧ m' ((c.tc : Thread Cert.LatentFwdRefIdeal.nD Cert.LatentFwdRefIdeal.τ).loc Cert.LatentFwdRefIdeal.main_arg1) = m ((c.tc : Thread Cert.LatentFwdIdeal.nD Cert.LatentFwdIdeal.τ).loc Cert.LatentFwdIdeal.main_arg1)
      ∧ m' ((c.tc : Thread Cert.LatentFwdRefIdeal.nD Cert.LatentFwdRefIdeal.τ).loc Cert.LatentFwdRefIdeal.main_arg2) = m ((c.tc : Thread Cert.LatentFwdIdeal.nD Cert.LatentFwdIdeal.τ).loc Cert.LatentFwdIdeal.main_arg2)) →
    ∃ (v0 : (c : Dev Cert.LatentFwdIdeal.nD) → Buf (Elt Ideal) ((c.tc : Thread Cert.LatentFwdIdeal.nD Cert.LatentFwdIdeal.τ).loc Cert.LatentFwdIdeal.main_v0_0)) (v1 : (c : Dev Cert.LatentFwdIdeal.nD) → Buf (Elt Ideal) ((c.tc : Thread Cert.LatentFwdIdeal.nD Cert.LatentFwdIdeal.τ).loc Cert.LatentFwdIdeal.main_v0_1)),
      θ_run (Cert.LatentFwdIdeal.defs (F := Ideal)) (onTc (τ := Cert.LatentFwdIdeal.τ) (Cert.LatentFwdIdeal.main (F := Ideal))) ⟨m, fun _ => 0, g⟩ (fun r => ∀ c : Dev Cert.LatentFwdIdeal.nD,
          r.2.mem ((c.tc : Thread Cert.LatentFwdIdeal.nD Cert.LatentFwdIdeal.τ).loc Cert.LatentFwdIdeal.main_v0_0) = v0 c
          ∧ r.2.mem ((c.tc : Thread Cert.LatentFwdIdeal.nD Cert.LatentFwdIdeal.τ).loc Cert.LatentFwdIdeal.main_v0_1) = v1 c
          ∧ r.2.mem ((c.tc : Thread Cert.LatentFwdIdeal.nD Cert.LatentFwdIdeal.τ).loc Cert.LatentFwdIdeal.main_arg0) = m ((c.tc : Thread Cert.LatentFwdIdeal.nD Cert.LatentFwdIdeal.τ).loc Cert.LatentFwdIdeal.main_arg0)
          ∧ r.2.mem ((c.tc : Thread Cert.LatentFwdIdeal.nD Cert.LatentFwdIdeal.τ).loc Cert.LatentFwdIdeal.main_arg1) = m ((c.tc : Thread Cert.LatentFwdIdeal.nD Cert.LatentFwdIdeal.τ).loc Cert.LatentFwdIdeal.main_arg1)
          ∧ r.2.mem ((c.tc : Thread Cert.LatentFwdIdeal.nD Cert.LatentFwdIdeal.τ).loc Cert.LatentFwdIdeal.main_arg2) = m ((c.tc : Thread Cert.LatentFwdIdeal.nD Cert.LatentFwdIdeal.τ).loc Cert.LatentFwdIdeal.main_arg2))
      ∧ θ_run (Cert.LatentFwdRefIdeal.defs (F := Ideal)) (onTc (τ := Cert.LatentFwdRefIdeal.τ) (Cert.LatentFwdRefIdeal.main (F := Ideal))) ⟨m', fun _ => 0, g'⟩ (fun r => ∀ c : Dev Cert.LatentFwdRefIdeal.nD,
          r.2.mem ((c.tc : Thread Cert.LatentFwdRefIdeal.nD Cert.LatentFwdRefIdeal.τ).loc Cert.LatentFwdRefIdeal.main_v28) = v0 c
          ∧ r.2.mem ((c.tc : Thread Cert.LatentFwdRefIdeal.nD Cert.LatentFwdRefIdeal.τ).loc Cert.LatentFwdRefIdeal.main_v36) = v1 c
          ∧ r.2.mem ((c.tc : Thread Cert.LatentFwdRefIdeal.nD Cert.LatentFwdRefIdeal.τ).loc Cert.LatentFwdRefIdeal.main_arg0) = m' ((c.tc : Thread Cert.LatentFwdRefIdeal.nD Cert.LatentFwdRefIdeal.τ).loc Cert.LatentFwdRefIdeal.main_arg0)
          ∧ r.2.mem ((c.tc : Thread Cert.LatentFwdRefIdeal.nD Cert.LatentFwdRefIdeal.τ).loc Cert.LatentFwdRefIdeal.main_arg1) = m' ((c.tc : Thread Cert.LatentFwdRefIdeal.nD Cert.LatentFwdRefIdeal.τ).loc Cert.LatentFwdRefIdeal.main_arg1)
          ∧ r.2.mem ((c.tc : Thread Cert.LatentFwdRefIdeal.nD Cert.LatentFwdRefIdeal.τ).loc Cert.LatentFwdRefIdeal.main_arg2) = m' ((c.tc : Thread Cert.LatentFwdRefIdeal.nD Cert.LatentFwdRefIdeal.τ).loc Cert.LatentFwdRefIdeal.main_arg2))

def Claim : Prop :=
  ∃ (hKernel : Cert.Kernel.Facts) (hKernelIdeal : Cert.KernelIdeal.Facts) (hReferenceIdeal : Cert.ReferenceIdeal.Facts) (hFfnBwd : Cert.FfnBwd.Facts) (hFfnBwdIdeal : Cert.FfnBwdIdeal.Facts) (hFfnBwdRefIdeal : Cert.FfnBwdRefIdeal.Facts) (hWideGrad : Cert.WideGrad.Facts) (hWideGradIdeal : Cert.WideGradIdeal.Facts) (hWideGradRefIdeal : Cert.WideGradRefIdeal.Facts) (hDownGrad : Cert.DownGrad.Facts) (hDownGradIdeal : Cert.DownGradIdeal.Facts) (hDownGradRefIdeal : Cert.DownGradRefIdeal.Facts) (hFfnFwd : Cert.FfnFwd.Facts) (hFfnFwdIdeal : Cert.FfnFwdIdeal.Facts) (hFfnFwdRefIdeal : Cert.FfnFwdRefIdeal.Facts) (hLossFwd : Cert.LossFwd.Facts) (hLossFwdIdeal : Cert.LossFwdIdeal.Facts) (hLossFwdRefIdeal : Cert.LossFwdRefIdeal.Facts) (hOutGrad : Cert.OutGrad.Facts) (hOutGradIdeal : Cert.OutGradIdeal.Facts) (hOutGradRefIdeal : Cert.OutGradRefIdeal.Facts) (hInGrad : Cert.InGrad.Facts) (hInGradIdeal : Cert.InGradIdeal.Facts) (hInGradRefIdeal : Cert.InGradRefIdeal.Facts) (hQueryGrad : Cert.QueryGrad.Facts) (hQueryGradIdeal : Cert.QueryGradIdeal.Facts) (hQueryGradRefIdeal : Cert.QueryGradRefIdeal.Facts) (hKeyGrad : Cert.KeyGrad.Facts) (hKeyGradIdeal : Cert.KeyGradIdeal.Facts) (hKeyGradRefIdeal : Cert.KeyGradRefIdeal.Facts) (hOutBwd : Cert.OutBwd.Facts) (hOutBwdIdeal : Cert.OutBwdIdeal.Facts) (hOutBwdRefIdeal : Cert.OutBwdRefIdeal.Facts) (hOutFwd : Cert.OutFwd.Facts) (hOutFwdIdeal : Cert.OutFwdIdeal.Facts) (hOutFwdRefIdeal : Cert.OutFwdRefIdeal.Facts) (hLatentFwd : Cert.LatentFwd.Facts) (hLatentFwdIdeal : Cert.LatentFwdIdeal.Facts) (hLatentFwdRefIdeal : Cert.LatentFwdRefIdeal.Facts) (hPre_finite : Cert.Pre_finite.Facts) (hPre_ffn_finite : Cert.Pre_ffn_finite.Facts) (hPre_latent_finite : Cert.Pre_latent_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnBwdRefIdeal (hFfnBwdRefIdeal := hFfnBwdRefIdeal)
    ∧ quiescent_FfnBwdRefIdeal_pre_ffn_finite (hFfnBwdRefIdeal := hFfnBwdRefIdeal) (hPre_ffn_finite := hPre_ffn_finite)
    ∧ quiescent_WideGrad (hWideGrad := hWideGrad)
    ∧ quiescent_WideGradIdeal (hWideGradIdeal := hWideGradIdeal)
    ∧ quiescent_WideGradRefIdeal (hWideGradRefIdeal := hWideGradRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_LossFwd (hLossFwd := hLossFwd)
    ∧ quiescent_LossFwdIdeal (hLossFwdIdeal := hLossFwdIdeal)
    ∧ quiescent_LossFwdRefIdeal (hLossFwdRefIdeal := hLossFwdRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_QueryGrad (hQueryGrad := hQueryGrad)
    ∧ quiescent_QueryGradIdeal (hQueryGradIdeal := hQueryGradIdeal)
    ∧ quiescent_QueryGradRefIdeal (hQueryGradRefIdeal := hQueryGradRefIdeal)
    ∧ quiescent_KeyGrad (hKeyGrad := hKeyGrad)
    ∧ quiescent_KeyGradIdeal (hKeyGradIdeal := hKeyGradIdeal)
    ∧ quiescent_KeyGradRefIdeal (hKeyGradRefIdeal := hKeyGradRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_LatentFwd (hLatentFwd := hLatentFwd)
    ∧ quiescent_LatentFwdIdeal (hLatentFwdIdeal := hLatentFwdIdeal)
    ∧ quiescent_LatentFwdIdeal_pre_latent_finite (hLatentFwdIdeal := hLatentFwdIdeal) (hPre_latent_finite := hPre_latent_finite)
    ∧ quiescent_LatentFwdRefIdeal (hLatentFwdRefIdeal := hLatentFwdRefIdeal)
    ∧ quiescent_LatentFwdRefIdeal_pre_latent_finite (hLatentFwdRefIdeal := hLatentFwdRefIdeal) (hPre_latent_finite := hPre_latent_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnBwd_FfnBwdIdeal
    ∧ algebraic_FfnBwdIdeal_FfnBwdRefIdeal_pre_ffn_finite (hFfnBwdIdeal := hFfnBwdIdeal) (hFfnBwdRefIdeal := hFfnBwdRefIdeal) (hPre_ffn_finite := hPre_ffn_finite)
    ∧ preserves_WideGrad_WideGradIdeal
    ∧ algebraic_WideGradIdeal_WideGradRefIdeal (hWideGradIdeal := hWideGradIdeal) (hWideGradRefIdeal := hWideGradRefIdeal)
    ∧ preserves_DownGrad_DownGradIdeal
    ∧ algebraic_DownGradIdeal_DownGradRefIdeal (hDownGradIdeal := hDownGradIdeal) (hDownGradRefIdeal := hDownGradRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_LossFwd_LossFwdIdeal
    ∧ algebraic_LossFwdIdeal_LossFwdRefIdeal (hLossFwdIdeal := hLossFwdIdeal) (hLossFwdRefIdeal := hLossFwdRefIdeal)
    ∧ preserves_OutGrad_OutGradIdeal
    ∧ algebraic_OutGradIdeal_OutGradRefIdeal (hOutGradIdeal := hOutGradIdeal) (hOutGradRefIdeal := hOutGradRefIdeal)
    ∧ preserves_InGrad_InGradIdeal
    ∧ algebraic_InGradIdeal_InGradRefIdeal (hInGradIdeal := hInGradIdeal) (hInGradRefIdeal := hInGradRefIdeal)
    ∧ preserves_QueryGrad_QueryGradIdeal
    ∧ algebraic_QueryGradIdeal_QueryGradRefIdeal (hQueryGradIdeal := hQueryGradIdeal) (hQueryGradRefIdeal := hQueryGradRefIdeal)
    ∧ preserves_KeyGrad_KeyGradIdeal
    ∧ algebraic_KeyGradIdeal_KeyGradRefIdeal (hKeyGradIdeal := hKeyGradIdeal) (hKeyGradRefIdeal := hKeyGradRefIdeal)
    ∧ preserves_OutBwd_OutBwdIdeal
    ∧ algebraic_OutBwdIdeal_OutBwdRefIdeal (hOutBwdIdeal := hOutBwdIdeal) (hOutBwdRefIdeal := hOutBwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_LatentFwd_LatentFwdIdeal
    ∧ algebraic_LatentFwdIdeal_LatentFwdRefIdeal_pre_latent_finite (hLatentFwdIdeal := hLatentFwdIdeal) (hLatentFwdRefIdeal := hLatentFwdRefIdeal) (hPre_latent_finite := hPre_latent_finite)
-- ==== Pre_ffn_finite.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite.lean ====
abbrev S8192x1024 : Shape := ⟨2, ![8192, 1024]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v16 : IVec S_ 1) (main_v17 : FVec F S8192x512 .f32) : IVec S_ 1 :=
  let main_cst_4 : FVec F S_ .f32 := constant S_ .f32 0x7F800000#32
  let main_v18 : FVec F S8192x512 .f32 := broadcastInDim S8192x512 ![] bcast_S_S8192x512 main_cst_4
  let main_v19 : IVec S8192x512 1 := cmpf .olt main_v17 main_v18
  let main_c_5 : IVec S_ 1 := constantI S_ 1 1#1
  let main_v20 : IVec S_ 1 := (fun x v => Host.reduce IntOp.andi x v reducesTo_S8192x512_S_d0_1 h_S_) main_v19 main_c_5
  let main_v21 : IVec S_ 1 := andi main_v16 main_v20
  main_v21

def fn {F : FTy → Type} [FloatOps F] (main_arg0 : FVec F S8192x1024 .bf16) (main_arg1 : FVec F S8192x1024 .bf16) (main_arg2 : FVec F S8192x512 .bf16) (main_arg3 : FVec F S8192x512 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S8192x512 .f32 := (extf .f32 · bitsLt_bf16_f32) main_arg2
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_c_3 : IVec S_ 1 := constantI S_ 1 1#1
  let main_v15 : IVec S_ 1 := (fun x v => Host.reduce IntOp.andi x v reducesTo_S8192x512_S_d0_1 h_S_) main_v14 main_c_3
  let main_v16 : IVec S_ 1 := andi main_v10 main_v15
  let main_v17 : FVec F S8192x512 .f32 := Host.absf main_arg3
  fn_part1 (F := F) main_v16 main_v17
-- ==== Pre_latent_finite.lean ====
abbrev S8192x1024 : Shape := ⟨2, ![8192, 1024]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .bf16) (main_arg1 : FVec F S8192x1024 .bf16) (main_arg2 : FVec F S8192x512 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  main_v10
-- ==== Kernel.lean ====
abbrev S8192x1024 : Shape := ⟨2, ![8192, 1024]⟩
abbrev S8192x512 : Shape := ⟨2, ![8192, 512]⟩
abbrev S4x2048x8x64 : Shape := ⟨4, ![4, 2048, 8, 64]⟩
abbrev S4x2048x8x128 : Shape := ⟨4, ![4, 2048, 8, 128]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8x1 : Shape := ⟨4, ![4, 2048, 8, 1]⟩
abbrev S2048x256 : Shape := ⟨2, ![2048, 256]⟩
abbrev S2048x128 : Shape := ⟨2, ![2048, 128]⟩
abbrev S128x2048 : Shape := ⟨2, ![128, 2048]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1536x128 : Shape := ⟨2, ![1536, 128]⟩
abbrev S512x1536 : Shape := ⟨2, ![512, 1536]⟩
abbrev S128x1536 : Shape := ⟨2, ![128, 1536]⟩
abbrev S1024x128 : Shape := ⟨2, ![1024, 128]⟩
abbrev S512x1024 : Shape := ⟨2, ![512, 1024]⟩
abbrev S128x1024 : Shape := ⟨2, ![128, 1024]⟩

abbrev nBuf : Space → Nat
  | .hbm => 52
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S4x2048x8x64, .f32⟩
  | .hbm, ⟨6, _⟩ => ⟨S8192x1024, .f32⟩
  | .hbm, ⟨7, _⟩ => ⟨S4x2048x8x128, .f32⟩
  | .hbm, ⟨8, _⟩ => ⟨S8192x1024, .f32⟩
  | .hbm, ⟨9, _⟩ => ⟨S4x2048x8x128, .f32⟩
  | .hbm, ⟨10, _⟩ => ⟨S4x8x2048x2048, .f32⟩
  | .hbm, ⟨11, _⟩ => ⟨S_, .f32⟩
  | .hbm, ⟨12, _⟩ => ⟨S4x8x2048x2048, .f32⟩
  | .hbm, ⟨13, _⟩ => ⟨S4x8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S1x1x2048x2048, .i1⟩
  | .hbm, ⟨21, _⟩ => ⟨S_, .f32⟩
  | .hbm, ⟨22, _⟩ => ⟨S_, .f32⟩
  | .hbm, ⟨23, _⟩ => ⟨S4x8x2048x2048, .i1⟩
  | .hbm, ⟨24, _⟩ => ⟨S4x8x2048x2048, .f32⟩
  | .hbm, ⟨25, _⟩ => ⟨S4x8x2048x2048, .f32⟩
  | .hbm, ⟨26, _⟩ => ⟨S_, .f32⟩
  | .hbm, ⟨27, _⟩ => ⟨S4x8x2048, .f32⟩
  | .hbm, ⟨28, _⟩ => ⟨S4x8x2048x1, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S4x8x2048x1, .f32⟩
  | .hbm, ⟨35, _⟩ => ⟨S4x8x2048x2048, .f32⟩
  | .hbm, ⟨36, _⟩ => ⟨S4x8x2048x2048, .f32⟩
  | .hbm, ⟨37, _⟩ => ⟨S4x8x64x2048, .f32⟩
  | .hbm, ⟨38, _⟩ => ⟨S4x2048x8x64, .f32⟩
  | .hbm, ⟨39, _⟩ => ⟨S8192x512, .f32⟩
  | .hbm, ⟨40, _⟩ => ⟨S4x8x2048x1, .f32⟩
  | .hbm, ⟨41, _⟩ => ⟨S4x8x2048x1, .f32⟩
  | .hbm, ⟨42, _⟩ => ⟨S_, .f32⟩
  | .hbm, ⟨43, _⟩ => ⟨S_, .f32⟩
  | .hbm, ⟨44, _⟩ => ⟨S4x8x2048x1, .f32⟩
  | .hbm, ⟨45, _⟩ => ⟨S4x8x2048x1, .f32⟩
  | .hbm, ⟨46, _⟩ => ⟨S4x2048x8x1, .f32⟩
  | .hbm, ⟨47, _⟩ => ⟨S4x2048x8x64, .f32⟩
  | .hbm, ⟨48, _⟩ => ⟨S8192x512, .f32⟩
  | .hbm, ⟨49, _⟩ => ⟨S8192x1024, .bf16⟩
  | .hbm, ⟨50, _⟩ => ⟨S8192x1024, .bf16⟩
  | .hbm, ⟨51, _⟩ => ⟨S8192x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x128, .bf16⟩
  | .local _ .vmem, ⟨17, _⟩ => ⟨S2048x128, .bf16⟩
  | .local _ .vmem, ⟨18, _⟩ => ⟨S128x2048, .f32⟩
  | .local _ .vmem, ⟨19, _⟩ => ⟨S128x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev main_v37_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "scale2" => some (((3424635 / 33554432) * (Real.log 2)⁻¹ : ℝ) : EReal)
  | _ => none
-- ==== ReferenceIdeal.lean ====
abbrev S8192x1024 : Shape := ⟨2, ![8192, 1024]⟩
abbrev S8192x512 : Shape := ⟨2, ![8192, 512]⟩
abbrev S4x2048x8x64 : Shape := ⟨4, ![4, 2048, 8, 64]⟩
abbrev S4x2048x8x128 : Shape := ⟨4, ![4, 2048, 8, 128]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x8x2048x128 : Shape := ⟨4, ![4, 8, 2048, 128]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S4x2048x8x64, .f32⟩
  | .hbm, ⟨6, _⟩ => ⟨S8192x1024, .f32⟩
  | .hbm, ⟨7, _⟩ => ⟨S4x2048x8x128, .f32⟩
  | .hbm, ⟨8, _⟩ => ⟨S8192x1024, .f32⟩
  | .hbm, ⟨9, _⟩ => ⟨S4x2048x8x128, .f32⟩
  | .hbm, ⟨10, _⟩ => ⟨S4x8x2048x2048, .f32⟩
  | .hbm, ⟨11, _⟩ => ⟨S_, .f32⟩
  | .hbm, ⟨12, _⟩ => ⟨S4x8x2048x2048, .f32⟩
  | .hbm, ⟨13, _⟩ => ⟨S4x8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S1x1x2048x2048, .i1⟩
  | .hbm, ⟨21, _⟩ => ⟨S_, .f32⟩
  | .hbm, ⟨22, _⟩ => ⟨S_, .f32⟩
  | .hbm, ⟨23, _⟩ => ⟨S4x8x2048x2048, .i1⟩
  | .hbm, ⟨24, _⟩ => ⟨S4x8x2048x2048, .f32⟩
  | .hbm, ⟨25, _⟩ => ⟨S4x8x2048x2048, .f32⟩
  | .hbm, ⟨26, _⟩ => ⟨S_, .f32⟩
  | .hbm, ⟨27, _⟩ => ⟨S4x8x2048x2048, .f32⟩
  | .hbm, ⟨28, _⟩ => ⟨S_, .f32⟩
  | .hbm, ⟨29, _⟩ => ⟨S4x8x2048, .f32⟩
  | .hbm, ⟨30, _⟩ => ⟨S4x8x2048x1, .f32⟩
  | .hbm, ⟨31, _⟩ => ⟨S4x8x2048x2048, .f32⟩
  | .hbm, ⟨32, _⟩ => ⟨S4x8x2048x2048, .i1⟩
  | .hbm, ⟨33, _⟩ => ⟨S4x8x2048x2048, .f32⟩
  | .hbm, ⟨34, _⟩ => ⟨S_, .f32⟩
  | .hbm, ⟨35, _⟩ => ⟨S4x8x2048, .f32⟩
  | .hbm, ⟨36, _⟩ => ⟨S_, .f32⟩
  | .hbm, ⟨37, _⟩ => ⟨S4x8x2048, .f32⟩
  | .hbm, ⟨38, _⟩ => ⟨S4x8x2048, .f32⟩
  | .hbm, ⟨39, _⟩ => ⟨S_, .f32⟩
  | .hbm, ⟨40, _⟩ => ⟨S4x8x2048, .f32⟩
  | .hbm, ⟨41, _⟩ => ⟨S4x8x2048, .i1⟩
  | .hbm, ⟨42, _⟩ => ⟨S_, .f32⟩
  | .hbm, ⟨43, _⟩ => ⟨S4x8x2048, .f32⟩
  | .hbm, ⟨44, _⟩ => ⟨S4x8x2048, .i1⟩
  | .hbm, ⟨45, _⟩ => ⟨S_, .f32⟩
  | .hbm, ⟨46, _⟩ => ⟨S4x8x2048, .f32⟩
  | .hbm, ⟨47, _⟩ => ⟨S_, .f32⟩
  | .hbm, ⟨48, _⟩ => ⟨S4x8x2048, .f32⟩
  | .hbm, ⟨49, _⟩ => ⟨S_, .f32⟩
  | .hbm, ⟨50, _⟩ => ⟨S4x8x2048, .f32⟩
  | .hbm, ⟨51, _⟩ => ⟨S4x8x2048, .f32⟩
  | .hbm, ⟨52, _⟩ => ⟨S4x8x2048, .f32⟩
  | .hbm, ⟨53, _⟩ => ⟨S4x8x2048x1, .f32⟩
  | .hbm, ⟨54, _⟩ => ⟨S4x8x2048x2048, .f32⟩
  | .hbm, ⟨55, _⟩ => ⟨S4x8x2048x2048, .f32⟩
  | .hbm, ⟨56, _⟩ => ⟨S4x8x2048x2048, .f32⟩
  | .hbm, ⟨57, _⟩ => ⟨S_, .f32⟩
  | .hbm, ⟨58, _⟩ => ⟨S4x8x2048, .f32⟩
  | .hbm, ⟨59, _⟩ => ⟨S4x8x2048x1, .f32⟩
  | .hbm, ⟨60, _⟩ => ⟨S4x8x2048x2048, .f32⟩
  | .hbm, ⟨61, _⟩ => ⟨S4x8x2048x2048, .f32⟩
  | .hbm, ⟨62, _⟩ => ⟨S4x8x2048x1, .f32⟩
  | .hbm, ⟨63, _⟩ => ⟨S_, .f32⟩
  | .hbm, ⟨64, _⟩ => ⟨S4x8x2048x1, .f32⟩
  | .hbm, ⟨65, _⟩ => ⟨S4x8x2048x1, .f32⟩
  | .hbm, ⟨66, _⟩ => ⟨S4x8x64x2048, .f32⟩
  | .hbm, ⟨67, _⟩ => ⟨S4x2048x8x64, .f32⟩
  | .hbm, ⟨68, _⟩ => ⟨S8192x512, .f32⟩
  | .hbm, ⟨69, _⟩ => ⟨S4x2048x8x64, .f32⟩
  | .hbm, ⟨70, _⟩ => ⟨S4x8x64x2048, .f32⟩
  | .hbm, ⟨71, _⟩ => ⟨S4x8x2048x2048, .f32⟩
  | .hbm, ⟨72, _⟩ => ⟨S4x8x64x2048, .f32⟩
  | .hbm, ⟨73, _⟩ => ⟨S4x2048x8x64, .f32⟩
  | .hbm, ⟨74, _⟩ => ⟨S4x8x2048x2048, .f32⟩
  | .hbm, ⟨75, _⟩ => ⟨S4x8x2048x2048, .f32⟩
  | .hbm, ⟨76, _⟩ => ⟨S4x8x2048x2048, .f32⟩
  | .hbm, ⟨77, _⟩ => ⟨S_, .f32⟩
  | .hbm, ⟨78, _⟩ => ⟨S4x8x2048, .f32⟩
  | .hbm, ⟨79, _⟩ => ⟨S4x8x2048x1, .f32⟩
  | .hbm, ⟨80, _⟩ => ⟨S4x8x2048x1, .f32⟩
  | .hbm, ⟨81, _⟩ => ⟨S4x8x2048x2048, .f32⟩
  | .hbm, ⟨82, _⟩ => ⟨S4x8x2048x2048, .f32⟩
  | .hbm, ⟨83, _⟩ => ⟨S_, .f32⟩
  | .hbm, ⟨84, _⟩ => ⟨S4x8x2048, .f32⟩
  | .hbm, ⟨85, _⟩ => ⟨S4x8x2048x2048, .f32⟩
  | .hbm, ⟨86, _⟩ => ⟨S4x8x2048x2048, .f32⟩
  | .hbm, ⟨87, _⟩ => ⟨S4x8x2048x2048, .f32⟩
  | .hbm, ⟨88, _⟩ => ⟨S_, .f32⟩
  | .hbm, ⟨89, _⟩ => ⟨S4x8x2048x2048, .f32⟩
  | .hbm, ⟨90, _⟩ => ⟨S4x8x2048x2048, .f32⟩
  | .hbm, ⟨91, _⟩ => ⟨S_, .f32⟩
  | .hbm, ⟨92, _⟩ => ⟨S4x8x2048x2048, .f32⟩
  | .hbm, ⟨93, _⟩ => ⟨S4x8x2048x2048, .f32⟩
  | .hbm, ⟨94, _⟩ => ⟨S4x8x2048x128, .f32⟩
  | .hbm, ⟨95, _⟩ => ⟨S4x2048x8x128, .f32⟩
  | .hbm, ⟨96, _⟩ => ⟨S4x8x2048x128, .f32⟩
  | .hbm, ⟨97, _⟩ => ⟨S4x2048x8x128, .f32⟩
  | .hbm, ⟨98, _⟩ => ⟨S8192x1024, .f32⟩
  | .hbm, ⟨99, _⟩ => ⟨S8192x1024, .bf16⟩
  | .hbm, ⟨100, _⟩ => ⟨S8192x1024, .f32⟩
  | .hbm, ⟨101, _⟩ => ⟨S8192x1024, .bf16⟩
  | .hbm, ⟨102, _⟩ => ⟨S8192x512, .f32⟩
  | .hbm, ⟨103, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_v16_1 : Ref sig .tc := ⟨.hbm, 23, rfl⟩
abbrev main_call0_v2 : Ref sig .tc := ⟨.hbm, 24, rfl⟩
abbrev main_v16_0 : Ref sig .tc := ⟨.hbm, 25, rfl⟩
abbrev main_call0_cst : Ref sig .tc := ⟨.hbm, 26, rfl⟩
abbrev main_v16_2 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== FfnBwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S512x1024 : Shape := ⟨2, ![512, 1024]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩
abbrev S1024 : Shape := ⟨1, ![1024]⟩

abbrev nBuf : Space → Nat
  | .hbm => 34
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .bf16⟩
  | .hbm, ⟨24, _⟩ => ⟨S8192x2816, .bf16⟩
  | .hbm, ⟨25, _⟩ => ⟨S2816x1024, .f32⟩
  | .hbm, ⟨26, _⟩ => ⟨S2816x1024, .bf16⟩
  | .hbm, ⟨27, _⟩ => ⟨S2816x1024, .f32⟩
  | .hbm, ⟨28, _⟩ => ⟨S2816x1024, .bf16⟩
  | .hbm, ⟨29, _⟩ => ⟨S2816x1024, .bf16⟩
  | .hbm, ⟨30, _⟩ => ⟨S8192x1024, .f32⟩
  | .hbm, ⟨31, _⟩ => ⟨S1x1024, .f32⟩
  | .hbm, ⟨32, _⟩ => ⟨S8192x2816, .bf16⟩
  | .hbm, ⟨33, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1024, .f32⟩
  | .local _ .vmem, ⟨8, _⟩ => ⟨S512x1024, .f32⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![16, 2], ![false, false]⟩

def k0_cond4 (i : grid0.Coords) : BitVec 1 :=
  let arg1 : BitVec 32 := BitVec.ofNat 32 (i 1).val
  let c1_i32 : BitVec 32 := 1#32
  let v56 : BitVec 1 := Scalar.cmpi .eq arg1 c1_i32
  let v57 : BitVec 32 := Scalar.extui v56
  let c0_i32_33 : BitVec 32 := 0#32
  let v58 : BitVec 1 := Scalar.cmpi .ne v57 c0_i32_33
  v58

def k0_cond3 (i : grid0.Coords) : BitVec 1 :=
  let arg0 : BitVec 32 := BitVec.ofNat 32 (i 0).val
  let c0_i32_30 : BitVec 32 := 0#32
  let v51 : BitVec 1 := Scalar.cmpi .eq arg0 c0_i32_30
  let arg1 : BitVec 32 := BitVec.ofNat 32 (i 1).val
  let c0_i32_31 : BitVec 32 := 0#32
  let v52 : BitVec 1 := Scalar.cmpi .eq arg1 c0_i32_31
  let v53 : BitVec 1 := Scalar.andi v51 v52
  let v54 : BitVec 32 := Scalar.extui v53
  let c0_i32_32 : BitVec 32 := 0#32
  let v55 : BitVec 1 := Scalar.cmpi .ne v54 c0_i32_32
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnBwdRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x2816, .bf16⟩
  | .hbm, ⟨83, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== WideGrad.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WideGradRefIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .f32⟩
  | .hbm, ⟨11, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownGrad.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownGradRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== FfnFwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S512x512 : Shape := ⟨2, ![512, 512]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S8192x1024, .f32⟩
  | .hbm, ⟨11, _⟩ => ⟨S8192x1024, .bf16⟩
  | .hbm, ⟨12, _⟩ => ⟨S8192x2816, .bf16⟩
  | .hbm, ⟨13, _⟩ => ⟨S8192x2816, .bf16⟩
  | .hbm, ⟨14, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnFwdRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S8192x2816, .bf16⟩
  | .hbm, ⟨39, _⟩ => ⟨S8192x2816, .bf16⟩
  | .hbm, ⟨40, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== LossFwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S1x128 : Shape := ⟨2, ![1, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S512x512 : Shape := ⟨2, ![512, 512]⟩
abbrev S1024 : Shape := ⟨1, ![1024]⟩
abbrev S1 : Shape := ⟨1, ![1]⟩
abbrev S1x1 : Shape := ⟨2, ![1, 1]⟩

abbrev nBuf : Space → Nat
  | .hbm => 19
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8192x1024, .f32⟩
  | .hbm, ⟨13, _⟩ => ⟨S8192x1024, .bf16⟩
  | .hbm, ⟨14, _⟩ => ⟨S8192x2816, .bf16⟩
  | .hbm, ⟨15, _⟩ => ⟨S8192x2816, .bf16⟩
  | .hbm, ⟨16, _⟩ => ⟨S8192x2816, .bf16⟩
  | .hbm, ⟨17, _⟩ => ⟨S1x128, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S1x128, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LossFwdRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x2816, .bf16⟩
  | .hbm, ⟨41, _⟩ => ⟨S8192x2816, .bf16⟩
  | .hbm, ⟨42, _⟩ => ⟨S8192x2816, .bf16⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1024, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_cst_12 : Ref sig .tc := ⟨.hbm, 76, rfl⟩
abbrev main_cst_13 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_15 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_16 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_17 : Ref sig .tc := ⟨.hbm, 98, rfl⟩
abbrev main_v65 : Ref sig .tc := ⟨.hbm, 99, rfl⟩
abbrev main_v66 : Ref sig .tc := ⟨.hbm, 100, rfl⟩
abbrev main_cst_18 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]
-- ==== OutGrad.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== OutGradRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InGrad.lean ====
abbrev S8192x1280 : Shape := ⟨2, ![8192, 1280]⟩
abbrev S8192x1024 : Shape := ⟨2, ![8192, 1024]⟩
abbrev S1280x1024 : Shape := ⟨2, ![1280, 1024]⟩
abbrev S2048x1280 : Shape := ⟨2, ![2048, 1280]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S1280x1024, .f32⟩
  | .hbm, ⟨3, _⟩ => ⟨S1280x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1280x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== InGradRefIdeal.lean ====
abbrev S8192x1280 : Shape := ⟨2, ![8192, 1280]⟩
abbrev S8192x1024 : Shape := ⟨2, ![8192, 1024]⟩
abbrev S_ : Shape := ⟨0, ![]⟩
abbrev S1024x1280 : Shape := ⟨2, ![1024, 1280]⟩
abbrev S1280x1024 : Shape := ⟨2, ![1280, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S_, .f32⟩
  | .hbm, ⟨3, _⟩ => ⟨S1024x1280, .f32⟩
  | .hbm, ⟨4, _⟩ => ⟨S8192x1024, .f32⟩
  | .hbm, ⟨5, _⟩ => ⟨S8192x1280, .f32⟩
  | .hbm, ⟨6, _⟩ => ⟨S8192x1280, .f32⟩
  | .hbm, ⟨7, _⟩ => ⟨S1280x1024, .f32⟩
  | .hbm, ⟨8, _⟩ => ⟨S1024x1280, .f32⟩
  | .hbm, ⟨9, _⟩ => ⟨S1280x1024, .f32⟩
  | .hbm, ⟨10, _⟩ => ⟨S1280x1024, .f32⟩
  | .hbm, ⟨11, _⟩ => ⟨S1280x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== QueryGrad.lean ====
abbrev S8192x1024 : Shape := ⟨2, ![8192, 1024]⟩
abbrev S8192x256 : Shape := ⟨2, ![8192, 256]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .f32⟩
  | .hbm, ⟨3, _⟩ => ⟨S1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .f32⟩
  | .local _ .vmem, ⟨5, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== QueryGradRefIdeal.lean ====
abbrev S8192x1024 : Shape := ⟨2, ![8192, 1024]⟩
abbrev S8192x256 : Shape := ⟨2, ![8192, 256]⟩
abbrev S_ : Shape := ⟨0, ![]⟩
abbrev S256x1024 : Shape := ⟨2, ![256, 1024]⟩
abbrev S1024x256 : Shape := ⟨2, ![1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S1024x256, .f32⟩
  | .hbm, ⟨10, _⟩ => ⟨S1024x256, .f32⟩
  | .hbm, ⟨11, _⟩ => ⟨S1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KeyGrad.lean ====
abbrev S8192x1536 : Shape := ⟨2, ![8192, 1536]⟩
abbrev S8192x128 : Shape := ⟨2, ![8192, 128]⟩
abbrev S1536x128 : Shape := ⟨2, ![1536, 128]⟩
abbrev S2048x768 : Shape := ⟨2, ![2048, 768]⟩
abbrev S2048x128 : Shape := ⟨2, ![2048, 128]⟩
abbrev S768x128 : Shape := ⟨2, ![768, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x1536, .bf16⟩
  | .hbm, ⟨1, _⟩ => ⟨S8192x128, .bf16⟩
  | .hbm, ⟨2, _⟩ => ⟨S1536x128, .f32⟩
  | .hbm, ⟨3, _⟩ => ⟨S1536x128, .bf16⟩
  | .local _ .vmem, ⟨0, _⟩ => ⟨S2048x768, .bf16⟩
  | .local _ .vmem, ⟨1, _⟩ => ⟨S2048x768, .bf16⟩
  | .local _ .vmem, ⟨2, _⟩ => ⟨S2048x128, .bf16⟩
  | .local _ .vmem, ⟨3, _⟩ => ⟨S2048x128, .bf16⟩
  | .local _ .vmem, ⟨4, _⟩ => ⟨S768x128, .f32⟩
  | .local _ .vmem, ⟨5, _⟩ => ⟨S768x128, .f32⟩
  | .local _ .vmem, ⟨6, _⟩ => ⟨S768x128, .bf16⟩
  | .local _ .vmem, ⟨7, _⟩ => ⟨S768x128, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KeyGradRefIdeal.lean ====
abbrev S8192x1536 : Shape := ⟨2, ![8192, 1536]⟩
abbrev S8192x128 : Shape := ⟨2, ![8192, 128]⟩
abbrev S_ : Shape := ⟨0, ![]⟩
abbrev S128x1536 : Shape := ⟨2, ![128, 1536]⟩
abbrev S1536x128 : Shape := ⟨2, ![1536, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x128, .bf16⟩
  | .hbm, ⟨2, _⟩ => ⟨S_, .f32⟩
  | .hbm, ⟨3, _⟩ => ⟨S128x1536, .f32⟩
  | .hbm, ⟨4, _⟩ => ⟨S8192x128, .f32⟩
  | .hbm, ⟨5, _⟩ => ⟨S8192x1536, .f32⟩
  | .hbm, ⟨6, _⟩ => ⟨S8192x1536, .f32⟩
  | .hbm, ⟨7, _⟩ => ⟨S1536x128, .f32⟩
  | .hbm, ⟨8, _⟩ => ⟨S128x1536, .f32⟩
  | .hbm, ⟨9, _⟩ => ⟨S1536x128, .f32⟩
  | .hbm, ⟨10, _⟩ => ⟨S1536x128, .f32⟩
  | .hbm, ⟨11, _⟩ => ⟨S1536x128, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutBwd.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S1024x1024, .bf16⟩
  | .hbm, ⟨7, _⟩ => ⟨S8192x512, .f32⟩
  | .hbm, ⟨8, _⟩ => ⟨S8192x512, .f32⟩
  | .hbm, ⟨9, _⟩ => ⟨S1x512, .f32⟩
  | .hbm, ⟨10, _⟩ => ⟨S1x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1x512, .f32⟩
  | .local _ .vmem, ⟨14, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutBwdRefIdeal.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x512, .f32⟩
  | .hbm, ⟨60, _⟩ => ⟨S8192x512, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x512, .f32⟩
  | .hbm, ⟨83, _⟩ => ⟨S8192x512, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S8192x512, .f32⟩
  | .hbm, ⟨94, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== OutFwd.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S8192x1024, .f32⟩
  | .hbm, ⟨6, _⟩ => ⟨S1024x1024, .bf16⟩
  | .hbm, ⟨7, _⟩ => ⟨S8192x1024, .f32⟩
  | .hbm, ⟨8, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutFwdRefIdeal.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== LatentFwd.lean ====
abbrev S8192x1024 : Shape := ⟨2, ![8192, 1024]⟩
abbrev S8192x512 : Shape := ⟨2, ![8192, 512]⟩
abbrev S2048x256 : Shape := ⟨2, ![2048, 256]⟩
abbrev S2048x128 : Shape := ⟨2, ![2048, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩
abbrev S1536x128 : Shape := ⟨2, ![1536, 128]⟩
abbrev S512x1536 : Shape := ⟨2, ![512, 1536]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .hbm, ⟨4, _⟩ => ⟨S8192x512, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LatentFwdIdeal.lean ====
variable {F : FTy → Type} [FloatOps F] [Named F]
def κ : String → Option EReal := fun
  | "mask" => some ⊥
  | "scale2" => some (((3424635 / 33554432) * (Real.log 2)⁻¹ : ℝ) : EReal)
  | _ => none
-- ==== LatentFwdRefIdeal.lean ====
abbrev S8192x1024 : Shape := ⟨2, ![8192, 1024]⟩
abbrev S8192x512 : Shape := ⟨2, ![8192, 512]⟩
abbrev S4x2048x8x64 : Shape := ⟨4, ![4, 2048, 8, 64]⟩
abbrev S4x2048x8x128 : Shape := ⟨4, ![4, 2048, 8, 128]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8x1 : Shape := ⟨4, ![4, 2048, 8, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .hbm, ⟨4, _⟩ => ⟨S4x2048x8x64, .f32⟩
  | .hbm, ⟨5, _⟩ => ⟨S8192x1024, .f32⟩
  | .hbm, ⟨6, _⟩ => ⟨S4x2048x8x128, .f32⟩
  | .hbm, ⟨7, _⟩ => ⟨S8192x1024, .f32⟩
  | .hbm, ⟨8, _⟩ => ⟨S4x2048x8x128, .f32⟩
  | .hbm, ⟨9, _⟩ => ⟨S4x8x2048x2048, .f32⟩
  | .hbm, ⟨10, _⟩ => ⟨S_, .f32⟩
  | .hbm, ⟨11, _⟩ => ⟨S4x8x2048x2048, .f32⟩
  | .hbm, ⟨12, _⟩ => ⟨S4x8x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S1x1x2048x2048, .i1⟩
  | .hbm, ⟨20, _⟩ => ⟨S_, .f32⟩
  | .hbm, ⟨21, _⟩ => ⟨S_, .f32⟩
  | .hbm, ⟨22, _⟩ => ⟨S4x8x2048x2048, .i1⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048, .f32⟩
  | .hbm, ⟨27, _⟩ => ⟨S4x8x2048x1, .f32⟩
  | .hbm, ⟨28, _⟩ => ⟨S4x8x2048x2048, .f32⟩
  | .hbm, ⟨29, _⟩ => ⟨S4x8x2048x2048, .f32⟩
  | .hbm, ⟨30, _⟩ => ⟨S4x8x2048x2048, .f32⟩
  | .hbm, ⟨31, _⟩ => ⟨S_, .f32⟩
  | .hbm, ⟨32, _⟩ => ⟨S4x8x2048, .f32⟩
  | .hbm, ⟨33, _⟩ => ⟨S4x8x2048x1, .f32⟩
  | .hbm, ⟨34, _⟩ => ⟨S4x8x2048x2048, .f32⟩
  | .hbm, ⟨35, _⟩ => ⟨S4x8x2048x2048, .f32⟩
  | .hbm, ⟨36, _⟩ => ⟨S4x8x64x2048, .f32⟩
  | .hbm, ⟨37, _⟩ => ⟨S4x2048x8x64, .f32⟩
  | .hbm, ⟨38, _⟩ => ⟨S8192x512, .f32⟩
  | .hbm, ⟨39, _⟩ => ⟨S4x8x2048x1, .f32⟩
  | .hbm, ⟨40, _⟩ => ⟨S4x8x2048x1, .f32⟩
  | .hbm, ⟨41, _⟩ => ⟨S_, .f32⟩
  | .hbm, ⟨42, _⟩ => ⟨S_, .f32⟩
  | .hbm, ⟨43, _⟩ => ⟨S4x8x2048x1, .f32⟩
  | .hbm, ⟨44, _⟩ => ⟨S4x8x2048x1, .f32⟩
  | .hbm, ⟨45, _⟩ => ⟨S4x2048x8x1, .f32⟩
  | .hbm, ⟨46, _⟩ => ⟨S4x2048x8x64, .f32⟩
  | .hbm, ⟨47, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.Frames.lean ====
/-
  The claims that need no arithmetic: the three programs run, leave their arguments alone and end with every counter at
  zero, and the one constant the idealized kernel names is the word it stands for.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof.LatentBwd

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

/-- The reference has no semaphores, so its run alone gives the frame. -/
theorem frame_ri : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

theorem preserves : Cert.preserves_Kernel_KernelIdeal :=
  IdealRules.named_const.statement Cert.KernelIdeal.κ "scale2" .f32 0x3E16C740#32 _ rfl

end Cert.Proof.LatentBwd

end
-- ==== Proof.Head.lean ====
/-
  One attention head of one batch row, as functions of plain coordinates over the extended reals.

  A block of the backward kernel holds two heads: their queries and keys side by side in 256 lanes, and their values,
  incoming gradients and outputs side by side in 128 lanes, of which each head owns a half. `Head` is what the kernel
  has of one head, and below it what the kernel computes for it: the probabilities, the gradient of the scores, and
  the gradients of the queries, the keys and the values.
-/
module

public import Idealize.ShloMosaic.PureOps.Ideal
public import Mathlib.Algebra.BigOperators.Fin

@[expose] public section

noncomputable section

namespace Cert.Proof.LatentBwd

open Idealize.ShloMosaic
open scoped BigOperators

/-- The scale of the scores in base two: the scale of the scores over the logarithm of two. -/
def scale2 : ℝ := 3424635 / 33554432 * (Real.log 2)⁻¹

/-- The scale of the scores, as the kernel writes it. -/
def scaleE : EReal := Ideal.ofBits .f32 0x3DD105EC#32

/-- Position `o + i` of the 2048 rows. -/
def pos {n : ℕ} (o : ℕ) (h : o + n ≤ 2048) (i : Fin n) : Fin 2048 := ⟨o + i.val, by omega⟩

/-- What a block holds of one head. -/
structure Head where
  /-- queries -/
  q : Fin 2048 → Fin 128 → EReal
  /-- keys -/
  k : Fin 2048 → Fin 128 → EReal
  /-- values, of both heads of the block -/
  v : Fin 2048 → Fin 128 → EReal
  /-- gradient of the output, of both heads of the block -/
  g : Fin 2048 → Fin 128 → EReal
  /-- output, of both heads of the block -/
  o : Fin 2048 → Fin 128 → EReal
  /-- base-two logarithm of each row's sum of exponentials -/
  lse : Fin 2048 → EReal
  /-- the value lanes this head owns -/
  own : Fin 128 → Bool

namespace Head

variable (H : Head)

/-- The probability of key `j` for query `i`: zero after the query. -/
def prob (i j : Fin 2048) : EReal :=
  if j ≤ i then Ideal.exp2 ((∑ d, H.q i d * H.k j d) * (scale2 : EReal) - H.lse i) else 0

/-- The gradient of the output on the head's own lanes. -/
def og (i : Fin 2048) (d : Fin 128) : EReal := if H.own d then H.g i d else 0

/-- The row's inner product of the gradient of the output with the output. -/
def corr (i : Fin 2048) : EReal := ∑ d, H.og i d * H.o i d

/-- The gradient of the scaled score of query `i` at key `j`. -/
def ds (i j : Fin 2048) : EReal := H.prob i j * ((∑ d, H.og i d * H.v j d) - H.corr i) * scaleE

/-- The gradient of the queries. -/
def dq (i : Fin 2048) (d : Fin 128) : EReal := ∑ j, H.ds i j * H.k j d

/-- The gradient of the keys. -/
def dk (j : Fin 2048) (d : Fin 128) : EReal := ∑ i, H.q i d * H.ds i j

/-- The gradient of the values. -/
def dv (j : Fin 2048) (d : Fin 128) : EReal := ∑ i, H.og i d * H.prob i j

theorem prob_of_le {i j : Fin 2048} (h : j ≤ i) :
    H.prob i j = Ideal.exp2 ((∑ d, H.q i d * H.k j d) * (scale2 : EReal) - H.lse i) := if_pos h

theorem prob_of_lt {i j : Fin 2048} (h : i < j) : H.prob i j = 0 := if_neg (not_le.mpr h)

theorem ds_of_lt {i j : Fin 2048} (h : i < j) : H.ds i j = 0 := by
  rw [ds, H.prob_of_lt h, zero_mul, zero_mul]

/-- What the 512 queries from row `r` add to the gradient of the keys. -/
def dkPart (r : ℕ) (hr : r + 512 ≤ 2048) (d : Fin 128) (j : Fin 2048) : EReal :=
  ∑ i : Fin 512, H.q (pos r hr i) d * H.ds (pos r hr i) j

/-- What the 512 queries from row `r` add to the gradient of the values. -/
def dvPart (r : ℕ) (hr : r + 512 ≤ 2048) (d : Fin 128) (j : Fin 2048) : EReal :=
  ∑ i : Fin 512, H.og (pos r hr i) d * H.prob (pos r hr i) j

theorem dkPart_of_le (r : ℕ) (hr : r + 512 ≤ 2048) (d : Fin 128) (j : Fin 2048) (h : r + 512 ≤ j.val) :
    H.dkPart r hr d j = 0 :=
  Finset.sum_eq_zero fun i _ => by
    rw [H.ds_of_lt (show pos r hr i < j from Fin.lt_def.mpr (by show r + i.val < j.val; omega)), mul_zero]

theorem dvPart_of_le (r : ℕ) (hr : r + 512 ≤ 2048) (d : Fin 128) (j : Fin 2048) (h : r + 512 ≤ j.val) :
    H.dvPart r hr d j = 0 :=
  Finset.sum_eq_zero fun i _ => by
    rw [H.prob_of_lt (show pos r hr i < j from Fin.lt_def.mpr (by show r + i.val < j.val; omega)), mul_zero]

end Head

/-- A function of the 2048 positions, extended by zero to the natural numbers. -/
def extend (f : Fin 2048 → EReal) (j : ℕ) : EReal := if h : j < 2048 then f ⟨j, h⟩ else 0

theorem sum_extend (f : Fin 2048 → EReal) : ∑ j, f j = ∑ j ∈ Finset.range 2048, extend f j := by
  rw [Finset.sum_range]
  exact Finset.sum_congr rfl fun j _ => by rw [extend, dif_pos j.isLt]

theorem sum_pos_extend {n : ℕ} (f : Fin 2048 → EReal) (o : ℕ) (h : o + n ≤ 2048) :
    ∑ i : Fin n, f (pos o h i) = ∑ j ∈ Finset.Ico o (o + n), extend f j := by
  rw [Finset.sum_Ico_eq_sum_range, Nat.add_sub_cancel_left, Finset.sum_range]
  exact Finset.sum_congr rfl fun i _ => by rw [extend, dif_pos (by omega)]; rfl

/-- A sum whose terms vanish from position `r + 512` on: the first `r` positions and the 512 after them. -/
theorem sum_past_diag (f : Fin 2048 → EReal) (r : ℕ) (h0 : 0 + r ≤ 2048) (hr : r + 512 ≤ 2048)
    (hf : ∀ j : Fin 2048, r + 512 ≤ j.val → f j = 0) :
    ∑ j, f j = (∑ j : Fin 512, f (pos r hr j)) + ∑ j : Fin r, f (pos 0 h0 j) := by
  rw [sum_extend, sum_pos_extend, sum_pos_extend, Finset.range_eq_Ico,
    ← Finset.sum_Ico_consecutive _ (Nat.zero_le (r + 512)) hr, Finset.sum_eq_zero (s := Finset.Ico (r + 512) 2048), add_zero,
    ← Finset.sum_Ico_consecutive _ (Nat.zero_le r) (Nat.le_add_right r 512), add_comm, Nat.zero_add]
  intro j hj
  obtain ⟨h1, h2⟩ := Finset.mem_Ico.mp hj
  rw [extend, dif_pos h2, hf _ h1]

/-- A sum over the 2048 positions as the four row tiles add it up, last tile first. -/
theorem sum_tiles (f : Fin 2048 → EReal) :
    (((∑ i : Fin 512, f (pos 1536 (by decide) i)) + ∑ i : Fin 512, f (pos 1024 (by decide) i))
      + ∑ i : Fin 512, f (pos 512 (by decide) i)) + ∑ i : Fin 512, f (pos 0 (by decide) i) = ∑ i, f i := by
  rw [sum_extend, sum_pos_extend, sum_pos_extend, sum_pos_extend, sum_pos_extend, Finset.range_eq_Ico,
    ← Finset.sum_Ico_consecutive _ (show 0 ≤ 512 by decide) (show 512 ≤ 2048 by decide),
    ← Finset.sum_Ico_consecutive _ (show 512 ≤ 1024 by decide) (show 1024 ≤ 2048 by decide),
    ← Finset.sum_Ico_consecutive _ (show 1024 ≤ 1536 by decide) (show 1536 ≤ 2048 by decide)]
  simp only [Nat.reduceAdd, Nat.zero_add]
  abel

namespace Head

variable (H : Head)

/-- The gradient of the keys, as the row tiles add it up. -/
theorem dk_eq (j : Fin 2048) (d : Fin 128) :
    H.dk j d = ((H.dkPart 1536 (by decide) d j + H.dkPart 1024 (by decide) d j) + H.dkPart 512 (by decide) d j)
      + H.dkPart 0 (by decide) d j :=
  (sum_tiles fun i => H.q i d * H.ds i j).symm

/-- The gradient of the values, as the row tiles add it up. -/
theorem dv_eq (j : Fin 2048) (d : Fin 128) :
    H.dv j d = ((H.dvPart 1536 (by decide) d j + H.dvPart 1024 (by decide) d j) + H.dvPart 512 (by decide) d j)
      + H.dvPart 0 (by decide) d j :=
  (sum_tiles fun i => H.og i d * H.prob i j).symm

/-- The gradient of the queries of row tile `r`: the keys of the same tile, then the keys before it. -/
theorem dq_eq (r : ℕ) (h0 : 0 + r ≤ 2048) (hr : r + 512 ≤ 2048) (i : Fin 512) (d : Fin 128) :
    H.dq (pos r hr i) d = (∑ j : Fin 512, H.ds (pos r hr i) (pos r hr j) * H.k (pos r hr j) d)
      + ∑ j : Fin r, H.ds (pos r hr i) (pos 0 h0 j) * H.k (pos 0 h0 j) d :=
  sum_past_diag (fun j => H.ds (pos r hr i) j * H.k j d) r h0 hr fun j h => by
    rw [H.ds_of_lt (Fin.lt_def.mpr (by show r + i.val < j.val; omega)), zero_mul]

end Head

end Cert.Proof.LatentBwd

end
-- ==== Proof.Tile.lean ====
/-
  What one tile of 512 queries computes, for any number of keys: the kernel's products, masks and sums as one family of
  functions in the number `n` of keys, and their entries in terms of `Head`.
-/
module

public import proofs.«01_k».proof.Proof.Gen.KernelIdeal.Skeleton
public import proofs.«01_k».proof.Proof.Head
public import Idealize.ShloMosaic.Lib.ValueIdx
public import Idealize.ShloMosaic.Lib.MatmulPlain
public import Idealize.ShloMosaic.Lib.WordCmp
public import Idealize.ShloMosaic.Lib.ValueLayout
public import Idealize.ShloMosaic.Lib.ValueLayoutCasts
public import Idealize.ShloMosaic.Lib.Pipeline.Value

@[expose] public section

set_option maxRecDepth 16384

noncomputable section

namespace Cert.Proof.LatentBwd

open Cert.KernelIdeal Cert.KernelIdeal.Gen Idealize.ShloMosaic Idealize.ShloMosaic.ValueIdx
open scoped BigOperators

/-! ## A product with the left operand transposed -/

/-- `[K,M]ᵀ × [K,N]`. -/
def tnDims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, by simp, fun a => by fin_cases a <;> rfl⟩

theorem tnDims_contr_rank (K M N : ℕ) : (tnDims K M N).contr.rank = 1 := rfl
theorem tnDims_contr_size (K M N : ℕ) :
    (tnDims K M N).contr.size ⟨0, by rw [tnDims_contr_rank]; exact Nat.one_pos⟩ = K := rfl

/-- The transposed product at `(r, c)`. -/
theorem matmul_tn_apply {K M N : ℕ} {φ₁ φ₂ : FTy} (lhs : FVec Ideal ⟨2, ![K, M]⟩ φ₁) (rhs : FVec Ideal ⟨2, ![K, N]⟩ φ₂)
    (acc : FVec Ideal ⟨2, ![M, N]⟩ .f32) (r : Fin M) (c : Fin N) :
    FloatOps.matmul (tnDims K M N) none lhs rhs acc (ix2 r c) = acc (ix2 r c) + ∑ k : Fin K, lhs (ix2 k r) * rhs (ix2 k c) := by
  rw [Ideal.matmul_apply, ← Equiv.sum_comp (contrEquiv1 _ K (tnDims_contr_rank K M N) (tnDims_contr_size K M N)).symm]
  refine congrArg (acc (ix2 r c) + ·) (Finset.sum_congr rfl fun k _ => ?_)
  have hk := contrEquiv1_symm_val _ K (tnDims_contr_rank K M N) (tnDims_contr_size K M N) k
  have el : (tnDims K M N).lhsIdx (ix2 r c) ((contrEquiv1 _ K (tnDims_contr_rank K M N) (tnDims_contr_size K M N)).symm k)
      = ix2 k r := by
    funext a; apply Fin.ext
    match a with
    | ⟨0, _⟩ => exact hk
    | ⟨1, _⟩ => rfl
  have er : (tnDims K M N).rhsIdx (ix2 r c) ((contrEquiv1 _ K (tnDims_contr_rank K M N) (tnDims_contr_size K M N)).symm k)
      = ix2 k c := by
    funext a; apply Fin.ext
    match a with
    | ⟨0, _⟩ => exact hk
    | ⟨1, _⟩ => rfl
  rw [el, er]

/-! ## The tile's functions -/

variable {n : ℕ}

/-- The zero array. -/
abbrev zeros (s : Shape) : FVec Ideal s .f32 := constant s .f32 0x00000000#32

theorem zeros_apply (s : Shape) (i : s.Idx) : zeros s i = 0 := Ideal.ofBits_zero_f32

/-- The gradient of the output on the lanes of the mask. -/
def ownT (m : IVec S512x128 1) (g : FVec Ideal S512x128 .f32) : FVec Ideal S512x128 .f32 :=
  select m g (broadcast S512x128 (Scalar.ofBits .f32 0x00000000#32))

/-- The same in the format of the products. -/
def ownB (m : IVec S512x128 1) (g : FVec Ideal S512x128 .f32) : FVec Ideal S512x128 .bf16 :=
  truncf .bf16 (ownT m g) bitsLt_bf16_f32

/-- The rows' inner products of that gradient with the output. -/
def corrT (m : IVec S512x128 1) (g o : FVec Ideal S512x128 .f32) : FVec Ideal S512x1 .f32 :=
  shapeCast S512x1 (multiReduction .add [1] S512 (mulf (ownT m g) (shapeCast S512x128 o shapeCasts_S512x128_S512x128))
    0x00000000#32 reduces_S512x128_S512 (.inl rfl) rfl) shapeCasts_S512_S512x1

/-- The probabilities at keys before the tile. -/
def pastT (q : FVec Ideal S512x128 .bf16) (l : FVec Ideal S512x1 .f32) (k : FVec Ideal ⟨2, ![n, 128]⟩ .bf16)
    (hb : S512x1.Broadcasts ⟨2, ![512, n]⟩) : FVec Ideal ⟨2, ![512, n]⟩ .f32 :=
  exp2 (subf (mulf (matmul (DotDims.transposedRhs 512 128 n) none q k (zeros ⟨2, ![512, n]⟩))
    (broadcast ⟨2, ![512, n]⟩ (Named.named κ "scale2" 0x3E16C740#32)))
    (broadcastTo ⟨2, ![512, n]⟩ (shapeCast S512x1 l shapeCasts_S512x1_S512x1) hb))

/-- The probabilities at the tile's own keys: zero after the query. -/
def diagT (q : FVec Ideal S512x128 .bf16) (l : FVec Ideal S512x1 .f32) (k : FVec Ideal S512x128 .bf16) :
    FVec Ideal S512x512 .f32 :=
  select k0_pay1 (pastT (n := 512) q l k broadcasts_S512x1_S512x512)
    (broadcast S512x512 (Scalar.ofBits .f32 0x00000000#32))

/-- The gradient of the scaled scores from the probabilities. -/
def dsT (p : FVec Ideal ⟨2, ![512, n]⟩ .f32) (m : IVec S512x128 1) (g o : FVec Ideal S512x128 .f32)
    (v : FVec Ideal ⟨2, ![n, 128]⟩ .bf16) (hb : S512x1.Broadcasts ⟨2, ![512, n]⟩) : FVec Ideal ⟨2, ![512, n]⟩ .bf16 :=
  truncf .bf16 (mulf (mulf p (subf (matmul (DotDims.transposedRhs 512 128 n) none (ownB m g) v (zeros ⟨2, ![512, n]⟩))
      (broadcastTo ⟨2, ![512, n]⟩ (corrT m g o) hb)))
    (broadcast ⟨2, ![512, n]⟩ (Scalar.ofBits .f32 0x3DD105EC#32))) bitsLt_bf16_f32

/-- A tile's part of the gradient of the keys, transposed. -/
def dkT (q : FVec Ideal S512x128 .bf16) (s : FVec Ideal ⟨2, ![512, n]⟩ .bf16) : FVec Ideal ⟨2, ![128, n]⟩ .f32 :=
  matmul (tnDims 512 128 n) none q s (zeros ⟨2, ![128, n]⟩)

/-- A tile's part of the gradient of the values, transposed. -/
def dvT (m : IVec S512x128 1) (g : FVec Ideal S512x128 .f32) (p : FVec Ideal ⟨2, ![512, n]⟩ .f32) :
    FVec Ideal ⟨2, ![128, n]⟩ .f32 :=
  matmul (tnDims 512 128 n) none (ownB m g) (truncf .bf16 p bitsLt_bf16_f32 : FVec Ideal ⟨2, ![512, n]⟩ .bf16)
    (zeros ⟨2, ![128, n]⟩)

/-- A part of the gradient of the queries. -/
def dqT (s : FVec Ideal ⟨2, ![512, n]⟩ .bf16) (k : FVec Ideal ⟨2, ![n, 128]⟩ .bf16) : FVec Ideal S512x128 .f32 :=
  matmul (DotDims.plain 512 n 128) none s k (zeros S512x128)

/-! ## Their entries -/

/-- The causal mask of a tile's own keys. -/
theorem pay1_apply (i j : Fin 512) : k0_pay1 (ix2 i j) = BitVec.ofBool (decide (j.val ≤ i.val)) := by
  show IntOp.cmpi .sle (BitVec.ofNat 32 (0 * 512 + j.val)) (BitVec.ofNat 32 (0 * 512 + i.val)) = _
  rw [zero_mul, zero_add, zero_add, WordCmp.cmpi_sle_ofNat (by omega) (by omega)]

/-- The rows of head `H` from `r` on, as a tile loads them. -/
structure Rows (H : Head) (r : ℕ) (hr : r + 512 ≤ 2048) (m : IVec S512x128 1) (q : FVec Ideal S512x128 .bf16)
    (g o : FVec Ideal S512x128 .f32) (l : FVec Ideal S512x1 .f32) : Prop where
  m : ∀ i d, m (ix2 i d) = BitVec.ofBool (H.own d)
  q : ∀ i d, q (ix2 i d) = H.q (pos r hr i) d
  g : ∀ i d, g (ix2 i d) = H.g (pos r hr i) d
  o : ∀ i d, o (ix2 i d) = H.o (pos r hr i) d
  l : ∀ i, l (ix2 i 0) = H.lse (pos r hr i)

/-- The `n` keys and values of head `H` from `c` on, as a tile loads them. -/
structure Keys (H : Head) (c : ℕ) (hc : c + n ≤ 2048) (k v : FVec Ideal ⟨2, ![n, 128]⟩ .bf16) : Prop where
  k : ∀ j d, k (ix2 j d) = H.k (pos c hc j) d
  v : ∀ j d, v (ix2 j d) = H.v (pos c hc j) d

theorem select_ofBool {α : Type} (b : Bool) (x y : α) : Scalar.select (BitVec.ofBool b) x y = if b then x else y := by
  cases b <;> rfl

section
variable {H : Head} {r : ℕ} {hr : r + 512 ≤ 2048} {m : IVec S512x128 1} {q : FVec Ideal S512x128 .bf16}
  {g o : FVec Ideal S512x128 .f32} {l : FVec Ideal S512x1 .f32} {c : ℕ} {hc : c + n ≤ 2048}
  {k v : FVec Ideal ⟨2, ![n, 128]⟩ .bf16}

theorem ownT_apply (R : Rows H r hr m q g o l) (i : Fin 512) (d : Fin 128) : ownT m g (ix2 i d) = H.og (pos r hr i) d := by
  show Scalar.select (m (ix2 i d)) (g (ix2 i d)) (Ideal.ofBits .f32 0x00000000#32) = _
  rw [R.m, select_ofBool, R.g, Ideal.ofBits_zero_f32]
  rfl

theorem corrT_apply (R : Rows H r hr m q g o l) (i : Fin 512) : corrT m g o (ix2 i 0) = H.corr (pos r hr i) := by
  rw [corrT, shapeCast_a_a1_apply, shapeCast_self]
  refine (Ideal.multiReduction_add_single _ _ reduces_S512x128_S512 _ _ _).trans (Finset.sum_congr rfl fun d _ => ?_)
  have e : reduces_S512x128_S512.lift (ix1 i) d = ix2 i d := by
    funext a; apply Fin.ext
    match a with
    | ⟨0, _⟩ => rfl
    | ⟨1, _⟩ => rfl
  rw [e]
  exact congrArg₂ (· * ·) (ownT_apply R i d) (R.o i d)

theorem broadcastTo_col_apply (x : FVec Ideal S512x1 .f32) (hb : S512x1.Broadcasts ⟨2, ![512, n]⟩) (i : Fin 512) (j : Fin n) :
    broadcastTo ⟨2, ![512, n]⟩ x hb (ix2 i j) = x (ix2 i 0) := by
  refine congrArg x (funext fun a => ?_)
  match a with
  | ⟨0, _⟩ => rfl
  | ⟨1, _⟩ => rfl

theorem named_scale2 : (Named.named κ "scale2" 0x3E16C740#32 : Ideal .f32) = (scale2 : EReal) :=
  IdealRules.named_const.ideal_named_scalar _ _ _ _ rfl

theorem pastT_apply (R : Rows H r hr m q g o l) (K : Keys H c hc k v) (hb : S512x1.Broadcasts ⟨2, ![512, n]⟩)
    (i : Fin 512) (j : Fin n) :
    pastT q l k hb (ix2 i j)
      = Ideal.exp2 ((∑ d, H.q (pos r hr i) d * H.k (pos c hc j) d) * (scale2 : EReal) - H.lse (pos r hr i)) := by
  show Ideal.exp2 (FloatOps.matmul (DotDims.transposedRhs 512 128 n) none q k (zeros ⟨2, ![512, n]⟩) (ix2 i j)
    * (Named.named κ "scale2" 0x3E16C740#32 : Ideal .f32)
    - broadcastTo ⟨2, ![512, n]⟩ (shapeCast S512x1 l shapeCasts_S512x1_S512x1) hb (ix2 i j)) = _
  rw [Ideal.matmul_transposedRhs_apply, broadcastTo_col_apply, shapeCast_self, named_scale2, zeros_apply, zero_add, R.l]
  simp only [R.q, K.k]

/-- At keys before the tile the probabilities need no mask. -/
theorem pastT_eq (R : Rows H r hr m q g o l) (K : Keys H c hc k v) (hb : S512x1.Broadcasts ⟨2, ![512, n]⟩) (hcr : c + n ≤ r)
    (i : Fin 512) (j : Fin n) : pastT q l k hb (ix2 i j) = H.prob (pos r hr i) (pos c hc j) := by
  rw [pastT_apply R K, H.prob_of_le (Fin.le_def.mpr (by show c + j.val ≤ r + i.val; omega))]

theorem diagT_eq {k v : FVec Ideal S512x128 .bf16} (R : Rows H r hr m q g o l) (K : Keys H r hr k v) (i j : Fin 512) :
    diagT q l k (ix2 i j) = H.prob (pos r hr i) (pos r hr j) := by
  show Scalar.select (k0_pay1 (ix2 i j)) (pastT (n := 512) q l k broadcasts_S512x1_S512x512 (ix2 i j))
    (Ideal.ofBits .f32 0x00000000#32) = _
  rw [pay1_apply, select_ofBool, pastT_apply R K, Ideal.ofBits_zero_f32, Head.prob]
  refine if_congr ?_ rfl rfl
  rw [decide_eq_true_eq, Fin.le_def]
  show j.val ≤ i.val ↔ r + j.val ≤ r + i.val
  omega

theorem dsT_eq (R : Rows H r hr m q g o l) (K : Keys H c hc k v) (hb : S512x1.Broadcasts ⟨2, ![512, n]⟩)
    {p : FVec Ideal ⟨2, ![512, n]⟩ .f32} (hp : ∀ i j, p (ix2 i j) = H.prob (pos r hr i) (pos c hc j)) (i : Fin 512) (j : Fin n) :
    dsT p m g o v hb (ix2 i j) = H.ds (pos r hr i) (pos c hc j) := by
  show p (ix2 i j) * (FloatOps.matmul (DotDims.transposedRhs 512 128 n) none (ownB m g) v (zeros ⟨2, ![512, n]⟩) (ix2 i j)
    - broadcastTo ⟨2, ![512, n]⟩ (corrT m g o) hb (ix2 i j)) * scaleE = _
  rw [Ideal.matmul_transposedRhs_apply, broadcastTo_col_apply, zeros_apply, zero_add, hp, corrT_apply R]
  refine congrArg (fun x => _ * (x - _) * _) (Finset.sum_congr rfl fun d _ => ?_)
  rw [K.v]
  exact congrArg (· * _) (ownT_apply R i d)

theorem dkT_eq (R : Rows H r hr m q g o l) {s : FVec Ideal ⟨2, ![512, n]⟩ .bf16}
    (hs : ∀ i j, s (ix2 i j) = H.ds (pos r hr i) (pos c hc j)) (d : Fin 128) (j : Fin n) :
    dkT q s (ix2 d j) = H.dkPart r hr d (pos c hc j) := by
  rw [dkT, matmul, matmul_tn_apply, zeros_apply, zero_add]
  exact Finset.sum_congr rfl fun i _ => by rw [R.q, hs]

theorem dvT_eq (R : Rows H r hr m q g o l) {p : FVec Ideal ⟨2, ![512, n]⟩ .f32}
    (hp : ∀ i j, p (ix2 i j) = H.prob (pos r hr i) (pos c hc j)) (d : Fin 128) (j : Fin n) :
    dvT m g p (ix2 d j) = H.dvPart r hr d (pos c hc j) := by
  rw [dvT, matmul, matmul_tn_apply, zeros_apply, zero_add]
  exact Finset.sum_congr rfl fun i _ => congrArg₂ (· * ·) (ownT_apply R i d) (hp i j)

theorem dqT_eq (K : Keys H c hc k v) {s : FVec Ideal ⟨2, ![512, n]⟩ .bf16}
    (hs : ∀ i j, s (ix2 i j) = H.ds (pos r hr i) (pos c hc j)) (i : Fin 512) (d : Fin 128) :
    dqT s k (ix2 i d) = ∑ j : Fin n, H.ds (pos r hr i) (pos c hc j) * H.k (pos c hc j) d := by
  rw [dqT, matmul, Ideal.matmul_plain_apply, zeros_apply, zero_add]
  exact Finset.sum_congr rfl fun j _ => by rw [hs, K.k]

end

end Cert.Proof.LatentBwd

end
-- ==== Proof.Loads.lean ====
/-
  A block's heads: what the tile loads read of the block's six input arrays, and what a tile then computes.
-/
module

public import proofs.«01_k».proof.Proof.Tile
public import Idealize.ShloMosaic.Lib.WholeRead

@[expose] public section

set_option maxRecDepth 16384

noncomputable section

namespace Cert.Proof.LatentBwd

open Cert.KernelIdeal Cert.KernelIdeal.Gen Idealize.ShloMosaic Idealize.ShloMosaic.ValueIdx
open scoped BigOperators

/-- Where a load of a rectangle of a matrix reads. -/
theorem unit_idx2 {A B a b o l : ℕ} (inb : ∀ x, (![o, l] : Fin 2 → ℕ) x + (![a, b] : Fin 2 → ℕ) x ≤ (⟨2, ![A, B]⟩ : Shape).size x)
    (h0 : o + a ≤ A) (h1 : l + b ≤ B) (i : Fin a) (j : Fin b) :
    (Rect.unit (s := ⟨2, ![A, B]⟩) ![o, l] ![a, b] inb).idx (ix2 i j)
      = ix2 (⟨o + i.val, by omega⟩ : Fin A) (⟨l + j.val, by omega⟩ : Fin B) := by
  funext x; apply Fin.ext
  match x with
  | ⟨0, _⟩ => show o + 1 * i.val = o + i.val; omega
  | ⟨1, _⟩ => show l + 1 * j.val = l + j.val; omega

theorem load_apply {A B a b o l : ℕ} {e : EltTy} (mr : Memref sig .tc .vmem ⟨2, ![A, B]⟩ e) (hm : mr.IsWhole)
    (x : Vec Ideal ⟨2, ![A, B]⟩ e)
    (inb : ∀ x, (![o, l] : Fin 2 → ℕ) x + (![a, b] : Fin 2 → ℕ) x ≤ (⟨2, ![A, B]⟩ : Shape).size x)
    (h0 : o + a ≤ A) (h1 : l + b ≤ B) (i : Fin a) (j : Fin b) :
    View.readAt (Elt Ideal) mr.view (Rect.unit (s := ⟨2, ![A, B]⟩) ![o, l] ![a, b] inb).toLoadRect (hm.unread x) (ix2 i j)
      = x (ix2 (⟨o + i.val, by omega⟩ : Fin A) (⟨l + j.val, by omega⟩ : Fin B)) :=
  (hm.readAt_unread x _ _).trans (congrArg x (unit_idx2 inb h0 h1 i j))

/-- The head of a block whose queries and keys are the 128 lanes from `c`, whose row logarithm is in lane `lane`, and
    which owns the value lanes `own`. -/
def headOf (c : ℕ) (hc : c + 128 ≤ 256) (lane : Fin 128) (own : Fin 128 → Bool) (x0 x1 : Vec Ideal S2048x256 .bf16)
    (x2 : Vec Ideal S2048x128 .bf16) (x3 x4 x5 : Vec Ideal S2048x128 .f32) : Head where
  q i d := x0 (ix2 i (⟨c + d.val, by omega⟩ : Fin 256))
  k i d := x1 (ix2 i (⟨c + d.val, by omega⟩ : Fin 256))
  v i d := x2 (ix2 i d)
  g i d := x3 (ix2 i d)
  o i d := x4 (ix2 i d)
  lse i := x5 (ix2 i lane)
  own := own

section
variable {c : ℕ} {hc : c + 128 ≤ 256} {ln : ℕ} {hl : ln < 128} {own : Fin 128 → Bool} {x0 x1 : Vec Ideal S2048x256 .bf16}
  {x2 : Vec Ideal S2048x128 .bf16} {x3 x4 x5 : Vec Ideal S2048x128 .f32}

/-- The tile's loads of queries, gradient, output and row logarithms are the head's rows. -/
theorem rows_loads (r : ℕ) (hr : r + 512 ≤ 2048) {m : IVec S512x128 1} (hm : ∀ i d, m (ix2 i d) = BitVec.ofBool (own d))
    (arg2 : Memref sig .tc .vmem S2048x256 .bf16) (harg2 : arg2.IsWhole) (arg5 : Memref sig .tc .vmem S2048x128 .f32)
    (harg5 : arg5.IsWhole) (arg6 : Memref sig .tc .vmem S2048x128 .f32) (harg6 : arg6.IsWhole)
    (arg7 : Memref sig .tc .vmem S2048x128 .f32) (harg7 : arg7.IsWhole)
    (i2 : ∀ x, (![r, c] : Fin 2 → ℕ) x + (![512, 128] : Fin 2 → ℕ) x ≤ S2048x256.size x)
    (i5 i6 : ∀ x, (![r, 0] : Fin 2 → ℕ) x + (![512, 128] : Fin 2 → ℕ) x ≤ S2048x128.size x)
    (i7 : ∀ x, (![r, ln] : Fin 2 → ℕ) x + (![512, 1] : Fin 2 → ℕ) x ≤ S2048x128.size x) :
    Rows (headOf c hc ⟨ln, hl⟩ own x0 x1 x2 x3 x4 x5) r hr m
      (View.readAt (Elt Ideal) arg2.view (Rect.unit (s := S2048x256) ![r, c] ![512, 128] i2).toLoadRect (harg2.unread x0))
      (View.readAt (Elt Ideal) arg5.view (Rect.unit (s := S2048x128) ![r, 0] ![512, 128] i5).toLoadRect (harg5.unread x3))
      (View.readAt (Elt Ideal) arg6.view (Rect.unit (s := S2048x128) ![r, 0] ![512, 128] i6).toLoadRect (harg6.unread x4))
      (View.readAt (Elt Ideal) arg7.view (Rect.unit (s := S2048x128) ![r, ln] ![512, 1] i7).toLoadRect (harg7.unread x5)) where
  m := hm
  q i d := load_apply arg2 harg2 x0 i2 hr hc i d
  g i d := (load_apply arg5 harg5 x3 i5 hr (by omega) i d).trans
    (congrArg x3 (congrArg (ix2 _) (Fin.ext (Nat.zero_add d.val))))
  o i d := (load_apply arg6 harg6 x4 i6 hr (by omega) i d).trans
    (congrArg x4 (congrArg (ix2 _) (Fin.ext (Nat.zero_add d.val))))
  l i := load_apply arg7 harg7 x5 i7 hr (by omega) i 0

/-- The tile's loads of `n` keys and values from row `t` are the head's. -/
theorem keys_loads {n : ℕ} (t : ℕ) (ht : t + n ≤ 2048) (arg3 : Memref sig .tc .vmem S2048x256 .bf16) (harg3 : arg3.IsWhole)
    (arg4 : Memref sig .tc .vmem S2048x128 .bf16) (harg4 : arg4.IsWhole)
    (i3 : ∀ x, (![t, c] : Fin 2 → ℕ) x + (![n, 128] : Fin 2 → ℕ) x ≤ S2048x256.size x)
    (i4 : ∀ x, (![t, 0] : Fin 2 → ℕ) x + (![n, 128] : Fin 2 → ℕ) x ≤ S2048x128.size x) :
    Keys (headOf c hc ⟨ln, hl⟩ own x0 x1 x2 x3 x4 x5) t ht
      (View.readAt (Elt Ideal) arg3.view (Rect.unit (s := S2048x256) ![t, c] ![n, 128] i3).toLoadRect (harg3.unread x1))
      (View.readAt (Elt Ideal) arg4.view (Rect.unit (s := S2048x128) ![t, 0] ![n, 128] i4).toLoadRect (harg4.unread x2)) where
  k j d := load_apply arg3 harg3 x1 i3 ht hc j d
  v j d := (load_apply arg4 harg4 x2 i4 ht (by omega) j d).trans
    (congrArg x2 (congrArg (ix2 _) (Fin.ext (Nat.zero_add d.val))))

end

/-! ## What a tile computes -/

section
variable {H : Head} {r : ℕ} {hr : r + 512 ≤ 2048} {h0 : 0 + r ≤ 2048} {m : IVec S512x128 1} {q : FVec Ideal S512x128 .bf16}
  {g o : FVec Ideal S512x128 .f32} {l : FVec Ideal S512x1 .f32}
  {kd vd : FVec Ideal S512x128 .bf16} {kp vp : FVec Ideal ⟨2, ![r, 128]⟩ .bf16}

theorem dsDiag (R : Rows H r hr m q g o l) (K : Keys H r hr kd vd) (i j : Fin 512) :
    dsT (n := 512) (diagT q l kd) m g o vd broadcasts_S512x1_S512x512 (ix2 i j) = H.ds (pos r hr i) (pos r hr j) :=
  dsT_eq (k := kd) R K _ (diagT_eq R K) i j

theorem dsPast (R : Rows H r hr m q g o l) (K : Keys H 0 h0 kp vp) (hb : S512x1.Broadcasts ⟨2, ![512, r]⟩) (i : Fin 512)
    (j : Fin r) : dsT (pastT q l kp hb) m g o vp hb (ix2 i j) = H.ds (pos r hr i) (pos 0 h0 j) :=
  dsT_eq R K _ (pastT_eq R K _ (Nat.le_of_eq (Nat.zero_add r))) i j

/-- The gradient of the queries of a tile with keys before it. -/
theorem dqFull (R : Rows H r hr m q g o l) (K : Keys H r hr kd vd) (P : Keys H 0 h0 kp vp)
    (hb : S512x1.Broadcasts ⟨2, ![512, r]⟩) (i : Fin 512) (d : Fin 128) :
    (truncf .bf16 (addf (dqT (dsT (n := 512) (diagT q l kd) m g o vd broadcasts_S512x1_S512x512) kd)
      (dqT (dsT (pastT q l kp hb) m g o vp hb) kp)) bitsLt_bf16_f32 : FVec Ideal S512x128 .bf16) (ix2 i d)
      = H.dq (pos r hr i) d := by
  rw [truncf_apply, addf_apply, dqT_eq K (dsDiag R K), dqT_eq P (dsPast R P hb), ← H.dq_eq]

/-- The gradient of the queries of the first tile. -/
theorem dqFirst {hz : 0 + 512 ≤ 2048} (R : Rows H 0 hz m q g o l) (K : Keys H 0 hz kd vd) (i : Fin 512) (d : Fin 128) :
    (truncf .bf16 (dqT (dsT (n := 512) (diagT q l kd) m g o vd broadcasts_S512x1_S512x512) kd) bitsLt_bf16_f32
      : FVec Ideal S512x128 .bf16) (ix2 i d) = H.dq (pos 0 hz i) d := by
  rw [truncf_apply, dqT_eq K (dsDiag R K), H.dq_eq 0 (by decide), Finset.univ_eq_empty (α := Fin 0), Finset.sum_empty, add_zero]

theorem dkDiag (R : Rows H r hr m q g o l) (K : Keys H r hr kd vd) (d : Fin 128) (j : Fin 512) :
    dkT q (dsT (n := 512) (diagT q l kd) m g o vd broadcasts_S512x1_S512x512) (ix2 d j) = H.dkPart r hr d (pos r hr j) :=
  dkT_eq R (dsDiag R K) d j

theorem dkPast (R : Rows H r hr m q g o l) (P : Keys H 0 h0 kp vp) (hb : S512x1.Broadcasts ⟨2, ![512, r]⟩) (d : Fin 128)
    (j : Fin r) : dkT q (dsT (pastT q l kp hb) m g o vp hb) (ix2 d j) = H.dkPart r hr d (pos 0 h0 j) :=
  dkT_eq R (dsPast R P hb) d j

theorem dvDiag (R : Rows H r hr m q g o l) (K : Keys H r hr kd vd) (d : Fin 128) (j : Fin 512) :
    dvT (n := 512) m g (diagT q l kd) (ix2 d j) = H.dvPart r hr d (pos r hr j) :=
  dvT_eq R (diagT_eq R K) d j

theorem dvPast (R : Rows H r hr m q g o l) (P : Keys H 0 h0 kp vp) (hb : S512x1.Broadcasts ⟨2, ![512, r]⟩) (d : Fin 128)
    (j : Fin r) : dvT m g (pastT q l kp hb) (ix2 d j) = H.dvPart r hr d (pos 0 h0 j) :=
  dvT_eq R (pastT_eq R P hb (Nat.le_of_eq (Nat.zero_add r))) d j

end

/-! ## The two masks -/

theorem pay2_apply (i : Fin 512) (d : Fin 128) : k0_pay2 (ix2 i d) = BitVec.ofBool (decide (d.val < 64)) := by
  show IntOp.cmpi .slt (BitVec.ofNat 32 (0 * 128 + d.val)) (BitVec.ofNat 32 64) = _
  rw [zero_mul, zero_add, WordCmp.cmpi_slt_ofNat (by omega) (by omega)]

theorem pay63_apply (i : Fin 512) (d : Fin 128) : k0_pay63 (ix2 i d) = BitVec.ofBool (decide (64 ≤ d.val)) := by
  show IntOp.cmpi .sge (BitVec.ofNat 32 (0 * 128 + d.val)) (BitVec.ofNat 32 64) = _
  rw [zero_mul, zero_add, WordCmp.cmpi_sge_ofNat (by omega) (by omega)]

end Cert.Proof.LatentBwd

end
-- ==== Proof.Acc.lean ====
/-
  The two transposed accumulators: what they hold after a tile's two stores, one at the tile's own columns and one at
  the columns before it.
-/
module

public import proofs.«01_k».proof.Proof.Loads

@[expose] public section

set_option maxRecDepth 16384

noncomputable section

namespace Cert.Proof.LatentBwd

open Cert.KernelIdeal Cert.KernelIdeal.Gen Idealize.ShloMosaic Idealize.ShloMosaic.ValueIdx
open scoped BigOperators

/-- The pieces written into an accumulator, last first. -/
abbrev Pieces : Type := List (View.Piece (Elt Ideal) S128x2048 .f32)

/-- A column inside the last store reads its payload. -/
theorem canon_cols_hit {a o : ℕ} (inb : ∀ x, (![0, o] : Fin 2 → ℕ) x + (![128, a] : Fin 2 → ℕ) x ≤ S128x2048.size x)
    (w : Vec Ideal ⟨2, ![128, a]⟩ .f32) (L : Pieces) (ho : o + a ≤ 2048) (d : Fin 128) (j : Fin a) :
    View.canon ((⟨Rect.unit (s := S128x2048) ![0, o] ![128, a] inb, w⟩ : View.Piece (Elt Ideal) S128x2048 .f32) :: L)
      (ix2 d (pos o ho j)) = w (ix2 d j) := by
  have h := View.canon_cons_emb (Val := Elt Ideal) (Rect.unit (s := S128x2048) ![0, o] ![128, a] inb) w L (ix2 d j)
  rw [← h]
  refine congrArg _ ?_
  refine (congrArg₂ ix2 (Fin.ext (Nat.zero_add d.val).symm) rfl).trans (unit_idx2 (A := 128) (B := 2048) inb (by omega) ho d j).symm

/-- A column outside the last store reads what was there. -/
theorem canon_cols_miss {a o : ℕ} (inb : ∀ x, (![0, o] : Fin 2 → ℕ) x + (![128, a] : Fin 2 → ℕ) x ≤ S128x2048.size x)
    (w : Vec Ideal ⟨2, ![128, a]⟩ .f32) (L : Pieces) (d : Fin 128) (j : Fin 2048) (h : j.val < o ∨ o + a ≤ j.val) :
    View.canon ((⟨Rect.unit (s := S128x2048) ![0, o] ![128, a] inb, w⟩ : View.Piece (Elt Ideal) S128x2048 .f32) :: L)
      (ix2 d j) = View.canon L (ix2 d j) := by
  refine View.canon_cons_of_not_mem _ L fun hm => ?_
  have h1 : o ≤ j.val ∧ j.val < o + a :=
    (Rect.mem_set_unit (s := S128x2048) (off := ![0, o]) (size := ![128, a]) (inb := inb)).mp hm 1
  omega

/-- A load of columns reads the pieces there. -/
theorem readCov_cols {a o : ℕ} (v : View sig .tc .vmem S128x2048 .f32) (L : Pieces)
    (inb : ∀ x, (![0, o] : Fin 2 → ℕ) x + (![128, a] : Fin 2 → ℕ) x ≤ S128x2048.size x) (ho : o + a ≤ 2048) (d : Fin 128)
    (j : Fin a) :
    v.readCov (Val := Elt Ideal) L (Rect.unit (s := S128x2048) ![0, o] ![128, a] inb).toLoadRect (ix2 d j)
      = View.canon L (ix2 d (pos o ho j)) := by
  rw [View.readCov_eq_canon']
  refine congrArg (View.canon L) ?_
  exact (unit_idx2 (A := 128) (B := 2048) inb (by omega) ho d j).trans (congrArg₂ ix2 (Fin.ext (Nat.zero_add d.val)) rfl)

section
variable (v : View sig .tc .vmem S128x2048 .f32) {L : Pieces} {A : Fin 128 → Fin 2048 → EReal}
  (hL : ∀ d j, View.canon L (ix2 d j) = A d j) {T : Fin 128 → Fin 2048 → EReal} {r : ℕ} (h0 : 0 + r ≤ 2048)
  (hr : r + 512 ≤ 2048) (hT : ∀ d j, r + 512 ≤ j.val → T d j = 0)
  {X : FVec Ideal ⟨2, ![128, 512]⟩ .f32} {Y : FVec Ideal ⟨2, ![128, r]⟩ .f32}
  (hX : ∀ d j, X (ix2 d j) = T d (pos r hr j))
  (inb : ∀ x, (![0, r] : Fin 2 → ℕ) x + (![128, 512] : Fin 2 → ℕ) x ≤ S128x2048.size x)
  (inb0 : ∀ x, (![0, 0] : Fin 2 → ℕ) x + (![128, r] : Fin 2 → ℕ) x ≤ S128x2048.size x)

include hL hX hT

/-- After the store at the tile's own columns: the columns before it are unchanged. -/
theorem acc_diag (sc : S128x512.ShapeCasts S128x512) (d : Fin 128) (j : Fin 2048) :
    View.canon ((⟨Rect.unit (s := S128x2048) ![0, r] ![128, 512] inb,
        shapeCast S128x512 (addf (F := Ideal) (φ := .f32) (s := S128x512)
          (v.readCov (Val := Elt Ideal) L (Rect.unit (s := S128x2048) ![0, r] ![128, 512] inb).toLoadRect) X) sc⟩
          : View.Piece (Elt Ideal) S128x2048 .f32) :: L) (ix2 d j)
      = if j.val < r then A d j else A d j + T d j := by
  rw [shapeCast_self]
  by_cases h : j.val < r
  · rw [if_pos h, canon_cols_miss inb _ L d j (Or.inl h), hL]
  · rw [if_neg h]
    by_cases h' : r + 512 ≤ j.val
    · rw [canon_cols_miss inb _ L d j (Or.inr h'), hL, hT d j h', add_zero]
    · obtain ⟨i, rfl⟩ : ∃ i : Fin 512, j = pos r hr i := ⟨⟨j.val - r, by omega⟩, Fin.ext (by show j.val = r + (j.val - r); omega)⟩
      refine (canon_cols_hit inb _ L hr d i).trans ?_
      rw [addf_apply, hX]
      exact congrArg (· + _) ((readCov_cols v L inb hr d i).trans (hL _ _))

/-- After both stores of a tile the accumulator has grown by the tile's part. -/
theorem acc_step (hY : ∀ d j, Y (ix2 d j) = T d (pos 0 h0 j)) (sc : S128x512.ShapeCasts S128x512)
    (sc0 : (⟨2, ![128, r]⟩ : Shape).ShapeCasts ⟨2, ![128, r]⟩) (d : Fin 128) (j : Fin 2048) :
    View.canon ((⟨Rect.unit (s := S128x2048) ![0, 0] ![128, r] inb0,
        shapeCast ⟨2, ![128, r]⟩ (addf (F := Ideal) (φ := .f32) (s := ⟨2, ![128, r]⟩)
          (v.readCov (Val := Elt Ideal) ((⟨Rect.unit (s := S128x2048) ![0, r] ![128, 512] inb,
            shapeCast S128x512 (addf (F := Ideal) (φ := .f32) (s := S128x512)
              (v.readCov (Val := Elt Ideal) L (Rect.unit (s := S128x2048) ![0, r] ![128, 512] inb).toLoadRect) X) sc⟩
              : View.Piece (Elt Ideal) S128x2048 .f32) :: L)
            (Rect.unit (s := S128x2048) ![0, 0] ![128, r] inb0).toLoadRect) Y) sc0⟩ : View.Piece (Elt Ideal) S128x2048 .f32)
      :: (⟨Rect.unit (s := S128x2048) ![0, r] ![128, 512] inb,
        shapeCast S128x512 (addf (F := Ideal) (φ := .f32) (s := S128x512)
          (v.readCov (Val := Elt Ideal) L (Rect.unit (s := S128x2048) ![0, r] ![128, 512] inb).toLoadRect) X) sc⟩
          : View.Piece (Elt Ideal) S128x2048 .f32) :: L) (ix2 d j)
      = A d j + T d j := by
  have hd := acc_diag v hL hr hT hX inb sc
  rw [shapeCast_self (h := sc0)]
  by_cases h : j.val < r
  · obtain ⟨i, rfl⟩ : ∃ i : Fin r, j = pos 0 h0 i := ⟨⟨j.val, h⟩, Fin.ext (by show j.val = 0 + j.val; omega)⟩
    refine (canon_cols_hit inb0 _ _ h0 d i).trans ?_
    rw [addf_apply, hY]
    refine congrArg (· + _) ((readCov_cols v _ inb0 h0 d i).trans ((hd _ _).trans (if_pos h)))
  · rw [canon_cols_miss inb0 _ _ d j (Or.inr (by omega)), hd, if_neg h]

omit hL hT in
/-- The first tile's stores fill the accumulator with its part. -/
theorem acc_first (hr' : r + 512 = 2048) (hY : ∀ d j, Y (ix2 d j) = T d (pos 0 h0 j)) (sc : S128x512.ShapeCasts S128x512)
    (sc0 : (⟨2, ![128, r]⟩ : Shape).ShapeCasts ⟨2, ![128, r]⟩) (d : Fin 128) (j : Fin 2048) :
    View.canon ((⟨Rect.unit (s := S128x2048) ![0, 0] ![128, r] inb0, shapeCast ⟨2, ![128, r]⟩ Y sc0⟩
        : View.Piece (Elt Ideal) S128x2048 .f32)
      :: (⟨Rect.unit (s := S128x2048) ![0, r] ![128, 512] inb, shapeCast S128x512 X sc⟩
        : View.Piece (Elt Ideal) S128x2048 .f32) :: L) (ix2 d j) = T d j := by
  rw [shapeCast_self, shapeCast_self]
  by_cases h : j.val < r
  · obtain ⟨i, rfl⟩ : ∃ i : Fin r, j = pos 0 h0 i := ⟨⟨j.val, h⟩, Fin.ext (by show j.val = 0 + j.val; omega)⟩
    exact (canon_cols_hit inb0 _ _ h0 d i).trans (hY d i)
  · obtain ⟨i, rfl⟩ : ∃ i : Fin 512, j = pos r hr i := ⟨⟨j.val - r, by omega⟩, Fin.ext (by show j.val = r + (j.val - r); omega)⟩
    rw [canon_cols_miss inb0 _ _ d _ (Or.inr (by omega))]
    exact (canon_cols_hit inb _ _ hr d i).trans (hX d i)

end

/-- The last tile has no columns before it. -/
theorem acc_last (v : View sig .tc .vmem S128x2048 .f32) {L : Pieces} {A : Fin 128 → Fin 2048 → EReal}
    (hL : ∀ d j, View.canon L (ix2 d j) = A d j) {T : Fin 128 → Fin 2048 → EReal} {X : FVec Ideal ⟨2, ![128, 512]⟩ .f32} (hz : 0 + 512 ≤ 2048)
    (hT : ∀ d j, 0 + 512 ≤ j.val → T d j = 0) (hX : ∀ d j, X (ix2 d j) = T d (pos 0 hz j))
    (inb : ∀ x, (![0, 0] : Fin 2 → ℕ) x + (![128, 512] : Fin 2 → ℕ) x ≤ S128x2048.size x)
    (sc : S128x512.ShapeCasts S128x512) (d : Fin 128) (j : Fin 2048) :
    View.canon ((⟨Rect.unit (s := S128x2048) ![0, 0] ![128, 512] inb,
        shapeCast S128x512 (addf (F := Ideal) (φ := .f32) (s := S128x512)
          (v.readCov (Val := Elt Ideal) L (Rect.unit (s := S128x2048) ![0, 0] ![128, 512] inb).toLoadRect) X) sc⟩
          : View.Piece (Elt Ideal) S128x2048 .f32) :: L) (ix2 d j) = A d j + T d j :=
  (acc_diag v hL hz hT hX inb sc d j).trans (if_neg (Nat.not_lt_zero _))

end Cert.Proof.LatentBwd

end
-- ==== Proof.Block.lean ====
/-
  The two accumulators through a block's run, and what the block's three outputs hold: its two heads' gradients of the
  queries and the keys side by side, and the sum of their gradients of the values.
-/
module

public import proofs.«01_k».proof.Proof.Acc
public import proofs.«01_k».proof.Proof.Gen.KernelIdeal.Value

@[expose] public section

set_option maxRecDepth 16384

noncomputable section

namespace Cert.Proof.LatentBwd

open Cert.KernelIdeal Cert.KernelIdeal.Gen Idealize.ShloMosaic Idealize.ShloMosaic.ValueIdx
open scoped BigOperators

/-- The block's first head: the first 128 lanes, the lower half of the value lanes. -/
def head0 (x0 x1 : Vec Ideal S2048x256 .bf16) (x2 : Vec Ideal S2048x128 .bf16) (x3 x4 x5 : Vec Ideal S2048x128 .f32) : Head :=
  headOf 0 (by decide) ⟨0, by decide⟩ (fun d => decide (d.val < 64)) x0 x1 x2 x3 x4 x5

/-- The block's second head: the other 128 lanes, the upper half of the value lanes. -/
def head1 (x0 x1 : Vec Ideal S2048x256 .bf16) (x2 : Vec Ideal S2048x128 .bf16) (x3 x4 x5 : Vec Ideal S2048x128 .f32) : Head :=
  headOf 128 (by decide) ⟨64, by decide⟩ (fun d => decide (64 ≤ d.val)) x0 x1 x2 x3 x4 x5

variable (c : Dev nD)
  (arg2 : Memref sig .tc .vmem S2048x256 .bf16) (harg2 : arg2.IsWhole)
  (arg3 : Memref sig .tc .vmem S2048x256 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S2048x128 .f32) (harg6 : arg6.IsWhole)
  (arg7 : Memref sig .tc .vmem S2048x128 .f32) (harg7 : arg7.IsWhole)
  (arg11 : Memref sig .tc .vmem S128x2048 .f32) (arg12 : Memref sig .tc .vmem S128x2048 .f32)
  (x0 x1 : Vec Ideal S2048x256 .bf16) (x2 : Vec Ideal S2048x128 .bf16) (x3 x4 x5 : Vec Ideal S2048x128 .f32)

/-- A tile's rows of the block's first head, as loaded. -/
theorem rows0 (r : ℕ) (hr : r + 512 ≤ 2048)
    (i2 : ∀ x, (![r, 0] : Fin 2 → ℕ) x + (![512, 128] : Fin 2 → ℕ) x ≤ S2048x256.size x)
    (i5 : ∀ x, (![r, 0] : Fin 2 → ℕ) x + (![512, 128] : Fin 2 → ℕ) x ≤ S2048x128.size x)
    (i7 : ∀ x, (![r, 0] : Fin 2 → ℕ) x + (![512, 1] : Fin 2 → ℕ) x ≤ S2048x128.size x) :
    Rows (head0 x0 x1 x2 x3 x4 x5) r hr k0_pay2
      (View.readAt (Elt Ideal) arg2.view (Rect.unit (s := S2048x256) ![r, 0] ![512, 128] i2).toLoadRect (harg2.unread x0))
      (View.readAt (Elt Ideal) arg5.view (Rect.unit (s := S2048x128) ![r, 0] ![512, 128] i5).toLoadRect (harg5.unread x3))
      (View.readAt (Elt Ideal) arg6.view (Rect.unit (s := S2048x128) ![r, 0] ![512, 128] i5).toLoadRect (harg6.unread x4))
      (View.readAt (Elt Ideal) arg7.view (Rect.unit (s := S2048x128) ![r, 0] ![512, 1] i7).toLoadRect (harg7.unread x5)) :=
  rows_loads r hr pay2_apply arg2 harg2 arg5 harg5 arg6 harg6 arg7 harg7 i2 i5 i5 i7

/-- Its keys and values. -/
theorem keys0 {n : ℕ} (t : ℕ) (ht : t + n ≤ 2048)
    (i3 : ∀ x, (![t, 0] : Fin 2 → ℕ) x + (![n, 128] : Fin 2 → ℕ) x ≤ S2048x256.size x)
    (i4 : ∀ x, (![t, 0] : Fin 2 → ℕ) x + (![n, 128] : Fin 2 → ℕ) x ≤ S2048x128.size x) :
    Keys (head0 x0 x1 x2 x3 x4 x5) t ht
      (View.readAt (Elt Ideal) arg3.view (Rect.unit (s := S2048x256) ![t, 0] ![n, 128] i3).toLoadRect (harg3.unread x1))
      (View.readAt (Elt Ideal) arg4.view (Rect.unit (s := S2048x128) ![t, 0] ![n, 128] i4).toLoadRect (harg4.unread x2)) :=
  keys_loads t ht arg3 harg3 arg4 harg4 i3 i4

/-- A tile's rows of the block's second head, as loaded. -/
theorem rows1 (r : ℕ) (hr : r + 512 ≤ 2048)
    (i2 : ∀ x, (![r, 128] : Fin 2 → ℕ) x + (![512, 128] : Fin 2 → ℕ) x ≤ S2048x256.size x)
    (i5 : ∀ x, (![r, 0] : Fin 2 → ℕ) x + (![512, 128] : Fin 2 → ℕ) x ≤ S2048x128.size x)
    (i7 : ∀ x, (![r, 64] : Fin 2 → ℕ) x + (![512, 1] : Fin 2 → ℕ) x ≤ S2048x128.size x) :
    Rows (head1 x0 x1 x2 x3 x4 x5) r hr k0_pay63
      (View.readAt (Elt Ideal) arg2.view (Rect.unit (s := S2048x256) ![r, 128] ![512, 128] i2).toLoadRect (harg2.unread x0))
      (View.readAt (Elt Ideal) arg5.view (Rect.unit (s := S2048x128) ![r, 0] ![512, 128] i5).toLoadRect (harg5.unread x3))
      (View.readAt (Elt Ideal) arg6.view (Rect.unit (s := S2048x128) ![r, 0] ![512, 128] i5).toLoadRect (harg6.unread x4))
      (View.readAt (Elt Ideal) arg7.view (Rect.unit (s := S2048x128) ![r, 64] ![512, 1] i7).toLoadRect (harg7.unread x5)) :=
  rows_loads r hr pay63_apply arg2 harg2 arg5 harg5 arg6 harg6 arg7 harg7 i2 i5 i5 i7

/-- Its keys and values. -/
theorem keys1 {n : ℕ} (t : ℕ) (ht : t + n ≤ 2048)
    (i3 : ∀ x, (![t, 128] : Fin 2 → ℕ) x + (![n, 128] : Fin 2 → ℕ) x ≤ S2048x256.size x)
    (i4 : ∀ x, (![t, 0] : Fin 2 → ℕ) x + (![n, 128] : Fin 2 → ℕ) x ≤ S2048x128.size x) :
    Keys (head1 x0 x1 x2 x3 x4 x5) t ht
      (View.readAt (Elt Ideal) arg3.view (Rect.unit (s := S2048x256) ![t, 128] ![n, 128] i3).toLoadRect (harg3.unread x1))
      (View.readAt (Elt Ideal) arg4.view (Rect.unit (s := S2048x128) ![t, 0] ![n, 128] i4).toLoadRect (harg4.unread x2)) :=
  keys_loads t ht arg3 harg3 arg4 harg4 i3 i4

include c harg2 harg3 harg4 harg5 harg6 harg7 arg11 arg12

theorem dk0_1536 (d : Fin 128) (j : Fin 2048) : View.canon (kernelRun0_A.sl.HS0_2 (F := Ideal) c arg2 harg2 arg3 harg3 arg4 harg4 arg5 harg5 arg6 harg6 arg7 harg7 x0 x1 x2 x3 x4 x5) (ix2 d j)
    = (head0 x0 x1 x2 x3 x4 x5).dkPart 1536 (by decide) d j :=
  acc_first (T := (head0 x0 x1 x2 x3 x4 x5).dkPart 1536 (by decide)) (r := 1536) (by decide) (by decide) (dkDiag (rows0 arg2 harg2 arg5 harg5 arg6 harg6 arg7 harg7 x0 x1 x2 x3 x4 x5 1536 (by decide) (by decide) (by decide) (by decide)) (keys0 arg3 harg3 arg4 harg4 x0 x1 x2 x3 x4 x5 (n := 512) 1536 (by decide) (by decide) (by decide)))
    (by decide) (by decide) (by decide) (dkPast (rows0 arg2 harg2 arg5 harg5 arg6 harg6 arg7 harg7 x0 x1 x2 x3 x4 x5 1536 (by decide) (by decide) (by decide) (by decide)) (keys0 arg3 harg3 arg4 harg4 x0 x1 x2 x3 x4 x5 (n := 1536) 0 (by decide) (by decide) (by decide)) broadcasts_S512x1_S512x1536) (by decide) (by decide) d j

theorem dk0_1024 (d : Fin 128) (j : Fin 2048) : View.canon (kernelRun0_A.sl.HS0_4 (F := Ideal) c arg2 harg2 arg3 harg3 arg4 harg4 arg5 harg5 arg6 harg6 arg7 harg7 arg11 x0 x1 x2 x3 x4 x5) (ix2 d j)
    = (head0 x0 x1 x2 x3 x4 x5).dkPart 1536 (by decide) d j + (head0 x0 x1 x2 x3 x4 x5).dkPart 1024 (by decide) d j :=
  acc_step arg11.view (fun d j => dk0_1536 c arg2 harg2 arg3 harg3 arg4 harg4 arg5 harg5 arg6 harg6 arg7 harg7 arg11 arg12 x0 x1 x2 x3 x4 x5 d j) (T := (head0 x0 x1 x2 x3 x4 x5).dkPart 1024 (by decide)) (r := 1024) (by decide)
    (by decide) ((head0 x0 x1 x2 x3 x4 x5).dkPart_of_le 1024 (by decide)) (dkDiag (rows0 arg2 harg2 arg5 harg5 arg6 harg6 arg7 harg7 x0 x1 x2 x3 x4 x5 1024 (by decide) (by decide) (by decide) (by decide)) (keys0 arg3 harg3 arg4 harg4 x0 x1 x2 x3 x4 x5 (n := 512) 1024 (by decide) (by decide) (by decide))) (by decide) (by decide)
    (dkPast (rows0 arg2 harg2 arg5 harg5 arg6 harg6 arg7 harg7 x0 x1 x2 x3 x4 x5 1024 (by decide) (by decide) (by decide) (by decide)) (keys0 arg3 harg3 arg4 harg4 x0 x1 x2 x3 x4 x5 (n := 1024) 0 (by decide) (by decide) (by decide)) broadcasts_S512x1_S512x1024) (by decide) (by decide) d j

theorem dk0_512 (d : Fin 128) (j : Fin 2048) : View.canon (kernelRun0_A.sl.HS0_6 (F := Ideal) c arg2 harg2 arg3 harg3 arg4 harg4 arg5 harg5 arg6 harg6 arg7 harg7 arg11 x0 x1 x2 x3 x4 x5) (ix2 d j)
    = (head0 x0 x1 x2 x3 x4 x5).dkPart 1536 (by decide) d j + (head0 x0 x1 x2 x3 x4 x5).dkPart 1024 (by decide) d j + (head0 x0 x1 x2 x3 x4 x5).dkPart 512 (by decide) d j :=
  acc_step arg11.view (fun d j => dk0_1024 c arg2 harg2 arg3 harg3 arg4 harg4 arg5 harg5 arg6 harg6 arg7 harg7 arg11 arg12 x0 x1 x2 x3 x4 x5 d j) (T := (head0 x0 x1 x2 x3 x4 x5).dkPart 512 (by decide)) (r := 512) (by decide)
    (by decide) ((head0 x0 x1 x2 x3 x4 x5).dkPart_of_le 512 (by decide)) (dkDiag (rows0 arg2 harg2 arg5 harg5 arg6 harg6 arg7 harg7 x0 x1 x2 x3 x4 x5 512 (by decide) (by decide) (by decide) (by decide)) (keys0 arg3 harg3 arg4 harg4 x0 x1 x2 x3 x4 x5 (n := 512) 512 (by decide) (by decide) (by decide))) (by decide) (by decide)
    (dkPast (rows0 arg2 harg2 arg5 harg5 arg6 harg6 arg7 harg7 x0 x1 x2 x3 x4 x5 512 (by decide) (by decide) (by decide) (by decide)) (keys0 arg3 harg3 arg4 harg4 x0 x1 x2 x3 x4 x5 (n := 512) 0 (by decide) (by decide) (by decide)) broadcasts_S512x1_S512x512) (by decide) (by decide) d j

theorem dk0_0 (d : Fin 128) (j : Fin 2048) : View.canon (kernelRun0_A.sl.HS0_7 (F := Ideal) c arg2 harg2 arg3 harg3 arg4 harg4 arg5 harg5 arg6 harg6 arg7 harg7 arg11 x0 x1 x2 x3 x4 x5) (ix2 d j)
    = (head0 x0 x1 x2 x3 x4 x5).dkPart 1536 (by decide) d j + (head0 x0 x1 x2 x3 x4 x5).dkPart 1024 (by decide) d j + (head0 x0 x1 x2 x3 x4 x5).dkPart 512 (by decide) d j + (head0 x0 x1 x2 x3 x4 x5).dkPart 0 (by decide) d j :=
  acc_last arg11.view (fun d j => dk0_512 c arg2 harg2 arg3 harg3 arg4 harg4 arg5 harg5 arg6 harg6 arg7 harg7 arg11 arg12 x0 x1 x2 x3 x4 x5 d j) (T := (head0 x0 x1 x2 x3 x4 x5).dkPart 0 (by decide)) (by decide)
    ((head0 x0 x1 x2 x3 x4 x5).dkPart_of_le 0 (by decide)) (dkDiag (rows0 arg2 harg2 arg5 harg5 arg6 harg6 arg7 harg7 x0 x1 x2 x3 x4 x5 0 (by decide) (by decide) (by decide) (by decide)) (keys0 arg3 harg3 arg4 harg4 x0 x1 x2 x3 x4 x5 (n := 512) 0 (by decide) (by decide) (by decide))) (by decide) (by decide) d j

theorem dk1_1536 (d : Fin 128) (j : Fin 2048) : View.canon (kernelRun0_A.sl.HS0_9 (F := Ideal) c arg2 harg2 arg3 harg3 arg4 harg4 arg5 harg5 arg6 harg6 arg7 harg7 arg11 x0 x1 x2 x3 x4 x5) (ix2 d j)
    = (head1 x0 x1 x2 x3 x4 x5).dkPart 1536 (by decide) d j :=
  acc_first (T := (head1 x0 x1 x2 x3 x4 x5).dkPart 1536 (by decide)) (r := 1536) (by decide) (by decide) (dkDiag (rows1 arg2 harg2 arg5 harg5 arg6 harg6 arg7 harg7 x0 x1 x2 x3 x4 x5 1536 (by decide) (by decide) (by decide) (by decide)) (keys1 arg3 harg3 arg4 harg4 x0 x1 x2 x3 x4 x5 (n := 512) 1536 (by decide) (by decide) (by decide)))
    (by decide) (by decide) (by decide) (dkPast (rows1 arg2 harg2 arg5 harg5 arg6 harg6 arg7 harg7 x0 x1 x2 x3 x4 x5 1536 (by decide) (by decide) (by decide) (by decide)) (keys1 arg3 harg3 arg4 harg4 x0 x1 x2 x3 x4 x5 (n := 1536) 0 (by decide) (by decide) (by decide)) broadcasts_S512x1_S512x1536) (by decide) (by decide) d j

theorem dk1_1024 (d : Fin 128) (j : Fin 2048) : View.canon (kernelRun0_A.sl.HS0_11 (F := Ideal) c arg2 harg2 arg3 harg3 arg4 harg4 arg5 harg5 arg6 harg6 arg7 harg7 arg11 x0 x1 x2 x3 x4 x5) (ix2 d j)
    = (head1 x0 x1 x2 x3 x4 x5).dkPart 1536 (by decide) d j + (head1 x0 x1 x2 x3 x4 x5).dkPart 1024 (by decide) d j :=
  acc_step arg11.view (fun d j => dk1_1536 c arg2 harg2 arg3 harg3 arg4 harg4 arg5 harg5 arg6 harg6 arg7 harg7 arg11 arg12 x0 x1 x2 x3 x4 x5 d j) (T := (head1 x0 x1 x2 x3 x4 x5).dkPart 1024 (by decide)) (r := 1024) (by decide)
    (by decide) ((head1 x0 x1 x2 x3 x4 x5).dkPart_of_le 1024 (by decide)) (dkDiag (rows1 arg2 harg2 arg5 harg5 arg6 harg6 arg7 harg7 x0 x1 x2 x3 x4 x5 1024 (by decide) (by decide) (by decide) (by decide)) (keys1 arg3 harg3 arg4 harg4 x0 x1 x2 x3 x4 x5 (n := 512) 1024 (by decide) (by decide) (by decide))) (by decide) (by decide)
    (dkPast (rows1 arg2 harg2 arg5 harg5 arg6 harg6 arg7 harg7 x0 x1 x2 x3 x4 x5 1024 (by decide) (by decide) (by decide) (by decide)) (keys1 arg3 harg3 arg4 harg4 x0 x1 x2 x3 x4 x5 (n := 1024) 0 (by decide) (by decide) (by decide)) broadcasts_S512x1_S512x1024) (by decide) (by decide) d j

theorem dk1_512 (d : Fin 128) (j : Fin 2048) : View.canon (kernelRun0_A.sl.HS0_13 (F := Ideal) c arg2 harg2 arg3 harg3 arg4 harg4 arg5 harg5 arg6 harg6 arg7 harg7 arg11 x0 x1 x2 x3 x4 x5) (ix2 d j)
    = (head1 x0 x1 x2 x3 x4 x5).dkPart 1536 (by decide) d j + (head1 x0 x1 x2 x3 x4 x5).dkPart 1024 (by decide) d j + (head1 x0 x1 x2 x3 x4 x5).dkPart 512 (by decide) d j :=
  acc_step arg11.view (fun d j => dk1_1024 c arg2 harg2 arg3 harg3 arg4 harg4 arg5 harg5 arg6 harg6 arg7 harg7 arg11 arg12 x0 x1 x2 x3 x4 x5 d j) (T := (head1 x0 x1 x2 x3 x4 x5).dkPart 512 (by decide)) (r := 512) (by decide)
    (by decide) ((head1 x0 x1 x2 x3 x4 x5).dkPart_of_le 512 (by decide)) (dkDiag (rows1 arg2 harg2 arg5 harg5 arg6 harg6 arg7 harg7 x0 x1 x2 x3 x4 x5 512 (by decide) (by decide) (by decide) (by decide)) (keys1 arg3 harg3 arg4 harg4 x0 x1 x2 x3 x4 x5 (n := 512) 512 (by decide) (by decide) (by decide))) (by decide) (by decide)
    (dkPast (rows1 arg2 harg2 arg5 harg5 arg6 harg6 arg7 harg7 x0 x1 x2 x3 x4 x5 512 (by decide) (by decide) (by decide) (by decide)) (keys1 arg3 harg3 arg4 harg4 x0 x1 x2 x3 x4 x5 (n := 512) 0 (by decide) (by decide) (by decide)) broadcasts_S512x1_S512x512) (by decide) (by decide) d j

theorem dk1_0 (d : Fin 128) (j : Fin 2048) : View.canon (kernelRun0_A.sl.HS0_14 (F := Ideal) c arg2 harg2 arg3 harg3 arg4 harg4 arg5 harg5 arg6 harg6 arg7 harg7 arg11 x0 x1 x2 x3 x4 x5) (ix2 d j)
    = (head1 x0 x1 x2 x3 x4 x5).dkPart 1536 (by decide) d j + (head1 x0 x1 x2 x3 x4 x5).dkPart 1024 (by decide) d j + (head1 x0 x1 x2 x3 x4 x5).dkPart 512 (by decide) d j + (head1 x0 x1 x2 x3 x4 x5).dkPart 0 (by decide) d j :=
  acc_last arg11.view (fun d j => dk1_512 c arg2 harg2 arg3 harg3 arg4 harg4 arg5 harg5 arg6 harg6 arg7 harg7 arg11 arg12 x0 x1 x2 x3 x4 x5 d j) (T := (head1 x0 x1 x2 x3 x4 x5).dkPart 0 (by decide)) (by decide)
    ((head1 x0 x1 x2 x3 x4 x5).dkPart_of_le 0 (by decide)) (dkDiag (rows1 arg2 harg2 arg5 harg5 arg6 harg6 arg7 harg7 x0 x1 x2 x3 x4 x5 0 (by decide) (by decide) (by decide) (by decide)) (keys1 arg3 harg3 arg4 harg4 x0 x1 x2 x3 x4 x5 (n := 512) 0 (by decide) (by decide) (by decide))) (by decide) (by decide) d j

theorem dv0_1536 (d : Fin 128) (j : Fin 2048) : View.canon (kernelRun0_A.sl.HS1_2 (F := Ideal) c arg2 harg2 arg3 harg3 arg5 harg5 arg7 harg7 x0 x1 x3 x5) (ix2 d j)
    = (head0 x0 x1 x2 x3 x4 x5).dvPart 1536 (by decide) d j :=
  acc_first (T := (head0 x0 x1 x2 x3 x4 x5).dvPart 1536 (by decide)) (r := 1536) (by decide) (by decide) (dvDiag (rows0 arg2 harg2 arg5 harg5 arg6 harg6 arg7 harg7 x0 x1 x2 x3 x4 x5 1536 (by decide) (by decide) (by decide) (by decide)) (keys0 arg3 harg3 arg4 harg4 x0 x1 x2 x3 x4 x5 (n := 512) 1536 (by decide) (by decide) (by decide)))
    (by decide) (by decide) (by decide) (dvPast (rows0 arg2 harg2 arg5 harg5 arg6 harg6 arg7 harg7 x0 x1 x2 x3 x4 x5 1536 (by decide) (by decide) (by decide) (by decide)) (keys0 arg3 harg3 arg4 harg4 x0 x1 x2 x3 x4 x5 (n := 1536) 0 (by decide) (by decide) (by decide)) broadcasts_S512x1_S512x1536) (by decide) (by decide) d j

theorem dv0_1024 (d : Fin 128) (j : Fin 2048) : View.canon (kernelRun0_A.sl.HS1_4 (F := Ideal) c arg2 harg2 arg3 harg3 arg5 harg5 arg7 harg7 arg12 x0 x1 x3 x5) (ix2 d j)
    = (head0 x0 x1 x2 x3 x4 x5).dvPart 1536 (by decide) d j + (head0 x0 x1 x2 x3 x4 x5).dvPart 1024 (by decide) d j :=
  acc_step arg12.view (fun d j => dv0_1536 c arg2 harg2 arg3 harg3 arg4 harg4 arg5 harg5 arg6 harg6 arg7 harg7 arg11 arg12 x0 x1 x2 x3 x4 x5 d j) (T := (head0 x0 x1 x2 x3 x4 x5).dvPart 1024 (by decide)) (r := 1024) (by decide)
    (by decide) ((head0 x0 x1 x2 x3 x4 x5).dvPart_of_le 1024 (by decide)) (dvDiag (rows0 arg2 harg2 arg5 harg5 arg6 harg6 arg7 harg7 x0 x1 x2 x3 x4 x5 1024 (by decide) (by decide) (by decide) (by decide)) (keys0 arg3 harg3 arg4 harg4 x0 x1 x2 x3 x4 x5 (n := 512) 1024 (by decide) (by decide) (by decide))) (by decide) (by decide)
    (dvPast (rows0 arg2 harg2 arg5 harg5 arg6 harg6 arg7 harg7 x0 x1 x2 x3 x4 x5 1024 (by decide) (by decide) (by decide) (by decide)) (keys0 arg3 harg3 arg4 harg4 x0 x1 x2 x3 x4 x5 (n := 1024) 0 (by decide) (by decide) (by decide)) broadcasts_S512x1_S512x1024) (by decide) (by decide) d j

theorem dv0_512 (d : Fin 128) (j : Fin 2048) : View.canon (kernelRun0_A.sl.HS1_6 (F := Ideal) c arg2 harg2 arg3 harg3 arg5 harg5 arg7 harg7 arg12 x0 x1 x3 x5) (ix2 d j)
    = (head0 x0 x1 x2 x3 x4 x5).dvPart 1536 (by decide) d j + (head0 x0 x1 x2 x3 x4 x5).dvPart 1024 (by decide) d j + (head0 x0 x1 x2 x3 x4 x5).dvPart 512 (by decide) d j :=
  acc_step arg12.view (fun d j => dv0_1024 c arg2 harg2 arg3 harg3 arg4 harg4 arg5 harg5 arg6 harg6 arg7 harg7 arg11 arg12 x0 x1 x2 x3 x4 x5 d j) (T := (head0 x0 x1 x2 x3 x4 x5).dvPart 512 (by decide)) (r := 512) (by decide)
    (by decide) ((head0 x0 x1 x2 x3 x4 x5).dvPart_of_le 512 (by decide)) (dvDiag (rows0 arg2 harg2 arg5 harg5 arg6 harg6 arg7 harg7 x0 x1 x2 x3 x4 x5 512 (by decide) (by decide) (by decide) (by decide)) (keys0 arg3 harg3 arg4 harg4 x0 x1 x2 x3 x4 x5 (n := 512) 512 (by decide) (by decide) (by decide))) (by decide) (by decide)
    (dvPast (rows0 arg2 harg2 arg5 harg5 arg6 harg6 arg7 harg7 x0 x1 x2 x3 x4 x5 512 (by decide) (by decide) (by decide) (by decide)) (keys0 arg3 harg3 arg4 harg4 x0 x1 x2 x3 x4 x5 (n := 512) 0 (by decide) (by decide) (by decide)) broadcasts_S512x1_S512x512) (by decide) (by decide) d j

theorem dv0_0 (d : Fin 128) (j : Fin 2048) : View.canon (kernelRun0_A.sl.HS1_7 (F := Ideal) c arg2 harg2 arg3 harg3 arg5 harg5 arg7 harg7 arg12 x0 x1 x3 x5) (ix2 d j)
    = (head0 x0 x1 x2 x3 x4 x5).dvPart 1536 (by decide) d j + (head0 x0 x1 x2 x3 x4 x5).dvPart 1024 (by decide) d j + (head0 x0 x1 x2 x3 x4 x5).dvPart 512 (by decide) d j + (head0 x0 x1 x2 x3 x4 x5).dvPart 0 (by decide) d j :=
  acc_last arg12.view (fun d j => dv0_512 c arg2 harg2 arg3 harg3 arg4 harg4 arg5 harg5 arg6 harg6 arg7 harg7 arg11 arg12 x0 x1 x2 x3 x4 x5 d j) (T := (head0 x0 x1 x2 x3 x4 x5).dvPart 0 (by decide)) (by decide)
    ((head0 x0 x1 x2 x3 x4 x5).dvPart_of_le 0 (by decide)) (dvDiag (rows0 arg2 harg2 arg5 harg5 arg6 harg6 arg7 harg7 x0 x1 x2 x3 x4 x5 0 (by decide) (by decide) (by decide) (by decide)) (keys0 arg3 harg3 arg4 harg4 x0 x1 x2 x3 x4 x5 (n := 512) 0 (by decide) (by decide) (by decide))) (by decide) (by decide) d j

theorem dv1_1536 (d : Fin 128) (j : Fin 2048) : View.canon (kernelRun0_A.sl.HS1_9 (F := Ideal) c arg2 harg2 arg3 harg3 arg5 harg5 arg7 harg7 arg12 x0 x1 x3 x5) (ix2 d j)
    = (head0 x0 x1 x2 x3 x4 x5).dvPart 1536 (by decide) d j + (head0 x0 x1 x2 x3 x4 x5).dvPart 1024 (by decide) d j + (head0 x0 x1 x2 x3 x4 x5).dvPart 512 (by decide) d j + (head0 x0 x1 x2 x3 x4 x5).dvPart 0 (by decide) d j + (head1 x0 x1 x2 x3 x4 x5).dvPart 1536 (by decide) d j :=
  acc_step arg12.view (fun d j => dv0_0 c arg2 harg2 arg3 harg3 arg4 harg4 arg5 harg5 arg6 harg6 arg7 harg7 arg11 arg12 x0 x1 x2 x3 x4 x5 d j) (T := (head1 x0 x1 x2 x3 x4 x5).dvPart 1536 (by decide)) (r := 1536) (by decide)
    (by decide) ((head1 x0 x1 x2 x3 x4 x5).dvPart_of_le 1536 (by decide)) (dvDiag (rows1 arg2 harg2 arg5 harg5 arg6 harg6 arg7 harg7 x0 x1 x2 x3 x4 x5 1536 (by decide) (by decide) (by decide) (by decide)) (keys1 arg3 harg3 arg4 harg4 x0 x1 x2 x3 x4 x5 (n := 512) 1536 (by decide) (by decide) (by decide))) (by decide) (by decide)
    (dvPast (rows1 arg2 harg2 arg5 harg5 arg6 harg6 arg7 harg7 x0 x1 x2 x3 x4 x5 1536 (by decide) (by decide) (by decide) (by decide)) (keys1 arg3 harg3 arg4 harg4 x0 x1 x2 x3 x4 x5 (n := 1536) 0 (by decide) (by decide) (by decide)) broadcasts_S512x1_S512x1536) (by decide) (by decide) d j

theorem dv1_1024 (d : Fin 128) (j : Fin 2048) : View.canon (kernelRun0_A.sl.HS1_11 (F := Ideal) c arg2 harg2 arg3 harg3 arg5 harg5 arg7 harg7 arg12 x0 x1 x3 x5) (ix2 d j)
    = (head0 x0 x1 x2 x3 x4 x5).dvPart 1536 (by decide) d j + (head0 x0 x1 x2 x3 x4 x5).dvPart 1024 (by decide) d j + (head0 x0 x1 x2 x3 x4 x5).dvPart 512 (by decide) d j + (head0 x0 x1 x2 x3 x4 x5).dvPart 0 (by decide) d j + (head1 x0 x1 x2 x3 x4 x5).dvPart 1536 (by decide) d j + (head1 x0 x1 x2 x3 x4 x5).dvPart 1024 (by decide) d j :=
  acc_step arg12.view (fun d j => dv1_1536 c arg2 harg2 arg3 harg3 arg4 harg4 arg5 harg5 arg6 harg6 arg7 harg7 arg11 arg12 x0 x1 x2 x3 x4 x5 d j) (T := (head1 x0 x1 x2 x3 x4 x5).dvPart 1024 (by decide)) (r := 1024) (by decide)
    (by decide) ((head1 x0 x1 x2 x3 x4 x5).dvPart_of_le 1024 (by decide)) (dvDiag (rows1 arg2 harg2 arg5 harg5 arg6 harg6 arg7 harg7 x0 x1 x2 x3 x4 x5 1024 (by decide) (by decide) (by decide) (by decide)) (keys1 arg3 harg3 arg4 harg4 x0 x1 x2 x3 x4 x5 (n := 512) 1024 (by decide) (by decide) (by decide))) (by decide) (by decide)
    (dvPast (rows1 arg2 harg2 arg5 harg5 arg6 harg6 arg7 harg7 x0 x1 x2 x3 x4 x5 1024 (by decide) (by decide) (by decide) (by decide)) (keys1 arg3 harg3 arg4 harg4 x0 x1 x2 x3 x4 x5 (n := 1024) 0 (by decide) (by decide) (by decide)) broadcasts_S512x1_S512x1024) (by decide) (by decide) d j

theorem dv1_512 (d : Fin 128) (j : Fin 2048) : View.canon (kernelRun0_A.sl.HS1_13 (F := Ideal) c arg2 harg2 arg3 harg3 arg5 harg5 arg7 harg7 arg12 x0 x1 x3 x5) (ix2 d j)
    = (head0 x0 x1 x2 x3 x4 x5).dvPart 1536 (by decide) d j + (head0 x0 x1 x2 x3 x4 x5).dvPart 1024 (by decide) d j + (head0 x0 x1 x2 x3 x4 x5).dvPart 512 (by decide) d j + (head0 x0 x1 x2 x3 x4 x5).dvPart 0 (by decide) d j + (head1 x0 x1 x2 x3 x4 x5).dvPart 1536 (by decide) d j + (head1 x0 x1 x2 x3 x4 x5).dvPart 1024 (by decide) d j + (head1 x0 x1 x2 x3 x4 x5).dvPart 512 (by decide) d j :=
  acc_step arg12.view (fun d j => dv1_1024 c arg2 harg2 arg3 harg3 arg4 harg4 arg5 harg5 arg6 harg6 arg7 harg7 arg11 arg12 x0 x1 x2 x3 x4 x5 d j) (T := (head1 x0 x1 x2 x3 x4 x5).dvPart 512 (by decide)) (r := 512) (by decide)
    (by decide) ((head1 x0 x1 x2 x3 x4 x5).dvPart_of_le 512 (by decide)) (dvDiag (rows1 arg2 harg2 arg5 harg5 arg6 harg6 arg7 harg7 x0 x1 x2 x3 x4 x5 512 (by decide) (by decide) (by decide) (by decide)) (keys1 arg3 harg3 arg4 harg4 x0 x1 x2 x3 x4 x5 (n := 512) 512 (by decide) (by decide) (by decide))) (by decide) (by decide)
    (dvPast (rows1 arg2 harg2 arg5 harg5 arg6 harg6 arg7 harg7 x0 x1 x2 x3 x4 x5 512 (by decide) (by decide) (by decide) (by decide)) (keys1 arg3 harg3 arg4 harg4 x0 x1 x2 x3 x4 x5 (n := 512) 0 (by decide) (by decide) (by decide)) broadcasts_S512x1_S512x512) (by decide) (by decide) d j

theorem dv1_0 (d : Fin 128) (j : Fin 2048) : View.canon (kernelRun0_A.sl.HS1_14 (F := Ideal) c arg2 harg2 arg3 harg3 arg5 harg5 arg7 harg7 arg12 x0 x1 x3 x5) (ix2 d j)
    = (head0 x0 x1 x2 x3 x4 x5).dvPart 1536 (by decide) d j + (head0 x0 x1 x2 x3 x4 x5).dvPart 1024 (by decide) d j + (head0 x0 x1 x2 x3 x4 x5).dvPart 512 (by decide) d j + (head0 x0 x1 x2 x3 x4 x5).dvPart 0 (by decide) d j + (head1 x0 x1 x2 x3 x4 x5).dvPart 1536 (by decide) d j + (head1 x0 x1 x2 x3 x4 x5).dvPart 1024 (by decide) d j + (head1 x0 x1 x2 x3 x4 x5).dvPart 512 (by decide) d j + (head1 x0 x1 x2 x3 x4 x5).dvPart 0 (by decide) d j :=
  acc_last arg12.view (fun d j => dv1_512 c arg2 harg2 arg3 harg3 arg4 harg4 arg5 harg5 arg6 harg6 arg7 harg7 arg11 arg12 x0 x1 x2 x3 x4 x5 d j) (T := (head1 x0 x1 x2 x3 x4 x5).dvPart 0 (by decide)) (by decide)
    ((head1 x0 x1 x2 x3 x4 x5).dvPart_of_le 0 (by decide)) (dvDiag (rows1 arg2 harg2 arg5 harg5 arg6 harg6 arg7 harg7 x0 x1 x2 x3 x4 x5 0 (by decide) (by decide) (by decide) (by decide)) (keys1 arg3 harg3 arg4 harg4 x0 x1 x2 x3 x4 x5 (n := 512) 0 (by decide) (by decide) (by decide))) (by decide) (by decide) d j

end Cert.Proof.LatentBwd

end
-- ==== Proof.Out.lean ====
/-
  What a block's run leaves in its three outputs.
-/
module

public import proofs.«01_k».proof.Proof.Block

@[expose] public section

set_option maxRecDepth 16384

noncomputable section

namespace Cert.Proof.LatentBwd

open Cert.KernelIdeal Cert.KernelIdeal.Gen Idealize.ShloMosaic Idealize.ShloMosaic.ValueIdx
open scoped BigOperators

/-- Two heads' rows side by side. -/
def beside (f g : Fin 2048 → Fin 128 → EReal) (i : Fin 2048) (l : Fin 256) : EReal :=
  if h : l.val < 128 then f i ⟨l.val, h⟩ else g i ⟨l.val - 128, by omega⟩

theorem beside_left (f g : Fin 2048 → Fin 128 → EReal) (i : Fin 2048) (d : Fin 128) (h : 0 + d.val < 256) :
    beside f g i ⟨0 + d.val, h⟩ = f i d := by
  have hd : (0 + d.val) < 128 := by omega
  exact (dif_pos hd).trans (congrArg (f i) (Fin.ext (Nat.zero_add d.val)))

theorem beside_right (f g : Fin 2048 → Fin 128 → EReal) (i : Fin 2048) (d : Fin 128) (h : 128 + d.val < 256) :
    beside f g i ⟨128 + d.val, h⟩ = g i d := by
  have hd : ¬ (128 + d.val) < 128 := by omega
  exact (dif_neg hd).trans (congrArg (g i) (Fin.ext (Nat.add_sub_cancel_left 128 d.val)))

/-- A store of rows of one head agrees with the two heads side by side. -/
theorem piece_left {a o : ℕ} (f g : Fin 2048 → Fin 128 → EReal)
    (inb : ∀ x, (![o, 0] : Fin 2 → ℕ) x + (![a, 128] : Fin 2 → ℕ) x ≤ S2048x256.size x) (ho : o + a ≤ 2048)
    (p : FVec Ideal ⟨2, ![a, 128]⟩ .bf16) (hp : ∀ i d, p (ix2 i d) = f (pos o ho i) d)
    (x : (Rect.unit (s := S2048x256) ![o, 0] ![a, 128] inb).shape.Idx) :
    p x = (fun y : S2048x256.Idx => beside f g (y 0) (y 1)) ((Rect.unit (s := S2048x256) ![o, 0] ![a, 128] inb).emb x) := by
  obtain ⟨i, d, rfl⟩ : ∃ (i : Fin a) (d : Fin 128), x = ix2 i d := ⟨x 0, x 1, eq_ix2 x⟩
  refine (hp i d).trans ?_
  have he := unit_idx2 (A := 2048) (B := 256) inb ho (by decide) i d
  refine Eq.trans ?_ (congrArg (fun y : S2048x256.Idx => beside f g (y 0) (y 1)) he).symm
  exact (beside_left f g _ d _).symm

theorem piece_right {a o : ℕ} (f g : Fin 2048 → Fin 128 → EReal)
    (inb : ∀ x, (![o, 128] : Fin 2 → ℕ) x + (![a, 128] : Fin 2 → ℕ) x ≤ S2048x256.size x) (ho : o + a ≤ 2048)
    (p : FVec Ideal ⟨2, ![a, 128]⟩ .bf16) (hp : ∀ i d, p (ix2 i d) = g (pos o ho i) d)
    (x : (Rect.unit (s := S2048x256) ![o, 128] ![a, 128] inb).shape.Idx) :
    p x = (fun y : S2048x256.Idx => beside f g (y 0) (y 1)) ((Rect.unit (s := S2048x256) ![o, 128] ![a, 128] inb).emb x) := by
  obtain ⟨i, d, rfl⟩ : ∃ (i : Fin a) (d : Fin 128), x = ix2 i d := ⟨x 0, x 1, eq_ix2 x⟩
  refine (hp i d).trans ?_
  have he := unit_idx2 (A := 2048) (B := 256) inb ho (by decide) i d
  refine Eq.trans ?_ (congrArg (fun y : S2048x256.Idx => beside f g (y 0) (y 1)) he).symm
  exact (beside_right f g _ d _).symm

/-- The read-out of a whole accumulator, transposed back. -/
theorem readout (v : View sig .tc .vmem S128x2048 .f32) {L : Pieces} {A : Fin 128 → Fin 2048 → EReal}
    (hL : ∀ d j, View.canon L (ix2 d j) = A d j)
    (inb : ∀ x, (![0, 0] : Fin 2 → ℕ) x + (![128, 2048] : Fin 2 → ℕ) x ≤ S128x2048.size x) (j : Fin 2048) (d : Fin 128) :
    (truncf .bf16 (transpose S2048x128 [1, 0]
      (v.readCov (Val := Elt Ideal) L (Rect.unit (s := S128x2048) ![0, 0] ![128, 2048] inb).toLoadRect : FVec Ideal S128x2048 .f32)
      transposes_S128x2048_p1_0_S2048x128) bitsLt_bf16_f32 : FVec Ideal S2048x128 .bf16) (ix2 j d) = A d j := by
  rw [truncf_apply]
  refine (transpose_ix2_apply _ transposes_S128x2048_p1_0_S2048x128 j d).trans ?_
  refine ((readCov_cols v L inb (by decide) d j).trans (hL _ _)).trans ?_
  exact congrArg (A d) (Fin.ext (Nat.zero_add j.val))

variable (c : Dev nD) (i : grid0.Coords)
  (arg2 : Memref sig .tc .vmem S2048x256 .bf16) (harg2 : arg2.IsWhole)
  (arg3 : Memref sig .tc .vmem S2048x256 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S2048x128 .f32) (harg6 : arg6.IsWhole)
  (arg7 : Memref sig .tc .vmem S2048x128 .f32) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S2048x128 .bf16) (harg10 : arg10.IsWhole)
  (arg11 : Memref sig .tc .vmem S128x2048 .f32) (harg11 : arg11.IsWhole)
  (arg12 : Memref sig .tc .vmem S128x2048 .f32) (harg12 : arg12.IsWhole)
  (x0 x1 : Vec Ideal S2048x256 .bf16) (x2 : Vec Ideal S2048x128 .bf16) (x3 x4 x5 : Vec Ideal S2048x128 .f32)

/-- The first output: the gradients of the two heads' queries. -/
theorem out6_apply (y : S2048x256.Idx) : out0_A_6 c i arg2 harg2 arg3 harg3 arg4 harg4 arg5 harg5 arg6 harg6 arg7 harg7 arg8 harg8 arg9 harg9 arg10 harg10 arg11 harg11 arg12 harg12 x0 x1 x2 x3 x4 x5 y
    = beside (head0 x0 x1 x2 x3 x4 x5).dq (head1 x0 x1 x2 x3 x4 x5).dq (y 0) (y 1) := by
  unfold out0_A_6
  rw [View.read_writes_junk_eq_canon]
  refine View.canon_apply_of_pieces (fun y : S2048x256.Idx => beside (head0 x0 x1 x2 x3 x4 x5).dq (head1 x0 x1 x2 x3 x4 x5).dq (y 0) (y 1)) _ ?_ y
    (cover0_A_6 c i arg2 harg2 arg3 harg3 arg4 harg4 arg5 harg5 arg6 harg6 arg7 harg7 arg8 harg8 arg9 harg9 arg10 harg10 arg11 harg11 arg12 harg12 x0 x1 x2 x3 x4 x5 y)
  refine (List.forall_mem_cons.mpr ⟨piece_right (head0 x0 x1 x2 x3 x4 x5).dq (head1 x0 x1 x2 x3 x4 x5).dq (a := 512) (by decide) (by decide) _ (dqFirst (rows1 arg2 harg2 arg5 harg5 arg6 harg6 arg7 harg7 x0 x1 x2 x3 x4 x5 0 (by decide) (by decide) (by decide) (by decide)) (keys1 arg3 harg3 arg4 harg4 x0 x1 x2 x3 x4 x5 (n := 512) 0 (by decide) (by decide) (by decide))),
      (List.forall_mem_cons.mpr ⟨piece_right (head0 x0 x1 x2 x3 x4 x5).dq (head1 x0 x1 x2 x3 x4 x5).dq (a := 512) (by decide) (by decide) _ (dqFull (rows1 arg2 harg2 arg5 harg5 arg6 harg6 arg7 harg7 x0 x1 x2 x3 x4 x5 512 (by decide) (by decide) (by decide) (by decide)) (keys1 arg3 harg3 arg4 harg4 x0 x1 x2 x3 x4 x5 (n := 512) 512 (by decide) (by decide) (by decide)) (keys1 arg3 harg3 arg4 harg4 x0 x1 x2 x3 x4 x5 (n := 512) 0 (by decide) (by decide) (by decide)) broadcasts_S512x1_S512x512),
      (List.forall_mem_cons.mpr ⟨piece_right (head0 x0 x1 x2 x3 x4 x5).dq (head1 x0 x1 x2 x3 x4 x5).dq (a := 512) (by decide) (by decide) _ (dqFull (rows1 arg2 harg2 arg5 harg5 arg6 harg6 arg7 harg7 x0 x1 x2 x3 x4 x5 1024 (by decide) (by decide) (by decide) (by decide)) (keys1 arg3 harg3 arg4 harg4 x0 x1 x2 x3 x4 x5 (n := 512) 1024 (by decide) (by decide) (by decide)) (keys1 arg3 harg3 arg4 harg4 x0 x1 x2 x3 x4 x5 (n := 1024) 0 (by decide) (by decide) (by decide)) broadcasts_S512x1_S512x1024),
      (List.forall_mem_cons.mpr ⟨piece_right (head0 x0 x1 x2 x3 x4 x5).dq (head1 x0 x1 x2 x3 x4 x5).dq (a := 512) (by decide) (by decide) _ (dqFull (rows1 arg2 harg2 arg5 harg5 arg6 harg6 arg7 harg7 x0 x1 x2 x3 x4 x5 1536 (by decide) (by decide) (by decide) (by decide)) (keys1 arg3 harg3 arg4 harg4 x0 x1 x2 x3 x4 x5 (n := 512) 1536 (by decide) (by decide) (by decide)) (keys1 arg3 harg3 arg4 harg4 x0 x1 x2 x3 x4 x5 (n := 1536) 0 (by decide) (by decide) (by decide)) broadcasts_S512x1_S512x1536),
      (List.forall_mem_cons.mpr ⟨?_,
      (List.forall_mem_cons.mpr ⟨piece_left (head0 x0 x1 x2 x3 x4 x5).dq (head1 x0 x1 x2 x3 x4 x5).dq (a := 512) (by decide) (by decide) _ (dqFull (rows0 arg2 harg2 arg5 harg5 arg6 harg6 arg7 harg7 x0 x1 x2 x3 x4 x5 512 (by decide) (by decide) (by decide) (by decide)) (keys0 arg3 harg3 arg4 harg4 x0 x1 x2 x3 x4 x5 (n := 512) 512 (by decide) (by decide) (by decide)) (keys0 arg3 harg3 arg4 harg4 x0 x1 x2 x3 x4 x5 (n := 512) 0 (by decide) (by decide) (by decide)) broadcasts_S512x1_S512x512),
      (List.forall_mem_cons.mpr ⟨piece_left (head0 x0 x1 x2 x3 x4 x5).dq (head1 x0 x1 x2 x3 x4 x5).dq (a := 512) (by decide) (by decide) _ (dqFull (rows0 arg2 harg2 arg5 harg5 arg6 harg6 arg7 harg7 x0 x1 x2 x3 x4 x5 1024 (by decide) (by decide) (by decide) (by decide)) (keys0 arg3 harg3 arg4 harg4 x0 x1 x2 x3 x4 x5 (n := 512) 1024 (by decide) (by decide) (by decide)) (keys0 arg3 harg3 arg4 harg4 x0 x1 x2 x3 x4 x5 (n := 1024) 0 (by decide) (by decide) (by decide)) broadcasts_S512x1_S512x1024),
      (List.forall_mem_cons.mpr ⟨piece_left (head0 x0 x1 x2 x3 x4 x5).dq (head1 x0 x1 x2 x3 x4 x5).dq (a := 512) (by decide) (by decide) _ (dqFull (rows0 arg2 harg2 arg5 harg5 arg6 harg6 arg7 harg7 x0 x1 x2 x3 x4 x5 1536 (by decide) (by decide) (by decide) (by decide)) (keys0 arg3 harg3 arg4 harg4 x0 x1 x2 x3 x4 x5 (n := 512) 1536 (by decide) (by decide) (by decide)) (keys0 arg3 harg3 arg4 harg4 x0 x1 x2 x3 x4 x5 (n := 1536) 0 (by decide) (by decide) (by decide)) broadcasts_S512x1_S512x1536),
      List.forall_mem_nil _⟩)⟩)⟩)⟩)⟩)⟩)⟩)⟩)
  refine piece_left (head0 x0 x1 x2 x3 x4 x5).dq (head1 x0 x1 x2 x3 x4 x5).dq (a := 512) (by decide) (by decide) _ fun i d => ?_
  exact Eq.trans (congrFun rfl _) (dqFirst (rows0 arg2 harg2 arg5 harg5 arg6 harg6 arg7 harg7 x0 x1 x2 x3 x4 x5 0 (by decide) (by decide) (by decide) (by decide)) (keys0 arg3 harg3 arg4 harg4 x0 x1 x2 x3 x4 x5 (n := 512) 0 (by decide) (by decide) (by decide)) i d)

/-- The second output: the gradients of the two heads' keys. -/
theorem out7_apply (y : S2048x256.Idx) : out0_A_7 c i arg2 harg2 arg3 harg3 arg4 harg4 arg5 harg5 arg6 harg6 arg7 harg7 arg8 harg8 arg9 harg9 arg10 harg10 arg11 harg11 arg12 harg12 x0 x1 x2 x3 x4 x5 y
    = beside (head0 x0 x1 x2 x3 x4 x5).dk (head1 x0 x1 x2 x3 x4 x5).dk (y 0) (y 1) := by
  unfold out0_A_7
  rw [View.read_writes_junk_eq_canon]
  refine View.canon_apply_of_pieces (fun y : S2048x256.Idx => beside (head0 x0 x1 x2 x3 x4 x5).dk (head1 x0 x1 x2 x3 x4 x5).dk (y 0) (y 1)) _ ?_ y
    (cover0_A_7 c i arg2 harg2 arg3 harg3 arg4 harg4 arg5 harg5 arg6 harg6 arg7 harg7 arg8 harg8 arg9 harg9 arg10 harg10 arg11 harg11 arg12 harg12 x0 x1 x2 x3 x4 x5 y)
  exact (List.forall_mem_cons.mpr ⟨piece_right (head0 x0 x1 x2 x3 x4 x5).dk (head1 x0 x1 x2 x3 x4 x5).dk (a := 2048) (o := 0) (by decide) (by decide) _ (fun j d => (readout arg11.view (fun d j => (dk1_0 c arg2 harg2 arg3 harg3 arg4 harg4 arg5 harg5 arg6 harg6 arg7 harg7 arg11 arg12 x0 x1 x2 x3 x4 x5 d j).trans ((head1 x0 x1 x2 x3 x4 x5).dk_eq j d).symm) (by decide) j d).trans
        (congrArg (fun j => (head1 x0 x1 x2 x3 x4 x5).dk j d) (Fin.ext (Nat.zero_add j.val).symm))),
      (List.forall_mem_cons.mpr ⟨piece_left (head0 x0 x1 x2 x3 x4 x5).dk (head1 x0 x1 x2 x3 x4 x5).dk (a := 2048) (o := 0) (by decide) (by decide) _ (fun j d => (readout arg11.view (fun d j => (dk0_0 c arg2 harg2 arg3 harg3 arg4 harg4 arg5 harg5 arg6 harg6 arg7 harg7 arg11 arg12 x0 x1 x2 x3 x4 x5 d j).trans ((head0 x0 x1 x2 x3 x4 x5).dk_eq j d).symm) (by decide) j d).trans
        (congrArg (fun j => (head0 x0 x1 x2 x3 x4 x5).dk j d) (Fin.ext (Nat.zero_add j.val).symm))),
      List.forall_mem_nil _⟩)⟩)

/-- The third output: the sum of the two heads' gradients of the values they share. -/
theorem out8_apply (y : S2048x128.Idx) : out0_A_8 c i arg2 harg2 arg3 harg3 arg4 harg4 arg5 harg5 arg6 harg6 arg7 harg7 arg8 harg8 arg9 harg9 arg10 harg10 arg11 harg11 arg12 harg12 x0 x1 x2 x3 x4 x5 y
    = (head0 x0 x1 x2 x3 x4 x5).dv (y 0) (y 1) + (head1 x0 x1 x2 x3 x4 x5).dv (y 0) (y 1) := by
  unfold out0_A_8
  rw [View.read_writes_junk_eq_canon]
  refine View.canon_apply_of_pieces (fun y : S2048x128.Idx => (head0 x0 x1 x2 x3 x4 x5).dv (y 0) (y 1) + (head1 x0 x1 x2 x3 x4 x5).dv (y 0) (y 1)) _ ?_ y
    (cover0_A_8 c i arg2 harg2 arg3 harg3 arg4 harg4 arg5 harg5 arg6 harg6 arg7 harg7 arg8 harg8 arg9 harg9 arg10 harg10 arg11 harg11 arg12 harg12 x0 x1 x2 x3 x4 x5 y)
  refine List.forall_mem_cons.mpr ⟨fun (x : (Rect.unit (s := S2048x128) ![0, 0] ![2048, 128] (by decide)).shape.Idx) => ?_, List.forall_mem_nil _⟩
  obtain ⟨j, d, rfl⟩ : ∃ (j : Fin 2048) (d : Fin 128), x = ix2 j d := ⟨x 0, x 1, eq_ix2 x⟩
  have he := unit_idx2 (A := 2048) (B := 128) (o := 0) (l := 0) (a := 2048) (b := 128) (by decide) (by decide) (by decide) j d
  refine Eq.trans ?_ (congrArg (fun y : S2048x128.Idx => (head0 x0 x1 x2 x3 x4 x5).dv (y 0) (y 1) + (head1 x0 x1 x2 x3 x4 x5).dv (y 0) (y 1)) he).symm
  have hz : (⟨0 + j.val, by omega⟩ : Fin 2048) = j := Fin.ext (Nat.zero_add j.val)
  have hd : (⟨0 + d.val, by omega⟩ : Fin 128) = d := Fin.ext (Nat.zero_add d.val)
  refine (readout arg12.view (fun d j => (dv1_0 c arg2 harg2 arg3 harg3 arg4 harg4 arg5 harg5 arg6 harg6 arg7 harg7 arg11 arg12 x0 x1 x2 x3 x4 x5 d j)) (by decide) j d).trans ?_
  show _ = (head0 x0 x1 x2 x3 x4 x5).dv ⟨0 + j.val, _⟩ ⟨0 + d.val, _⟩ + (head1 x0 x1 x2 x3 x4 x5).dv ⟨0 + j.val, _⟩ ⟨0 + d.val, _⟩
  rw [hz, hd, (head0 x0 x1 x2 x3 x4 x5).dv_eq, (head1 x0 x1 x2 x3 x4 x5).dv_eq]
  simp only [add_assoc]

end Cert.Proof.LatentBwd

end
-- ==== Proof.Attn.lean ====
/-
  One attention head of one batch row over the real numbers: what the backward pass has to compute, and the proof that
  the kernel's head (`Head`) computes it when its entries are real.

  `Attn` holds the head's queries, keys, values, the gradient of its output, and one number for each row that the
  exponentials are taken relative to. Whatever that number is, the probabilities are the same.
-/
module

public import proofs.«01_k».proof.Proof.Head

@[expose] public section

noncomputable section

namespace Cert.Proof.LatentBwd

open Idealize.ShloMosaic
open scoped BigOperators

/-- A finite sum of real numbers, taken among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The scale of the scores, a binary fraction. -/
def scaleR : ℝ := 3424635 / 33554432

/-- The scale the kernel multiplies by is that fraction. -/
theorem scaleE_eq : scaleE = ((scaleR : ℝ) : EReal) := by
  unfold scaleE scaleR
  simp [Ideal.ofBits, Ideal.ieee, -EReal.coe_mul]
  norm_num

/-- One attention head of one batch row. -/
structure Attn where
  /-- queries -/
  Q : Fin 2048 → Fin 128 → ℝ
  /-- keys -/
  K : Fin 2048 → Fin 128 → ℝ
  /-- values -/
  V : Fin 2048 → Fin 64 → ℝ
  /-- gradient of the output -/
  G : Fin 2048 → Fin 64 → ℝ
  /-- what each row's exponentials are taken relative to -/
  M : Fin 2048 → ℝ

namespace Attn

variable (A : Attn)

/-- The score of query `i` at key `j`. -/
def s (i j : Fin 2048) : ℝ := (∑ d, A.Q i d * A.K j d) * scaleR

/-- The exponential of the score, zero after the query. -/
def e (i j : Fin 2048) : ℝ := if j ≤ i then Real.exp (A.s i j - A.M i) else 0

/-- The row's sum of exponentials. -/
def l (i : Fin 2048) : ℝ := ∑ j, A.e i j

/-- The probability. -/
def p (i j : Fin 2048) : ℝ := A.e i j / A.l i

/-- The output. -/
def o (i : Fin 2048) (d : Fin 64) : ℝ := ∑ j, A.V j d * A.p i j

/-- The base-two logarithm of the row's sum of exponentials of unshifted scores. -/
def lse (i : Fin 2048) : ℝ := (A.M i + Real.log (A.l i)) / Real.log 2

/-- The gradient of the probability. -/
def dp (i j : Fin 2048) : ℝ := ∑ d, A.G i d * A.V j d

/-- The gradient of the scaled score. -/
def ds (i j : Fin 2048) : ℝ := A.p i j * (A.dp i j - ∑ k, A.p i k * A.dp i k) * scaleR

/-- The gradient of the queries. -/
def dq (i : Fin 2048) (d : Fin 128) : ℝ := ∑ j, A.ds i j * A.K j d

/-- The gradient of the keys. -/
def dk (j : Fin 2048) (d : Fin 128) : ℝ := ∑ i, A.ds i j * A.Q i d

/-- The gradient of the values. -/
def dv (j : Fin 2048) (d : Fin 64) : ℝ := ∑ i, A.G i d * A.p i j

theorem e_nonneg (i j : Fin 2048) : 0 ≤ A.e i j := by
  unfold e; split
  · exact (Real.exp_pos _).le
  · exact le_rfl

theorem l_pos (i : Fin 2048) : 0 < A.l i := by
  refine lt_of_lt_of_le ?_ (Finset.single_le_sum (f := fun j => A.e i j) (fun j _ => A.e_nonneg i j) (Finset.mem_univ i))
  simp only [e, le_refl, if_true]
  exact Real.exp_pos _

/-- The kernel's probability, two to the power of the score in base two less the saved logarithm. -/
theorem p_eq {i j : Fin 2048} (h : j ≤ i) :
    A.p i j = Real.rpow 2 ((∑ d, A.Q i d * A.K j d) * scale2 - A.lse i) := by
  have h2 : Real.log 2 ≠ 0 := (Real.log_pos one_lt_two).ne'
  have hl := A.l_pos i
  show A.p i j = (2 : ℝ) ^ ((∑ d, A.Q i d * A.K j d) * scale2 - A.lse i)
  rw [Real.rpow_def_of_pos two_pos]
  have hx : Real.log 2 * ((∑ d, A.Q i d * A.K j d) * scale2 - A.lse i) = (A.s i j - A.M i) - Real.log (A.l i) := by
    unfold lse s scale2 scaleR
    field_simp
    ring
  rw [hx, Real.exp_sub, Real.exp_log hl, p, e, if_pos h]

/-- The row's inner product of the gradient of the output with the output is the row's mean of the gradient of the
    probabilities. -/
theorem sum_G_o (i : Fin 2048) : ∑ d, A.G i d * A.o i d = ∑ k, A.p i k * A.dp i k := by
  simp only [o, dp, Finset.mul_sum]
  rw [Finset.sum_comm]
  refine Finset.sum_congr rfl fun k _ => Finset.sum_congr rfl fun d _ => ?_
  ring

end Attn

/-- The lanes of the values that head `half` of a block owns. -/
def lane (half : Fin 2) (d : Fin 64) : Fin 128 := ⟨half.val * 64 + d.val, by omega⟩

theorem lane_inj (half : Fin 2) {d d' : Fin 64} (h : lane half d = lane half d') : d = d' := by
  have := congrArg Fin.val h
  exact Fin.ext (by simp only [lane] at this; omega)

/-- A sum over the lanes of what vanishes off a head's own lanes is the sum over its own lanes. -/
theorem sum_lanes (half : Fin 2) (own : Fin 128 → Bool) (hown : ∀ l, own l = true ↔ ∃ d, l = lane half d)
    (f : Fin 128 → EReal) : ∑ l, (if own l then f l else 0) = ∑ d, f (lane half d) := by
  rw [← Finset.sum_filter]
  symm
  refine Finset.sum_bij (fun d _ => lane half d) ?_ ?_ ?_ ?_
  · intro d _
    exact Finset.mem_filter.mpr ⟨Finset.mem_univ _, (hown _).mpr ⟨d, rfl⟩⟩
  · intro d _ d' _ h
    exact lane_inj half h
  · intro l hl
    obtain ⟨d, rfl⟩ := (hown l).mp (Finset.mem_filter.mp hl).2
    exact ⟨d, Finset.mem_univ _, rfl⟩
  · intro d _
    rfl

/-- What the kernel has of the head is the head: its entries are real, and the saved output and logarithm are the
    head's. -/
structure Holds (H : Head) (A : Attn) (half : Fin 2) : Prop where
  own : ∀ l, H.own l = true ↔ ∃ d, l = lane half d
  q : ∀ i d, H.q i d = (A.Q i d : EReal)
  k : ∀ i d, H.k i d = (A.K i d : EReal)
  v : ∀ i d, H.v i (lane half d) = (A.V i d : EReal)
  g : ∀ i d, H.g i (lane half d) = (A.G i d : EReal)
  o : ∀ i d, H.o i (lane half d) = (A.o i d : EReal)
  lse : ∀ i, H.lse i = (A.lse i : EReal)

namespace Holds

variable {H : Head} {A : Attn} {half : Fin 2} (h : Holds H A half)
include h

theorem prob (i j : Fin 2048) : H.prob i j = (A.p i j : EReal) := by
  by_cases hij : j ≤ i
  · rw [H.prob_of_le hij, A.p_eq hij, h.lse]
    simp only [h.q, h.k, ← EReal.coe_mul, coe_sum, ← EReal.coe_sub]
    rfl
  · rw [H.prob_of_lt (not_le.mp hij), Attn.p, Attn.e, if_neg hij, zero_div, EReal.coe_zero]

theorem corr (i : Fin 2048) : H.corr i = ((∑ k, A.p i k * A.dp i k : ℝ) : EReal) := by
  have h0 : H.corr i = ∑ l, (if H.own l then H.g i l * H.o i l else 0) := by
    refine Finset.sum_congr rfl fun l _ => ?_
    simp only [Head.og]
    split <;> simp
  rw [h0, sum_lanes half H.own h.own, ← A.sum_G_o]
  simp only [h.g, h.o, ← EReal.coe_mul, coe_sum]

theorem dp (i j : Fin 2048) : ∑ d, H.og i d * H.v j d = (A.dp i j : EReal) := by
  have h0 : ∑ d, H.og i d * H.v j d = ∑ l, (if H.own l then H.g i l * H.v j l else 0) := by
    refine Finset.sum_congr rfl fun l _ => ?_
    simp only [Head.og]
    split <;> simp
  rw [h0, sum_lanes half H.own h.own]
  simp only [h.g, h.v, ← EReal.coe_mul, coe_sum, Attn.dp]

theorem ds (i j : Fin 2048) : H.ds i j = (A.ds i j : EReal) := by
  rw [Head.ds, h.prob, h.dp, h.corr, scaleE_eq, ← EReal.coe_sub, ← EReal.coe_mul, ← EReal.coe_mul, Attn.ds]

/-- The kernel's gradient of the queries is the head's. -/
theorem dq (i : Fin 2048) (d : Fin 128) : H.dq i d = (A.dq i d : EReal) := by
  simp only [Head.dq, h.ds, h.k, ← EReal.coe_mul, coe_sum, Attn.dq]

/-- The kernel's gradient of the keys is the head's. -/
theorem dk (j : Fin 2048) (d : Fin 128) : H.dk j d = (A.dk j d : EReal) := by
  simp only [Head.dk, h.ds, h.q, ← EReal.coe_mul, coe_sum, Attn.dk, mul_comm]

/-- The kernel's gradient of the values is the head's on the head's own lanes. -/
theorem dv_own (j : Fin 2048) (d : Fin 64) : H.dv j (lane half d) = (A.dv j d : EReal) := by
  have ho : H.own (lane half d) = true := (h.own _).mpr ⟨d, rfl⟩
  simp only [Head.dv, Head.og, ho, if_true, h.g, h.prob, ← EReal.coe_mul, coe_sum, Attn.dv]

/-- It is zero on the other lanes. -/
theorem dv_other (j : Fin 2048) (l : Fin 128) (hl : H.own l = false) : H.dv j l = 0 := by
  simp [Head.dv, Head.og, hl]

end Holds

end Cert.Proof.LatentBwd

end
-- ==== Proof.Ref.lean ====
/-
  What the reference computes of one attention head of one batch row, at arguments all of whose entries are real.

  Head `h` of batch row `b` is rows `2048 b …` of the arguments, and their lanes `128 h …` (queries and keys) or
  `64 h …` (values and the gradient of the output). The number each row's exponentials are taken relative to is the
  row's largest score, which is real because the query's own key is never masked.
-/
module

public import proofs.«01_k».proof.Proof.Attn
public import proofs.«01_k».proof.Proof.Gen.ReferenceIdeal.Read
public import Idealize.ShloMosaic.Lib.WordCmp

@[expose] public section

set_option maxRecDepth 16384

noncomputable section

namespace Cert.Proof.LatentBwd

open Cert.ReferenceIdeal Cert.ReferenceIdeal.Gen Cert.ReferenceIdeal.Read Idealize.ShloMosaic Idealize.ShloMosaic.ValueIdx
open scoped BigOperators

/-- Position `i` of batch row `b`. -/
def row (b : Fin 4) (i : Fin 2048) : Fin 8192 := ⟨b.val * 2048 + i.val, by omega⟩
/-- Lane `d` of head `h` of the queries and the keys. -/
def qlane (h : Fin 8) (d : Fin 128) : Fin 1024 := ⟨h.val * 128 + d.val, by omega⟩
/-- Lane `d` of head `h` of the values. -/
def vlane (h : Fin 8) (d : Fin 64) : Fin 512 := ⟨h.val * 64 + d.val, by omega⟩

/-- Every entry is real. -/
def IsReal {s : Shape} (x : s.Idx → EReal) : Prop := ∀ i, x i = ((x i).toReal : EReal)

theorem ofBits_neg_inf : Ideal.ofBits .f32 0xFF800000#32 = ⊥ := by simp [Ideal.ofBits, Ideal.ieee]
theorem ofBits_one : Ideal.ofBits .f32 0x3F800000#32 = ((1 : ℝ) : EReal) := by
  simp [Ideal.ofBits, Ideal.ieee, -EReal.coe_mul]
  norm_num
theorem ofBits_zero : Ideal.ofBits .f32 0x00000000#32 = ((0 : ℝ) : EReal) := by
  simp [Ideal.ofBits, Ideal.ieee]

variable (x0 x1 : (⟨S8192x1024, .bf16⟩ : BufTy).Contents (Elt Ideal)) (x2 : (⟨S8192x512, .bf16⟩ : BufTy).Contents (Elt Ideal))
  (x3 : (⟨S8192x512, .f32⟩ : BufTy).Contents (Elt Ideal))

/-- Head `h` of batch row `b`. -/
def headAt (b : Fin 4) (h : Fin 8) : Attn where
  Q i d := (x0 (ix2 (row b i) (qlane h d)) : EReal).toReal
  K i d := (x1 (ix2 (row b i) (qlane h d)) : EReal).toReal
  V i d := (x2 (ix2 (row b i) (vlane h d)) : EReal).toReal
  G i d := (x3 (ix2 (row b i) (vlane h d)) : EReal).toReal
  M i := (val_main_v17 (F := Ideal) x0 x1 (ix3 b h i) : EReal).toReal

theorem v3_at (b : Fin 4) (i : Fin 2048) (h : Fin 8) (d : Fin 128) :
    val_main_v3 (F := Ideal) x0 (ix4 b i h d) = x0 (ix2 (row b i) (qlane h d)) := by
  rw [val_main_v3_apply, val_main_v2_apply]
  refine congrArg x0 (funext fun a => Fin.ext ?_)
  match a with
  | ⟨0, _⟩ => show (((b.val * 2048 + i.val) * 8 + h.val) * 128 + d.val) / 1024 = b.val * 2048 + i.val; omega
  | ⟨1, _⟩ => show (((b.val * 2048 + i.val) * 8 + h.val) * 128 + d.val) % 1024 = h.val * 128 + d.val; omega

theorem v5_at (b : Fin 4) (i : Fin 2048) (h : Fin 8) (d : Fin 128) :
    val_main_v5 (F := Ideal) x1 (ix4 b i h d) = x1 (ix2 (row b i) (qlane h d)) := by
  rw [val_main_v5_apply, val_main_v4_apply]
  refine congrArg x1 (funext fun a => Fin.ext ?_)
  match a with
  | ⟨0, _⟩ => show (((b.val * 2048 + i.val) * 8 + h.val) * 128 + d.val) / 1024 = b.val * 2048 + i.val; omega
  | ⟨1, _⟩ => show (((b.val * 2048 + i.val) * 8 + h.val) * 128 + d.val) % 1024 = h.val * 128 + d.val; omega

theorem v1_at (b : Fin 4) (i : Fin 2048) (h : Fin 8) (d : Fin 64) :
    val_main_v1 (F := Ideal) x2 (ix4 b i h d) = x2 (ix2 (row b i) (vlane h d)) := by
  rw [val_main_v1_apply, val_main_v0_apply]
  refine congrArg x2 (funext fun a => Fin.ext ?_)
  match a with
  | ⟨0, _⟩ => show (((b.val * 2048 + i.val) * 8 + h.val) * 64 + d.val) / 512 = b.val * 2048 + i.val; omega
  | ⟨1, _⟩ => show (((b.val * 2048 + i.val) * 8 + h.val) * 64 + d.val) % 512 = h.val * 64 + d.val; omega

theorem v49_at (b : Fin 4) (h : Fin 8) (d : Fin 64) (i : Fin 2048) :
    val_main_v49 (F := Ideal) x3 (ix4 b h d i) = x3 (ix2 (row b i) (vlane h d)) := by
  rw [val_main_v49_apply, val_main_v48_apply]
  refine congrArg x3 (funext fun a => Fin.ext ?_)
  match a with
  | ⟨0, _⟩ => show (((b.val * 2048 + i.val) * 8 + h.val) * 64 + d.val) / 512 = b.val * 2048 + i.val; omega
  | ⟨1, _⟩ => show (((b.val * 2048 + i.val) * 8 + h.val) * 64 + d.val) % 512 = h.val * 64 + d.val; omega

/-- The mask keeps the keys up to the query. -/
theorem v16_1_at (b : Fin 4) (h : Fin 8) (i j : Fin 2048) :
    val_main_v16_1 (F := Ideal) (ix4 b h i j) = BitVec.ofBool (decide (j ≤ i)) := by
  rw [val_main_v16_1_apply, val_main_v15_apply, val_main_v14_apply, val_main_v12_apply, val_main_v10_apply,
    val_main_v13_apply, val_main_v11_apply, val_main_v9_apply, val_main_v9_apply]
  show IntOp.cmpi .sle (BitVec.ofNat 32 j.val) (BitVec.ofNat 32 i.val) = _
  rw [WordCmp.cmpi_sle_ofNat (by have := j.isLt; omega) (by have := i.isLt; omega)]
  rfl

/-- The reference takes the larger of the row's largest score and minus infinity, which is the former. -/
theorem v24_eq :
    val_main_v24 (F := Ideal) x0 x1 = val_main_v17 (F := Ideal) x0 x1 := by
  funext y
  rw [val_main_v24_apply, val_main_v23_apply, val_main_cst_3_apply]
  show max (Ideal.ofBits .f32 0xFF800000#32) _ = _
  rw [ofBits_neg_inf]
  exact max_eq_right bot_le

variable {x0 x1 x2 x3}
variable (h0 : IsReal x0) (h1 : IsReal x1) (h2 : IsReal x2) (h3 : IsReal x3)

section
include h0 h1

theorem v8_at (b : Fin 4) (h : Fin 8) (i j : Fin 2048) :
    val_main_v8 (F := Ideal) x0 x1 (ix4 b h i j) = ((headAt x0 x1 x2 x3 b h).s i j : EReal) := by
  rw [val_main_v8_apply, val_main_v6_apply, val_main_v7_apply, val_main_cst_apply]
  have e1 : ∀ d : Fin 128, val_main_v3 (F := Ideal) x0 (lidx_main_v6 (ix4 b h i j) d) * val_main_v5 (F := Ideal) x1 (ridx_main_v6 (ix4 b h i j) d)
      = (((headAt x0 x1 x2 x3 b h).Q i d * (headAt x0 x1 x2 x3 b h).K j d : ℝ) : EReal) := fun d => by
    have ha : lidx_main_v6 (ix4 b h i j) d = ix4 b i h d := eq_ix4 _
    have hb : ridx_main_v6 (ix4 b h i j) d = ix4 b j h d := eq_ix4 _
    rw [ha, hb, v3_at, v5_at, h0, h1, EReal.coe_mul]
    rfl
  rw [Finset.sum_congr rfl fun d _ => e1 d, coe_sum]
  show _ * scaleE = _
  rw [scaleE_eq, ← EReal.coe_mul]
  rfl

/-- A masked score. -/
theorem v16_0_at (b : Fin 4) (h : Fin 8) (i j : Fin 2048) :
    val_main_v16_0 (F := Ideal) x0 x1 (ix4 b h i j)
      = if j ≤ i then ((headAt x0 x1 x2 x3 b h).s i j : EReal) else ⊥ := by
  rw [val_main_v16_0_apply, v16_1_at, v8_at (x2 := x2) (x3 := x3) h0 h1, val_main_call0_v2_apply,
    val_main_call0_v0_apply, val_main_cst_0_apply]
  by_cases hij : j ≤ i
  · rw [if_pos hij, decide_eq_true hij]; rfl
  · rw [if_neg hij, decide_eq_false hij]; exact ofBits_neg_inf

/-- The row's largest score is real. -/
theorem v17_at (b : Fin 4) (h : Fin 8) (i : Fin 2048) :
    val_main_v17 (F := Ideal) x0 x1 (ix3 b h i) = ((headAt x0 x1 x2 x3 b h).M i : EReal) := by
  have hf : val_main_v17 (F := Ideal) x0 x1 (ix3 b h i)
      = (Finset.univ : Finset (Fin 2048)).fold max ⊥ fun j => if j ≤ i then ((headAt x0 x1 x2 x3 b h).s i j : EReal) else ⊥ := by
    unfold val_main_v17
    refine (Host.reduce_eq_fold_single (FloatOps.maximumf (F := Ideal) (φ := .f32)) _ _
      reducesTo_S4x8x2048x2048_S4x8x2048_d3 (by decide) h_S_ _).trans ?_
    have hb : val_main_cst_1 (F := Ideal) (Shape.Idx.first h_S_) = ⊥ := ofBits_neg_inf
    rw [hb]
    refine Finset.fold_congr fun j _ => ?_
    refine Eq.trans (congrArg (val_main_v16_0 (F := Ideal) x0 x1) ?_) (v16_0_at (x2 := x2) (x3 := x3) h0 h1 b h i j)
    exact funext fun a => Fin.ext (by match a with | ⟨0, _⟩ => rfl | ⟨1, _⟩ => rfl | ⟨2, _⟩ => rfl | ⟨3, _⟩ => rfl)
  have ht : val_main_v17 (F := Ideal) x0 x1 (ix3 b h i) ≠ ⊤ := by
    rw [hf]
    refine ne_of_lt ((Finset.fold_max_lt _).mpr ⟨bot_lt_top, fun j _ => ?_⟩)
    split
    · exact EReal.coe_lt_top _
    · exact bot_lt_top
  have hb : val_main_v17 (F := Ideal) x0 x1 (ix3 b h i) ≠ ⊥ := by
    rw [hf]
    refine ne_of_gt (lt_of_lt_of_le (EReal.bot_lt_coe ((headAt x0 x1 x2 x3 b h).s i i))
      ((Finset.le_fold_max _).mpr (Or.inr ⟨i, Finset.mem_univ _, ?_⟩)))
    exact le_of_eq (if_pos (le_refl i)).symm
  have hM : (headAt x0 x1 x2 x3 b h).M i = EReal.toReal (val_main_v17 (F := Ideal) x0 x1 (ix3 b h i)) := by
    simp only [headAt]
  rw [hM, EReal.coe_toReal ht hb]

theorem v35_at (b : Fin 4) (h : Fin 8) (i j : Fin 2048) :
    val_main_v35 (F := Ideal) x0 x1 (ix4 b h i j) = ((headAt x0 x1 x2 x3 b h).M i : EReal) := by
  have ha : idx_main_v34 (idx_main_v35 (ix4 b h i j)) = ix3 b h i := eq_ix3 _
  rw [val_main_v35_apply, val_main_v34_apply, ha, v24_eq, v17_at (x2 := x2) (x3 := x3) h0 h1]

/-- An exponential. -/
theorem v37_at (b : Fin 4) (h : Fin 8) (i j : Fin 2048) :
    val_main_v37 (F := Ideal) x0 x1 (ix4 b h i j) = ((headAt x0 x1 x2 x3 b h).e i j : EReal) := by
  rw [val_main_v37_apply, val_main_v36_apply, v16_0_at (x2 := x2) (x3 := x3) h0 h1, v35_at (x2 := x2) (x3 := x3) h0 h1]
  show Ideal.exp ((if j ≤ i then _ else _) - _) = _
  unfold Attn.e
  by_cases hij : j ≤ i
  · rw [if_pos hij, if_pos hij, ← EReal.coe_sub, Ideal.exp_coe]
  · rw [if_neg hij, if_neg hij, EReal.bot_sub, Ideal.exp_bot, EReal.coe_zero]

/-- A row's sum of exponentials. -/
theorem v38_at (b : Fin 4) (h : Fin 8) (i : Fin 2048) :
    val_main_v38 (F := Ideal) x0 x1 (ix3 b h i) = ((headAt x0 x1 x2 x3 b h).l i : EReal) := by
  rw [val_main_v38_apply]
  have e1 : ∀ j : Fin 2048, val_main_v37 (F := Ideal) x0 x1 (idx_main_v38 (ix3 b h i) j) = ((headAt x0 x1 x2 x3 b h).e i j : EReal) := fun j => by
    have ha : idx_main_v38 (ix3 b h i) j = ix4 b h i j := eq_ix4 _
    rw [ha, v37_at (x2 := x2) (x3 := x3) h0 h1]
  rw [Finset.sum_congr rfl fun j _ => e1 j, coe_sum]
  show Ideal.ofBits .f32 0x00000000#32 + _ = _
  rw [ofBits_zero, ← EReal.coe_add, zero_add]
  rfl

theorem v39_at (b : Fin 4) (h : Fin 8) (i : Fin 2048) (z : Fin 1) :
    val_main_v39 (F := Ideal) x0 x1 (ix4 b h i z) = ((headAt x0 x1 x2 x3 b h).l i : EReal) := by
  have ha : idx_main_v39 (ix4 b h i z) = ix3 b h i := eq_ix3 _
  rw [val_main_v39_apply, ha, v38_at (x2 := x2) (x3 := x3) h0 h1]

/-- A probability. -/
theorem v41_at (b : Fin 4) (h : Fin 8) (i j : Fin 2048) :
    val_main_v41 (F := Ideal) x0 x1 (ix4 b h i j) = ((headAt x0 x1 x2 x3 b h).p i j : EReal) := by
  have ha : idx_main_v40 (ix4 b h i j) = ix4 b h i 0 := eq_ix4 _
  rw [val_main_v41_apply, val_main_v40_apply, ha, v39_at (x2 := x2) (x3 := x3) h0 h1, v37_at (x2 := x2) (x3 := x3) h0 h1,
    Ideal.hostDivf_def, Ideal.div_coe ((headAt x0 x1 x2 x3 b h).l_pos i).ne', ← EReal.coe_mul, mul_one_div]
  rfl

/-- The reciprocal of the square of a row's sum of exponentials. -/
theorem v44_at (b : Fin 4) (h : Fin 8) (i : Fin 2048) (z : Fin 1) :
    val_main_v44 (F := Ideal) x0 x1 (ix4 b h i z)
      = ((1 / ((headAt x0 x1 x2 x3 b h).l i * (headAt x0 x1 x2 x3 b h).l i) : ℝ) : EReal) := by
  have hl := ((headAt x0 x1 x2 x3 b h).l_pos i).ne'
  rw [val_main_v44_apply, val_main_v43_apply, val_main_cst_10_apply, val_main_v42_apply,
    v39_at (x2 := x2) (x3 := x3) h0 h1, Ideal.mulf_def, ← EReal.coe_mul, Ideal.hostDivf_def, Ideal.div_coe (mul_ne_zero hl hl)]
  show Ideal.ofBits .f32 0x3F800000#32 * _ = _
  rw [ofBits_one, ← EReal.coe_mul, one_mul]

end

section
include h2 h3

/-- The gradient of a probability. -/
theorem v50_at (b : Fin 4) (h : Fin 8) (i j : Fin 2048) :
    val_main_v50 (F := Ideal) x2 x3 (ix4 b h i j) = ((headAt x0 x1 x2 x3 b h).dp i j : EReal) := by
  rw [val_main_v50_apply]
  have e1 : ∀ d : Fin 64, val_main_v49 (F := Ideal) x3 (lidx_main_v50 (ix4 b h i j) d) * val_main_v1 (F := Ideal) x2 (ridx_main_v50 (ix4 b h i j) d)
      = (((headAt x0 x1 x2 x3 b h).G i d * (headAt x0 x1 x2 x3 b h).V j d : ℝ) : EReal) := fun d => by
    have ha : lidx_main_v50 (ix4 b h i j) d = ix4 b h d i := eq_ix4 _
    have hb : ridx_main_v50 (ix4 b h i j) d = ix4 b j h d := eq_ix4 _
    rw [ha, hb, v49_at, v1_at, h3, h2, EReal.coe_mul]
    rfl
  rw [Finset.sum_congr rfl fun d _ => e1 d, coe_sum]
  rfl

end

section
include h0 h1 h2 h3

/-- The row's sum in the softmax's derivative. -/
theorem v56_at (b : Fin 4) (h : Fin 8) (i : Fin 2048) :
    val_main_v56 (F := Ideal) x0 x1 x2 x3 (ix3 b h i)
      = ((∑ k, (headAt x0 x1 x2 x3 b h).dp i k * (1 / ((headAt x0 x1 x2 x3 b h).l i * (headAt x0 x1 x2 x3 b h).l i))
          * (headAt x0 x1 x2 x3 b h).e i k : ℝ) : EReal) := by
  rw [val_main_v56_apply]
  have e1 : ∀ j : Fin 2048, val_main_v55 (F := Ideal) x0 x1 x2 x3 (idx_main_v56 (ix3 b h i) j)
      = (((headAt x0 x1 x2 x3 b h).dp i j * (1 / ((headAt x0 x1 x2 x3 b h).l i * (headAt x0 x1 x2 x3 b h).l i))
          * (headAt x0 x1 x2 x3 b h).e i j : ℝ) : EReal) := fun j => by
    have ha : idx_main_v56 (ix3 b h i) j = ix4 b h i j := eq_ix4 _
    have hb : idx_main_v53 (ix4 b h i j) = ix4 b h i 0 := eq_ix4 _
    rw [ha, val_main_v55_apply, val_main_v54_apply, val_main_v53_apply, hb, v44_at (x2 := x2) (x3 := x3) h0 h1,
      v50_at (x0 := x0) (x1 := x1) h2 h3, v37_at (x2 := x2) (x3 := x3) h0 h1, Ideal.mulf_def, Ideal.mulf_def,
      ← EReal.coe_mul, ← EReal.coe_mul]
  rw [Finset.sum_congr rfl fun j _ => e1 j, coe_sum]
  show Ideal.ofBits .f32 0x00000000#32 + _ = _
  rw [ofBits_zero, ← EReal.coe_add, zero_add]

theorem v62_at (b : Fin 4) (h : Fin 8) (i j : Fin 2048) :
    val_main_v62 (F := Ideal) x0 x1 x2 x3 (ix4 b h i j)
      = ((-∑ k, (headAt x0 x1 x2 x3 b h).dp i k * (1 / ((headAt x0 x1 x2 x3 b h).l i * (headAt x0 x1 x2 x3 b h).l i))
          * (headAt x0 x1 x2 x3 b h).e i k : ℝ) : EReal) := by
  have ha : idx_main_v62 (ix4 b h i j) = ix3 b h i := eq_ix3 _
  have hc : idx_main_v57 (idx_main_v61 (ix3 b h i) 0) = ix3 b h i := by
    refine funext fun a => Fin.ext ?_
    have e0 : (ix3 b h i 0).val = b.val := rfl
    have e1 : (ix3 b h i 1).val = h.val := rfl
    have e2 : (ix3 b h i 2).val = i.val := rfl
    have := b.isLt; have := h.isLt; have := i.isLt
    match a with
    | ⟨0, _⟩ => show _ = b.val; simp [e0, e1, e2]; omega
    | ⟨1, _⟩ => show _ = h.val; simp [e0, e1, e2]; omega
    | ⟨2, _⟩ => show _ = i.val; simp [e0, e1, e2]
  rw [val_main_v62_apply, ha, val_main_v61_apply, Fin.sum_univ_one, val_main_v58_apply, val_main_v57_apply, hc,
    v56_at h0 h1 h2 h3]
  show Ideal.ofBits .f32 0x00000000#32 + -_ = _
  rw [ofBits_zero, EReal.coe_zero, zero_add, ← EReal.coe_neg]

/-- The gradient of a scaled score. -/
theorem v67_at (b : Fin 4) (h : Fin 8) (i j : Fin 2048) :
    val_main_v67 (F := Ideal) x0 x1 x2 x3 (ix4 b h i j) = ((headAt x0 x1 x2 x3 b h).ds i j : EReal) := by
  have hl := ((headAt x0 x1 x2 x3 b h).l_pos i).ne'
  have hb : idx_main_v59 (ix4 b h i j) = ix4 b h i 0 := eq_ix4 _
  rw [val_main_v67_apply, val_main_v66_apply, val_main_cst_13_apply, val_main_v65_apply, v16_1_at, val_main_call1_v0_apply,
    val_main_call1_cst_apply, val_main_v64_apply, val_main_v63_apply, v62_at h0 h1 h2 h3, val_main_v60_apply,
    val_main_v59_apply, hb, v39_at (x2 := x2) (x3 := x3) h0 h1, v50_at (x0 := x0) (x1 := x1) h2 h3,
    v37_at (x2 := x2) (x3 := x3) h0 h1, Ideal.hostDivf_def, Ideal.div_coe hl, ← EReal.coe_mul, Ideal.addf_def,
    ← EReal.coe_add, Ideal.mulf_def, Ideal.mulf_def, ← EReal.coe_mul]
  show (Scalar.select _ _ (Ideal.ofBits .f32 0x00000000#32)) * scaleE = _
  rw [scaleE_eq, ofBits_zero]
  by_cases hij : j ≤ i
  · rw [decide_eq_true hij]
    show ((_ : ℝ) : EReal) * _ = _
    rw [← EReal.coe_mul]
    refine congrArg _ ?_
    unfold Attn.ds
    have hs : ∑ k, (headAt x0 x1 x2 x3 b h).dp i k * (1 / ((headAt x0 x1 x2 x3 b h).l i * (headAt x0 x1 x2 x3 b h).l i))
          * (headAt x0 x1 x2 x3 b h).e i k
        = (∑ k, (headAt x0 x1 x2 x3 b h).p i k * (headAt x0 x1 x2 x3 b h).dp i k) / (headAt x0 x1 x2 x3 b h).l i := by
      rw [Finset.sum_div]
      refine Finset.sum_congr rfl fun k _ => ?_
      unfold Attn.p
      field_simp
    rw [hs]
    unfold Attn.p
    field_simp
    ring
  · rw [decide_eq_false hij]
    show ((0 : ℝ) : EReal) * _ = _
    rw [← EReal.coe_mul, zero_mul]
    simp [Attn.ds, Attn.p, Attn.e, hij]

/-- The reference's gradient of the queries. -/
theorem v75_at (b : Fin 4) (h : Fin 8) (i : Fin 2048) (d : Fin 128) :
    val_main_v75 (F := Ideal) x0 x1 x2 x3 (ix2 (row b i) (qlane h d)) = ((headAt x0 x1 x2 x3 b h).dq i d : EReal) := by
  have ha : idx_main_v71 (idx_main_v74 (ix2 (row b i) (qlane h d))) = ix4 b h i d := by
    refine funext fun a => Fin.ext ?_
    have := b.isLt; have := h.isLt; have := i.isLt; have := d.isLt
    match a with
    | ⟨0, _⟩ => show _ = b.val; simp [row, qlane]; omega
    | ⟨1, _⟩ => show _ = h.val; simp [row, qlane]; omega
    | ⟨2, _⟩ => show _ = i.val; simp [row, qlane]; omega
    | ⟨3, _⟩ => show _ = d.val; simp [row, qlane]; omega
  rw [val_main_v75_apply, val_main_v74_apply, val_main_v71_apply, ha, val_main_v70_apply]
  have e1 : ∀ j : Fin 2048, val_main_v67 (F := Ideal) x0 x1 x2 x3 (lidx_main_v70 (ix4 b h i d) j) * val_main_v5 (F := Ideal) x1 (ridx_main_v70 (ix4 b h i d) j)
      = (((headAt x0 x1 x2 x3 b h).ds i j * (headAt x0 x1 x2 x3 b h).K j d : ℝ) : EReal) := fun j => by
    have hc : lidx_main_v70 (ix4 b h i d) j = ix4 b h i j := eq_ix4 _
    have hb : ridx_main_v70 (ix4 b h i d) j = ix4 b j h d := eq_ix4 _
    rw [hc, hb, v67_at h0 h1 h2 h3, v5_at, h1, EReal.coe_mul]
    rfl
  rw [Finset.sum_congr rfl fun j _ => e1 j, coe_sum]
  rfl

/-- The reference's gradient of the keys. -/
theorem v73_at (b : Fin 4) (h : Fin 8) (j : Fin 2048) (d : Fin 128) :
    val_main_v73 (F := Ideal) x0 x1 x2 x3 (ix2 (row b j) (qlane h d)) = ((headAt x0 x1 x2 x3 b h).dk j d : EReal) := by
  have ha : idx_main_v69 (idx_main_v72 (ix2 (row b j) (qlane h d))) = ix4 b h j d := by
    refine funext fun a => Fin.ext ?_
    have := b.isLt; have := h.isLt; have := j.isLt; have := d.isLt
    match a with
    | ⟨0, _⟩ => show _ = b.val; simp [row, qlane]; omega
    | ⟨1, _⟩ => show _ = h.val; simp [row, qlane]; omega
    | ⟨2, _⟩ => show _ = j.val; simp [row, qlane]; omega
    | ⟨3, _⟩ => show _ = d.val; simp [row, qlane]; omega
  rw [val_main_v73_apply, val_main_v72_apply, val_main_v69_apply, ha, val_main_v68_apply]
  have e1 : ∀ i : Fin 2048, val_main_v67 (F := Ideal) x0 x1 x2 x3 (lidx_main_v68 (ix4 b h j d) i) * val_main_v3 (F := Ideal) x0 (ridx_main_v68 (ix4 b h j d) i)
      = (((headAt x0 x1 x2 x3 b h).ds i j * (headAt x0 x1 x2 x3 b h).Q i d : ℝ) : EReal) := fun i => by
    have hc : lidx_main_v68 (ix4 b h j d) i = ix4 b h i j := eq_ix4 _
    have hb : ridx_main_v68 (ix4 b h j d) i = ix4 b i h d := eq_ix4 _
    rw [hc, hb, v67_at h0 h1 h2 h3, v3_at, h0, EReal.coe_mul]
    rfl
  rw [Finset.sum_congr rfl fun j _ => e1 j, coe_sum]
  rfl

omit h2 in
/-- The reference's gradient of the values. -/
theorem v77_at (b : Fin 4) (h : Fin 8) (j : Fin 2048) (d : Fin 64) :
    val_main_v77 (F := Ideal) x0 x1 x3 (ix2 (row b j) (vlane h d)) = ((headAt x0 x1 x2 x3 b h).dv j d : EReal) := by
  have ha : idx_main_v52 (idx_main_v76 (ix2 (row b j) (vlane h d))) = ix4 b h d j := by
    refine funext fun a => Fin.ext ?_
    have := b.isLt; have := h.isLt; have := j.isLt; have := d.isLt
    match a with
    | ⟨0, _⟩ => show _ = b.val; simp [row, vlane]; omega
    | ⟨1, _⟩ => show _ = h.val; simp [row, vlane]; omega
    | ⟨2, _⟩ => show _ = d.val; simp [row, vlane]; omega
    | ⟨3, _⟩ => show _ = j.val; simp [row, vlane]; omega
  rw [val_main_v77_apply, val_main_v76_apply, val_main_v52_apply, ha, val_main_v51_apply]
  have e1 : ∀ i : Fin 2048, val_main_v49 (F := Ideal) x3 (lidx_main_v51 (ix4 b h d j) i) * val_main_v41 (F := Ideal) x0 x1 (ridx_main_v51 (ix4 b h d j) i)
      = (((headAt x0 x1 x2 x3 b h).G i d * (headAt x0 x1 x2 x3 b h).p i j : ℝ) : EReal) := fun i => by
    have hc : lidx_main_v51 (ix4 b h d j) i = ix4 b h d i := eq_ix4 _
    have hb : ridx_main_v51 (ix4 b h d j) i = ix4 b h i j := eq_ix4 _
    rw [hc, hb, v49_at, v41_at (x2 := x2) (x3 := x3) h0 h1, h3, EReal.coe_mul]
    rfl
  rw [Finset.sum_congr rfl fun j _ => e1 j, coe_sum]
  rfl

/-- The forward pass's output. -/
theorem v47_at (b : Fin 4) (h : Fin 8) (i : Fin 2048) (d : Fin 64) :
    val_main_v47 (F := Ideal) x0 x1 x2 (ix2 (row b i) (vlane h d)) = ((headAt x0 x1 x2 x3 b h).o i d : EReal) := by
  have ha : idx_main_v46 (idx_main_v47 (ix2 (row b i) (vlane h d))) = ix4 b h d i := by
    refine funext fun a => Fin.ext ?_
    have := b.isLt; have := h.isLt; have := i.isLt; have := d.isLt
    match a with
    | ⟨0, _⟩ => show _ = b.val; simp [row, vlane]; omega
    | ⟨1, _⟩ => show _ = h.val; simp [row, vlane]; omega
    | ⟨2, _⟩ => show _ = d.val; simp [row, vlane]; omega
    | ⟨3, _⟩ => show _ = i.val; simp [row, vlane]; omega
  rw [val_main_v47_apply, val_main_v46_apply, ha, val_main_v45_apply]
  have e1 : ∀ j : Fin 2048, val_main_v1 (F := Ideal) x2 (lidx_main_v45 (ix4 b h d i) j) * val_main_v41 (F := Ideal) x0 x1 (ridx_main_v45 (ix4 b h d i) j)
      = (((headAt x0 x1 x2 x3 b h).V j d * (headAt x0 x1 x2 x3 b h).p i j : ℝ) : EReal) := fun j => by
    have hc : lidx_main_v45 (ix4 b h d i) j = ix4 b j h d := eq_ix4 _
    have hb : ridx_main_v45 (ix4 b h d i) j = ix4 b h i j := eq_ix4 _
    rw [hc, hb, v1_at, v41_at (x2 := x2) (x3 := x3) h0 h1, h2, EReal.coe_mul]
    rfl
  rw [Finset.sum_congr rfl fun j _ => e1 j, coe_sum]
  rfl

end

end Cert.Proof.LatentBwd

end
-- ==== Proof.Host.lean ====
/-
  What the kernel's host code hands to the kernel besides the four arguments: the forward pass's output, and the base-two
  logarithm of each row's sum of exponentials.

  The host code computes both by the operations the reference computes its forward pass by, so the output is the
  reference's term, and the logarithm is taken of the reference's row sums.
-/
module

public import proofs.«01_k».proof.Proof.Ref
public import proofs.«01_k».proof.Proof.Gen.KernelIdeal.Value
public import Idealize.ShloMosaic.Lib.Claim

@[expose] public section

set_option maxRecDepth 16384

noncomputable section

namespace Cert.Proof.LatentBwd

open Cert.KernelIdeal Cert.KernelIdeal.Gen Idealize.ShloMosaic Idealize.ShloMosaic.TcCoe Idealize.ShloMosaic.ValueIdx
open Cert.ReferenceIdeal.Read (val_main_v47 val_main_v46 val_main_v45 val_main_v41 val_main_v40 val_main_v39 val_main_v38
  val_main_v37 val_main_v36 val_main_v35 val_main_v34 val_main_v24 val_main_v17)

section
variable (m : (ℓ : Loc nD τ sig) → Buf (Elt Ideal) ℓ) (c : Dev nD)

/-- The output the kernel is handed is the reference's forward output. -/
theorem V_o : V m c main_v28 = val_main_v47 (F := Ideal) (m ((c.tc : Thread nD τ).loc main_arg0))
    (m ((c.tc : Thread nD τ).loc main_arg1)) (m ((c.tc : Thread nD τ).loc main_arg2)) := by
  unfold V
  simp only [List.flatten_cons, List.flatten_nil, List.append_nil, hostOps0, hostOps0_1, hostOps0_2, List.cons_append,
    List.nil_append]
  entry_read
  unfold val_main_v47 val_main_v46 val_main_v45 val_main_v41 val_main_v40 val_main_v39 val_main_v38 val_main_v37
    val_main_v36 val_main_v35 val_main_v34
  rw [v24_eq]
  rfl

/-- The host code's logarithms, of the rows' largest scores `x` and sums of exponentials `l`: on every lane of its head. -/
def lseOf (x l : FVec Ideal S4x8x2048x1 .f32) : FVec Ideal S8192x512 .f32 :=
  shapeCast S8192x512 (broadcastInDim S4x2048x8x64 ![0, 1, 2, 3] bcast_S4x2048x8x1_S4x2048x8x64_0_1_2_3
    (transpose S4x2048x8x1 [0, 2, 1, 3]
      (Host.divf (addf x (Host.log l)) (broadcastInDim S4x8x2048x1 ![] bcast_S_S4x8x2048x1 (Host.log (constant (F := Ideal) S_ .f32 0x40000000#32))))
      transposes_S4x8x2048x1_S4x2048x8x1_0_2_1_3)) shapeCasts_S4x2048x8x64_S8192x512

/-- The base-two logarithm of each row's sum of exponentials. -/
def hostLse (x0 x1 : (⟨S8192x1024, .bf16⟩ : BufTy).Contents (Elt Ideal)) : FVec Ideal S8192x512 .f32 :=
  lseOf (val_main_v34 (F := Ideal) x0 x1) (val_main_v39 (F := Ideal) x0 x1)

/-- The logarithms the kernel is handed. -/
theorem V_lse : V m c main_v36 = hostLse (m ((c.tc : Thread nD τ).loc main_arg0)) (m ((c.tc : Thread nD τ).loc main_arg1)) := by
  unfold V
  simp only [List.flatten_cons, List.flatten_nil, List.append_nil, hostOps0, hostOps0_1, hostOps0_2, List.cons_append,
    List.nil_append]
  entry_read
  unfold hostLse lseOf val_main_v39 val_main_v38 val_main_v37 val_main_v36 val_main_v35 val_main_v34
  rw [v24_eq]
  rfl

end

theorem ofBits_two : Ideal.ofBits .f32 0x40000000#32 = ((2 : ℝ) : EReal) := by
  simp [Ideal.ofBits, Ideal.ieee, -EReal.coe_mul]
  norm_num

/-- One of the logarithms, from the row's largest score and its sum of exponentials. -/
theorem lseOf_apply (x l : FVec Ideal S4x8x2048x1 .f32) (b : Fin 4) (h : Fin 8) (i : Fin 2048) (d : Fin 64) :
    lseOf x l (ix2 (row b i) (vlane h d))
      = Ideal.div (x (ix4 b h i 0) + Ideal.log (l (ix4 b h i 0))) (Ideal.log (Ideal.ofBits .f32 0x40000000#32)) := by
  unfold lseOf
  refine (shapeCast_apply _ _ (ix2 (row b i) (vlane h d)) (ix4 b i h d) ?_).trans ?_
  · rw [Shape.rowMajor_val_two, Shape.rowMajor_val_four]
    show ((b.val * 2048 + i.val) * 8 + h.val) * 64 + d.val = (b.val * 2048 + i.val) * 512 + (h.val * 64 + d.val)
    omega
  refine (broadcastInDim_apply _ _ _ (ix4 b i h d) (ix4 b i h 0) ?_).trans ?_
  · intro a
    match a with
    | ⟨0, _⟩ => show b.val = if (4 : Nat) = 1 then 0 else b.val; rw [if_neg (by decide)]
    | ⟨1, _⟩ => show i.val = if (2048 : Nat) = 1 then 0 else i.val; rw [if_neg (by decide)]
    | ⟨2, _⟩ => show h.val = if (8 : Nat) = 1 then 0 else h.val; rw [if_neg (by decide)]
    | ⟨3, _⟩ => show 0 = if (1 : Nat) = 1 then 0 else d.val; rw [if_pos rfl]
  refine (transpose_apply _ _ _ (ix4 b i h 0) (ix4 b h i 0) ?_).trans ?_
  · intro a
    match a with
    | ⟨0, _⟩ => rfl
    | ⟨1, _⟩ => rfl
    | ⟨2, _⟩ => rfl
    | ⟨3, _⟩ => rfl
  have hk := broadcastInDim_apply (t := S4x8x2048x1) ![] bcast_S_S4x8x2048x1 (Host.log (constant (F := Ideal) S_ .f32 0x40000000#32))
    (ix4 b h i 0) (fun a => a.elim0) (fun a => a.elim0)
  exact congrArg (Ideal.div _) hk

/-- What the kernel is handed for a row is the head's logarithm. -/
theorem hostLse_at {x0 x1 : (⟨S8192x1024, .bf16⟩ : BufTy).Contents (Elt Ideal)} {x2 : (⟨S8192x512, .bf16⟩ : BufTy).Contents (Elt Ideal)}
    {x3 : (⟨S8192x512, .f32⟩ : BufTy).Contents (Elt Ideal)} (h0 : IsReal x0) (h1 : IsReal x1)
    (b : Fin 4) (h : Fin 8) (i : Fin 2048) (d : Fin 64) :
    hostLse x0 x1 (ix2 (row b i) (vlane h d)) = ((headAt x0 x1 x2 x3 b h).lse i : EReal) := by
  have hl := (headAt x0 x1 x2 x3 b h).l_pos i
  have ha : Cert.ReferenceIdeal.Read.idx_main_v34 (ix4 b h i 0) = ix3 b h i := eq_ix3 _
  unfold hostLse Attn.lse
  rw [lseOf_apply, v39_at (x2 := x2) (x3 := x3) h0 h1, Cert.ReferenceIdeal.Read.val_main_v34_apply, ha, v24_eq,
    v17_at (x2 := x2) (x3 := x3) h0 h1, ofBits_two, Ideal.log_coe, Ideal.log_coe, if_neg (not_le.mpr hl),
    if_neg (by norm_num), ← EReal.coe_add, Ideal.div_coe (Real.log_pos one_lt_two).ne', ← EReal.coe_mul, mul_one_div]

end Cert.Proof.LatentBwd

end
-- ==== Proof.Arrays.lean ====
/-
  What a grid point reads: two heads of the reference.

  Grid point `t` works on one batch row and one pair of heads: `bp t` is the row, `2 gp t` and `2 gp t + 1` are the heads.
  Its blocks are read off the arrays the kernel is handed, so each of the block's two heads is a head of the reference.
-/
module

public import proofs.«01_k».proof.Proof.Out
public import proofs.«01_k».proof.Proof.Host
public import Idealize.ShloMosaic.Lib.Pipeline.ValueKit.Point

@[expose] public section

set_option maxRecDepth 16384

noncomputable section

namespace Cert.Proof.LatentBwd

open Cert.KernelIdeal Cert.KernelIdeal.Gen Idealize.ShloMosaic.TcCoe Idealize.ShloMosaic.ValueIdx
open Idealize.ShloMosaic hiding ix2 eq_ix2
open Cert.ReferenceIdeal.Read (val_main_v47 val_main_v73 val_main_v75 val_main_v77)

/-- The batch row of a grid point. -/
def bp (t : Fin cfg0.N) : Fin 4 := ⟨(grid0.coords t 0).val, (grid0.coords t 0).isLt⟩
/-- The pair of heads of a grid point. -/
def gp (t : Fin cfg0.N) : Fin 4 := ⟨(grid0.coords t 1).val, (grid0.coords t 1).isLt⟩
/-- Head `half` of the pair. -/
def hd (t : Fin cfg0.N) (half : Fin 2) : Fin 8 := ⟨2 * (gp t).val + half.val, by omega⟩

theorem ix0_0 : ∀ t : Fin cfg0.N, win0_0.index t = ![(bp t).val, (gp t).val] :=
  (by decide +kernel : ∀ t : Fin grid0.N, win0_0.index t = ![(grid0.coords t 0).val, (grid0.coords t 1).val])
theorem ix0_1 : ∀ t : Fin cfg0.N, win0_1.index t = ![(bp t).val, (gp t).val] :=
  (by decide +kernel : ∀ t : Fin grid0.N, win0_1.index t = ![(grid0.coords t 0).val, (grid0.coords t 1).val])
theorem ix0_2 : ∀ t : Fin cfg0.N, win0_2.index t = ![(bp t).val, (gp t).val] :=
  (by decide +kernel : ∀ t : Fin grid0.N, win0_2.index t = ![(grid0.coords t 0).val, (grid0.coords t 1).val])
theorem ix0_3 : ∀ t : Fin cfg0.N, win0_3.index t = ![(bp t).val, (gp t).val] :=
  (by decide +kernel : ∀ t : Fin grid0.N, win0_3.index t = ![(grid0.coords t 0).val, (grid0.coords t 1).val])
theorem ix0_4 : ∀ t : Fin cfg0.N, win0_4.index t = ![(bp t).val, (gp t).val] :=
  (by decide +kernel : ∀ t : Fin grid0.N, win0_4.index t = ![(grid0.coords t 0).val, (grid0.coords t 1).val])
theorem ix0_5 : ∀ t : Fin cfg0.N, win0_5.index t = ![(bp t).val, (gp t).val] :=
  (by decide +kernel : ∀ t : Fin grid0.N, win0_5.index t = ![(grid0.coords t 0).val, (grid0.coords t 1).val])
theorem ix0_6 : ∀ t : Fin cfg0.N, win0_6.index t = ![(bp t).val, (gp t).val] :=
  (by decide +kernel : ∀ t : Fin grid0.N, win0_6.index t = ![(grid0.coords t 0).val, (grid0.coords t 1).val])
theorem ix0_7 : ∀ t : Fin cfg0.N, win0_7.index t = ![(bp t).val, (gp t).val] :=
  (by decide +kernel : ∀ t : Fin grid0.N, win0_7.index t = ![(grid0.coords t 0).val, (grid0.coords t 1).val])
theorem ix0_8 : ∀ t : Fin cfg0.N, win0_8.index t = ![(bp t).val, (gp t).val] :=
  (by decide +kernel : ∀ t : Fin grid0.N, win0_8.index t = ![(grid0.coords t 0).val, (grid0.coords t 1).val])

/-- Lane `l` of a block of the queries or the keys, among all the lanes. -/
def wide (t : Fin cfg0.N) (l : Fin 256) : Fin 1024 := ⟨(gp t).val * 256 + l.val, by omega⟩
/-- Lane `l` of a block of the values, among all the lanes. -/
def narrow (t : Fin cfg0.N) (l : Fin 128) : Fin 512 := ⟨(gp t).val * 128 + l.val, by omega⟩

section
variable (m : (ℓ : Loc nD τ sig) → Buf (Elt Ideal) ℓ) (c : Dev nD) (t : Fin cfg0.N)

theorem iblk0_at (i : Fin 2048) (l : Fin 256) : iblk m c 0 t (ix2 i l) = m ((c.tc : Thread nD τ).loc main_arg0) (ix2 (row (bp t) i) (wide t l)) := by
  blk_ext [iblk, V_main_arg0, ix0_0 t, row, wide]
theorem iblk1_at (i : Fin 2048) (l : Fin 256) : iblk m c 1 t (ix2 i l) = m ((c.tc : Thread nD τ).loc main_arg1) (ix2 (row (bp t) i) (wide t l)) := by
  blk_ext [iblk, V_main_arg1, ix0_1 t, row, wide]
theorem iblk2_at (i : Fin 2048) (l : Fin 128) : iblk m c 2 t (ix2 i l) = m ((c.tc : Thread nD τ).loc main_arg2) (ix2 (row (bp t) i) (narrow t l)) := by
  blk_ext [iblk, V_main_arg2, ix0_2 t, row, narrow]
theorem iblk3_at (i : Fin 2048) (l : Fin 128) : iblk m c 3 t (ix2 i l) = m ((c.tc : Thread nD τ).loc main_arg3) (ix2 (row (bp t) i) (narrow t l)) := by
  blk_ext [iblk, V_main_arg3, ix0_3 t, row, narrow]
theorem iblk4_at (i : Fin 2048) (l : Fin 128) : iblk m c 4 t (ix2 i l) = V m c main_v28 (ix2 (row (bp t) i) (narrow t l)) := by
  generalize hV : V m c main_v28 = G
  have h : iblk m c 4 t = ((cfg0.win 4).blk t).view.read (Elt Ideal) G := by rw [← hV]; rfl
  rw [h]
  blk_ext [ix0_4 t, row, narrow]
theorem iblk5_at (i : Fin 2048) (l : Fin 128) : iblk m c 5 t (ix2 i l) = V m c main_v36 (ix2 (row (bp t) i) (narrow t l)) := by
  generalize hV : V m c main_v36 = G
  have h : iblk m c 5 t = ((cfg0.win 5).blk t).view.read (Elt Ideal) G := by rw [← hV]; rfl
  rw [h]
  blk_ext [ix0_5 t, row, narrow]
end

section
variable (m : (ℓ : Loc nD τ sig) → Buf (Elt Ideal) ℓ) (c : Dev nD)

/-- The four arguments. -/
abbrev a0 : (⟨S8192x1024, .bf16⟩ : BufTy).Contents (Elt Ideal) := m ((c.tc : Thread nD τ).loc main_arg0)
abbrev a1 : (⟨S8192x1024, .bf16⟩ : BufTy).Contents (Elt Ideal) := m ((c.tc : Thread nD τ).loc main_arg1)
abbrev a2 : (⟨S8192x512, .bf16⟩ : BufTy).Contents (Elt Ideal) := m ((c.tc : Thread nD τ).loc main_arg2)
abbrev a3 : (⟨S8192x512, .f32⟩ : BufTy).Contents (Elt Ideal) := m ((c.tc : Thread nD τ).loc main_arg3)

variable {m c} (h0 : IsReal (a0 m c)) (h1 : IsReal (a1 m c)) (h2 : IsReal (a2 m c)) (h3 : IsReal (a3 m c)) (t : Fin cfg0.N)
include h0 h1 h2 h3

/-- One head of a block, at whatever lanes it sits, is a head of the reference. -/
theorem holds_of (half : Fin 2) (s : ℕ) (hs : s + 128 ≤ 256) (es : s = half.val * 128) (ln : Fin 128) (el : ln.val = half.val * 64)
    (own : Fin 128 → Bool) (ho : ∀ l, own l = true ↔ ∃ d, l = lane half d) :
    Holds (headOf s hs ln own (iblk m c 0 t) (iblk m c 1 t) (iblk m c 2 t) (iblk m c 3 t) (iblk m c 4 t) (iblk m c 5 t))
      (headAt (a0 m c) (a1 m c) (a2 m c) (a3 m c) (bp t) (hd t half)) half := by
  have ew : ∀ d : Fin 128, wide t (⟨s + d.val, by omega⟩ : Fin 256) = qlane (hd t half) d := fun d => Fin.ext (by
    show (gp t).val * 256 + (s + d.val) = (2 * (gp t).val + half.val) * 128 + d.val
    omega)
  have en : ∀ d : Fin 64, narrow t (lane half d) = vlane (hd t half) d := fun d => Fin.ext (by
    show (gp t).val * 128 + (half.val * 64 + d.val) = (2 * (gp t).val + half.val) * 64 + d.val
    omega)
  have e0 : ln = lane half 0 := Fin.ext (by rw [el]; rfl)
  refine ⟨ho, fun i d => ?_, fun i d => ?_, fun i d => ?_, fun i d => ?_, fun i d => ?_, fun i => ?_⟩
  · refine (iblk0_at m c t i _).trans ?_
    rw [ew]
    exact h0 _
  · refine (iblk1_at m c t i _).trans ?_
    rw [ew]
    exact h1 _
  · refine (iblk2_at m c t i _).trans ?_
    rw [en]
    exact h2 _
  · refine (iblk3_at m c t i _).trans ?_
    rw [en]
    exact h3 _
  · refine (iblk4_at m c t i _).trans ?_
    rw [en, V_o]
    exact v47_at h0 h1 h2 h3 _ _ _ _
  · refine (iblk5_at m c t i _).trans ?_
    rw [e0, en, V_lse]
    exact hostLse_at h0 h1 _ _ _ _

theorem holds0 : Holds (head0 (iblk m c 0 t) (iblk m c 1 t) (iblk m c 2 t) (iblk m c 3 t) (iblk m c 4 t) (iblk m c 5 t))
    (headAt (a0 m c) (a1 m c) (a2 m c) (a3 m c) (bp t) (hd t 0)) 0 :=
  holds_of h0 h1 h2 h3 t 0 0 _ rfl _ rfl _ fun l => by
    rw [decide_eq_true_iff]
    exact ⟨fun h => ⟨⟨l.val, h⟩, Fin.ext (by show l.val = 0 * 64 + l.val; omega)⟩, fun ⟨d, e⟩ => by
      rw [e]; show 0 * 64 + d.val < 64; omega⟩

theorem holds1 : Holds (head1 (iblk m c 0 t) (iblk m c 1 t) (iblk m c 2 t) (iblk m c 3 t) (iblk m c 4 t) (iblk m c 5 t))
    (headAt (a0 m c) (a1 m c) (a2 m c) (a3 m c) (bp t) (hd t 1)) 1 :=
  holds_of h0 h1 h2 h3 t 1 128 _ rfl _ rfl _ fun l => by
    rw [decide_eq_true_iff]
    exact ⟨fun h => ⟨⟨l.val - 64, by omega⟩, Fin.ext (by show l.val = 1 * 64 + (l.val - 64); omega)⟩, fun ⟨d, e⟩ => by
      rw [e]; show 64 ≤ 1 * 64 + d.val; omega⟩

end

end Cert.Proof.LatentBwd

end
-- ==== Proof.Results.lean ====
/-
  What the kernel's three output arrays hold after the run: the reference's three results.

  The blocks of each output cover its array, and a block is what its grid point computed of its two heads.
-/
module

public import proofs.«01_k».proof.Proof.Arrays

@[expose] public section

set_option maxRecDepth 16384

noncomputable section

namespace Cert.Proof.LatentBwd

open Cert.KernelIdeal Cert.KernelIdeal.Gen Idealize.ShloMosaic.TcCoe Idealize.ShloMosaic.ValueIdx
open Idealize.ShloMosaic hiding ix2 eq_ix2
open Cert.ReferenceIdeal.Read (val_main_v73 val_main_v75 val_main_v77)

variable {m : (ℓ : Loc nD τ sig) → Buf (Elt Ideal) ℓ} {c : Dev nD}
  (h0 : IsReal (a0 m c)) (h1 : IsReal (a1 m c)) (h2 : IsReal (a2 m c)) (h3 : IsReal (a3 m c))

/-- Rows of two heads side by side are an array's, if each head's are. -/
theorem beside_eq (t : Fin cfg0.N) {f g : Fin 2048 → Fin 128 → EReal} {G : Shape.Idx S8192x1024 → EReal}
    (hf : ∀ i d, f i d = G (ix2 (row (bp t) i) (qlane (hd t 0) d))) (hg : ∀ i d, g i d = G (ix2 (row (bp t) i) (qlane (hd t 1) d)))
    (i : Fin 2048) (l : Fin 256) : beside f g i l = G (ix2 (row (bp t) i) (wide t l)) := by
  unfold beside
  split
  next h =>
    refine (hf _ _).trans (congrArg (fun z => G (ix2 _ z)) (Fin.ext ?_))
    show (2 * (gp t).val + 0) * 128 + l.val = (gp t).val * 256 + l.val
    omega
  next h =>
    refine (hg _ _).trans (congrArg (fun z => G (ix2 _ z)) (Fin.ext ?_))
    show (2 * (gp t).val + 1) * 128 + (l.val - 128) = (gp t).val * 256 + l.val
    omega

/-- The sum of two heads' rows, each zero off its own lanes, is an array's, if each head's own lanes are. -/
theorem sum_eq (t : Fin cfg0.N) {f g : Fin 2048 → Fin 128 → EReal} {G : Shape.Idx S8192x512 → EReal}
    (hf : ∀ i d, f i (lane 0 d) = G (ix2 (row (bp t) i) (vlane (hd t 0) d))) (hf0 : ∀ i (l : Fin 128), 64 ≤ l.val → f i l = 0)
    (hg : ∀ i d, g i (lane 1 d) = G (ix2 (row (bp t) i) (vlane (hd t 1) d))) (hg0 : ∀ i (l : Fin 128), l.val < 64 → g i l = 0)
    (i : Fin 2048) (l : Fin 128) : f i l + g i l = G (ix2 (row (bp t) i) (narrow t l)) := by
  by_cases h : l.val < 64
  · rw [hg0 i l h, add_zero]
    have el : l = lane 0 ⟨l.val, h⟩ := Fin.ext (by show l.val = 0 * 64 + l.val; omega)
    refine (congrArg (f i) el).trans ((hf _ _).trans (congrArg (fun z => G (ix2 _ z)) (Fin.ext ?_)))
    show (2 * (gp t).val + 0) * 64 + l.val = (gp t).val * 128 + l.val
    omega
  · rw [hf0 i l (by omega), zero_add]
    have el : l = lane 1 ⟨l.val - 64, by omega⟩ := Fin.ext (by show l.val = 1 * 64 + (l.val - 64); omega)
    refine (congrArg (g i) el).trans ((hg _ _).trans (congrArg (fun z => G (ix2 _ z)) (Fin.ext ?_)))
    show (2 * (gp t).val + 1) * 64 + (l.val - 64) = (gp t).val * 128 + l.val
    omega

include h0 h1 h2 h3

/-- The gradient of the queries. -/
theorem arr6 : (dats m 0 c).arrAt 6 cfg0.N = val_main_v75 (F := Ideal) (a0 m c) (a1 m c) (a2 m c) (a3 m c) := by
  have at_ : ∀ t : Fin cfg0.N, ∀ half i d, _ := fun t half i d => v75_at h0 h1 h2 h3 (bp t) (hd t half) i d
  generalize val_main_v75 (F := Ideal) (a0 m c) (a1 m c) (a2 m c) (a3 m c) = G at at_ ⊢
  refine (dats m 0 c).arrAt_eq_of_covers 6 G (by decide +kernel) fun t hf y => ?_
  blk_simp
  rw [after0_6]
  simp only [outsAt0]
  obtain ⟨i, l, rfl⟩ : ∃ (i : Fin 2048) (l : Fin 256), y = ix2 i l := ⟨y 0, y 1, eq_ix2 y⟩
  refine (out6_apply c _ _ _ _ _ _ _ _ _ _ _ _ _ _ _ _ _ _ _ _ _ _ _ _ _ _ _ _ _ _).trans ?_
  refine (beside_eq t (G := G) (fun i d => ((holds0 h0 h1 h2 h3 t).dq i d).trans (at_ t 0 i d).symm)
    (fun i d => ((holds1 h0 h1 h2 h3 t).dq i d).trans (at_ t 1 i d).symm) i l).trans ?_
  blk_ext [ix0_6 t, row, wide]

/-- The gradient of the keys. -/
theorem arr7 : (dats m 0 c).arrAt 7 cfg0.N = val_main_v73 (F := Ideal) (a0 m c) (a1 m c) (a2 m c) (a3 m c) := by
  have at_ : ∀ t : Fin cfg0.N, ∀ half i d, _ := fun t half i d => v73_at h0 h1 h2 h3 (bp t) (hd t half) i d
  generalize val_main_v73 (F := Ideal) (a0 m c) (a1 m c) (a2 m c) (a3 m c) = G at at_ ⊢
  refine (dats m 0 c).arrAt_eq_of_covers 7 G (by decide +kernel) fun t hf y => ?_
  blk_simp
  rw [after0_7]
  simp only [outsAt0]
  obtain ⟨i, l, rfl⟩ : ∃ (i : Fin 2048) (l : Fin 256), y = ix2 i l := ⟨y 0, y 1, eq_ix2 y⟩
  refine (out7_apply c _ _ _ _ _ _ _ _ _ _ _ _ _ _ _ _ _ _ _ _ _ _ _ _ _ _ _ _ _ _).trans ?_
  refine (beside_eq t (G := G) (fun i d => ((holds0 h0 h1 h2 h3 t).dk i d).trans (at_ t 0 i d).symm)
    (fun i d => ((holds1 h0 h1 h2 h3 t).dk i d).trans (at_ t 1 i d).symm) i l).trans ?_
  blk_ext [ix0_7 t, row, wide]

/-- The gradient of the values. -/
theorem arr8 : (dats m 0 c).arrAt 8 cfg0.N = val_main_v77 (F := Ideal) (a0 m c) (a1 m c) (a3 m c) := by
  have at_ : ∀ t : Fin cfg0.N, ∀ half i d, _ := fun t half i d => v77_at (x2 := a2 m c) h0 h1 h3 (bp t) (hd t half) i d
  generalize val_main_v77 (F := Ideal) (a0 m c) (a1 m c) (a3 m c) = G at at_ ⊢
  refine (dats m 0 c).arrAt_eq_of_covers 8 G (by decide +kernel) fun t hf y => ?_
  blk_simp
  rw [after0_8]
  simp only [outsAt0]
  obtain ⟨i, l, rfl⟩ : ∃ (i : Fin 2048) (l : Fin 128), y = ix2 i l := ⟨y 0, y 1, eq_ix2 y⟩
  refine (out8_apply c _ _ _ _ _ _ _ _ _ _ _ _ _ _ _ _ _ _ _ _ _ _ _ _ _ _ _ _ _ _).trans ?_
  refine (sum_eq t (G := G) (fun i d => ((holds0 h0 h1 h2 h3 t).dv_own i d).trans (at_ t 0 i d).symm)
    (fun i l hl => (holds0 h0 h1 h2 h3 t).dv_other i l (decide_eq_false (by omega)))
    (fun i d => ((holds1 h0 h1 h2 h3 t).dv_own i d).trans (at_ t 1 i d).symm)
    (fun i l hl => (holds1 h0 h1 h2 h3 t).dv_other i l (decide_eq_false (by omega))) i l).trans ?_
  blk_ext [ix0_8 t, row, narrow]

end Cert.Proof.LatentBwd

end
-- ==== Proof.Pre.lean ====
/-
  The precondition, read: every entry of the four arguments is a real number.
-/
module

public import proofs.«01_k».proof.Pre_finite
public import proofs.«01_k».proof.Proof.Ref
public import Idealize.ShloMosaic.Lib.ReduceAll

@[expose] public section

set_option maxRecDepth 16384

noncomputable section

namespace Cert.Proof.LatentBwd

open Cert.Pre_finite Idealize.ShloMosaic

/-- The shape relations the precondition's operations state. -/
instance factsFinite : Cert.Pre_finite.Facts where
  bitsLt_bf16_f32 := by decide
  bcast_S_S8192x1024 := by decide
  reducesTo_S8192x1024_S_d0_1 := by decide
  h_S_ := by decide
  bcast_S_S8192x512 := by decide
  reducesTo_S8192x512_S_d0_1 := by decide

theorem ofBits_inf : Ideal.ofBits .f32 0x7F800000#32 = ⊤ := by simp [Ideal.ofBits, Ideal.ieee]

/-- An extended real whose absolute value is below infinity is real. -/
theorem real_of_abs_lt {x : EReal} (h : max x (-x) < ⊤) : x = (x.toReal : EReal) := by
  refine (EReal.coe_toReal ?_ ?_).symm
  · rintro rfl; simp at h
  · rintro rfl; simp at h

/-- `|x| < ∞` throughout an array, as the precondition says it. -/
theorem isReal_of {s : Shape} (x : FVec Ideal s .f32) (inf : FVec Ideal s .f32) (hinf : ∀ i, inf i = ⊤)
    (h : ∀ i, cmpf .olt (Host.absf x) inf i = 1#1) : IsReal x := fun i => by
  have e : BitVec.ofBool (decide (max (x i) (-(x i)) < inf i)) = 1#1 := h i
  rw [hinf i] at e
  refine real_of_abs_lt ?_
  by_contra hn
  rw [decide_eq_false hn] at e
  exact absurd e (by decide)

theorem finite_real {x0 x1 : FVec Ideal S8192x1024 .bf16} {x2 : FVec Ideal S8192x512 .bf16} {x3 : FVec Ideal S8192x512 .f32}
    (h : Cert.Pre_finite.fn (F := Ideal) x0 x1 x2 x3 = fun _ => 1#1) : IsReal x0 ∧ IsReal x1 ∧ IsReal x2 ∧ IsReal x3 := by
  have hs := congrFun h (fun i : Fin 0 => i.elim0)
  dsimp only [fn, fn_part1] at hs
  obtain ⟨h012, e3⟩ := IntOp.andi_eq_one.1 hs
  obtain ⟨h01, e2⟩ := IntOp.andi_eq_one.1 h012
  obtain ⟨e0, e1⟩ := IntOp.andi_eq_one.1 h01
  have sub : Subsingleton S_.Idx := ⟨fun a b => funext fun i => i.elim0⟩
  refine ⟨isReal_of _ _ (fun _ => ofBits_inf) (Host.reduce_andi_all _ _ _ _ _ e0),
    isReal_of _ _ (fun _ => ofBits_inf) (Host.reduce_andi_all _ _ _ _ _ e1),
    isReal_of _ _ (fun _ => ofBits_inf) (Host.reduce_andi_all _ _ _ _ _ e2),
    isReal_of _ _ (fun _ => ofBits_inf) (Host.reduce_andi_all _ _ _ _ _ e3)⟩

end Cert.Proof.LatentBwd

end
-- ==== Proof.Algebraic.lean ====
/-
  The value claim: the kernel's three results are the reference's.
-/
module

public import proofs.«01_k».proof.Defs
public import proofs.«01_k».proof.Proof.Results
public import proofs.«01_k».proof.Proof.Pre
public import proofs.«01_k».proof.Proof.Gen.ReferenceIdeal.Run

@[expose] public section

set_option maxRecDepth 16384

noncomputable section

namespace Cert.Proof.LatentBwd

open Idealize.ShloMosaic Idealize.ShloMosaic.TcCoe Idealize.SL.Sem
open Cert.ReferenceIdeal.Read (val_main_v73 val_main_v75 val_main_v77 val_main_v73_eq val_main_v75_eq val_main_v77_eq)

theorem algebraic : Cert.algebraic_KernelIdeal_ReferenceIdeal_pre_finite := by
  intro m g m' g' hpre hargs
  refine ⟨fun c => val_main_v75 (F := Ideal) (a0 m c) (a1 m c) (a2 m c) (a3 m c),
    fun c => val_main_v73 (F := Ideal) (a0 m c) (a1 m c) (a2 m c) (a3 m c),
    fun c => val_main_v77 (F := Ideal) (a0 m c) (a1 m c) (a3 m c), ?_, ?_⟩
  · refine (θ_run Cert.KernelIdeal.defs _ _).mono (fun r h c => ?_) (Cert.KernelIdeal.Value.run_blocks (F := Ideal) m g)
    obtain ⟨h0, h1, h2, h3⟩ := finite_real (hpre c)
    obtain ⟨e6, e7, e8, ha⟩ := h c
    exact ⟨e6.trans (arr6 h0 h1 h2 h3), e7.trans (arr7 h0 h1 h2 h3), e8.trans (arr8 h0 h1 h2 h3), ha⟩
  · refine (θ_run Cert.ReferenceIdeal.defs _ _).mono (fun r h c => ?_) (Cert.ReferenceIdeal.Value.run (F := Ideal) m' g')
    obtain ⟨e75, e73, e77, ha⟩ := h c
    obtain ⟨g0, g1, g2, g3⟩ := hargs c
    refine ⟨e75.trans ((val_main_v75_eq m' c).trans ?_), e73.trans ((val_main_v73_eq m' c).trans ?_),
      e77.trans ((val_main_v77_eq m' c).trans ?_), ha⟩
    · rw [g0, g1, g2, g3]
    · rw [g0, g1, g2, g3]
    · rw [g0, g1, g3]

end Cert.Proof.LatentBwd

end
-- ==== Proof.FfnOut.lean ====
/-
  The feed-forward backward pass: what each grid point leaves in its outputs, as the kernel's own expressions over the
  blocks it is given.

  An even point handles the first half of the hidden lanes and an odd point the second half. Both store the two
  gradients of the gated product; an even point stores its half of the gradient of the normed input in the carried
  buffer, and an odd point adds the other half and turns the sum into the two remaining results.
-/
module

public import proofs.«01_k».proof.Proof.Gen.FfnBwdIdeal.Frame
public import Idealize.ShloMosaic.Lib.Pipeline.ValueKit.Acc
public import Idealize.ShloMosaic.Lib.Pipeline.ReadBack
public import Idealize.ShloMosaic.Lib.WholeRead
public import Idealize.ShloMosaic.Lib.ValueLayout
public import Idealize.ShloMosaic.PureOps.Ideal.Laws

@[expose] public section

set_option maxRecDepth 16384

noncomputable section

namespace Cert.Proof.FfnBwd

open Cert.FfnBwdIdeal Cert.FfnBwdIdeal.Gen Idealize.ShloMosaic Idealize.ShloMosaic.TcCoe

variable (m : (ℓ : Loc nD τ sig) → Buf (Elt Ideal) ℓ) (c : Dev nD) (t : Fin cfg0.N)

/-- One half's part of the gradient of the normed input. -/
def partOf : FVec Ideal S512x1024 .f32 :=
  k0_pay1 (F := Ideal) k0_pay9
    (k0_pay16 (k0_pay15 (iblk m c 4 t) (iblk m c 7 t) (iblk m c 2 t) (iblk m c 3 t))) (iblk m c 5 t)
    (k0_pay14 (iblk m c 4 t) (iblk m c 7 t) (iblk m c 2 t)) (iblk m c 6 t)

theorem first_dgate (h : t.val % 32 = 0) : (outsAt0 m c t.val t.isLt).2.2.1
    = k0_pay15 (F := Ideal) (iblk m c 4 t) (iblk m c 7 t) (iblk m c 2 t) (iblk m c 3 t) := by
  rw [outsAt0_A m c t (by omega) (by omega) h (by omega)]
  frame_out
theorem first_dup (h : t.val % 32 = 0) : (outsAt0 m c t.val t.isLt).2.2.2.1
    = k0_pay14 (F := Ideal) (iblk m c 4 t) (iblk m c 7 t) (iblk m c 2 t) := by
  rw [outsAt0_A m c t (by omega) (by omega) h (by omega)]
  frame_out
theorem first_dn (h : t.val % 32 = 0) : (outsAt0 m c t.val t.isLt).2.2.2.2
    = shapeCast S512x1024 (partOf m c t) shapeCasts_S512x1024_S512x1024 := by
  rw [outsAt0_A m c t (by omega) (by omega) h (by omega)]
  frame_out
  rfl
theorem first_dg (h : t.val % 32 = 0) : (outsAt0 m c t.val t.isLt).2.1 = k0_pay4 (F := Ideal) := by
  rw [outsAt0_A m c t (by omega) (by omega) h (by omega)]
  frame_out

theorem even_dgate (h : t.val % 2 = 0) (h' : ¬t.val % 32 = 0) : (outsAt0 m c t.val t.isLt).2.2.1
    = k0_pay15 (F := Ideal) (iblk m c 4 t) (iblk m c 7 t) (iblk m c 2 t) (iblk m c 3 t) := by
  rw [outsAt0_C m c t h (by omega) h' (by omega)]
  frame_out
theorem even_dup (h : t.val % 2 = 0) (h' : ¬t.val % 32 = 0) : (outsAt0 m c t.val t.isLt).2.2.2.1
    = k0_pay14 (F := Ideal) (iblk m c 4 t) (iblk m c 7 t) (iblk m c 2 t) := by
  rw [outsAt0_C m c t h (by omega) h' (by omega)]
  frame_out
theorem even_dn (h : t.val % 2 = 0) (h' : ¬t.val % 32 = 0) : (outsAt0 m c t.val t.isLt).2.2.2.2
    = shapeCast S512x1024 (partOf m c t) shapeCasts_S512x1024_S512x1024 := by
  rw [outsAt0_C m c t h (by omega) h' (by omega)]
  frame_out
  rfl
theorem even_dg (h : t.val % 2 = 0) (h' : ¬t.val % 32 = 0) : (outsAt0 m c t.val t.isLt).2.1
    = (outsAt0 m c (t.val - 1) (Nat.lt_of_le_of_lt (Nat.sub_le _ _) t.isLt)).2.1 := by
  rw [outsAt0_C m c t h (by omega) h' (by omega)]
  rfl

theorem odd_dgate (h : t.val % 2 = 1) : (outsAt0 m c t.val t.isLt).2.2.1
    = k0_pay15 (F := Ideal) (iblk m c 4 t) (iblk m c 7 t) (iblk m c 2 t) (iblk m c 3 t) := by
  rw [outsAt0_B m c t (by omega) h (by omega) h]
  frame_out
theorem odd_dup (h : t.val % 2 = 1) : (outsAt0 m c t.val t.isLt).2.2.2.1
    = k0_pay14 (F := Ideal) (iblk m c 4 t) (iblk m c 7 t) (iblk m c 2 t) := by
  rw [outsAt0_B m c t (by omega) h (by omega) h]
  frame_out
/-- The whole gradient of the normed input, at an odd point. -/
def dnOf : FVec Ideal S512x1024 .f32 :=
  shapeCast S512x1024 (addf (F := Ideal) (φ := .f32)
    (outsAt0 m c (t.val - 1) (Nat.lt_of_le_of_lt (Nat.sub_le _ _) t.isLt)).2.2.2.2 (partOf m c t)) shapeCasts_S512x1024_S512x1024
theorem odd_dn (h : t.val % 2 = 1) : (outsAt0 m c t.val t.isLt).2.2.2.2 = dnOf m c t := by
  rw [outsAt0_B m c t (by omega) h (by omega) h]
  frame_out
  simp only [read_unread_whole]
  rfl
theorem odd_dx (h : t.val % 2 = 1) : (outsAt0 m c t.val t.isLt).1
    = k0_pay7 (F := Ideal) (iblk m c 4 t) (iblk m c 0 t) (iblk m c 1 t) (dnOf m c t) := by
  rw [outsAt0_B m c t (by omega) h (by omega) h]
  frame_out
  simp only [read_unread_whole]
  rfl
theorem odd_dg (h : t.val % 2 = 1) : (outsAt0 m c t.val t.isLt).2.1
    = k0_pay8 (F := Ideal) (iblk m c 0 t) (dnOf m c t)
        (outsAt0 m c (t.val - 1) (Nat.lt_of_le_of_lt (Nat.sub_le _ _) t.isLt)).2.1 := by
  rw [outsAt0_B m c t (by omega) h (by omega) h]
  frame_out
  simp only [read_unread_whole]
  rfl

end Cert.Proof.FfnBwd

end
-- ==== Proof.FfnReal.lean ====
/-
  The feed-forward backward pass over the real numbers.

  The layer is `h = x + (1/2) · ((silu (n·W_gate) ∘ (n·W_up)) · W_down)` with `n` the rows of `x` divided by their root
  mean square and scaled by a gain. Everything is local to a row, except for the gradient of the gain, which is summed
  over the rows; so a row's functions are stated for any number of rows and of hidden lanes.
-/
module

public import proofs.«01_k».proof.Proof.Attn
public import Idealize.ShloMosaic.PureOps.Ideal.Laws

@[expose] public section

noncomputable section

namespace Cert.Proof.FfnBwd

open Idealize.ShloMosaic
open Cert.Proof.LatentBwd (coe_sum)
open scoped BigOperators

/-! ## The constants -/

/-- What is added to a mean square, a binary fraction near one millionth. -/
def epsR : ℝ := 8796093 / 8796093022208

theorem epsR_pos : 0 < epsR := by unfold epsR; norm_num

theorem ofBits_eps : Ideal.ofBits .f32 0x358637BD#32 = ((epsR : ℝ) : EReal) := by
  unfold epsR
  simp [Ideal.ofBits, Ideal.ieee, -EReal.coe_mul]
  norm_num

theorem ofBits_width : Ideal.ofBits .f32 0x44800000#32 = ((1024 : ℝ) : EReal) := by
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

theorem ofBits_neg_half : Ideal.ofBits .f32 0xBF000000#32 = ((-(1 / 2) : ℝ) : EReal) := by
  simp [Ideal.ofBits, Ideal.ieee, -EReal.coe_mul]
  norm_num

/-! ## One hidden lane -/

/-- The logistic function. -/
def sg (a : ℝ) : ℝ := 1 / (1 + Real.exp (-a))

/-- The gradient of the up lane, given that of the product of the two lanes. -/
def dupE (d a : ℝ) : ℝ := d * (a * sg a)

/-- The gradient of the gate lane. -/
def dgateE (d a u : ℝ) : ℝ := d * u * (sg a + a * sg a * (1 - sg a))

theorem sg_denom (a : ℝ) : (1 + Real.exp (-a)) ≠ 0 := by positivity

/-! ## One row -/

section
variable {n k : ℕ} (X D N : Fin n → Fin 1024 → ℝ) (G : Fin 1024 → ℝ) (W : Fin k → Fin 1024 → ℝ)

/-- The mean square of a row. -/
def ms (i : Fin n) : ℝ := (∑ c, X i c * X i c) * (1 / 1024) + epsR

theorem ms_pos (i : Fin n) : 0 < ms X i := by
  unfold ms
  have := Finset.sum_nonneg fun (c : Fin 1024) (_ : c ∈ Finset.univ) => mul_self_nonneg (X i c)
  have := epsR_pos
  positivity

/-- One over the root mean square of a row. -/
def rs (i : Fin n) : ℝ := (√(ms X i))⁻¹

theorem rs_sq (i : Fin n) : rs X i * (1 / ms X i) = rs X i * rs X i * rs X i := by
  have h := ms_pos X i
  have hs : √(ms X i) * √(ms X i) = ms X i := Real.mul_self_sqrt h.le
  have : rs X i * rs X i = 1 / ms X i := by
    unfold rs
    rw [← mul_inv, hs, one_div]
  rw [← this]
  ring

theorem rsqrt_ms (i : Fin n) : Ideal.rsqrt ((ms X i : ℝ) : EReal) = ((rs X i : ℝ) : EReal) := by
  have h := ms_pos X i
  rw [Ideal.rsqrt_coe, if_neg (not_lt.mpr h.le), if_neg h.ne']
  rfl

/-- A normed entry. -/
def xh (i : Fin n) (c : Fin 1024) : ℝ := X i c * rs X i

/-- The gradient of the product of the two hidden lanes. -/
def daOf (i : Fin n) (f : Fin k) : ℝ := ∑ c, (1 / 2 * D i c) * W f c

/-- The mean over a row of the gradient times the normed row. -/
def corr (i : Fin n) : ℝ := (∑ c, N i c * G c * xh X i c) * (1 / 1024)

/-- The gradient of the input. -/
def dxOf (i : Fin n) (c : Fin 1024) : ℝ := D i c + rs X i * (N i c * G c - xh X i c * corr X N G i)

end

/-! ## The whole layer -/

/-- The arguments of the backward pass of one device. -/
structure Ffn where
  /-- input -/
  x : Fin 8192 → Fin 1024 → ℝ
  /-- gain of the normalisation -/
  gain : Fin 1024 → ℝ
  /-- gate, up and down weights -/
  wg : Fin 1024 → Fin 2816 → ℝ
  wu : Fin 1024 → Fin 2816 → ℝ
  wd : Fin 2816 → Fin 1024 → ℝ
  /-- gradient of the output -/
  dh : Fin 8192 → Fin 1024 → ℝ

namespace Ffn

variable (T : Ffn)

/-- The gate and up lanes. -/
def gate (i : Fin 8192) (f : Fin 2816) : ℝ := ∑ c, xh T.x i c * T.gain c * T.wg c f
def up (i : Fin 8192) (f : Fin 2816) : ℝ := ∑ c, xh T.x i c * T.gain c * T.wu c f

/-- The gradients of the two. -/
def dgate (i : Fin 8192) (f : Fin 2816) : ℝ := dgateE (daOf T.dh T.wd i f) (T.gate i f) (T.up i f)
def dup (i : Fin 8192) (f : Fin 2816) : ℝ := dupE (daOf T.dh T.wd i f) (T.gate i f)

/-- The gradient of the scaled normed input. -/
def dn (i : Fin 8192) (c : Fin 1024) : ℝ := (∑ f, T.dgate i f * T.wg c f) + ∑ f, T.dup i f * T.wu c f

/-- The gradient of the gain. -/
def dg (c : Fin 1024) : ℝ := ∑ i, T.dn i c * xh T.x i c

/-- The gradient of the input. -/
def dx : Fin 8192 → Fin 1024 → ℝ := dxOf T.x T.dh T.dn T.gain

/-- Lane `f` of half `h`. -/
def lane (h : Fin 2) (f : Fin 1408) : Fin 2816 := ⟨h.val * 1408 + f.val, by omega⟩
/-- Row `i` of block `b` of 512 rows. -/
def row (b : Fin 16) (i : Fin 512) : Fin 8192 := ⟨b.val * 512 + i.val, by omega⟩

/-- One half's part of that gradient. -/
def part (h : Fin 2) (i : Fin 8192) (c : Fin 1024) : ℝ :=
  (∑ f, T.dgate i (lane h f) * T.wg c (lane h f)) + ∑ f, T.dup i (lane h f) * T.wu c (lane h f)

theorem sum_lanes (F : Fin 2816 → ℝ) : ∑ f, F f = (∑ f, F (lane 0 f)) + ∑ f, F (lane 1 f) := by
  refine (Fin.sum_univ_add (a := 1408) (b := 1408) F).trans (congrArg₂ (· + ·) ?_ ?_) <;>
    refine Finset.sum_congr rfl fun f _ => congrArg F (Fin.ext ?_)
  · show f.val = 0 * 1408 + f.val; omega
  · show 1408 + f.val = 1 * 1408 + f.val; omega

theorem dn_eq (i : Fin 8192) (c : Fin 1024) : T.dn i c = T.part 0 i c + T.part 1 i c := by
  unfold dn part
  rw [sum_lanes, sum_lanes (fun f => T.dup i f * T.wu c f)]
  ring

/-- One block of rows' part of the gradient of the gain. -/
def dgPart (b : Fin 16) (c : Fin 1024) : ℝ := ∑ i, T.dn (row b i) c * xh T.x (row b i) c

theorem dg_eq (c : Fin 1024) : T.dg c = ∑ b, T.dgPart b c := by
  unfold dg dgPart
  rw [← Fintype.sum_prod_type', ← Equiv.sum_comp (finProdFinEquiv (m := 16) (n := 512))]
  refine Finset.sum_congr rfl fun p _ => ?_
  have : (finProdFinEquiv (m := 16) (n := 512) p : Fin 8192) = row p.1 p.2 := Fin.ext (by
    show p.2.val + 512 * p.1.val = p.1.val * 512 + p.2.val
    omega)
  exact congrArg (fun j => T.dn j c * xh T.x j c) this

end Ffn

end Cert.Proof.FfnBwd

end
-- ==== Proof.FfnTile.lean ====
/-
  The feed-forward backward pass: the kernel's expressions over one block of 512 rows, entry by entry, when the entries
  of the blocks are real.
-/
module

public import proofs.«01_k».proof.Proof.FfnOut
public import proofs.«01_k».proof.Proof.FfnReal
public import proofs.«01_k».proof.Proof.Ref
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.Pipeline.Value

@[expose] public section

set_option maxRecDepth 16384

noncomputable section

namespace Cert.Proof.FfnBwd

open Cert.FfnBwdIdeal Cert.FfnBwdIdeal.Gen Idealize.ShloMosaic Idealize.ShloMosaic.ValueIdx
open Cert.Proof.LatentBwd (coe_sum ofBits_one ofBits_zero)
open scoped BigOperators

/-- A sum of products of real numbers. -/
theorem coe_sum_mul {ι : Type} [Fintype ι] (p q : ι → EReal) (a b : ι → ℝ) (hp : ∀ i, p i = (a i : EReal))
    (hq : ∀ i, q i = (b i : EReal)) : ∑ i, p i * q i = ((∑ i, a i * b i : ℝ) : EReal) := by
  rw [← coe_sum]
  exact Finset.sum_congr rfl fun i _ => by rw [hp, hq, EReal.coe_mul]

section hidden
variable {v0 : Vec Ideal S512x1024 .f32} {v5 : Vec Ideal S1408x1024 .bf16} {v8 v11 : Vec Ideal S512x1408 .bf16}
  {D : Fin 512 → Fin 1024 → ℝ} {W : Fin 1408 → Fin 1024 → ℝ} {A U : Fin 512 → Fin 1408 → ℝ}
  (h0 : ∀ i c, v0 (ix2 i c) = (D i c : EReal)) (h5 : ∀ f c, v5 (ix2 f c) = (W f c : EReal))
  (h8 : ∀ i f, v8 (ix2 i f) = (A i f : EReal)) (h11 : ∀ i f, v11 (ix2 i f) = (U i f : EReal))

include h0 h5 in
theorem pay10_at (i : Fin 512) (f : Fin 1408) : k0_pay10 (F := Ideal) v0 v5 (ix2 i f) = (daOf D W i f : EReal) := by
  unfold k0_pay10
  refine (Ideal.matmul_transposedRhs_apply none _ _ _ i f).trans ?_
  refine (congrArg₂ (· + ·) Ideal.ofBits_zero_f32 (coe_sum_mul _ _ (fun c => 1 / 2 * D i c) (fun c => W f c) (fun c => ?_) (fun c => ?_))).trans (zero_add _)
  · show Ideal.ofBits .f32 0x3F000000#32 * v0 (ix2 i c) = _
    rw [ofBits_half, h0, ← EReal.coe_mul]
  · rw [shapeCast_self, h5]

include h8 in
theorem pay11_at (i : Fin 512) (f : Fin 1408) : k0_pay11 (F := Ideal) v8 (ix2 i f) = (A i f : EReal) := by
  unfold k0_pay11
  rw [shapeCast_self]
  exact h8 i f

include h8 in
theorem pay12_at (i : Fin 512) (f : Fin 1408) : k0_pay12 (F := Ideal) v8 (ix2 i f) = (sg (A i f) : EReal) := by
  unfold k0_pay12
  show Ideal.div (Ideal.ofBits .f32 0x3F800000#32) (Ideal.ofBits .f32 0x3F800000#32
    + Ideal.exp (Ideal.ofBits .f32 0x00000000#32 - k0_pay11 (F := Ideal) v8 (ix2 i f))) = _
  rw [pay11_at h8, ofBits_one, ofBits_zero, ← EReal.coe_sub, zero_sub, Ideal.exp_coe, ← EReal.coe_add,
    Ideal.div_coe (sg_denom _), ← EReal.coe_mul, one_mul]
  rfl

include h8 in
theorem pay13_at (i : Fin 512) (f : Fin 1408) : k0_pay13 (F := Ideal) v8 (ix2 i f) = (A i f * sg (A i f) : ℝ) := by
  unfold k0_pay13
  show k0_pay11 (F := Ideal) v8 (ix2 i f) * k0_pay12 (F := Ideal) v8 (ix2 i f) = _
  rw [pay11_at h8, pay12_at h8, ← EReal.coe_mul]

include h0 h5 h8 in
theorem pay14_at (i : Fin 512) (f : Fin 1408) :
    k0_pay14 (F := Ideal) v0 v5 v8 (ix2 i f) = (dupE (daOf D W i f) (A i f) : EReal) := by
  unfold k0_pay14
  show k0_pay10 (F := Ideal) v0 v5 (ix2 i f) * k0_pay13 (F := Ideal) v8 (ix2 i f) = _
  rw [pay10_at h0 h5, pay13_at h8, ← EReal.coe_mul]
  rfl

include h0 h5 h8 h11 in
theorem pay15_at (i : Fin 512) (f : Fin 1408) :
    k0_pay15 (F := Ideal) v0 v5 v8 v11 (ix2 i f) = (dgateE (daOf D W i f) (A i f) (U i f) : EReal) := by
  unfold k0_pay15
  rw [shapeCast_self]
  show k0_pay10 (F := Ideal) v0 v5 (ix2 i f) * v11 (ix2 i f) * (k0_pay12 (F := Ideal) v8 (ix2 i f)
    + k0_pay13 (F := Ideal) v8 (ix2 i f) * (Ideal.ofBits .f32 0x3F800000#32 - k0_pay12 (F := Ideal) v8 (ix2 i f))) = _
  rw [pay10_at h0 h5, pay13_at h8, pay12_at h8, h11, ofBits_one, ← EReal.coe_sub, ← EReal.coe_mul, ← EReal.coe_mul,
    ← EReal.coe_add, ← EReal.coe_mul]
  rfl
end hidden

section back
variable {p q : FVec Ideal S512x1408 .bf16} {a b : Vec Ideal S1408x1024 .bf16} {P Q : Fin 512 → Fin 1408 → ℝ}
  {A B : Fin 1408 → Fin 1024 → ℝ}
  (hp : ∀ i f, p (ix2 i f) = (P i f : EReal)) (hq : ∀ i f, q (ix2 i f) = (Q i f : EReal))
  (ha : ∀ f c, a (ix2 f c) = (A f c : EReal)) (hb : ∀ f c, b (ix2 f c) = (B f c : EReal))

include hp hq ha hb in
theorem pay1_at (i : Fin 512) (c : Fin 1024) : k0_pay1 (F := Ideal) k0_pay9 (k0_pay16 p) a q b (ix2 i c)
    = (((∑ f, P i f * A f c) + ∑ f, Q i f * B f c : ℝ) : EReal) := by
  unfold k0_pay1 k0_pay16
  rw [shapeCast_self, shapeCast_self, shapeCast_self, shapeCast_self]
  have e1 := (Ideal.matmul_plain_apply (φ₁ := .bf16) (φ₂ := .bf16) none p a (constant S512x1024 .f32 0x00000000#32) i c).trans
    ((congrArg₂ (· + ·) Ideal.ofBits_zero_f32 (coe_sum_mul _ _ _ _ (fun f => hp i f) (fun f => ha f c))).trans (zero_add _))
  have e2 := (Ideal.matmul_plain_apply (φ₁ := .bf16) (φ₂ := .bf16) none q b (constant S512x1024 .f32 0x00000000#32) i c).trans
    ((congrArg₂ (· + ·) Ideal.ofBits_zero_f32 (coe_sum_mul _ _ _ _ (fun f => hq i f) (fun f => hb f c))).trans (zero_add _))
  rw [EReal.coe_add]
  refine congrArg₂ (· + ·) ?_ e2
  exact (congrArg₂ (· + ·) (Ideal.ofBits_zero_f32 : k0_pay9 (F := Ideal) (ix2 i c) = 0) e1).trans (zero_add _)
end back

section norm
variable {x dn d : Vec Ideal S512x1024 .f32} {g : Vec Ideal S1x1024 .f32} {X N D : Fin 512 → Fin 1024 → ℝ}
  {G : Fin 1024 → ℝ}
  (hx : ∀ i c, x (ix2 i c) = (X i c : EReal)) (hn : ∀ i c, dn (ix2 i c) = (N i c : EReal))
  (hd : ∀ i c, d (ix2 i c) = (D i c : EReal)) (hg : ∀ c, g (ix2 0 c) = (G c : EReal))

/-- The sum of a row. -/
theorem row_sum (y : FVec Ideal S512x1024 .f32) (Y : Fin 512 → Fin 1024 → ℝ) (hy : ∀ i c, y (ix2 i c) = (Y i c : EReal))
    (i : Fin 512) (z : Fin 1) :
    (shapeCast S512x1 (multiReduction .add [1] S512 y 0x00000000#32 reduces_S512x1024_S512 (.inl rfl) rfl)
      shapeCasts_S512_S512x1 : FVec Ideal S512x1 .f32) (ix2 i z) = ((∑ c, Y i c : ℝ) : EReal) := by
  refine (shapeCast_a_a1_apply _ shapeCasts_S512_S512x1 i z).trans ?_
  refine (Ideal.multiReduction_add_single (φ := .f32) y 0x00000000#32 reduces_S512x1024_S512 (.inl rfl) rfl (ix1 i)).trans ?_
  refine (Finset.sum_congr rfl fun c _ => ?_).trans (coe_sum Finset.univ (fun c : Fin 1024 => Y i c))
  have hl : reduces_S512x1024_S512.lift (ix1 i) c = ix2 i c :=
    funext fun a => Fin.ext (by match a with | ⟨0, _⟩ => rfl | ⟨1, _⟩ => rfl)
  rw [hl]
  exact hy i c

/-- The sum of a column. -/
theorem col_sum (y : FVec Ideal S512x1024 .f32) (Y : Fin 512 → Fin 1024 → ℝ) (hy : ∀ i c, y (ix2 i c) = (Y i c : EReal))
    (c : Fin 1024) (z : Fin 1) :
    (shapeCast S1x1024 (multiReduction .add [0] S1024 y 0x00000000#32 reduces_S512x1024_S1024 (.inl rfl) rfl)
      shapeCasts_S1024_S1x1024 : FVec Ideal S1x1024 .f32) (ix2 z c) = ((∑ i, Y i c : ℝ) : EReal) := by
  refine (shapeCast_a_1a_apply _ shapeCasts_S1024_S1x1024 z c).trans ?_
  refine (Ideal.multiReduction_add_single (φ := .f32) y 0x00000000#32 reduces_S512x1024_S1024 (.inl rfl) rfl (ix1 c)).trans ?_
  refine (Finset.sum_congr rfl fun i _ => ?_).trans (coe_sum Finset.univ (fun i : Fin 512 => Y i c))
  have hl : reduces_S512x1024_S1024.lift (ix1 c) i = ix2 i c :=
    funext fun a => Fin.ext (by match a with | ⟨0, _⟩ => rfl | ⟨1, _⟩ => rfl)
  rw [hl]
  exact hy i c

/-- A column spread over the lanes. -/
theorem spread_at (v : FVec Ideal S512x1 .f32) (i : Fin 512) (c : Fin 1024) :
    (broadcastTo S512x1024 v broadcasts_S512x1_S512x1024 : FVec Ideal S512x1024 .f32) (ix2 i c) = v (ix2 i 0) := by
  refine broadcastTo_apply v _ (ix2 i c) (ix2 i (0 : Fin 1)) fun ax => ?_
  match ax with
  | ⟨0, _⟩ => rfl
  | ⟨1, _⟩ => rfl

include hx in
theorem pay5_at (i : Fin 512) (z : Fin 1) : k0_pay5 (F := Ideal) x (ix2 i z) = (rs X i : EReal) := by
  unfold k0_pay5
  refine Eq.trans ?_ (rsqrt_ms X i)
  show Ideal.rsqrt (Ideal.div _ (Ideal.ofBits .f32 0x44800000#32) + Ideal.ofBits .f32 0x358637BD#32) = _
  refine congrArg Ideal.rsqrt ?_
  rw [row_sum (mulf (F := Ideal) (φ := .f32) (s := S512x1024) x x) (fun i c => X i c * X i c)
    (fun i c => (congrArg₂ (· * ·) (hx i c) (hx i c)).trans (EReal.coe_mul _ _).symm) i z,
    ofBits_width, ofBits_eps, Ideal.div_coe (by norm_num), ← EReal.coe_mul, ← EReal.coe_add]
  rfl

include hx in
theorem pay6_at (i : Fin 512) (c : Fin 1024) : k0_pay6 (F := Ideal) x (ix2 i c) = (xh X i c : EReal) := by
  unfold k0_pay6
  refine (congrArg₂ (· * ·) (hx i c) ((spread_at _ i c).trans (pay5_at hx i 0))).trans (EReal.coe_mul _ _).symm

include hx hn hd hg in
theorem pay7_at (i : Fin 512) (c : Fin 1024) : k0_pay7 (F := Ideal) d x g dn (ix2 i c) = (dxOf X D N G i c : EReal) := by
  unfold k0_pay7
  have e73 : ∀ i c, (mulf (F := Ideal) (φ := .f32) (s := S512x1024) dn (broadcastTo S512x1024 g broadcasts_S1x1024_S512x1024)) (ix2 i c)
      = ((N i c * G c : ℝ) : EReal) := fun i c =>
    (congrArg₂ (· * ·) (hn i c) ((broadcastTo_1b_ab_apply g broadcasts_S1x1024_S512x1024 i c).trans (hg c))).trans (EReal.coe_mul _ _).symm
  have e74 : ∀ i c, (mulf (F := Ideal) (φ := .f32) (s := S512x1024) (mulf (F := Ideal) (φ := .f32) (s := S512x1024) dn
      (broadcastTo S512x1024 g broadcasts_S1x1024_S512x1024)) (k0_pay6 (F := Ideal) x)) (ix2 i c)
      = ((N i c * G c * xh X i c : ℝ) : EReal) := fun i c =>
    (congrArg₂ (· * ·) (e73 i c) (pay6_at hx i c)).trans (EReal.coe_mul _ _).symm
  have e76 := row_sum _ _ e74 i 0
  refine Eq.trans (congrArg₂ (· + ·) (hd i c) (congrArg₂ (· * ·) ((spread_at _ i c).trans (pay5_at hx i 0))
    (congrArg₂ (· - ·) (e73 i c) (congrArg₂ (· * ·) (pay6_at hx i c) (spread_at _ i c))))) ?_
  refine Eq.trans (congrArg (fun z => (D i c : EReal) + (rs X i : EReal) * (((N i c * G c : ℝ) : EReal) - (xh X i c : EReal) * z))
    (congrArg₂ Ideal.div e76 ofBits_width)) ?_
  rw [Ideal.div_coe (by norm_num), ← EReal.coe_mul, ← EReal.coe_mul, ← EReal.coe_sub, ← EReal.coe_mul, ← EReal.coe_add]
  rfl

include hx hn in
theorem pay8_at (o : Vec Ideal S1x1024 .f32) (O : Fin 1024 → ℝ) (ho : ∀ c, o (ix2 0 c) = (O c : EReal)) (c : Fin 1024) :
    k0_pay8 (F := Ideal) x dn o (ix2 0 c) = ((O c + ∑ i, N i c * xh X i c : ℝ) : EReal) := by
  unfold k0_pay8
  rw [shapeCast_self]
  refine (congrArg₂ (· + ·) (ho c) (col_sum (mulf (F := Ideal) (φ := .f32) (s := S512x1024) dn (k0_pay6 (F := Ideal) x))
    (fun i c => N i c * xh X i c) (fun i c => (congrArg₂ (· * ·) (hn i c) (pay6_at hx i c)).trans (EReal.coe_mul _ _).symm) c 0)).trans
    (EReal.coe_add _ _).symm
end norm

end Cert.Proof.FfnBwd

end
-- ==== Proof.FfnRef.lean ====
/-
  The feed-forward backward pass: what the reference computes, at arguments all of whose entries are real.
-/
module

public import proofs.«01_k».proof.Proof.FfnReal
public import proofs.«01_k».proof.Proof.Ref
public import proofs.«01_k».proof.Proof.Gen.FfnBwdRefIdeal.Read
public import Idealize.ShloMosaic.Lib.ValueIdx

@[expose] public section

set_option maxRecDepth 16384

noncomputable section

namespace Cert.Proof.FfnBwd

open Cert.FfnBwdRefIdeal Cert.FfnBwdRefIdeal.Gen Cert.FfnBwdRefIdeal.Read Idealize.ShloMosaic Idealize.ShloMosaic.ValueIdx
open Cert.Proof.LatentBwd (coe_sum ofBits_one ofBits_zero)
open scoped BigOperators

/-- The six argument arrays hold the real arrays of `T`. -/
structure Holds (T : Ffn) (x0 : (⟨2, ![8192, 1024]⟩ : Shape).Idx → EReal) (x1 : (⟨2, ![1, 1024]⟩ : Shape).Idx → EReal)
    (x2 x3 : (⟨2, ![1024, 2816]⟩ : Shape).Idx → EReal) (x4 : (⟨2, ![2816, 1024]⟩ : Shape).Idx → EReal)
    (x5 : (⟨2, ![8192, 1024]⟩ : Shape).Idx → EReal) : Prop where
  x : ∀ i c, x0 (ix2 i c) = (T.x i c : EReal)
  gain : ∀ c, x1 (ix2 0 c) = (T.gain c : EReal)
  wg : ∀ c f, x2 (ix2 c f) = (T.wg c f : EReal)
  wu : ∀ c f, x3 (ix2 c f) = (T.wu c f : EReal)
  wd : ∀ f c, x4 (ix2 f c) = (T.wd f c : EReal)
  dh : ∀ i c, x5 (ix2 i c) = (T.dh i c : EReal)

/-- A sum of real numbers added to zero. -/
theorem zero_add_sum {n : ℕ} (F : Fin n → EReal) (f : Fin n → ℝ) (h : ∀ k, F k = (f k : EReal)) :
    Ideal.ofBits .f32 0x00000000#32 + ∑ k, F k = ((∑ k, f k : ℝ) : EReal) := by
  rw [Finset.sum_congr rfl fun k _ => h k, coe_sum, ofBits_zero, ← EReal.coe_add, zero_add]

/-- A sum of products of real numbers. -/
theorem sum_mul {n : ℕ} (F G : Fin n → EReal) (f g : Fin n → ℝ) (hf : ∀ k, F k = (f k : EReal)) (hg : ∀ k, G k = (g k : EReal)) :
    ∑ k, F k * G k = ((∑ k, f k * g k : ℝ) : EReal) := by
  rw [← coe_sum]
  exact Finset.sum_congr rfl fun k _ => by rw [hf, hg, EReal.coe_mul]

variable {T : Ffn} {x0 : (⟨S8192x1024, .f32⟩ : BufTy).Contents (Elt Ideal)} {x1 : (⟨S1x1024, .f32⟩ : BufTy).Contents (Elt Ideal)}
  {x2 x3 : (⟨S1024x2816, .f32⟩ : BufTy).Contents (Elt Ideal)} {x4 : (⟨S2816x1024, .f32⟩ : BufTy).Contents (Elt Ideal)}
  {x5 : (⟨S8192x1024, .f32⟩ : BufTy).Contents (Elt Ideal)} (H : Holds T x0 x1 x2 x3 x4 x5)

include H

/-! ## The normed rows -/

theorem v6_at (i : Fin 8192) (z : Fin 1) : val_main_v6 (F := Ideal) x0 (ix2 i z) = (ms T.x i : EReal) := by
  rw [val_main_v6_apply, val_main_v4_apply, val_main_v2_apply, val_main_v3_apply, val_main_v5_apply,
    val_main_cst_0_apply, val_main_cst_1_apply, val_main_v1_apply]
  have e := zero_add_sum (fun c : Fin 1024 => val_main_v0 (F := Ideal) x0 (idx_main_v1 (idx_main_v2 (ix2 i z)) c))
    (fun c => T.x i c * T.x i c) (fun c => by
      have ha : idx_main_v1 (idx_main_v2 (ix2 i z)) c = ix2 i c := eq_ix2 _
      rw [ha, val_main_v0_apply]
      exact (congrArg₂ (· * ·) (H.x i c) (H.x i c)).trans (EReal.coe_mul _ _).symm)
  refine (congrArg₂ (· + ·) (congrArg₂ Ideal.div e ofBits_width) ofBits_eps).trans ?_
  rw [Ideal.div_coe (by norm_num), ← EReal.coe_mul, ← EReal.coe_add]
  rfl

theorem v7_at (i : Fin 8192) (z : Fin 1) : val_main_v7 (F := Ideal) x0 (ix2 i z) = (rs T.x i : EReal) := by
  rw [val_main_v7_apply]
  refine Eq.trans ?_ (rsqrt_ms T.x i)
  exact congrArg Ideal.rsqrt (v6_at H i z)

theorem v12_at (i : Fin 8192) (c : Fin 1024) : val_main_v12 (F := Ideal) x0 (ix2 i c) = (xh T.x i c : EReal) := by
  have ha : idx_main_v11 (ix2 i c) = ix2 i 0 := eq_ix2 _
  rw [val_main_v12_apply, val_main_v11_apply, ha, v7_at H]
  exact (congrArg (· * _) (H.x i c)).trans (EReal.coe_mul _ _).symm

theorem v14_at (i : Fin 8192) (c : Fin 1024) :
    val_main_v14 (F := Ideal) x0 x1 (ix2 i c) = ((xh T.x i c * T.gain c : ℝ) : EReal) := by
  have ha : idx_main_v13 (ix2 i c) = ix2 0 c := eq_ix2 _
  rw [val_main_v14_apply, val_main_v13_apply, ha, v12_at H]
  exact (congrArg (_ * ·) (H.gain c)).trans (EReal.coe_mul _ _).symm

/-! ## The hidden lanes and their gradients -/

theorem v15_at (i : Fin 8192) (f : Fin 2816) : val_main_v15 (F := Ideal) x0 x1 x2 (ix2 i f) = (T.gate i f : EReal) := by
  rw [val_main_v15_apply]
  refine sum_mul _ _ (fun c => xh T.x i c * T.gain c) (fun c => T.wg c f) (fun c => ?_) (fun c => ?_)
  · have ha : lidx_main_v15 (ix2 i f) c = ix2 i c := eq_ix2 _
    rw [ha, v14_at H]
  · have ha : ridx_main_v15 (ix2 i f) c = ix2 c f := eq_ix2 _
    rw [ha]; exact H.wg c f

theorem v16_at (i : Fin 8192) (f : Fin 2816) : val_main_v16 (F := Ideal) x0 x1 x3 (ix2 i f) = (T.up i f : EReal) := by
  rw [val_main_v16_apply]
  refine sum_mul _ _ (fun c => xh T.x i c * T.gain c) (fun c => T.wu c f) (fun c => ?_) (fun c => ?_)
  · have ha : lidx_main_v16 (ix2 i f) c = ix2 i c := eq_ix2 _
    rw [ha, v14_at H]
  · have ha : ridx_main_v16 (ix2 i f) c = ix2 c f := eq_ix2 _
    rw [ha]; exact H.wu c f

theorem v17_2_at (i : Fin 8192) (f : Fin 2816) :
    val_main_v17_2 (F := Ideal) x0 x1 x2 (ix2 i f) = (sg (T.gate i f) : EReal) := by
  rw [val_main_v17_2_apply, val_main_call0_v4_apply, val_main_call0_cst_0_apply, val_main_call0_v3_apply,
    val_main_call0_v2_apply, val_main_call0_cst_apply, val_main_call0_v1_apply, val_main_call0_v0_apply, v15_at H]
  show Ideal.div (Ideal.ofBits .f32 0x3F800000#32) (Ideal.ofBits .f32 0x3F800000#32 + Ideal.exp (-(T.gate i f : EReal))) = _
  rw [ofBits_one, ← EReal.coe_neg, Ideal.exp_coe, ← EReal.coe_add, Ideal.div_coe (sg_denom _), ← EReal.coe_mul, one_mul]
  rfl

theorem v17_1_at (i : Fin 8192) (f : Fin 2816) : val_main_v17_1 (F := Ideal) x0 x1 x2 (ix2 i f)
    = ((sg (T.gate i f) * (1 - sg (T.gate i f)) : ℝ) : EReal) := by
  rw [val_main_v17_1_apply, val_main_call0_v7_apply, val_main_call0_v6_apply, val_main_call0_cst_1_apply, v17_2_at H]
  show (sg (T.gate i f) : EReal) * (Ideal.ofBits .f32 0x3F800000#32 - (sg (T.gate i f) : EReal)) = _
  rw [ofBits_one, ← EReal.coe_sub, ← EReal.coe_mul]

theorem v17_0_at (i : Fin 8192) (f : Fin 2816) : val_main_v17_0 (F := Ideal) x0 x1 x2 (ix2 i f)
    = ((T.gate i f * sg (T.gate i f) : ℝ) : EReal) := by
  rw [val_main_v17_0_apply, v17_2_at H, v15_at H]
  exact (EReal.coe_mul _ _).symm

theorem v24_at (i : Fin 8192) (f : Fin 2816) : val_main_v24 (F := Ideal) x4 x5 (ix2 i f) = (daOf T.dh T.wd i f : EReal) := by
  rw [val_main_v24_apply]
  refine sum_mul _ _ (fun c => 1 / 2 * T.dh i c) (fun c => T.wd f c) (fun c => ?_) (fun c => ?_)
  · have ha : lidx_main_v24 (ix2 i f) c = ix2 i c := eq_ix2 _
    rw [ha, val_main_v23_apply, val_main_v22_apply, val_main_cst_4_apply]
    exact (congrArg₂ (· * ·) ofBits_half (H.dh i c)).trans (EReal.coe_mul _ _).symm
  · have ha : ridx_main_v24 (ix2 i f) c = ix2 f c := eq_ix2 _
    rw [ha]; exact H.wd f c

theorem v25_at (i : Fin 8192) (f : Fin 2816) : val_main_v25 (F := Ideal) x0 x1 x2 x4 x5 (ix2 i f) = (T.dup i f : EReal) := by
  rw [val_main_v25_apply, v17_0_at H, v24_at H]
  refine (EReal.coe_mul _ _).symm.trans (congrArg _ ?_)
  unfold Ffn.dup dupE
  ring

theorem v27_at (i : Fin 8192) (f : Fin 2816) : val_main_v27 (F := Ideal) x0 x1 x2 x3 x4 x5 (ix2 i f) = (T.dgate i f : EReal) := by
  rw [val_main_v27_apply, val_main_call1_v2_apply, val_main_call1_v1_apply, val_main_call1_v0_apply, val_main_v26_apply,
    v15_at H, v16_at H, v17_1_at H, v17_2_at H, v24_at H]
  show (daOf T.dh T.wd i f : EReal) * (T.up i f : EReal) * (sg (T.gate i f) : EReal)
    + (T.gate i f : EReal) * ((daOf T.dh T.wd i f : EReal) * (T.up i f : EReal)) * ((sg (T.gate i f) * (1 - sg (T.gate i f)) : ℝ) : EReal) = _
  rw [← EReal.coe_mul, ← EReal.coe_mul, ← EReal.coe_mul, ← EReal.coe_mul, ← EReal.coe_add]
  refine congrArg _ ?_
  unfold Ffn.dgate dgateE
  ring

theorem v51_at (i : Fin 8192) (f : Fin 2816) : val_main_v51 (F := Ideal) x0 x1 x2 x3 x4 x5 (ix2 i f) = (T.dgate i f : EReal) := by
  rw [val_main_v51_apply]
  exact v27_at H i f

theorem v52_at (i : Fin 8192) (f : Fin 2816) : val_main_v52 (F := Ideal) x0 x1 x2 x4 x5 (ix2 i f) = (T.dup i f : EReal) := by
  rw [val_main_v52_apply]
  exact v25_at H i f

/-! ## The gradients of the normed input, of the gain and of the input -/

theorem v30_at (i : Fin 8192) (c : Fin 1024) : val_main_v30 (F := Ideal) x0 x1 x2 x3 x4 x5 (ix2 i c) = (T.dn i c : EReal) := by
  rw [val_main_v30_apply, val_main_v28_apply, val_main_v29_apply]
  refine Eq.trans (congrArg₂ (· + ·) (sum_mul _ _ (fun f => T.dup i f) (fun f => T.wu c f) (fun f => ?_) (fun f => ?_))
    (sum_mul _ _ (fun f => T.dgate i f) (fun f => T.wg c f) (fun f => ?_) (fun f => ?_))) ?_
  · have ha : lidx_main_v28 (ix2 i c) f = ix2 i f := eq_ix2 _
    rw [ha, v25_at H]
  · have ha : ridx_main_v28 (ix2 i c) f = ix2 c f := eq_ix2 _
    rw [ha]; exact H.wu c f
  · have ha : lidx_main_v29 (ix2 i c) f = ix2 i f := eq_ix2 _
    rw [ha, v27_at H]
  · have ha : ridx_main_v29 (ix2 i c) f = ix2 c f := eq_ix2 _
    rw [ha]; exact H.wg c f
  · rw [← EReal.coe_add]
    refine congrArg _ ?_
    unfold Ffn.dn
    ring

theorem v33_at (z : Fin 1) (c : Fin 1024) : val_main_v33 (F := Ideal) x0 x1 x2 x3 x4 x5 (ix2 z c) = (T.dg c : EReal) := by
  rw [val_main_v33_apply, val_main_v32_apply]
  refine (zero_add_sum _ (fun i => xh T.x i c * T.dn i c) (fun i => ?_)).trans (congrArg _ ?_)
  · have ha : idx_main_v32 (idx_main_v33 (ix2 z c)) i = ix2 i c := funext fun a => Fin.ext (by
      match a with
      | ⟨0, _⟩ => rfl
      | ⟨1, _⟩ => show z.val * 1024 + c.val = c.val; omega)
    rw [ha, val_main_v31_apply, v12_at H, v30_at H]
    exact (EReal.coe_mul _ _).symm
  · exact Finset.sum_congr rfl fun i _ => mul_comm _ _

theorem v35_at (i : Fin 8192) (c : Fin 1024) :
    val_main_v35 (F := Ideal) x0 x1 x2 x3 x4 x5 (ix2 i c) = ((T.dn i c * T.gain c : ℝ) : EReal) := by
  have ha : idx_main_v34 (ix2 i c) = ix2 0 c := eq_ix2 _
  rw [val_main_v35_apply, v30_at H, val_main_v34_apply, ha]
  exact (congrArg (_ * ·) (H.gain c)).trans (EReal.coe_mul _ _).symm

/-- The factor of the input in its gradient, on each of the two sides of the square. -/
def side (T : Ffn) (i : Fin 8192) : ℝ :=
  (∑ c, T.x i c * (T.dn i c * T.gain c)) * (-(1 / 2) * (rs T.x i * (1 / ms T.x i))) * (1 / 1024)

theorem v45_at (i : Fin 8192) (c : Fin 1024) :
    val_main_v45 (F := Ideal) x0 x1 x2 x3 x4 x5 (ix2 i c) = (side T i : EReal) := by
  have hv10 : val_main_v10 (F := Ideal) x0 (ix2 i 0) = ((-(1 / 2) * (rs T.x i * (1 / ms T.x i)) : ℝ) : EReal) := by
    rw [val_main_v10_apply, val_main_v9_apply, val_main_cst_2_apply, val_main_v8_apply, v7_at H, v6_at H]
    show Ideal.ofBits .f32 0xBF000000#32 * Ideal.div _ _ = _
    rw [ofBits_neg_half, Ideal.div_coe (ms_pos T.x i).ne', ← EReal.coe_mul, ← EReal.coe_mul]
  have hv38 : val_main_v38 (F := Ideal) x0 x1 x2 x3 x4 x5 (ix2 i 0) = ((∑ c, T.x i c * (T.dn i c * T.gain c) : ℝ) : EReal) := by
    rw [val_main_v38_apply, val_main_v37_apply]
    refine zero_add_sum _ _ (fun c => ?_)
    have ha : idx_main_v37 (idx_main_v38 (ix2 i 0)) c = ix2 i c := funext fun a => Fin.ext (by
      match a with
      | ⟨0, _⟩ => show i.val * 1 + 0 = i.val; omega
      | ⟨1, _⟩ => rfl)
    rw [ha, val_main_v36_apply, v35_at H]
    exact (congrArg (· * _) (H.x i c)).trans (EReal.coe_mul _ _).symm
  rw [val_main_v45_apply, val_main_v44_apply]
  refine (zero_add_sum (n := 1) _ (fun _ => side T i) (fun z => ?_)).trans (congrArg _ (Fin.sum_univ_one _))
  have ha : idx_main_v44 (idx_main_v45 (ix2 i c)) z = ix2 i 0 := funext fun a => Fin.ext (by
    match a with
    | ⟨0, _⟩ => rfl
    | ⟨1, _⟩ => show z.val = 0; omega)
  rw [ha, val_main_v43_apply, val_main_v42_apply, val_main_cst_7_apply, val_main_v41_apply, hv10, hv38]
  show Ideal.div (_ * _) (Ideal.ofBits .f32 0x44800000#32) = _
  rw [ofBits_width, ← EReal.coe_mul, Ideal.div_coe (by norm_num), ← EReal.coe_mul]
  rfl

omit H in
theorem dx_eq (i : Fin 8192) (c : Fin 1024) :
    T.dh i c + (T.dn i c * T.gain c * rs T.x i + T.x i c * side T i + side T i * T.x i c) = T.dx i c := by
  unfold Ffn.dx dxOf corr side
  have h1 : (∑ c, T.dn i c * T.gain c * xh T.x i c) = rs T.x i * ∑ c, T.x i c * (T.dn i c * T.gain c) := by
    rw [Finset.mul_sum]
    refine Finset.sum_congr rfl fun c _ => ?_
    unfold xh
    ring
  rw [h1, rs_sq]
  unfold xh
  ring

theorem v50_at (i : Fin 8192) (c : Fin 1024) : val_main_v50 (F := Ideal) x0 x1 x2 x3 x4 x5 (ix2 i c) = (T.dx i c : EReal) := by
  have h39 : idx_main_v39 (ix2 i c) = ix2 i 0 := eq_ix2 _
  rw [val_main_v50_apply, val_main_v49_apply, val_main_v47_apply, val_main_v48_apply, val_main_v46_apply,
    val_main_v40_apply, val_main_v39_apply, h39, v7_at H, v35_at H, v45_at H]
  refine Eq.trans (congrArg₂ (· + ·) (H.dh i c) (congrArg₂ (· + ·) (congrArg₂ (· + ·) rfl
    (congrArg (· * _) (H.x i c))) (congrArg (_ * ·) (H.x i c)))) ?_
  refine Eq.trans ?_ (congrArg _ (dx_eq i c))
  simp only [EReal.coe_add, EReal.coe_mul]
  rfl

end Cert.Proof.FfnBwd

end
-- ==== Proof.FfnArrays.lean ====
/-
  The feed-forward backward pass: what a grid point is given.

  Grid point `t` handles the 512 rows of block `t / 2` and the 1408 hidden lanes of half `t % 2`. The gate and up lanes it
  is given were computed by the host with the reference's own operations, and the weights were transposed by the host.
-/
module

public import proofs.«01_k».proof.Proof.FfnTile
public import proofs.«01_k».proof.Proof.FfnRef
public import Idealize.ShloMosaic.Lib.Pipeline.ValueKit.Point

@[expose] public section

set_option maxRecDepth 16384

noncomputable section

namespace Cert.Proof.FfnBwd

open Cert.FfnBwdIdeal Cert.FfnBwdIdeal.Gen Idealize.ShloMosaic.TcCoe Idealize.ShloMosaic.ValueIdx
open Idealize.ShloMosaic hiding ix2 eq_ix2
open Cert.FfnBwdRefIdeal.Read (val_main_v15 val_main_v16)
open Ffn (lane row)

/-- The block of rows of a grid point. -/
def bp (t : Fin cfg0.N) : Fin 16 := ⟨t.val / 2, by have := t.isLt; have h : cfg0.N = 32 := N_0; omega⟩
/-- The half of the hidden lanes of a grid point. -/
def hp (t : Fin cfg0.N) : Fin 2 := ⟨t.val % 2, by omega⟩

theorem ix0_0 : ∀ t : Fin cfg0.N, win0_0.index t = ![t.val / 2, 0] := (by decide +kernel : ∀ t : Fin grid0.N, win0_0.index t = ![t.val / 2, 0])
theorem ix0_1 : ∀ t : Fin cfg0.N, win0_1.index t = ![0, 0] := (by decide +kernel : ∀ t : Fin grid0.N, win0_1.index t = ![0, 0])
theorem ix0_2 : ∀ t : Fin cfg0.N, win0_2.index t = ![t.val / 2, t.val % 2] := (by decide +kernel : ∀ t : Fin grid0.N, win0_2.index t = ![t.val / 2, t.val % 2])
theorem ix0_3 : ∀ t : Fin cfg0.N, win0_3.index t = ![t.val / 2, t.val % 2] := (by decide +kernel : ∀ t : Fin grid0.N, win0_3.index t = ![t.val / 2, t.val % 2])
theorem ix0_4 : ∀ t : Fin cfg0.N, win0_4.index t = ![t.val / 2, 0] := (by decide +kernel : ∀ t : Fin grid0.N, win0_4.index t = ![t.val / 2, 0])
theorem ix0_5 : ∀ t : Fin cfg0.N, win0_5.index t = ![t.val % 2, 0] := (by decide +kernel : ∀ t : Fin grid0.N, win0_5.index t = ![t.val % 2, 0])
theorem ix0_6 : ∀ t : Fin cfg0.N, win0_6.index t = ![t.val % 2, 0] := (by decide +kernel : ∀ t : Fin grid0.N, win0_6.index t = ![t.val % 2, 0])
theorem ix0_7 : ∀ t : Fin cfg0.N, win0_7.index t = ![t.val % 2, 0] := (by decide +kernel : ∀ t : Fin grid0.N, win0_7.index t = ![t.val % 2, 0])
theorem ix0_8 : ∀ t : Fin cfg0.N, win0_8.index t = ![t.val / 2, 0] := (by decide +kernel : ∀ t : Fin grid0.N, win0_8.index t = ![t.val / 2, 0])
theorem ix0_9 : ∀ t : Fin cfg0.N, win0_9.index t = ![0, 0] := (by decide +kernel : ∀ t : Fin grid0.N, win0_9.index t = ![0, 0])
theorem ix0_10 : ∀ t : Fin cfg0.N, win0_10.index t = ![t.val / 2, t.val % 2] := (by decide +kernel : ∀ t : Fin grid0.N, win0_10.index t = ![t.val / 2, t.val % 2])
theorem ix0_11 : ∀ t : Fin cfg0.N, win0_11.index t = ![t.val / 2, t.val % 2] := (by decide +kernel : ∀ t : Fin grid0.N, win0_11.index t = ![t.val / 2, t.val % 2])

section
variable (m : (ℓ : Loc nD τ sig) → Buf (Elt Ideal) ℓ) (c : Dev nD)

/-- The six arguments. -/
abbrev a0 : (⟨S8192x1024, .f32⟩ : BufTy).Contents (Elt Ideal) := m ((c.tc : Thread nD τ).loc main_arg0)
abbrev a1 : (⟨S1x1024, .f32⟩ : BufTy).Contents (Elt Ideal) := m ((c.tc : Thread nD τ).loc main_arg1)
abbrev a2 : (⟨S1024x2816, .f32⟩ : BufTy).Contents (Elt Ideal) := m ((c.tc : Thread nD τ).loc main_arg2)
abbrev a3 : (⟨S1024x2816, .f32⟩ : BufTy).Contents (Elt Ideal) := m ((c.tc : Thread nD τ).loc main_arg3)
abbrev a4 : (⟨S2816x1024, .f32⟩ : BufTy).Contents (Elt Ideal) := m ((c.tc : Thread nD τ).loc main_arg4)
abbrev a5 : (⟨S8192x1024, .f32⟩ : BufTy).Contents (Elt Ideal) := m ((c.tc : Thread nD τ).loc main_arg5)

/-! ## What the host computes first -/

theorem V_gate : V m c main_v14
    = (truncf .bf16 (val_main_v15 (F := Ideal) (a0 m c) (a1 m c) (a2 m c) : FVec Ideal S8192x2816 .f32) bitsLt_bf16_f32 : FVec Ideal S8192x2816 .bf16) := by
  unfold V
  simp only [List.flatten_cons, List.flatten_nil, List.append_nil, hostOps0]
  entry_read
  rfl
theorem V_up : V m c main_v15
    = (truncf .bf16 (val_main_v16 (F := Ideal) (a0 m c) (a1 m c) (a3 m c) : FVec Ideal S8192x2816 .f32) bitsLt_bf16_f32 : FVec Ideal S8192x2816 .bf16) := by
  unfold V
  simp only [List.flatten_cons, List.flatten_nil, List.append_nil, hostOps0]
  entry_read
  rfl
theorem V_wg : V m c main_v17
    = (truncf .bf16 (transpose S2816x1024 [1, 0] (a2 m c) transposes_S1024x2816_S2816x1024_1_0 : FVec Ideal S2816x1024 .f32) bitsLt_bf16_f32 : FVec Ideal S2816x1024 .bf16) := by
  unfold V
  simp only [List.flatten_cons, List.flatten_nil, List.append_nil, hostOps0]
  entry_read
  rfl
theorem V_wu : V m c main_v19
    = (truncf .bf16 (transpose S2816x1024 [1, 0] (a3 m c) transposes_S1024x2816_S2816x1024_1_0 : FVec Ideal S2816x1024 .f32) bitsLt_bf16_f32 : FVec Ideal S2816x1024 .bf16) := by
  unfold V
  simp only [List.flatten_cons, List.flatten_nil, List.append_nil, hostOps0]
  entry_read
  rfl
theorem V_wd : V m c main_v20 = (truncf .bf16 (a4 m c : FVec Ideal S2816x1024 .f32) bitsLt_bf16_f32 : FVec Ideal S2816x1024 .bf16) := by
  unfold V
  simp only [List.flatten_cons, List.flatten_nil, List.append_nil, hostOps0]
  entry_read
  rfl

/-! ## The blocks -/

variable (t : Fin cfg0.N)

theorem iblk0_at (i : Fin 512) (l : Fin 1024) : iblk m c 0 t (ix2 i l) = a0 m c (ix2 (row (bp t) i) l) := by
  blk_ext [iblk, V_main_arg0, ix0_0 t, row, bp]
theorem iblk1_at (l : Fin 1024) : iblk m c 1 t (ix2 0 l) = a1 m c (ix2 0 l) := by
  blk_ext [iblk, V_main_arg1, ix0_1 t]
theorem iblk4_at (i : Fin 512) (l : Fin 1024) : iblk m c 4 t (ix2 i l) = a5 m c (ix2 (row (bp t) i) l) := by
  blk_ext [iblk, V_main_arg5, ix0_4 t, row, bp]
theorem iblk2_at (i : Fin 512) (f : Fin 1408) : iblk m c 2 t (ix2 i f) = V m c main_v14 (ix2 (row (bp t) i) (lane (hp t) f)) := by
  generalize hV : V m c main_v14 = G
  have h : iblk m c 2 t = ((cfg0.win 2).blk t).view.read (Elt Ideal) G := by rw [← hV]; rfl
  rw [h]
  blk_ext [ix0_2 t, row, lane, bp, hp]
theorem iblk3_at (i : Fin 512) (f : Fin 1408) : iblk m c 3 t (ix2 i f) = V m c main_v15 (ix2 (row (bp t) i) (lane (hp t) f)) := by
  generalize hV : V m c main_v15 = G
  have h : iblk m c 3 t = ((cfg0.win 3).blk t).view.read (Elt Ideal) G := by rw [← hV]; rfl
  rw [h]
  blk_ext [ix0_3 t, row, lane, bp, hp]
theorem iblk5_at (f : Fin 1408) (l : Fin 1024) : iblk m c 5 t (ix2 f l) = V m c main_v17 (ix2 (lane (hp t) f) l) := by
  generalize hV : V m c main_v17 = G
  have h : iblk m c 5 t = ((cfg0.win 5).blk t).view.read (Elt Ideal) G := by rw [← hV]; rfl
  rw [h]
  blk_ext [ix0_5 t, lane, hp]
theorem iblk6_at (f : Fin 1408) (l : Fin 1024) : iblk m c 6 t (ix2 f l) = V m c main_v19 (ix2 (lane (hp t) f) l) := by
  generalize hV : V m c main_v19 = G
  have h : iblk m c 6 t = ((cfg0.win 6).blk t).view.read (Elt Ideal) G := by rw [← hV]; rfl
  rw [h]
  blk_ext [ix0_6 t, lane, hp]
theorem iblk7_at (f : Fin 1408) (l : Fin 1024) : iblk m c 7 t (ix2 f l) = V m c main_v20 (ix2 (lane (hp t) f) l) := by
  generalize hV : V m c main_v20 = G
  have h : iblk m c 7 t = ((cfg0.win 7).blk t).view.read (Elt Ideal) G := by rw [← hV]; rfl
  rw [h]
  blk_ext [ix0_7 t, lane, hp]
end

/-! ## The blocks hold the real arrays' -/

section
variable {m : (ℓ : Loc nD τ sig) → Buf (Elt Ideal) ℓ} {c : Dev nD} {T : Ffn}
  (H : Holds T (a0 m c) (a1 m c) (a2 m c) (a3 m c) (a4 m c) (a5 m c)) (t : Fin cfg0.N)
include H

theorem x_blk (i : Fin 512) (l : Fin 1024) : iblk m c 0 t (ix2 i l) = (T.x (row (bp t) i) l : EReal) :=
  (iblk0_at m c t i l).trans (H.x _ _)
theorem gain_blk (l : Fin 1024) : iblk m c 1 t (ix2 0 l) = (T.gain l : EReal) := (iblk1_at m c t l).trans (H.gain _)
theorem dh_blk (i : Fin 512) (l : Fin 1024) : iblk m c 4 t (ix2 i l) = (T.dh (row (bp t) i) l : EReal) :=
  (iblk4_at m c t i l).trans (H.dh _ _)
theorem gate_blk (i : Fin 512) (f : Fin 1408) : iblk m c 2 t (ix2 i f) = (T.gate (row (bp t) i) (lane (hp t) f) : EReal) :=
  (iblk2_at m c t i f).trans ((congrFun (V_gate m c) _).trans (v15_at H _ _))
theorem up_blk (i : Fin 512) (f : Fin 1408) : iblk m c 3 t (ix2 i f) = (T.up (row (bp t) i) (lane (hp t) f) : EReal) :=
  (iblk3_at m c t i f).trans ((congrFun (V_up m c) _).trans (v16_at H _ _))
theorem wg_blk (f : Fin 1408) (l : Fin 1024) : iblk m c 5 t (ix2 f l) = (T.wg l (lane (hp t) f) : EReal) :=
  (iblk5_at m c t f l).trans ((congrFun (V_wg m c) _).trans
    ((transpose_ix2_apply (a2 m c) transposes_S1024x2816_S2816x1024_1_0 _ _).trans (H.wg _ _)))
theorem wu_blk (f : Fin 1408) (l : Fin 1024) : iblk m c 6 t (ix2 f l) = (T.wu l (lane (hp t) f) : EReal) :=
  (iblk6_at m c t f l).trans ((congrFun (V_wu m c) _).trans
    ((transpose_ix2_apply (a3 m c) transposes_S1024x2816_S2816x1024_1_0 _ _).trans (H.wu _ _)))
theorem wd_blk (f : Fin 1408) (l : Fin 1024) : iblk m c 7 t (ix2 f l) = (T.wd (lane (hp t) f) l : EReal) :=
  (iblk7_at m c t f l).trans ((congrFun (V_wd m c) _).trans (H.wd _ _))
end

end Cert.Proof.FfnBwd

end
-- ==== Proof.FfnRun.lean ====
/-
  The feed-forward backward pass: what every grid point leaves, by induction along the grid.
-/
module

public import proofs.«01_k».proof.Proof.FfnArrays

@[expose] public section

set_option maxRecDepth 16384

noncomputable section

namespace Cert.Proof.FfnBwd

open Cert.FfnBwdIdeal Cert.FfnBwdIdeal.Gen Idealize.ShloMosaic.TcCoe Idealize.ShloMosaic.ValueIdx
open Idealize.ShloMosaic hiding ix2 eq_ix2
open Ffn (lane row)
open scoped BigOperators

/-! ## The gradient of the gain up to a block -/

/-- The parts of the first `k` blocks. -/
def dgUpTo (T : Ffn) (k : ℕ) (l : Fin 1024) : ℝ := ∑ b ∈ Finset.univ.filter (fun b : Fin 16 => b.val < k), T.dgPart b l

theorem dgUpTo_zero (T : Ffn) (l : Fin 1024) : dgUpTo T 0 l = 0 := by
  unfold dgUpTo
  rw [Finset.filter_false_of_mem (fun b _ => Nat.not_lt_zero _), Finset.sum_empty]

theorem dgUpTo_succ (T : Ffn) (b : Fin 16) (l : Fin 1024) : dgUpTo T (b.val + 1) l = dgUpTo T b.val l + T.dgPart b l := by
  unfold dgUpTo
  have h : Finset.univ.filter (fun a : Fin 16 => a.val < b.val + 1) = insert b (Finset.univ.filter fun a : Fin 16 => a.val < b.val) := by
    ext a
    simp only [Finset.mem_filter, Finset.mem_univ, true_and, Finset.mem_insert, Fin.ext_iff]
    omega
  rw [h, Finset.sum_insert (by simp), add_comm]

theorem dgUpTo_all (T : Ffn) (l : Fin 1024) : dgUpTo T 16 l = T.dg l := by
  unfold dgUpTo
  rw [Finset.filter_true_of_mem fun b _ => b.isLt, Ffn.dg_eq]

variable {m : (ℓ : Loc nD τ sig) → Buf (Elt Ideal) ℓ} {c : Dev nD} {T : Ffn}
  (H : Holds T (a0 m c) (a1 m c) (a2 m c) (a3 m c) (a4 m c) (a5 m c)) (t : Fin cfg0.N)
include H

/-! ## The two gradients of the hidden lanes -/

theorem pay15_blk (i : Fin 512) (f : Fin 1408) :
    k0_pay15 (F := Ideal) (iblk m c 4 t) (iblk m c 7 t) (iblk m c 2 t) (iblk m c 3 t) (ix2 i f)
      = (T.dgate (row (bp t) i) (lane (hp t) f) : EReal) :=
  pay15_at (D := fun i l => T.dh (row (bp t) i) l) (W := fun f l => T.wd (lane (hp t) f) l)
    (A := fun i f => T.gate (row (bp t) i) (lane (hp t) f)) (U := fun i f => T.up (row (bp t) i) (lane (hp t) f))
    (dh_blk H t) (wd_blk H t) (gate_blk H t) (up_blk H t) i f

theorem pay14_blk (i : Fin 512) (f : Fin 1408) :
    k0_pay14 (F := Ideal) (iblk m c 4 t) (iblk m c 7 t) (iblk m c 2 t) (ix2 i f)
      = (T.dup (row (bp t) i) (lane (hp t) f) : EReal) :=
  pay14_at (D := fun i l => T.dh (row (bp t) i) l) (W := fun f l => T.wd (lane (hp t) f) l)
    (A := fun i f => T.gate (row (bp t) i) (lane (hp t) f))
    (dh_blk H t) (wd_blk H t) (gate_blk H t) i f

theorem dgate_at (i : Fin 512) (f : Fin 1408) :
    (outsAt0 m c t.val t.isLt).2.2.1 (ix2 i f) = (T.dgate (row (bp t) i) (lane (hp t) f) : EReal) := by
  refine Eq.trans ?_ (pay15_blk H t i f)
  by_cases h1 : t.val % 2 = 1
  · rw [odd_dgate m c t h1]
  · by_cases h2 : t.val % 32 = 0
    · rw [first_dgate m c t h2]
    · rw [even_dgate m c t (by omega) h2]

theorem dup_at (i : Fin 512) (f : Fin 1408) :
    (outsAt0 m c t.val t.isLt).2.2.2.1 (ix2 i f) = (T.dup (row (bp t) i) (lane (hp t) f) : EReal) := by
  refine Eq.trans ?_ (pay14_blk H t i f)
  by_cases h1 : t.val % 2 = 1
  · rw [odd_dup m c t h1]
  · by_cases h2 : t.val % 32 = 0
    · rw [first_dup m c t h2]
    · rw [even_dup m c t (by omega) h2]

/-! ## The gradient of the normed input -/

theorem part_at (i : Fin 512) (l : Fin 1024) : partOf m c t (ix2 i l) = (T.part (hp t) (row (bp t) i) l : EReal) :=
  pay1_at (P := fun i f => T.dgate (row (bp t) i) (lane (hp t) f)) (Q := fun i f => T.dup (row (bp t) i) (lane (hp t) f))
    (A := fun f l => T.wg l (lane (hp t) f)) (B := fun f l => T.wu l (lane (hp t) f))
    (pay15_blk H t) (pay14_blk H t) (wg_blk H t) (wu_blk H t) i l

theorem even_dn_at (h : t.val % 2 = 0) (i : Fin 512) (l : Fin 1024) :
    (outsAt0 m c t.val t.isLt).2.2.2.2 (ix2 i l) = (T.part 0 (row (bp t) i) l : EReal) := by
  have h0 : hp t = 0 := Fin.ext h
  refine Eq.trans ?_ ((part_at H t i l).trans (by rw [h0]))
  by_cases h2 : t.val % 32 = 0
  · rw [first_dn m c t h2, shapeCast_self]
  · rw [even_dn m c t h h2, shapeCast_self]

theorem dn_at (h : t.val % 2 = 1) (i : Fin 512) (l : Fin 1024) : dnOf m c t (ix2 i l) = (T.dn (row (bp t) i) l : EReal) := by
  unfold dnOf
  rw [shapeCast_self]
  have h1 : hp t = 1 := Fin.ext h
  have hs : t.val - 1 < cfg0.N := Nat.lt_of_le_of_lt (Nat.sub_le _ _) t.isLt
  have hb : bp ⟨t.val - 1, hs⟩ = bp t := Fin.ext (by show (t.val - 1) / 2 = t.val / 2; omega)
  have e := even_dn_at H ⟨t.val - 1, hs⟩ (by show (t.val - 1) % 2 = 0; omega) i l
  refine (congrArg₂ (· + ·) e (part_at H t i l)).trans ?_
  rw [hb, h1, Ffn.dn_eq, EReal.coe_add]

/-! ## The gradients of the input and of the gain -/

theorem dx_at (h : t.val % 2 = 1) (i : Fin 512) (l : Fin 1024) :
    (outsAt0 m c t.val t.isLt).1 (ix2 i l) = (T.dx (row (bp t) i) l : EReal) := by
  rw [odd_dx m c t h]
  exact pay7_at (X := fun i l => T.x (row (bp t) i) l) (N := fun i l => T.dn (row (bp t) i) l)
    (D := fun i l => T.dh (row (bp t) i) l) (G := T.gain)
    (x_blk H t) (dn_at H t h) (dh_blk H t) (gain_blk H t) i l

theorem dg_at (n : ℕ) : ∀ (h : n < cfg0.N) (l : Fin 1024), (outsAt0 m c n h).2.1 (ix2 0 l) = (dgUpTo T ((n + 1) / 2) l : EReal) := by
  induction n with
  | zero =>
    intro h l
    have e := congrFun (first_dg m c ⟨0, h⟩ rfl) (ix2 0 l)
    refine e.trans ?_
    rw [show (0 + 1) / 2 = 0 from rfl, dgUpTo_zero]
    exact LatentBwd.ofBits_zero
  | succ n ih =>
    intro h l
    have hn : n < cfg0.N := Nat.lt_of_succ_lt h
    have hN : cfg0.N = 32 := N_0
    by_cases ho : (n + 1) % 2 = 1
    · have e := congrFun (odd_dg m c ⟨n + 1, h⟩ ho) (ix2 0 l)
      refine e.trans ?_
      refine (pay8_at (X := fun i l => T.x (row (bp ⟨n + 1, h⟩) i) l) (N := fun i l => T.dn (row (bp ⟨n + 1, h⟩) i) l)
        (x_blk H ⟨n + 1, h⟩) (dn_at H ⟨n + 1, h⟩ ho) _ (fun l => dgUpTo T ((n + 1) / 2) l) (fun l => ih hn l) l).trans ?_
      have hk : (n + 1 + 1) / 2 = (bp ⟨n + 1, h⟩).val + 1 := by show (n + 1 + 1) / 2 = (n + 1) / 2 + 1; omega
      rw [hk, dgUpTo_succ]
      rfl
    · have e := congrFun (even_dg m c ⟨n + 1, h⟩ (by show (n + 1) % 2 = 0; omega) (by show ¬(n + 1) % 32 = 0; omega)) (ix2 0 l)
      refine e.trans ((ih hn l).trans ?_)
      rw [show (n + 1) / 2 = (n + 1 + 1) / 2 by omega]

end Cert.Proof.FfnBwd

end
-- ==== Proof.FfnResults.lean ====
/-
  The feed-forward backward pass: what the four output arrays hold after the run, the reference's four results.
-/
module

public import proofs.«01_k».proof.Proof.FfnRun

@[expose] public section

set_option maxRecDepth 16384

noncomputable section

namespace Cert.Proof.FfnBwd

open Cert.FfnBwdIdeal Cert.FfnBwdIdeal.Gen Idealize.ShloMosaic.TcCoe Idealize.ShloMosaic.ValueIdx
open Idealize.ShloMosaic hiding ix2 eq_ix2
open Ffn (lane row)
open Cert.FfnBwdRefIdeal.Read (val_main_v50 val_main_v33 val_main_v51 val_main_v52)

variable {m : (ℓ : Loc nD τ sig) → Buf (Elt Ideal) ℓ} {c : Dev nD} {T : Ffn}
  (H : Holds T (a0 m c) (a1 m c) (a2 m c) (a3 m c) (a4 m c) (a5 m c))
include H

/-- The gradient of the input. -/
theorem arr8 : (dats m 0 c).arrAt 8 cfg0.N = val_main_v50 (F := Ideal) (a0 m c) (a1 m c) (a2 m c) (a3 m c) (a4 m c) (a5 m c) := by
  have at_ := v50_at H
  generalize val_main_v50 (F := Ideal) (a0 m c) (a1 m c) (a2 m c) (a3 m c) (a4 m c) (a5 m c) = G at at_ ⊢
  refine (dats m 0 c).arrAt_eq_of_covers 8 G (by decide +kernel) fun t hf y => ?_
  blk_simp
  rw [after0_8]
  obtain ⟨i, l, rfl⟩ : ∃ (i : Fin 512) (l : Fin 1024), y = ix2 i l := ⟨y 0, y 1, eq_ix2 y⟩
  refine (dx_at H t ((flush0_8 t).mp hf) i l).trans ((at_ (row (bp t) i) l).symm.trans ?_)
  blk_ext [ix0_8 t, row, bp]

/-- The gradient of the gain. -/
theorem arr9 : (dats m 0 c).arrAt 9 cfg0.N = val_main_v33 (F := Ideal) (a0 m c) (a1 m c) (a2 m c) (a3 m c) (a4 m c) (a5 m c) := by
  have at_ := v33_at H
  generalize val_main_v33 (F := Ideal) (a0 m c) (a1 m c) (a2 m c) (a3 m c) (a4 m c) (a5 m c) = G at at_ ⊢
  refine (dats m 0 c).arrAt_eq_of_covers 9 G (by decide +kernel) fun t hf y => ?_
  blk_simp
  rw [after0_9]
  obtain ⟨i, l, rfl⟩ : ∃ (i : Fin 1) (l : Fin 1024), y = ix2 i l := ⟨y 0, y 1, eq_ix2 y⟩
  obtain rfl : i = 0 := Subsingleton.elim _ _
  have ht : t.val = 31 := by
    have := (flush0_9 t).mp hf
    have := t.isLt
    have : cfg0.N = 32 := N_0
    omega
  refine (dg_at H t.val t.isLt l).trans ?_
  rw [ht, show (31 + 1) / 2 = 16 from rfl, dgUpTo_all]
  refine (at_ 0 l).symm.trans ?_
  blk_ext [ix0_9 t]

/-- The gradient of the gate lanes. -/
theorem arr10 : (dats m 0 c).arrAt 10 cfg0.N = val_main_v51 (F := Ideal) (a0 m c) (a1 m c) (a2 m c) (a3 m c) (a4 m c) (a5 m c) := by
  have at_ := v51_at H
  generalize val_main_v51 (F := Ideal) (a0 m c) (a1 m c) (a2 m c) (a3 m c) (a4 m c) (a5 m c) = G at at_ ⊢
  refine (dats m 0 c).arrAt_eq_of_covers 10 G (by decide +kernel) fun t hf y => ?_
  blk_simp
  rw [after0_10]
  obtain ⟨i, f, rfl⟩ : ∃ (i : Fin 512) (f : Fin 1408), y = ix2 i f := ⟨y 0, y 1, eq_ix2 y⟩
  refine (dgate_at H t i f).trans ((at_ (row (bp t) i) (lane (hp t) f)).symm.trans ?_)
  blk_ext [ix0_10 t, row, lane, bp, hp]

/-- The gradient of the up lanes. -/
theorem arr11 : (dats m 0 c).arrAt 11 cfg0.N = val_main_v52 (F := Ideal) (a0 m c) (a1 m c) (a2 m c) (a4 m c) (a5 m c) := by
  have at_ := v52_at H
  generalize val_main_v52 (F := Ideal) (a0 m c) (a1 m c) (a2 m c) (a4 m c) (a5 m c) = G at at_ ⊢
  refine (dats m 0 c).arrAt_eq_of_covers 11 G (by decide +kernel) fun t hf y => ?_
  blk_simp
  rw [after0_11]
  obtain ⟨i, f, rfl⟩ : ∃ (i : Fin 512) (f : Fin 1408), y = ix2 i f := ⟨y 0, y 1, eq_ix2 y⟩
  refine (dup_at H t i f).trans ((at_ (row (bp t) i) (lane (hp t) f)).symm.trans ?_)
  blk_ext [ix0_11 t, row, lane, bp, hp]

end Cert.Proof.FfnBwd

end
-- ==== Proof.FfnPre.lean ====
/-
  The precondition of the feed-forward backward pass, read: the six arguments hold real numbers.
-/
module

public import proofs.«01_k».proof.Pre_ffn_finite
public import proofs.«01_k».proof.Proof.Pre
public import proofs.«01_k».proof.Proof.FfnRef

@[expose] public section

set_option maxRecDepth 16384

noncomputable section

namespace Cert.Proof.FfnBwd

open Cert.Pre_ffn_finite Idealize.ShloMosaic
open Idealize.ShloMosaic.ValueIdx (ix2)
open LatentBwd (isReal_of ofBits_inf)

/-- The shape relations the precondition's operations state. -/
instance factsFinite : Cert.Pre_ffn_finite.Facts where
  bcast_S_S8192x1024 := by decide
  reducesTo_S8192x1024_S_d0_1 := by decide
  h_S_ := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide

/-- The arguments as real matrices. -/
def real (x0 : FVec Ideal S8192x1024 .f32) (x1 : FVec Ideal S1x1024 .f32) (x2 x3 : FVec Ideal S1024x2816 .f32)
    (x4 : FVec Ideal S2816x1024 .f32) (x5 : FVec Ideal S8192x1024 .f32) : Ffn where
  x i c := (x0 (ix2 i c)).toReal
  gain c := (x1 (ix2 0 c)).toReal
  wg c f := (x2 (ix2 c f)).toReal
  wu c f := (x3 (ix2 c f)).toReal
  wd f c := (x4 (ix2 f c)).toReal
  dh i c := (x5 (ix2 i c)).toReal

theorem finite_holds {x0 : FVec Ideal S8192x1024 .f32} {x1 : FVec Ideal S1x1024 .f32} {x2 x3 : FVec Ideal S1024x2816 .f32}
    {x4 : FVec Ideal S2816x1024 .f32} {x5 : FVec Ideal S8192x1024 .f32}
    (h : Cert.Pre_ffn_finite.fn (F := Ideal) x0 x1 x2 x3 x4 x5 = fun _ => 1#1) : Holds (real x0 x1 x2 x3 x4 x5) x0 x1 x2 x3 x4 x5 := by
  have hs := congrFun h (fun i : Fin 0 => i.elim0)
  dsimp only [fn, fn_part1] at hs
  obtain ⟨h4, e5⟩ := IntOp.andi_eq_one.1 hs
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  have sub : Subsingleton S_.Idx := ⟨fun a b => funext fun i => i.elim0⟩
  exact
    { x := fun i c => isReal_of _ _ (fun _ => ofBits_inf) (Host.reduce_andi_all _ _ _ _ _ e0) (ix2 i c)
      gain := fun c => isReal_of _ _ (fun _ => ofBits_inf) (Host.reduce_andi_all _ _ _ _ _ e1) (ix2 0 c)
      wg := fun c f => isReal_of _ _ (fun _ => ofBits_inf) (Host.reduce_andi_all _ _ _ _ _ e2) (ix2 c f)
      wu := fun c f => isReal_of _ _ (fun _ => ofBits_inf) (Host.reduce_andi_all _ _ _ _ _ e3) (ix2 c f)
      wd := fun f c => isReal_of _ _ (fun _ => ofBits_inf) (Host.reduce_andi_all _ _ _ _ _ e4) (ix2 f c)
      dh := fun i c => isReal_of _ _ (fun _ => ofBits_inf) (Host.reduce_andi_all _ _ _ _ _ e5) (ix2 i c) }

end Cert.Proof.FfnBwd

end
-- ==== Proof.FfnClaims.lean ====
/-
  The claims about the feed-forward backward pass: the frames, and the kernel's four results being the reference's.
-/
module

public import proofs.«01_k».proof.Defs
public import proofs.«01_k».proof.Proof.Gen.FfnBwd.Frame
public import proofs.«01_k».proof.Proof.Gen.FfnBwdIdeal.Frame
public import proofs.«01_k».proof.Proof.Gen.FfnBwdIdeal.Value
public import proofs.«01_k».proof.Proof.Gen.FfnBwdRefIdeal.Run
public import proofs.«01_k».proof.Proof.FfnResults
public import proofs.«01_k».proof.Proof.FfnPre
public import Idealize.ShloMosaic.Lib.Quiescent

@[expose] public section

set_option maxRecDepth 16384

noncomputable section

namespace Cert.Proof.FfnBwd

open Idealize.ShloMosaic Idealize.ShloMosaic.TcCoe Idealize.SL.Sem
open Cert.FfnBwdRefIdeal.Read (val_main_v50 val_main_v33 val_main_v51 val_main_v52 val_main_v50_eq val_main_v33_eq val_main_v51_eq
  val_main_v52_eq)

theorem frame_p : Cert.quiescent_FfnBwd := fun m ρ _ => Cert.FfnBwd.Gen.frame m ρ

theorem frame_pi : Cert.quiescent_FfnBwdIdeal := fun m ρ _ => Cert.FfnBwdIdeal.Gen.frame m ρ

/-- The reference has no semaphores, so its run alone gives the frame. -/
theorem frame_ri : Cert.quiescent_FfnBwdRefIdeal := fun m ρ _ =>
  (θ_run Cert.FfnBwdRefIdeal.defs _ _).mono
    (fun r h => ⟨fun c => (h c).2.2.2.2, sem_eq_zero_of_no_sems (by decide) r.2⟩)
    (Cert.FfnBwdRefIdeal.Value.run (F := Ideal) m ρ)

theorem algebraic : Cert.algebraic_FfnBwdIdeal_FfnBwdRefIdeal_pre_ffn_finite := by
  intro m g m' g' hpre hargs
  refine ⟨fun c => val_main_v50 (F := Ideal) (a0 m c) (a1 m c) (a2 m c) (a3 m c) (a4 m c) (a5 m c),
    fun c => val_main_v33 (F := Ideal) (a0 m c) (a1 m c) (a2 m c) (a3 m c) (a4 m c) (a5 m c),
    fun c => val_main_v51 (F := Ideal) (a0 m c) (a1 m c) (a2 m c) (a3 m c) (a4 m c) (a5 m c),
    fun c => val_main_v52 (F := Ideal) (a0 m c) (a1 m c) (a2 m c) (a4 m c) (a5 m c), ?_, ?_⟩
  · refine (θ_run Cert.FfnBwdIdeal.defs _ _).mono (fun r h c => ?_) (Cert.FfnBwdIdeal.Value.run_blocks (F := Ideal) m g)
    have H := finite_holds (hpre c)
    obtain ⟨e8, e9, e10, e11, ha⟩ := h c
    exact ⟨e8.trans (arr8 H), e9.trans (arr9 H), e10.trans (arr10 H), e11.trans (arr11 H), ha⟩
  · refine (θ_run Cert.FfnBwdRefIdeal.defs _ _).mono (fun r h c => ?_) (Cert.FfnBwdRefIdeal.Value.run (F := Ideal) m' g')
    obtain ⟨e50, e33, e51, e52, ha⟩ := h c
    obtain ⟨g0, g1, g2, g3, g4, g5⟩ := hargs c
    refine ⟨e50.trans ((val_main_v50_eq m' c).trans ?_), e33.trans ((val_main_v33_eq m' c).trans ?_),
      e51.trans ((val_main_v51_eq m' c).trans ?_), e52.trans ((val_main_v52_eq _ _ _ _ _).trans ?_), ha⟩
    · rw [g0, g1, g2, g3, g4, g5]
    · rw [g0, g1, g2, g3, g4, g5]
    · rw [g0, g1, g2, g3, g4, g5]
    · rw [g0, g1, g2, g4, g5]

end Cert.Proof.FfnBwd

end
-- ==== Proof.TnSum.lean ====
/-
  A sum over the 8192 rows taken in four blocks of 2048, one after another, and the product that adds one block to what
  was there before. Shared by the gradients of the weights.
-/
module

public import proofs.«01_k».proof.Proof.Tile
public import Idealize.ShloMosaic.Lib.ValueLayoutCasts

@[expose] public section

set_option maxRecDepth 16384

noncomputable section

namespace Cert.Proof.TnSum

open Idealize.ShloMosaic Idealize.ShloMosaic.ValueIdx
open Cert.Proof.LatentBwd (tnDims matmul_tn_apply zeros zeros_apply)
open scoped BigOperators

/-- Row `r` of block `s` of 2048 rows. -/
def pos (s : Fin 4) (r : Fin 2048) : Fin 8192 := ⟨s.val * 2048 + r.val, by omega⟩

/-- Half `h` of the hidden lanes, lane `f`. -/
def wide (h : Fin 2) (f : Fin 1408) : Fin 2816 := ⟨h.val * 1408 + f.val, by omega⟩

/-- The sum over the first `k` blocks. -/
def upTo (g : Fin 8192 → EReal) (k : ℕ) : EReal := ∑ s ∈ Finset.univ.filter (fun s : Fin 4 => s.val < k), ∑ r, g (pos s r)

theorem upTo_zero (g : Fin 8192 → EReal) : upTo g 0 = 0 := by
  unfold upTo
  rw [Finset.filter_false_of_mem (fun s _ => Nat.not_lt_zero _), Finset.sum_empty]

theorem upTo_succ (g : Fin 8192 → EReal) (s : Fin 4) : upTo g (s.val + 1) = upTo g s.val + ∑ r, g (pos s r) := by
  unfold upTo
  have h : Finset.univ.filter (fun a : Fin 4 => a.val < s.val + 1) = insert s (Finset.univ.filter fun a : Fin 4 => a.val < s.val) := by
    ext a
    simp only [Finset.mem_filter, Finset.mem_univ, true_and, Finset.mem_insert, Fin.ext_iff]
    omega
  rw [h, Finset.sum_insert (by simp), add_comm]

theorem upTo_all (g : Fin 8192 → EReal) : upTo g 4 = ∑ r, g r := by
  unfold upTo
  rw [Finset.filter_true_of_mem fun s _ => s.isLt, ← Fintype.sum_prod_type', ← Equiv.sum_comp (finProdFinEquiv (m := 4) (n := 2048)) g]
  refine Finset.sum_congr rfl fun p _ => congrArg g (Fin.ext ?_)
  show p.1.val * 2048 + p.2.val = p.2.val + 2048 * p.1.val
  omega

/-- One block's product added to what was there. -/
theorem add_block_at {K N : ℕ} {φ₁ φ₂ : FTy} (o : FVec Ideal ⟨2, ![K, N]⟩ .f32) (p : FVec Ideal ⟨2, ![2048, K]⟩ φ₁)
    (q : FVec Ideal ⟨2, ![2048, N]⟩ φ₂) (f : Fin K) (l : Fin N) :
    addf o (matmul (tnDims 2048 K N) none p q (zeros ⟨2, ![K, N]⟩)) (ix2 f l)
      = o (ix2 f l) + ∑ r, p (ix2 r f) * q (ix2 r l) := by
  refine congrArg (o (ix2 f l) + ·) ((matmul_tn_apply p q (zeros _) f l).trans ?_)
  rw [zeros_apply, zero_add]

/-- An entry that starts over at every fourth point, and to which each point adds its block: after a point, the sum over
    the blocks up to its own. `g i` is what is summed over the rows in the `i`-th four points. -/
theorem run_at {N : ℕ} (out : (n : ℕ) → n < N → EReal) (g : ℕ → Fin 8192 → EReal)
    (first : ∀ t : Fin N, t.val % 4 = 0 → out t.val t.isLt = 0 + ∑ r, g (t.val / 4) (pos ⟨t.val % 4, by omega⟩ r))
    (later : ∀ t : Fin N, ¬t.val % 4 = 0 → out t.val t.isLt
      = out (t.val - 1) (Nat.lt_of_le_of_lt (Nat.sub_le _ _) t.isLt) + ∑ r, g (t.val / 4) (pos ⟨t.val % 4, by omega⟩ r))
    (n : ℕ) (h : n < N) : out n h = upTo (g (n / 4)) (n % 4 + 1) := by
  induction n with
  | zero =>
    refine (first ⟨0, h⟩ rfl).trans ?_
    rw [← upTo_zero (g (0 / 4))]
    exact (upTo_succ (g (0 / 4)) ⟨0, by omega⟩).symm
  | succ n ih =>
    by_cases h0 : (n + 1) % 4 = 0
    · refine (first ⟨n + 1, h⟩ h0).trans ?_
      refine Eq.trans ?_ (upTo_succ (g ((n + 1) / 4)) ⟨(n + 1) % 4, by omega⟩).symm
      refine congrArg (· + _) ?_
      show 0 = upTo (g ((n + 1) / 4)) ((n + 1) % 4)
      rw [h0, upTo_zero]
    · refine (later ⟨n + 1, h⟩ h0).trans ?_
      refine Eq.trans ?_ (upTo_succ (g ((n + 1) / 4)) ⟨(n + 1) % 4, by omega⟩).symm
      refine congrArg (· + _) ((ih (Nat.lt_of_succ_lt h)).trans ?_)
      show _ = upTo (g ((n + 1) / 4)) ((n + 1) % 4)
      rw [show n / 4 = (n + 1) / 4 by omega, show n % 4 + 1 = (n + 1) % 4 by omega]

end Cert.Proof.TnSum

end
-- ==== Proof.WideGrad.lean ====
/-
  The gradient of a feed-forward block's gate or up weights: the kernel adds the products of four blocks of 2048 rows,
  half of the hidden lanes at a time.
-/
module

public import proofs.«01_k».proof.Proof.TnSum
public import proofs.«01_k».proof.Proof.Gen.WideGradIdeal.Frame
public import proofs.«01_k».proof.Proof.Gen.WideGradRefIdeal.Read
public import Idealize.ShloMosaic.Lib.Pipeline.ValueKit.Acc
public import Idealize.ShloMosaic.Lib.Pipeline.ValueKit.Point
public import Idealize.ShloMosaic.Lib.Pipeline.ReadBack
public import Idealize.ShloMosaic.Lib.WholeRead
public import Idealize.ShloMosaic.Lib.ValueLayout
public import Idealize.ShloMosaic.PureOps.Ideal.Laws

@[expose] public section

set_option maxRecDepth 16384

noncomputable section

namespace Cert.Proof.WideGrad

open Cert.WideGradIdeal Cert.WideGradIdeal.Gen Idealize.ShloMosaic.TcCoe Idealize.ShloMosaic.ValueIdx
open Idealize.ShloMosaic hiding ix2 eq_ix2
open Cert.WideGradRefIdeal.Read
open TnSum (pos wide upTo upTo_zero upTo_succ upTo_all add_block_at)
open scoped BigOperators

/-! ## The reference -/

theorem v6_at (x0 : (⟨2, ![8192, 2816]⟩ : Shape).Idx → EReal) (x1 : (⟨2, ![8192, 1024]⟩ : Shape).Idx → EReal) (f : Fin 2816) (l : Fin 1024) :
    val_main_v6 (F := Ideal) x0 x1 (ix2 f l) = ∑ k, x0 (ix2 k f) * x1 (ix2 k l) := by
  rw [val_main_v6_apply, val_main_v5_apply, val_main_v4_apply]
  refine Finset.sum_congr rfl fun k _ => congrArg₂ (· * ·) (congrArg x0 ?_) (congrArg x1 ?_) <;>
    · funext a; match a with
      | ⟨0, _⟩ => rfl
      | ⟨1, _⟩ => rfl

theorem v8_at (x0 : (⟨2, ![8192, 2816]⟩ : Shape).Idx → EReal) (x1 : (⟨2, ![8192, 1024]⟩ : Shape).Idx → EReal) (f : Fin 2816) (l : Fin 1024) :
    val_main_v8 (F := Ideal) x0 x1 (ix2 f l) = ∑ k, x0 (ix2 k f) * x1 (ix2 k l) := v6_at x0 x1 f l

/-! ## What a grid point leaves -/

/-- The half of the hidden lanes of a grid point. -/
def hp (t : Fin cfg0.N) : Fin 2 := ⟨t.val / 4, by have := t.isLt; have h : cfg0.N = 8 := N_0; omega⟩
/-- The block of rows of a grid point. -/
def sp (t : Fin cfg0.N) : Fin 4 := ⟨t.val % 4, by omega⟩

theorem ix0_0 : ∀ t : Fin cfg0.N, win0_0.index t = ![t.val % 4, t.val / 4] := (by decide +kernel : ∀ t : Fin grid0.N, win0_0.index t = ![t.val % 4, t.val / 4])
theorem ix0_1 : ∀ t : Fin cfg0.N, win0_1.index t = ![t.val % 4, 0] := (by decide +kernel : ∀ t : Fin grid0.N, win0_1.index t = ![t.val % 4, 0])
theorem ix0_2 : ∀ t : Fin cfg0.N, win0_2.index t = ![t.val / 4, 0] := (by decide +kernel : ∀ t : Fin grid0.N, win0_2.index t = ![t.val / 4, 0])
theorem ix0_3 : ∀ t : Fin cfg0.N, win0_3.index t = ![t.val / 4, 0] := (by decide +kernel : ∀ t : Fin grid0.N, win0_3.index t = ![t.val / 4, 0])

variable (m : (ℓ : Loc nD τ sig) → Buf (Elt Ideal) ℓ) (c : Dev nD) (t : Fin cfg0.N)

/-- The two arguments. -/
abbrev a0 : (⟨S8192x2816, .bf16⟩ : BufTy).Contents (Elt Ideal) := m ((c.tc : Thread nD τ).loc main_arg0)
abbrev a1 : (⟨S8192x1024, .bf16⟩ : BufTy).Contents (Elt Ideal) := m ((c.tc : Thread nD τ).loc main_arg1)

/-- The two blocks a grid point is given. -/
abbrev b0 : FVec Ideal S2048x1408 .bf16 := iblk m c 0 t
abbrev b1 : FVec Ideal S2048x1024 .bf16 := iblk m c 1 t

theorem iblk0_at (r : Fin 2048) (f : Fin 1408) : iblk m c 0 t (ix2 r f) = a0 m c (ix2 (pos (sp t) r) (wide (hp t) f)) := by
  blk_ext [iblk, V_main_arg0, ix0_0 t, pos, sp, wide, hp]
theorem iblk1_at (r : Fin 2048) (l : Fin 1024) : iblk m c 1 t (ix2 r l) = a1 m c (ix2 (pos (sp t) r) l) := by
  blk_ext [iblk, V_main_arg1, ix0_1 t, pos, sp]

theorem first_out (h : t.val % 4 = 0) : (outsAt0 m c t.val t.isLt).1
    = k0_pay2 (F := Ideal) (k0_pay1 (F := Ideal)) (iblk m c 0 t) (iblk m c 1 t) := by
  rw [outsAt0_A m c t h (by omega)]
  frame_out
theorem later_out (h : ¬t.val % 4 = 0) : (outsAt0 m c t.val t.isLt).1
    = k0_pay2 (F := Ideal) (outsAt0 m c (t.val - 1) (Nat.lt_of_le_of_lt (Nat.sub_le _ _) t.isLt)).1 (iblk m c 0 t) (iblk m c 1 t) := by
  by_cases h3 : t.val % 4 = 3
  · rw [outsAt0_C m c t h h3]
    frame_out
  · rw [outsAt0_B m c t h h3]
    frame_out
theorem last_out16 (h : t.val % 4 = 3) : (outsAt0 m c t.val t.isLt).2
    = k0_pay3 (F := Ideal) (outsAt0 m c t.val t.isLt).1 := by
  rw [later_out m c t (by omega), outsAt0_C m c t (by omega) h]
  frame_out

theorem pay2_at (o : FVec Ideal S1408x1024 .f32) (p : FVec Ideal S2048x1408 .bf16) (q : FVec Ideal S2048x1024 .bf16) (f : Fin 1408)
    (l : Fin 1024) : k0_pay2 (F := Ideal) o p q (ix2 f l) = o (ix2 f l) + ∑ r, p (ix2 r f) * q (ix2 r l) := by
  unfold k0_pay2
  rw [shapeCast_self]
  exact add_block_at o p q f l

/-- The products the gradient's entry adds. -/
abbrev prods (h : Fin 2) (f : Fin 1408) (l : Fin 1024) (k : Fin 8192) : EReal := a0 m c (ix2 k (wide h f)) * a1 m c (ix2 k l)

theorem block_sum (f : Fin 1408) (l : Fin 1024) :
    ∑ r, b0 m c t (ix2 r f) * b1 m c t (ix2 r l) = ∑ r, prods m c (hp t) f l (pos (sp t) r) :=
  Finset.sum_congr rfl fun r _ => congrArg₂ (· * ·) (iblk0_at m c t r f) (iblk1_at m c t r l)

/-- After a point, the sum over the blocks up to its own. -/
theorem out_at (n : ℕ) : ∀ (h : n < cfg0.N) (f : Fin 1408) (l : Fin 1024),
    (outsAt0 m c n h).1 (ix2 f l) = upTo (prods m c (hp ⟨n, h⟩) f l) ((sp ⟨n, h⟩).val + 1) := by
  induction n with
  | zero =>
    intro h f l
    refine (congrFun (first_out m c ⟨0, h⟩ rfl) (ix2 f l)).trans ((pay2_at _ _ _ f l).trans ?_)
    rw [upTo_succ]
    refine congrArg₂ (· + ·) ?_ (block_sum m c ⟨0, h⟩ f l)
    exact Ideal.ofBits_zero_f32.trans (upTo_zero _).symm
  | succ n ih =>
    intro h f l
    have hn : n < cfg0.N := Nat.lt_of_succ_lt h
    by_cases h0 : (n + 1) % 4 = 0
    · refine (congrFun (first_out m c ⟨n + 1, h⟩ h0) (ix2 f l)).trans ((pay2_at _ _ _ f l).trans ?_)
      rw [upTo_succ]
      refine congrArg₂ (· + ·) ?_ (block_sum m c ⟨n + 1, h⟩ f l)
      rw [show (sp ⟨n + 1, h⟩).val = 0 from h0]
      exact Ideal.ofBits_zero_f32.trans (upTo_zero _).symm
    · refine (congrFun (later_out m c ⟨n + 1, h⟩ h0) (ix2 f l)).trans ((pay2_at _ _ _ f l).trans ?_)
      rw [upTo_succ]
      refine congrArg₂ (· + ·) ((ih hn f l).trans ?_) (block_sum m c ⟨n + 1, h⟩ f l)
      have e1 : hp ⟨n, hn⟩ = hp ⟨n + 1, h⟩ := Fin.ext (by show n / 4 = (n + 1) / 4; omega)
      have e2 : (sp ⟨n, hn⟩).val + 1 = (sp ⟨n + 1, h⟩).val := by show n % 4 + 1 = (n + 1) % 4; omega
      rw [e1, e2]

/-- At the last block of rows, the whole gradient. -/
theorem last_at (h : t.val % 4 = 3) (f : Fin 1408) (l : Fin 1024) :
    (outsAt0 m c t.val t.isLt).1 (ix2 f l) = ∑ k, prods m c (hp t) f l k := by
  rw [out_at m c t.val t.isLt, show (sp ⟨t.val, t.isLt⟩).val + 1 = 4 by show t.val % 4 + 1 = 4; omega, upTo_all]

theorem last16_at (h : t.val % 4 = 3) (f : Fin 1408) (l : Fin 1024) :
    (outsAt0 m c t.val t.isLt).2 (ix2 f l) = ∑ k, prods m c (hp t) f l k := by
  rw [last_out16 m c t h]
  unfold k0_pay3
  rw [shapeCast_self]
  exact last_at m c t h f l

/-! ## What the arrays hold -/

theorem arr2 : (dats m 0 c).arrAt 2 cfg0.N = val_main_v6 (F := Ideal) (a0 m c) (a1 m c) := by
  have at_ := v6_at (a0 m c) (a1 m c)
  generalize val_main_v6 (F := Ideal) (a0 m c) (a1 m c) = G at at_ ⊢
  refine (dats m 0 c).arrAt_eq_of_covers 2 G (by decide +kernel) fun t hf y => ?_
  blk_simp
  rw [after0_2]
  obtain ⟨f, l, rfl⟩ : ∃ (f : Fin 1408) (l : Fin 1024), y = ix2 f l := ⟨y 0, y 1, eq_ix2 y⟩
  refine (last_at m c t ((flush0_2 t).mp hf) f l).trans ((at_ (wide (hp t) f) l).symm.trans ?_)
  blk_ext [ix0_2 t, wide, hp]

theorem arr3 : (dats m 0 c).arrAt 3 cfg0.N = val_main_v8 (F := Ideal) (a0 m c) (a1 m c) := by
  have at_ := v8_at (a0 m c) (a1 m c)
  generalize val_main_v8 (F := Ideal) (a0 m c) (a1 m c) = G at at_ ⊢
  refine (dats m 0 c).arrAt_eq_of_covers 3 G (by decide +kernel) fun t hf y => ?_
  blk_simp
  rw [after0_3]
  obtain ⟨f, l, rfl⟩ : ∃ (f : Fin 1408) (l : Fin 1024), y = ix2 f l := ⟨y 0, y 1, eq_ix2 y⟩
  refine (last16_at m c t ((flush0_3 t).mp hf) f l).trans ((at_ (wide (hp t) f) l).symm.trans ?_)
  blk_ext [ix0_3 t, wide, hp]

end Cert.Proof.WideGrad

end
-- ==== Proof.WideClaims.lean ====
/-
  The claims about the gradient of a feed-forward block's gate or up weights: the frames, and the kernel's two results being the reference's.
-/
module

public import proofs.«01_k».proof.Defs
public import proofs.«01_k».proof.Proof.Gen.WideGrad.Frame
public import proofs.«01_k».proof.Proof.Gen.WideGradIdeal.Frame
public import proofs.«01_k».proof.Proof.Gen.WideGradIdeal.Value
public import proofs.«01_k».proof.Proof.Gen.WideGradRefIdeal.Run
public import proofs.«01_k».proof.Proof.WideGrad
public import Idealize.ShloMosaic.Lib.Quiescent

@[expose] public section

set_option maxRecDepth 16384

noncomputable section

namespace Cert.Proof.WideGrad

open Idealize.ShloMosaic Idealize.ShloMosaic.TcCoe Idealize.SL.Sem
open Cert.WideGradRefIdeal.Read (val_main_v6 val_main_v8 val_main_v6_eq val_main_v8_eq)

theorem frame_p : Cert.quiescent_WideGrad := fun m ρ _ => Cert.WideGrad.Gen.frame m ρ

theorem frame_pi : Cert.quiescent_WideGradIdeal := fun m ρ _ => Cert.WideGradIdeal.Gen.frame m ρ

/-- The reference has no semaphores, so its run alone gives the frame. -/
theorem frame_ri : Cert.quiescent_WideGradRefIdeal := fun m ρ _ =>
  (θ_run Cert.WideGradRefIdeal.defs _ _).mono
    (fun r h => ⟨fun c => (h c).2.2, sem_eq_zero_of_no_sems (by decide) r.2⟩)
    (Cert.WideGradRefIdeal.Value.run (F := Ideal) m ρ)

theorem algebraic : Cert.algebraic_WideGradIdeal_WideGradRefIdeal := by
  intro m g m' g' _ hargs
  refine ⟨fun c => val_main_v6 (F := Ideal) (a0 m c) (a1 m c), fun c => val_main_v8 (F := Ideal) (a0 m c) (a1 m c), ?_, ?_⟩
  · refine (θ_run Cert.WideGradIdeal.defs _ _).mono (fun r h c => ?_) (Cert.WideGradIdeal.Value.run_blocks (F := Ideal) m g)
    obtain ⟨e2, e3, ha⟩ := h c
    exact ⟨e2.trans (arr2 m c), e3.trans (arr3 m c), ha⟩
  · refine (θ_run Cert.WideGradRefIdeal.defs _ _).mono (fun r h c => ?_) (Cert.WideGradRefIdeal.Value.run (F := Ideal) m' g')
    obtain ⟨e0, e1, ha⟩ := h c
    obtain ⟨g0, g1⟩ := hargs c
    refine ⟨e0.trans ((val_main_v6_eq _ _).trans ?_), e1.trans ((val_main_v8_eq _ _).trans ?_), ha⟩
    · rw [g0, g1]
    · rw [g0, g1]

end Cert.Proof.WideGrad

end
-- ==== Proof.DownGrad.lean ====
/-
  The gradient of a feed-forward block's down weights: the kernel adds the products of four blocks of 2048 rows, half of
  the hidden lanes at a time, and halves the sum at the last of the four; the reference halves one factor of each product.
-/
module

public import proofs.«01_k».proof.Proof.TnSum
public import proofs.«01_k».proof.Proof.Gen.DownGradIdeal.Frame
public import proofs.«01_k».proof.Proof.Gen.DownGradRefIdeal.Read
public import proofs.«01_k».proof.Proof.FfnReal
public import Idealize.ShloMosaic.Lib.Pipeline.ValueKit.Acc
public import Idealize.ShloMosaic.Lib.Pipeline.ValueKit.Point
public import Idealize.ShloMosaic.Lib.Pipeline.ReadBack
public import Idealize.ShloMosaic.Lib.WholeRead
public import Idealize.ShloMosaic.Lib.ValueLayout
public import Idealize.ShloMosaic.PureOps.Ideal.Laws

@[expose] public section

set_option maxRecDepth 16384

noncomputable section

namespace Cert.Proof.DownGrad

open Cert.DownGradIdeal Cert.DownGradIdeal.Gen Idealize.ShloMosaic.TcCoe Idealize.ShloMosaic.ValueIdx
open Idealize.ShloMosaic hiding ix2 eq_ix2
open Cert.DownGradRefIdeal.Read
open TnSum (pos wide upTo upTo_zero upTo_succ upTo_all add_block_at)
open scoped BigOperators

/-! ## The reference -/

/-- The factor of the reference, which is positive and not infinite, distributes over a sum. -/
theorem half_sum {ι : Type} (S : Finset ι) (a b : ι → EReal) :
    (∑ k ∈ S, a k * b k) * Ideal.ofBits .f32 0x3F000000#32 = ∑ k ∈ S, Ideal.ofBits .f32 0x3F000000#32 * b k * a k := by
  classical
  have h0 : (0 : EReal) ≤ Ideal.ofBits .f32 0x3F000000#32 := by
    rw [FfnBwd.ofBits_half]
    exact EReal.coe_nonneg.mpr (by norm_num)
  have h1 : Ideal.ofBits .f32 0x3F000000#32 ≠ ⊤ := by
    rw [FfnBwd.ofBits_half]
    exact EReal.coe_ne_top _
  generalize Ideal.ofBits .f32 0x3F000000#32 = e at h0 h1 ⊢
  induction S using Finset.induction_on with
  | empty => rw [Finset.sum_empty, Finset.sum_empty, zero_mul]
  | insert x S hx ih =>
    rw [Finset.sum_insert hx, Finset.sum_insert hx, mul_comm, EReal.left_distrib_of_nonneg_of_ne_top h0 h1, mul_comm e (∑ k ∈ S, _), ih]
    refine congrArg (· + _) ?_
    rw [mul_comm (a x), mul_assoc]

theorem v8_at (x0 : (⟨2, ![8192, 2816]⟩ : Shape).Idx → EReal) (x1 : (⟨2, ![8192, 1024]⟩ : Shape).Idx → EReal) (f : Fin 2816) (l : Fin 1024) :
    val_main_v8 (F := Ideal) x0 x1 (ix2 f l) = ∑ k, Ideal.ofBits .f32 0x3F000000#32 * x1 (ix2 k l) * x0 (ix2 k f) := by
  rw [val_main_v8_apply, val_main_v7_apply]
  refine Finset.sum_congr rfl fun k _ => congrArg₂ (· * ·) ?_ (congrArg x0 ?_)
  · rw [val_main_v6_apply, val_main_v5_apply, val_main_cst_1_apply]
    refine congrArg (_ * ·) (congrArg x1 ?_)
    funext a; match a with
      | ⟨0, _⟩ => rfl
      | ⟨1, _⟩ => rfl
  · funext a; match a with
      | ⟨0, _⟩ => rfl
      | ⟨1, _⟩ => rfl

theorem v9_at (x0 : (⟨2, ![8192, 2816]⟩ : Shape).Idx → EReal) (x1 : (⟨2, ![8192, 1024]⟩ : Shape).Idx → EReal) (f : Fin 2816) (l : Fin 1024) :
    val_main_v9 (F := Ideal) x0 x1 (ix2 f l) = ∑ k, Ideal.ofBits .f32 0x3F000000#32 * x1 (ix2 k l) * x0 (ix2 k f) := v8_at x0 x1 f l

/-! ## What a grid point leaves -/

/-- The half of the hidden lanes of a grid point. -/
def hp (t : Fin cfg0.N) : Fin 2 := ⟨t.val / 4, by have := t.isLt; have h : cfg0.N = 8 := N_0; omega⟩
/-- The block of rows of a grid point. -/
def sp (t : Fin cfg0.N) : Fin 4 := ⟨t.val % 4, by omega⟩

theorem ix0_0 : ∀ t : Fin cfg0.N, win0_0.index t = ![t.val % 4, t.val / 4] := (by decide +kernel : ∀ t : Fin grid0.N, win0_0.index t = ![t.val % 4, t.val / 4])
theorem ix0_1 : ∀ t : Fin cfg0.N, win0_1.index t = ![t.val % 4, 0] := (by decide +kernel : ∀ t : Fin grid0.N, win0_1.index t = ![t.val % 4, 0])
theorem ix0_2 : ∀ t : Fin cfg0.N, win0_2.index t = ![t.val / 4, 0] := (by decide +kernel : ∀ t : Fin grid0.N, win0_2.index t = ![t.val / 4, 0])
theorem ix0_3 : ∀ t : Fin cfg0.N, win0_3.index t = ![t.val / 4, 0] := (by decide +kernel : ∀ t : Fin grid0.N, win0_3.index t = ![t.val / 4, 0])

variable (m : (ℓ : Loc nD τ sig) → Buf (Elt Ideal) ℓ) (c : Dev nD) (t : Fin cfg0.N)

/-- The two arguments. -/
abbrev a0 : (⟨S8192x2816, .bf16⟩ : BufTy).Contents (Elt Ideal) := m ((c.tc : Thread nD τ).loc main_arg0)
abbrev a1 : (⟨S8192x1024, .f32⟩ : BufTy).Contents (Elt Ideal) := m ((c.tc : Thread nD τ).loc main_arg1)

/-- The two blocks a grid point is given. -/
abbrev b0 : FVec Ideal S2048x1408 .bf16 := iblk m c 0 t
abbrev b1 : FVec Ideal S2048x1024 .f32 := iblk m c 1 t

theorem iblk0_at (r : Fin 2048) (f : Fin 1408) : iblk m c 0 t (ix2 r f) = a0 m c (ix2 (pos (sp t) r) (wide (hp t) f)) := by
  blk_ext [iblk, V_main_arg0, ix0_0 t, pos, sp, wide, hp]
theorem iblk1_at (r : Fin 2048) (l : Fin 1024) : iblk m c 1 t (ix2 r l) = a1 m c (ix2 (pos (sp t) r) l) := by
  blk_ext [iblk, V_main_arg1, ix0_1 t, pos, sp]

theorem first_out (h : t.val % 4 = 0) : (outsAt0 m c t.val t.isLt).1
    = k0_pay2 (F := Ideal) (k0_pay1 (F := Ideal)) (iblk m c 0 t) (iblk m c 1 t) := by
  rw [outsAt0_A m c t h (by omega)]
  frame_out
theorem later_out (h : ¬t.val % 4 = 0) (h' : ¬t.val % 4 = 3) : (outsAt0 m c t.val t.isLt).1
    = k0_pay2 (F := Ideal) (outsAt0 m c (t.val - 1) (Nat.lt_of_le_of_lt (Nat.sub_le _ _) t.isLt)).1 (iblk m c 0 t) (iblk m c 1 t) := by
  rw [outsAt0_B m c t h h']
  frame_out
theorem last_out (h : t.val % 4 = 3) : (outsAt0 m c t.val t.isLt).1
    = k0_pay3 (F := Ideal) (k0_pay2 (F := Ideal) (outsAt0 m c (t.val - 1) (Nat.lt_of_le_of_lt (Nat.sub_le _ _) t.isLt)).1
        (iblk m c 0 t) (iblk m c 1 t)) := by
  rw [outsAt0_C m c t (by omega) h]
  frame_out
theorem last_out16 (h : t.val % 4 = 3) : (outsAt0 m c t.val t.isLt).2
    = k0_pay4 (F := Ideal) (outsAt0 m c t.val t.isLt).1 := by
  rw [last_out m c t h, outsAt0_C m c t (by omega) h]
  frame_out

theorem pay2_at (o : FVec Ideal S1408x1024 .f32) (p : FVec Ideal S2048x1408 .bf16) (q : FVec Ideal S2048x1024 .f32) (f : Fin 1408)
    (l : Fin 1024) : k0_pay2 (F := Ideal) o p q (ix2 f l) = o (ix2 f l) + ∑ r, p (ix2 r f) * q (ix2 r l) := by
  unfold k0_pay2
  rw [shapeCast_self]
  exact add_block_at o p (truncf .bf16 q bitsLt_bf16_f32) f l

/-- The products the gradient's entry adds. -/
abbrev prods (h : Fin 2) (f : Fin 1408) (l : Fin 1024) (k : Fin 8192) : EReal := a0 m c (ix2 k (wide h f)) * a1 m c (ix2 k l)

theorem block_sum (f : Fin 1408) (l : Fin 1024) :
    ∑ r, b0 m c t (ix2 r f) * b1 m c t (ix2 r l) = ∑ r, prods m c (hp t) f l (pos (sp t) r) :=
  Finset.sum_congr rfl fun r _ => congrArg₂ (· * ·) (iblk0_at m c t r f) (iblk1_at m c t r l)

/-- After a point but the last of its four, the sum over the blocks up to its own. -/
theorem out_at (n : ℕ) : ∀ (h : n < cfg0.N) (_ : ¬n % 4 = 3) (f : Fin 1408) (l : Fin 1024),
    (outsAt0 m c n h).1 (ix2 f l) = upTo (prods m c (hp ⟨n, h⟩) f l) ((sp ⟨n, h⟩).val + 1) := by
  induction n with
  | zero =>
    intro h h3 f l
    refine (congrFun (first_out m c ⟨0, h⟩ rfl) (ix2 f l)).trans ((pay2_at _ _ _ f l).trans ?_)
    rw [upTo_succ]
    refine congrArg₂ (· + ·) ?_ (block_sum m c ⟨0, h⟩ f l)
    exact Ideal.ofBits_zero_f32.trans (upTo_zero _).symm
  | succ n ih =>
    intro h h3 f l
    have hn : n < cfg0.N := Nat.lt_of_succ_lt h
    by_cases h0 : (n + 1) % 4 = 0
    · refine (congrFun (first_out m c ⟨n + 1, h⟩ h0) (ix2 f l)).trans ((pay2_at _ _ _ f l).trans ?_)
      rw [upTo_succ]
      refine congrArg₂ (· + ·) ?_ (block_sum m c ⟨n + 1, h⟩ f l)
      rw [show (sp ⟨n + 1, h⟩).val = 0 from h0]
      exact Ideal.ofBits_zero_f32.trans (upTo_zero _).symm
    · refine (congrFun (later_out m c ⟨n + 1, h⟩ h0 h3) (ix2 f l)).trans ((pay2_at _ _ _ f l).trans ?_)
      rw [upTo_succ]
      refine congrArg₂ (· + ·) ((ih hn (by omega) f l).trans ?_) (block_sum m c ⟨n + 1, h⟩ f l)
      have e1 : hp ⟨n, hn⟩ = hp ⟨n + 1, h⟩ := Fin.ext (by show n / 4 = (n + 1) / 4; omega)
      have e2 : (sp ⟨n, hn⟩).val + 1 = (sp ⟨n + 1, h⟩).val := by show n % 4 + 1 = (n + 1) % 4; omega
      rw [e1, e2]

/-- At the last block of rows, half the whole sum. -/
theorem last_at (h : t.val % 4 = 3) (f : Fin 1408) (l : Fin 1024) :
    (outsAt0 m c t.val t.isLt).1 (ix2 f l) = (∑ k, prods m c (hp t) f l k) * Ideal.ofBits .f32 0x3F000000#32 := by
  have hs : t.val - 1 < cfg0.N := Nat.lt_of_le_of_lt (Nat.sub_le _ _) t.isLt
  have e := out_at m c (t.val - 1) hs (by omega) f l
  have e1 : hp ⟨t.val - 1, hs⟩ = hp t := Fin.ext (by show (t.val - 1) / 4 = t.val / 4; omega)
  have e2 : (sp ⟨t.val - 1, hs⟩).val + 1 = (sp t).val := by show (t.val - 1) % 4 + 1 = t.val % 4; omega
  rw [e1, e2] at e
  rw [last_out m c t h]
  unfold k0_pay3
  rw [shapeCast_self]
  refine congrArg (· * Ideal.ofBits .f32 0x3F000000#32) ((pay2_at _ _ _ f l).trans ?_)
  refine (congrArg₂ (· + ·) e (block_sum m c t f l)).trans ?_
  rw [← upTo_succ, show (sp t).val + 1 = 4 by show t.val % 4 + 1 = 4; omega, upTo_all]

theorem last16_at (h : t.val % 4 = 3) (f : Fin 1408) (l : Fin 1024) :
    (outsAt0 m c t.val t.isLt).2 (ix2 f l) = (∑ k, prods m c (hp t) f l k) * Ideal.ofBits .f32 0x3F000000#32 := by
  rw [last_out16 m c t h]
  unfold k0_pay4
  rw [shapeCast_self]
  exact last_at m c t h f l

/-! ## What the arrays hold -/

theorem arr2 : (dats m 0 c).arrAt 2 cfg0.N = val_main_v8 (F := Ideal) (a0 m c) (a1 m c) := by
  have at_ := v8_at (a0 m c) (a1 m c)
  generalize val_main_v8 (F := Ideal) (a0 m c) (a1 m c) = G at at_ ⊢
  refine (dats m 0 c).arrAt_eq_of_covers 2 G (by decide +kernel) fun t hf y => ?_
  blk_simp
  rw [after0_2]
  obtain ⟨f, l, rfl⟩ : ∃ (f : Fin 1408) (l : Fin 1024), y = ix2 f l := ⟨y 0, y 1, eq_ix2 y⟩
  refine (last_at m c t ((flush0_2 t).mp hf) f l).trans ((half_sum _ _ _).trans ((at_ (wide (hp t) f) l).symm.trans ?_))
  blk_ext [ix0_2 t, wide, hp]

theorem arr3 : (dats m 0 c).arrAt 3 cfg0.N = val_main_v9 (F := Ideal) (a0 m c) (a1 m c) := by
  have at_ := v9_at (a0 m c) (a1 m c)
  generalize val_main_v9 (F := Ideal) (a0 m c) (a1 m c) = G at at_ ⊢
  refine (dats m 0 c).arrAt_eq_of_covers 3 G (by decide +kernel) fun t hf y => ?_
  blk_simp
  rw [after0_3]
  obtain ⟨f, l, rfl⟩ : ∃ (f : Fin 1408) (l : Fin 1024), y = ix2 f l := ⟨y 0, y 1, eq_ix2 y⟩
  refine (last16_at m c t ((flush0_3 t).mp hf) f l).trans ((half_sum _ _ _).trans ((at_ (wide (hp t) f) l).symm.trans ?_))
  blk_ext [ix0_3 t, wide, hp]

end Cert.Proof.DownGrad

end
-- ==== Proof.DownClaims.lean ====
/-
  The claims about the gradient of a feed-forward block's down weights: the frames, and the kernel's two results being the reference's.
-/
module

public import proofs.«01_k».proof.Defs
public import proofs.«01_k».proof.Proof.Gen.DownGrad.Frame
public import proofs.«01_k».proof.Proof.Gen.DownGradIdeal.Frame
public import proofs.«01_k».proof.Proof.Gen.DownGradIdeal.Value
public import proofs.«01_k».proof.Proof.Gen.DownGradRefIdeal.Run
public import proofs.«01_k».proof.Proof.DownGrad
public import Idealize.ShloMosaic.Lib.Quiescent

@[expose] public section

set_option maxRecDepth 16384

noncomputable section

namespace Cert.Proof.DownGrad

open Idealize.ShloMosaic Idealize.ShloMosaic.TcCoe Idealize.SL.Sem
open Cert.DownGradRefIdeal.Read (val_main_v8 val_main_v9 val_main_v8_eq val_main_v9_eq)

theorem frame_p : Cert.quiescent_DownGrad := fun m ρ _ => Cert.DownGrad.Gen.frame m ρ

theorem frame_pi : Cert.quiescent_DownGradIdeal := fun m ρ _ => Cert.DownGradIdeal.Gen.frame m ρ

/-- The reference has no semaphores, so its run alone gives the frame. -/
theorem frame_ri : Cert.quiescent_DownGradRefIdeal := fun m ρ _ =>
  (θ_run Cert.DownGradRefIdeal.defs _ _).mono
    (fun r h => ⟨fun c => (h c).2.2, sem_eq_zero_of_no_sems (by decide) r.2⟩)
    (Cert.DownGradRefIdeal.Value.run (F := Ideal) m ρ)

theorem algebraic : Cert.algebraic_DownGradIdeal_DownGradRefIdeal := by
  intro m g m' g' _ hargs
  refine ⟨fun c => val_main_v8 (F := Ideal) (a0 m c) (a1 m c), fun c => val_main_v9 (F := Ideal) (a0 m c) (a1 m c), ?_, ?_⟩
  · refine (θ_run Cert.DownGradIdeal.defs _ _).mono (fun r h c => ?_) (Cert.DownGradIdeal.Value.run_blocks (F := Ideal) m g)
    obtain ⟨e2, e3, ha⟩ := h c
    exact ⟨e2.trans (arr2 m c), e3.trans (arr3 m c), ha⟩
  · refine (θ_run Cert.DownGradRefIdeal.defs _ _).mono (fun r h c => ?_) (Cert.DownGradRefIdeal.Value.run (F := Ideal) m' g')
    obtain ⟨e0, e1, ha⟩ := h c
    obtain ⟨g0, g1⟩ := hargs c
    refine ⟨e0.trans ((val_main_v8_eq _ _).trans ?_), e1.trans ((val_main_v9_eq _ _).trans ?_), ha⟩
    · rw [g0, g1]
    · rw [g0, g1]

end Cert.Proof.DownGrad

end
-- ==== Proof.Stripes.lean ====
/-
  The feed-forward forward pass over one block of 512 rows, whichever call makes it: the hidden lanes are taken 256 at a
  time, each 256 stored as a stripe of the block's hidden arrays, and after every second stripe the product of the last
  512 lanes with the down weights is added to the block's sum.
-/
module

public import proofs.«01_k».proof.Proof.Loads
public import Idealize.ShloMosaic.Lib.Pipeline.Value
public import Idealize.ShloMosaic.Lib.Pipeline.ValueKit.Tiles
public import Idealize.ShloMosaic.Lib.MatmulPlain
public import Idealize.ShloMosaic.Lib.ValueLayoutCasts

@[expose] public section

set_option maxRecDepth 16384

noncomputable section

namespace Cert.Proof.Stripes

open Idealize.ShloMosaic
open Idealize.ShloMosaic.ValueIdx
open Cert.Proof.LatentBwd (unit_idx2)
open scoped BigOperators

abbrev Rows : Shape := ⟨2, ![512, 1024]⟩
abbrev Hidden : Shape := ⟨2, ![512, 2816]⟩
abbrev Stripe : Shape := ⟨2, ![512, 256]⟩
abbrev Weights : Shape := ⟨2, ![2816, 1024]⟩
abbrev Part : Shape := ⟨2, ![256, 1024]⟩
abbrev Wide : Shape := ⟨2, ![512, 512]⟩

/-- A list of stored stripes. -/
abbrev Pieces := List (View.Piece (Elt Ideal) Hidden .bf16)

/-! ## Sums over the first lanes -/

/-- Lane `f` of the `w` lanes from `o`. -/
def lane {w : ℕ} (o : ℕ) (h : o + w ≤ 2816) (f : Fin w) : Fin 2816 := ⟨o + f.val, by omega⟩

/-- The sum over the first `K` hidden lanes. -/
def pre (g : Fin 2816 → EReal) (K : ℕ) : EReal := ∑ j ∈ Finset.range K, if h : j < 2816 then g ⟨j, h⟩ else 0

theorem pre_zero (g : Fin 2816 → EReal) : pre g 0 = 0 := Finset.sum_range_zero _

theorem pre_add (g : Fin 2816 → EReal) (K w : ℕ) (h : K + w ≤ 2816) :
    pre g (K + w) = pre g K + ∑ f : Fin w, g (lane K h f) := by
  unfold pre
  rw [Finset.sum_range_add]
  refine congrArg (_ + ·) ((Finset.sum_range _).trans (Finset.sum_congr rfl fun f _ => ?_))
  exact dif_pos (by omega)

theorem pre_all (g : Fin 2816 → EReal) : pre g 2816 = ∑ f, g f :=
  (Finset.sum_range _).trans (Finset.sum_congr rfl fun f _ => dif_pos f.isLt)

/-! ## Stripes read back -/

theorem stripe_inb {o : ℕ} (h : o + 256 ≤ 2816) : ∀ x, (![0, o] : Fin 2 → ℕ) x + (![512, 256] : Fin 2 → ℕ) x ≤ Hidden.size x
  | ⟨0, _⟩ => Nat.le_refl 512
  | ⟨1, _⟩ => h

theorem part_inb {o : ℕ} (h : o + 256 ≤ 2816) : ∀ x, (![o, 0] : Fin 2 → ℕ) x + (![256, 1024] : Fin 2 → ℕ) x ≤ Weights.size x
  | ⟨0, _⟩ => h
  | ⟨1, _⟩ => Nat.le_refl 1024

theorem wide_inb {o : ℕ} (h : o + 512 ≤ 2816) : ∀ x, (![0, o] : Fin 2 → ℕ) x + (![512, 512] : Fin 2 → ℕ) x ≤ Hidden.size x
  | ⟨0, _⟩ => Nat.le_refl 512
  | ⟨1, _⟩ => h

theorem widePart_inb {o : ℕ} (h : o + 512 ≤ 2816) : ∀ x, (![o, 0] : Fin 2 → ℕ) x + (![512, 1024] : Fin 2 → ℕ) x ≤ Weights.size x
  | ⟨0, _⟩ => h
  | ⟨1, _⟩ => Nat.le_refl 1024

/-- The first `k` stripes, the last one first. -/
def stripes (P : (o : ℕ) → o + 256 ≤ 2816 → FVec Ideal Stripe .bf16) : (k : ℕ) → 256 * k ≤ 2816 → Pieces
  | 0, _ => []
  | k + 1, h => ⟨Rect.unit ![0, 256 * k] ![512, 256] (stripe_inb (by omega)), P (256 * k) (by omega)⟩ :: stripes P k (by omega)

section
variable (P : (o : ℕ) → o + 256 ≤ 2816 → FVec Ideal Stripe .bf16) (G : Fin 512 → Fin 2816 → EReal)
  (hP : ∀ o h i f, P o h (ix2 i f) = G i (lane o h f))

include hP in
theorem stripes_agree : ∀ k h, ∀ p ∈ stripes P k h, ∀ x : p.1.shape.Idx, p.2 x = (fun y : Hidden.Idx => G (y 0) (y 1)) (p.1.emb x)
  | 0, _ => List.forall_mem_nil _
  | k + 1, h => by
    refine List.forall_mem_cons.mpr ⟨fun x => ?_, stripes_agree k (by omega)⟩
    obtain ⟨i, f, rfl⟩ : ∃ (i : Fin 512) (f : Fin 256), x = ix2 i f := ⟨x 0, x 1, eq_ix2 x⟩
    refine (hP (256 * k) (by omega) i f).trans ?_
    have he := unit_idx2 (A := 512) (B := 2816) (stripe_inb (o := 256 * k) (by omega)) (by decide) (by omega) i f
    refine Eq.trans ?_ (congrArg (fun y : Hidden.Idx => G (y 0) (y 1)) he).symm
    exact congrArg (G · _) (Fin.ext (Nat.zero_add i.val).symm)

theorem stripes_cover : ∀ k h (i : Fin 512) (f : Fin 2816), f.val < 256 * k → ∃ p ∈ stripes P k h, (ix2 i f : Hidden.Idx) ∈ p.1.set
  | 0, _, _, _, hf => absurd hf (Nat.not_lt_zero _)
  | k + 1, h, i, f, hf => by
    by_cases hk : f.val < 256 * k
    · obtain ⟨p, hp, hy⟩ := stripes_cover k (by omega) i f hk
      exact ⟨p, List.mem_cons_of_mem _ hp, hy⟩
    · refine ⟨_, List.mem_cons_self, ?_⟩
      have he := unit_idx2 (A := 512) (B := 2816) (stripe_inb (o := 256 * k) (by omega)) (by decide) (by omega) i
        (⟨f.val - 256 * k, by omega⟩ : Fin 256)
      have hx : (ix2 i f : Hidden.Idx) = (Rect.unit (s := Hidden) ![0, 256 * k] ![512, 256] (stripe_inb (by omega))).idx
          (ix2 i (⟨f.val - 256 * k, by omega⟩ : Fin 256)) := by
        rw [he]
        exact congrArg₂ ix2 (Fin.ext (Nat.zero_add i.val).symm) (Fin.ext (by show f.val = 256 * k + (f.val - 256 * k); omega))
      rw [hx]
      exact LoadRect.idx_mem _ _

include hP in
/-- What the first `k` stripes hold. -/
theorem stripes_at (k : ℕ) (h : 256 * k ≤ 2816) (i : Fin 512) (f : Fin 2816) (hf : f.val < 256 * k) :
    View.canon (stripes P k h) (ix2 i f) = G i f :=
  View.canon_apply_of_pieces (fun y : Hidden.Idx => G (y 0) (y 1)) _ (stripes_agree P G hP k h) (ix2 i f) (stripes_cover P k h i f hf)

include hP in
/-- What a load of stored lanes reads. -/
theorem load_at {sig : RefSig} {w o : ℕ} (v : View sig .tc .vmem Hidden .bf16) (k : ℕ) (h : 256 * k ≤ 2816)
    (inb : ∀ x, (![0, o] : Fin 2 → ℕ) x + (![512, w] : Fin 2 → ℕ) x ≤ Hidden.size x) (ho : o + w ≤ 256 * k) (i : Fin 512) (f : Fin w) :
    v.readCov (Val := Elt Ideal) (stripes P k h) (Rect.unit (s := Hidden) ![0, o] ![512, w] inb).toLoadRect (ix2 i f)
      = G i (lane o (ho.trans h) f) := by
  rw [View.readCov_eq_canon']
  have he := unit_idx2 (A := 512) (B := 2816) inb (by decide) (by omega) i f
  refine (congrArg (View.canon (stripes P k h)) (he.trans (congrArg (ix2 · _) (Fin.ext (Nat.zero_add i.val))))).trans ?_
  exact stripes_at P G hP k h i (lane o (ho.trans h) f) (by show o + f.val < 256 * k; omega)
end

end Cert.Proof.Stripes

end
-- ==== Proof.HiddenTile.lean ====
/-
  The feed-forward forward pass over one block of 512 rows: the stripes the kernel stores, and the sum it makes of their
  products with the down weights, as functions of the block's normed rows and of the three weights.
-/
module

public import proofs.«01_k».proof.Proof.Stripes

@[expose] public section

set_option maxRecDepth 16384

noncomputable section

namespace Cert.Proof.Stripes

open Idealize.ShloMosaic Idealize.ShloMosaic.ValueIdx
open scoped BigOperators

/-! ## The values -/

/-- A row's product with a row of weights. -/
def dotOf (n : FVec Ideal Rows .bf16) (w : Vec Ideal Weights .bf16) (i : Fin 512) (f : Fin 2816) : EReal :=
  ∑ k : Fin 1024, (show EReal from n (ix2 i k)) * (show EReal from w (ix2 f k))

/-- A number times its logistic function. -/
def silu (a : EReal) : EReal :=
  a * Ideal.div (Ideal.ofBits .f32 0x3F800000#32) (Ideal.ofBits .f32 0x3F800000#32 + Ideal.exp (Ideal.ofBits .f32 0x00000000#32 - a))

/-- The gated product. -/
def actOf (n : FVec Ideal Rows .bf16) (wg wu : Vec Ideal Weights .bf16) (i : Fin 512) (f : Fin 2816) : EReal :=
  silu (dotOf n wg i f) * dotOf n wu i f

/-! ## The stripes -/

/-- The rows of weights a stripe takes. -/
def part (w : Vec Ideal Weights .bf16) (o : ℕ) (h : o + 256 ≤ 2816) : Vec Ideal Part .bf16 :=
  View.ld w (Rect.unit (s := Weights) ![o, 0] ![256, 1024] (part_inb h))

/-- A product of the normed rows with a part of the weights. -/
def product (n : FVec Ideal Rows .bf16) (w : Vec Ideal Part .bf16) : FVec Ideal Stripe .f32 :=
  matmul (φ₁ := .bf16) (φ₂ := .bf16) (DotDims.transposedRhs 512 1024 256) none n (shapeCast Part w rfl) (constant Stripe .f32 0x00000000#32)

/-- A stripe of a product. -/
def dotStripe (n : FVec Ideal Rows .bf16) (w : Vec Ideal Weights .bf16) (o : ℕ) (h : o + 256 ≤ 2816) : FVec Ideal Stripe .bf16 :=
  truncf .bf16 (product n (part w o h)) (by decide)

/-- A stripe of the gated product. -/
def actStripe (n : FVec Ideal Rows .bf16) (wg wu : Vec Ideal Weights .bf16) (o : ℕ) (h : o + 256 ≤ 2816) : FVec Ideal Stripe .bf16 :=
  truncf .bf16 (mulf (mulf (product n (part wg o h)) (divf (broadcast Stripe (Scalar.ofBits .f32 0x3F800000#32))
    (addf (broadcast Stripe (Scalar.ofBits .f32 0x3F800000#32)) (exp (subf (broadcast Stripe (Scalar.ofBits .f32 0x00000000#32))
      (product n (part wg o h))))))) (product n (part wu o h))) (by decide)

theorem part_at (w : Vec Ideal Weights .bf16) (o : ℕ) (h : o + 256 ≤ 2816) (f : Fin 256) (k : Fin 1024) :
    part w o h (ix2 f k) = w (ix2 (lane o h f) k) := by
  have he := Cert.Proof.LatentBwd.unit_idx2 (A := 2816) (B := 1024) (part_inb h) h (by decide) f k
  exact congrArg w (he.trans (congrArg (ix2 _) (Fin.ext (Nat.zero_add k.val))))

theorem product_at (n : FVec Ideal Rows .bf16) (w : Vec Ideal Weights .bf16) (o : ℕ) (h : o + 256 ≤ 2816) (i : Fin 512) (f : Fin 256) :
    product n (part w o h) (ix2 i f) = dotOf n w i (lane o h f) := by
  unfold product
  rw [shapeCast_self]
  refine (Ideal.matmul_transposedRhs_apply none _ _ _ i f).trans ?_
  refine (congrArg₂ (· + ·) Ideal.ofBits_zero_f32 (Finset.sum_congr rfl fun k _ => ?_)).trans (zero_add _)
  exact congrArg ((show EReal from n (ix2 i k)) * ·) (part_at w o h f k)

theorem dotStripe_at (n : FVec Ideal Rows .bf16) (w : Vec Ideal Weights .bf16) (o : ℕ) (h : o + 256 ≤ 2816) (i : Fin 512)
    (f : Fin 256) : dotStripe n w o h (ix2 i f) = dotOf n w i (lane o h f) := product_at n w o h i f

theorem actStripe_at (n : FVec Ideal Rows .bf16) (wg wu : Vec Ideal Weights .bf16) (o : ℕ) (h : o + 256 ≤ 2816) (i : Fin 512)
    (f : Fin 256) : actStripe n wg wu o h (ix2 i f) = actOf n wg wu i (lane o h f) :=
  congrArg₂ (fun a b => silu a * b) (product_at n wg o h i f) (product_at n wu o h i f)

/-! ## The sum -/

section
variable {sig : RefSig} (v : View sig .tc .vmem Hidden .bf16) (n : FVec Ideal Rows .bf16) (wg wu wd : Vec Ideal Weights .bf16)

/-- A product of some hidden lanes with their rows of the down weights, added to a sum. -/
def addProduct {w : ℕ} (a : FVec Ideal Rows .f32) (p : FVec Ideal ⟨2, ![512, w]⟩ .bf16) (q : FVec Ideal ⟨2, ![w, 1024]⟩ .bf16) :
    FVec Ideal Rows .f32 :=
  addf a (matmul (φ₁ := .bf16) (φ₂ := .bf16) (DotDims.plain 512 w 1024) none (shapeCast ⟨2, ![512, w]⟩ p rfl)
    (shapeCast ⟨2, ![w, 1024]⟩ q rfl) (constant Rows .f32 0x00000000#32))

/-- The stored lanes from `o`. -/
def lanes {w : ℕ} (o k : ℕ) (h : 256 * k ≤ 2816)
    (inb : ∀ x, (![0, o] : Fin 2 → ℕ) x + (![512, w] : Fin 2 → ℕ) x ≤ Hidden.size x) : FVec Ideal ⟨2, ![512, w]⟩ .bf16 :=
  v.readCov (Val := Elt Ideal) (stripes (actStripe n wg wu) k h) (Rect.unit (s := Hidden) ![0, o] ![512, w] inb).toLoadRect

/-- The rows of the down weights from `o`. -/
def downPart {w : ℕ} (o : ℕ) (inb : ∀ x, (![o, 0] : Fin 2 → ℕ) x + (![w, 1024] : Fin 2 → ℕ) x ≤ Weights.size x) :
    FVec Ideal ⟨2, ![w, 1024]⟩ .bf16 :=
  View.ld wd (Rect.unit (s := Weights) ![o, 0] ![w, 1024] inb)

/-- The block's sum after `k` products of 512 lanes. -/
def sums : (k : ℕ) → 512 * k ≤ 2816 → FVec Ideal Rows .f32
  | 0, _ => broadcast Rows (Scalar.ofBits .f32 0x00000000#32)
  | k + 1, h => addProduct (sums k (by omega)) (lanes v n wg wu (512 * k) (2 * (k + 1)) (by omega) (wide_inb (by omega)))
      (downPart wd (512 * k) (widePart_inb (by omega)))

/-- The block's whole sum: five products of 512 lanes and one of 256. -/
def total : FVec Ideal Rows .f32 :=
  addProduct (sums v n wg wu wd 5 (by decide)) (lanes v n wg wu 2560 11 (by decide) (stripe_inb (by decide)))
    (downPart wd 2560 (part_inb (by decide)))

theorem downPart_at {w o : ℕ} (inb : ∀ x, (![o, 0] : Fin 2 → ℕ) x + (![w, 1024] : Fin 2 → ℕ) x ≤ Weights.size x) (ho : o + w ≤ 2816)
    (f : Fin w) (l : Fin 1024) : downPart wd o inb (ix2 f l) = wd (ix2 (lane o ho f) l) := by
  have he := Cert.Proof.LatentBwd.unit_idx2 (A := 2816) (B := 1024) inb ho (by decide) f l
  exact congrArg wd (he.trans (congrArg (ix2 _) (Fin.ext (Nat.zero_add l.val))))

/-- What the block's sum adds up. -/
def term (i : Fin 512) (l : Fin 1024) (f : Fin 2816) : EReal := actOf n wg wu i f * (show EReal from wd (ix2 f l))

theorem add_at {w : ℕ} (a : FVec Ideal Rows .f32) (o k : ℕ) (h : 256 * k ≤ 2816)
    (i1 : ∀ x, (![0, o] : Fin 2 → ℕ) x + (![512, w] : Fin 2 → ℕ) x ≤ Hidden.size x)
    (i2 : ∀ x, (![o, 0] : Fin 2 → ℕ) x + (![w, 1024] : Fin 2 → ℕ) x ≤ Weights.size x) (ho : o + w ≤ 256 * k) (i : Fin 512)
    (l : Fin 1024) (ha : a (ix2 i l) = pre (term n wg wu wd i l) o) :
    addProduct a (lanes v n wg wu o k h i1) (downPart wd o i2) (ix2 i l) = pre (term n wg wu wd i l) (o + w) := by
  unfold addProduct
  rw [shapeCast_self, shapeCast_self]
  refine (congrArg₂ (· + ·) ha (Ideal.matmul_plain_apply (φ₁ := .bf16) (φ₂ := .bf16) none _ _ _ i l)).trans ?_
  refine Eq.trans ?_ (pre_add _ o w (by omega)).symm
  refine congrArg (_ + ·) ((congrArg₂ (· + ·) Ideal.ofBits_zero_f32 (Finset.sum_congr rfl fun f _ => ?_)).trans (zero_add _))
  exact congrArg₂ (fun a b : EReal => a * b)
    (load_at (actStripe n wg wu) (actOf n wg wu) (actStripe_at n wg wu) v k h i1 ho i f) (downPart_at wd i2 (by omega) f l)

theorem sums_at : ∀ k h (i : Fin 512) (l : Fin 1024), sums v n wg wu wd k h (ix2 i l) = pre (term n wg wu wd i l) (512 * k)
  | 0, _, i, l => (Ideal.ofBits_zero_f32 : Ideal.ofBits .f32 0x00000000#32 = 0).trans (pre_zero (term n wg wu wd i l)).symm
  | k + 1, h, i, l =>
    add_at v n wg wu wd _ (512 * k) (2 * (k + 1)) (by omega) _ _ (by omega) i l (sums_at k (by omega) i l)

theorem total_at (i : Fin 512) (l : Fin 1024) : total v n wg wu wd (ix2 i l) = ∑ f, term n wg wu wd i l f :=
  (add_at v n wg wu wd _ 2560 11 (by decide) _ _ (by decide) i l (sums_at v n wg wu wd 5 (by decide) i l)).trans (pre_all _)
end

end Cert.Proof.Stripes

end
-- ==== Proof.FfnFwdOut.lean ====
/-
  The feed-forward forward pass: what each grid point leaves in its five outputs.
-/
module

public import proofs.«01_k».proof.Proof.HiddenTile
public import proofs.«01_k».proof.Proof.Gen.FfnFwdIdeal.Frame
public import Idealize.ShloMosaic.Lib.Pipeline.ValueKit.Acc
public import Idealize.ShloMosaic.Lib.Pipeline.ReadBack
public import Idealize.ShloMosaic.Lib.WholeRead
public import Idealize.ShloMosaic.Lib.ValueLayout
public import Idealize.ShloMosaic.PureOps.Ideal.Laws

@[expose] public section

set_option maxRecDepth 16384

noncomputable section

namespace Cert.Proof.FfnFwd

open Cert.FfnFwdIdeal Cert.FfnFwdIdeal.Gen Idealize.ShloMosaic Idealize.ShloMosaic.TcCoe
open Cert.Proof.Stripes (stripes dotStripe actStripe total)

variable (m : (ℓ : Loc nD τ sig) → Buf (Elt Ideal) ℓ) (c : Dev nD) (t : Fin cfg0.N)

/-- The block's normed rows. -/
abbrev nB : FVec Ideal S512x1024 .bf16 := k0_pay1 (F := Ideal) (iblk m c 0 t) (iblk m c 1 t)

theorem n_out : (outsAt0 m c t).2.1 = nB m c t := by
  unfold outsAt0
  frame_out

theorem gate_out : (outsAt0 m c t).2.2.1 = View.canon (stripes (dotStripe (nB m c t) (iblk m c 2 t)) 11 (by decide)) := by
  unfold outsAt0
  frame_out
  rfl

theorem up_out : (outsAt0 m c t).2.2.2.1 = View.canon (stripes (dotStripe (nB m c t) (iblk m c 3 t)) 11 (by decide)) := by
  unfold outsAt0
  frame_out
  rfl

theorem act_out : (outsAt0 m c t).2.2.2.2
    = View.canon (stripes (actStripe (nB m c t) (iblk m c 2 t) (iblk m c 3 t)) 11 (by decide)) := by
  unfold outsAt0
  frame_out
  rfl

theorem h_out : (outsAt0 m c t).1
    = addf (F := Ideal) (φ := .f32) (iblk m c 0 t : FVec Ideal S512x1024 .f32) (mulf (broadcast S512x1024 (Scalar.ofBits .f32 0x3F000000#32))
        (total (ms0_9 t).view (nB m c t) (iblk m c 2 t) (iblk m c 3 t) (iblk m c 4 t))) := by
  unfold outsAt0
  frame_out
  rfl

end Cert.Proof.FfnFwd

end
-- ==== Proof.FfnFwdRef.lean ====
/-
  The feed-forward forward pass: what the reference's arrays hold, entry by entry.
-/
module

public import proofs.«01_k».proof.Proof.HiddenTile
public import proofs.«01_k».proof.Proof.Gen.FfnFwdRefIdeal.Read
public import Idealize.ShloMosaic.Lib.ValueIdx

@[expose] public section

set_option maxRecDepth 16384

noncomputable section

namespace Cert.Proof.FfnFwd

open Cert.FfnFwdRefIdeal Cert.FfnFwdRefIdeal.Gen Cert.FfnFwdRefIdeal.Read Idealize.ShloMosaic Idealize.ShloMosaic.ValueIdx
open Cert.Proof.Stripes (silu)
open scoped BigOperators

/-- A normed row: the row over the root of its mean square, times the gain. -/
def normOf {R : ℕ} (x : Fin R → Fin 1024 → EReal) (g : Fin 1024 → EReal) (i : Fin R) (l : Fin 1024) : EReal :=
  x i l * Ideal.rsqrt (Ideal.div (∑ k, x i k * x i k) (Ideal.ofBits .f32 0x44800000#32) + Ideal.ofBits .f32 0x358637BD#32) * g l

variable (x0 : (⟨S8192x1024, .f32⟩ : BufTy).Contents (Elt Ideal)) (x1 : (⟨S1x1024, .f32⟩ : BufTy).Contents (Elt Ideal))
  (x2 x3 : (⟨S1024x2816, .f32⟩ : BufTy).Contents (Elt Ideal)) (x4 : (⟨S2816x1024, .f32⟩ : BufTy).Contents (Elt Ideal))

theorem n_ref (i : Fin 8192) (l : Fin 1024) :
    val_main_v11 (F := Ideal) x0 x1 (ix2 i l) = normOf (fun i l => x0 (ix2 i l)) (fun l => x1 (ix2 0 l)) i l := by
  have h8 : idx_main_v8 (ix2 i l) = ix2 i 0 := eq_ix2 _
  have h10 : idx_main_v10 (ix2 i l) = ix2 0 l := eq_ix2 _
  rw [val_main_v11_apply, val_main_v9_apply, val_main_v8_apply, val_main_v10_apply, h8, h10, val_main_v7_apply, val_main_v6_apply,
    val_main_v4_apply, val_main_v3_apply, val_main_v5_apply, val_main_cst_0_apply, val_main_cst_1_apply, val_main_v2_apply,
    val_main_v1_apply]
  refine congrArg (fun s : EReal => x0 (ix2 i l) * Ideal.rsqrt (Ideal.div s (Ideal.ofBits .f32 0x44800000#32)
    + Ideal.ofBits .f32 0x358637BD#32) * x1 (ix2 0 l)) ?_
  refine (congrArg₂ (· + ·) Ideal.ofBits_zero_f32 (Finset.sum_congr rfl fun k _ => ?_)).trans (zero_add _)
  have ha : idx_main_v1 (idx_main_v2 (ix2 i (0 : Fin 1))) k = ix2 i k := eq_ix2 _
  rw [ha, val_main_v0_apply]
  rfl

theorem gate_ref (i : Fin 8192) (f : Fin 2816) : val_main_v12 (F := Ideal) x0 x1 x2 (ix2 i f)
    = ∑ k : Fin 1024, val_main_v11 (F := Ideal) x0 x1 (ix2 i k) * x2 (ix2 k f) := by
  rw [val_main_v12_apply]
  refine Finset.sum_congr rfl fun k _ => ?_
  have ha : lidx_main_v12 (ix2 i f) k = ix2 i k := eq_ix2 _
  have hb : ridx_main_v12 (ix2 i f) k = ix2 k f := eq_ix2 _
  rw [ha, hb]

theorem up_ref (i : Fin 8192) (f : Fin 2816) : val_main_v13 (F := Ideal) x0 x1 x3 (ix2 i f)
    = ∑ k : Fin 1024, val_main_v11 (F := Ideal) x0 x1 (ix2 i k) * x3 (ix2 k f) := by
  rw [val_main_v13_apply]
  refine Finset.sum_congr rfl fun k _ => ?_
  have ha : lidx_main_v13 (ix2 i f) k = ix2 i k := eq_ix2 _
  have hb : ridx_main_v13 (ix2 i f) k = ix2 k f := eq_ix2 _
  rw [ha, hb]

theorem act_ref (i : Fin 8192) (f : Fin 2816) : val_main_v15 (F := Ideal) x0 x1 x2 x3 (ix2 i f)
    = silu (val_main_v12 (F := Ideal) x0 x1 x2 (ix2 i f)) * val_main_v13 (F := Ideal) x0 x1 x3 (ix2 i f) := by
  rw [val_main_v15_apply, val_main_v14_apply, val_main_call0_v5_apply, val_main_call0_v4_apply, val_main_call0_v3_apply,
    val_main_call0_v2_apply, val_main_call0_v1_apply, val_main_call0_v0_apply, val_main_call0_cst_apply, val_main_call0_cst_0_apply]
  generalize val_main_v12 (F := Ideal) x0 x1 x2 (ix2 i f) = a
  generalize val_main_v13 (F := Ideal) x0 x1 x3 (ix2 i f) = b
  have hn : Ideal.ofBits .f32 0x00000000#32 - (show EReal from a) = -(show EReal from a) := by
    rw [Ideal.ofBits_zero_f32, sub_eq_add_neg, zero_add]
  show (show EReal from a) * Ideal.div (Ideal.ofBits .f32 0x3F800000#32) (Ideal.ofBits .f32 0x3F800000#32 + Ideal.exp (-(show EReal from a)))
    * (show EReal from b) = silu a * b
  rw [← hn]
  rfl

theorem h_ref (i : Fin 8192) (l : Fin 1024) : val_main_v19 (F := Ideal) x0 x1 x2 x3 x4 (ix2 i l)
    = (show EReal from x0 (ix2 i l)) + Ideal.ofBits .f32 0x3F000000#32
      * ∑ f : Fin 2816, val_main_v15 (F := Ideal) x0 x1 x2 x3 (ix2 i f) * x4 (ix2 f l) := by
  rw [val_main_v19_apply, val_main_v18_apply, val_main_v17_apply, val_main_cst_2_apply, val_main_v16_apply]
  refine congrArg (fun s : EReal => (show EReal from x0 (ix2 i l)) + Ideal.ofBits .f32 0x3F000000#32 * s) ?_
  refine Finset.sum_congr rfl fun f _ => ?_
  have ha : lidx_main_v16 (ix2 i l) f = ix2 i f := eq_ix2 _
  have hb : ridx_main_v16 (ix2 i l) f = ix2 f l := eq_ix2 _
  rw [ha, hb]

end Cert.Proof.FfnFwd

end
-- ==== Proof.FfnFwdBlock.lean ====
/-
  The feed-forward forward pass over one block of 512 rows: what a grid point's expressions hold, given what its five
  blocks of the arguments hold.
-/
module

public import proofs.«01_k».proof.Proof.HiddenTile
public import proofs.«01_k».proof.Proof.Gen.FfnFwdIdeal.Skeleton
public import proofs.«01_k».proof.Proof.FfnFwdRef
public import proofs.«01_k».proof.Proof.FfnReal
public import Idealize.ShloMosaic.Lib.ValueLayoutCasts
public import Idealize.ShloMosaic.Lib.ValueLayout
public import Idealize.ShloMosaic.PureOps.Ideal.Laws

@[expose] public section

set_option maxRecDepth 16384

noncomputable section

namespace Cert.Proof.FfnFwd

open Cert.FfnFwdIdeal Cert.FfnFwdIdeal.Gen Idealize.ShloMosaic Idealize.ShloMosaic.ValueIdx
open Cert.FfnFwdRefIdeal.Read (val_main_v11 val_main_v12 val_main_v13 val_main_v15 val_main_v19)
open Cert.Proof.Stripes (Weights silu dotOf actOf term total total_at)
open Cert.Proof.FfnBwd.Ffn (row)
open scoped BigOperators

/-! ## The normed rows of a block -/

/-- The sum of a row. -/
theorem row_sum (y : FVec Ideal S512x1024 .f32) (i : Fin 512) (z : Fin 1) :
    (shapeCast S512x1 (multiReduction .add [1] S512 y 0x00000000#32 reduces_S512x1024_S512 (.inl rfl) rfl)
      shapeCasts_S512_S512x1 : FVec Ideal S512x1 .f32) (ix2 i z) = ∑ c : Fin 1024, (show EReal from y (ix2 i c)) := by
  refine (shapeCast_a_a1_apply _ shapeCasts_S512_S512x1 i z).trans ?_
  refine (Ideal.multiReduction_add_single (φ := .f32) y 0x00000000#32 reduces_S512x1024_S512 (.inl rfl) rfl (ix1 i)).trans ?_
  refine Finset.sum_congr rfl fun c _ => ?_
  have hl : reduces_S512x1024_S512.lift (ix1 i) c = ix2 i c :=
    funext fun a => Fin.ext (by match a with | ⟨0, _⟩ => rfl | ⟨1, _⟩ => rfl)
  exact congrArg y hl

/-- A column spread over the lanes. -/
theorem spread_at (v : FVec Ideal S512x1 .f32) (i : Fin 512) (c : Fin 1024) :
    (broadcastTo S512x1024 v broadcasts_S512x1_S512x1024 : FVec Ideal S512x1024 .f32) (ix2 i c) = v (ix2 i 0) := by
  refine broadcastTo_apply v _ (ix2 i c) (ix2 i (0 : Fin 1)) fun ax => ?_
  match ax with
  | ⟨0, _⟩ => rfl
  | ⟨1, _⟩ => rfl

theorem pay1_at (x : Vec Ideal S512x1024 .f32) (g : Vec Ideal S1x1024 .f32) (i : Fin 512) (l : Fin 1024) :
    k0_pay1 (F := Ideal) x g (ix2 i l) = normOf (fun i l => x (ix2 i l)) (fun l => g (ix2 0 l)) i l := by
  unfold k0_pay1
  refine congrArg₂ (fun a b : EReal => a * b) (congrArg (fun b : EReal => (show EReal from x (ix2 i l)) * b) ?_)
    (broadcastTo_1b_ab_apply g broadcasts_S1x1024_S512x1024 i l)
  refine (spread_at _ i l).trans ?_
  exact congrArg (fun s : EReal => Ideal.rsqrt (Ideal.div s (Ideal.ofBits .f32 0x44800000#32) + Ideal.ofBits .f32 0x358637BD#32))
    (row_sum _ i 0)

/-- The blocks hold block `b` of the rows, the gain, and the weights, the first two turned over. -/
structure Given (x0 : (⟨S8192x1024, .f32⟩ : BufTy).Contents (Elt Ideal)) (x1 : (⟨S1x1024, .f32⟩ : BufTy).Contents (Elt Ideal))
    (x2 x3 : (⟨S1024x2816, .f32⟩ : BufTy).Contents (Elt Ideal)) (x4 : (⟨S2816x1024, .f32⟩ : BufTy).Contents (Elt Ideal))
    (b : Fin 16) (xb : Vec Ideal S512x1024 .f32) (gb : Vec Ideal S1x1024 .f32) (wg wu wd : Vec Ideal Weights .bf16) : Prop where
  x : ∀ i l, xb (ix2 i l) = x0 (ix2 (row b i) l)
  g : ∀ l, gb (ix2 0 l) = x1 (ix2 0 l)
  wg : ∀ f l, wg (ix2 f l) = x2 (ix2 l f)
  wu : ∀ f l, wu (ix2 f l) = x3 (ix2 l f)
  wd : ∀ f l, wd (ix2 f l) = x4 (ix2 f l)

namespace Given

variable {x0 : (⟨S8192x1024, .f32⟩ : BufTy).Contents (Elt Ideal)} {x1 : (⟨S1x1024, .f32⟩ : BufTy).Contents (Elt Ideal)}
  {x2 x3 : (⟨S1024x2816, .f32⟩ : BufTy).Contents (Elt Ideal)} {x4 : (⟨S2816x1024, .f32⟩ : BufTy).Contents (Elt Ideal)}
  {b : Fin 16} {xb : Vec Ideal S512x1024 .f32} {gb : Vec Ideal S1x1024 .f32} {wg wu wd : Vec Ideal Weights .bf16}
  (H : Given x0 x1 x2 x3 x4 b xb gb wg wu wd)
include H

theorem n_at (i : Fin 512) (l : Fin 1024) : k0_pay1 (F := Ideal) xb gb (ix2 i l) = val_main_v11 (F := Ideal) x0 x1 (ix2 (row b i) l) := by
  refine (pay1_at _ _ i l).trans (Eq.trans ?_ (n_ref _ _ _ l).symm)
  have e1 : ∀ k, (fun i l => xb (ix2 i l)) i k = (fun i l => x0 (ix2 i l)) (row b i) k := fun k => H.x i k
  refine congrArg₂ (fun a b : EReal => a * b) (congrArg₂ (fun a s : EReal => a * Ideal.rsqrt (Ideal.div s
    (Ideal.ofBits .f32 0x44800000#32) + Ideal.ofBits .f32 0x358637BD#32)) (e1 l) ?_) (H.g l)
  exact Finset.sum_congr rfl fun k _ => congrArg₂ (fun a b : EReal => a * b) (e1 k) (e1 k)

theorem gate_at (i : Fin 512) (f : Fin 2816) : dotOf (k0_pay1 (F := Ideal) xb gb) wg i f
    = val_main_v12 (F := Ideal) x0 x1 x2 (ix2 (row b i) f) := by
  refine Eq.trans ?_ (gate_ref _ _ _ _ f).symm
  exact Finset.sum_congr rfl fun k _ => congrArg₂ (fun a b : EReal => a * b) (H.n_at i k) (H.wg f k)

theorem up_at (i : Fin 512) (f : Fin 2816) : dotOf (k0_pay1 (F := Ideal) xb gb) wu i f
    = val_main_v13 (F := Ideal) x0 x1 x3 (ix2 (row b i) f) := by
  refine Eq.trans ?_ (up_ref _ _ _ _ f).symm
  exact Finset.sum_congr rfl fun k _ => congrArg₂ (fun a b : EReal => a * b) (H.n_at i k) (H.wu f k)

theorem act_at (i : Fin 512) (f : Fin 2816) : actOf (k0_pay1 (F := Ideal) xb gb) wg wu i f
    = val_main_v15 (F := Ideal) x0 x1 x2 x3 (ix2 (row b i) f) := by
  refine Eq.trans ?_ (act_ref _ _ _ _ _ f).symm
  exact congrArg₂ (fun a b : EReal => silu a * b) (H.gate_at i f) (H.up_at i f)

/-- The row plus half the sum of the products with the down weights. -/
theorem h_at {sig : RefSig} (v : View sig .tc .vmem Stripes.Hidden .bf16) (i : Fin 512) (l : Fin 1024) :
    addf (F := Ideal) (φ := .f32) (xb : FVec Ideal S512x1024 .f32) (mulf (broadcast S512x1024 (Scalar.ofBits .f32 0x3F000000#32))
      (total v (k0_pay1 (F := Ideal) xb gb) wg wu wd)) (ix2 i l) = val_main_v19 (F := Ideal) x0 x1 x2 x3 x4 (ix2 (row b i) l) := by
  refine Eq.trans ?_ (h_ref _ _ _ _ _ _ l).symm
  refine congrArg₂ (fun a s : EReal => a + Ideal.ofBits .f32 0x3F000000#32 * s) (H.x i l) ?_
  refine (total_at _ _ _ _ _ i l).trans ?_
  exact Finset.sum_congr rfl fun f _ => congrArg₂ (fun a b : EReal => a * b) (H.act_at i f) (H.wd f l)

end Given

end Cert.Proof.FfnFwd

end
-- ==== Proof.FfnFwdArrays.lean ====
/-
  The feed-forward forward pass: what a grid point is given, and that its expressions are the reference's arrays' entries.

  Grid point `t` handles the 512 rows of block `t`. The weights were laid out by the host.
-/
module

public import proofs.«01_k».proof.Proof.FfnFwdOut
public import proofs.«01_k».proof.Proof.FfnFwdBlock
public import Idealize.ShloMosaic.Lib.Pipeline.Value
public import Idealize.ShloMosaic.Lib.Pipeline.ValueKit.Point

@[expose] public section

set_option maxRecDepth 16384

noncomputable section

namespace Cert.Proof.FfnFwd

open Cert.FfnFwdIdeal Cert.FfnFwdIdeal.Gen Idealize.ShloMosaic.TcCoe Idealize.ShloMosaic.ValueIdx
open Idealize.ShloMosaic hiding ix1 ix2 eq_ix2
open Cert.FfnFwdRefIdeal.Read (val_main_v11 val_main_v12 val_main_v13 val_main_v15 val_main_v19)
open Cert.Proof.Stripes (dotOf actOf)
open Cert.Proof.FfnBwd.Ffn (row)

/-- The block of rows of a grid point. -/
def bp (t : Fin cfg0.N) : Fin 16 := ⟨t.val, by have := t.isLt; have h : cfg0.N = 16 := N_0; omega⟩

theorem ix0_0 : ∀ t : Fin cfg0.N, win0_0.index t = ![t.val, 0] := (by decide +kernel : ∀ t : Fin grid0.N, win0_0.index t = ![t.val, 0])
theorem ix0_1 : ∀ t : Fin cfg0.N, win0_1.index t = ![0, 0] := (by decide +kernel : ∀ t : Fin grid0.N, win0_1.index t = ![0, 0])
theorem ix0_2 : ∀ t : Fin cfg0.N, win0_2.index t = ![0, 0] := (by decide +kernel : ∀ t : Fin grid0.N, win0_2.index t = ![0, 0])
theorem ix0_3 : ∀ t : Fin cfg0.N, win0_3.index t = ![0, 0] := (by decide +kernel : ∀ t : Fin grid0.N, win0_3.index t = ![0, 0])
theorem ix0_4 : ∀ t : Fin cfg0.N, win0_4.index t = ![0, 0] := (by decide +kernel : ∀ t : Fin grid0.N, win0_4.index t = ![0, 0])
theorem ix0_5 : ∀ t : Fin cfg0.N, win0_5.index t = ![t.val, 0] := (by decide +kernel : ∀ t : Fin grid0.N, win0_5.index t = ![t.val, 0])
theorem ix0_6 : ∀ t : Fin cfg0.N, win0_6.index t = ![t.val, 0] := (by decide +kernel : ∀ t : Fin grid0.N, win0_6.index t = ![t.val, 0])
theorem ix0_7 : ∀ t : Fin cfg0.N, win0_7.index t = ![t.val, 0] := (by decide +kernel : ∀ t : Fin grid0.N, win0_7.index t = ![t.val, 0])
theorem ix0_8 : ∀ t : Fin cfg0.N, win0_8.index t = ![t.val, 0] := (by decide +kernel : ∀ t : Fin grid0.N, win0_8.index t = ![t.val, 0])
theorem ix0_9 : ∀ t : Fin cfg0.N, win0_9.index t = ![t.val, 0] := (by decide +kernel : ∀ t : Fin grid0.N, win0_9.index t = ![t.val, 0])

section
variable (m : (ℓ : Loc nD τ sig) → Buf (Elt Ideal) ℓ) (c : Dev nD)

/-- The five arguments. -/
abbrev a0 : (⟨S8192x1024, .f32⟩ : BufTy).Contents (Elt Ideal) := m ((c.tc : Thread nD τ).loc main_arg0)
abbrev a1 : (⟨S1x1024, .f32⟩ : BufTy).Contents (Elt Ideal) := m ((c.tc : Thread nD τ).loc main_arg1)
abbrev a2 : (⟨S1024x2816, .f32⟩ : BufTy).Contents (Elt Ideal) := m ((c.tc : Thread nD τ).loc main_arg2)
abbrev a3 : (⟨S1024x2816, .f32⟩ : BufTy).Contents (Elt Ideal) := m ((c.tc : Thread nD τ).loc main_arg3)
abbrev a4 : (⟨S2816x1024, .f32⟩ : BufTy).Contents (Elt Ideal) := m ((c.tc : Thread nD τ).loc main_arg4)

/-! ## What the host lays out first -/

theorem V_wg : V m c main_v1
    = (truncf .bf16 (transpose S2816x1024 [1, 0] (a2 m c) transposes_S1024x2816_S2816x1024_1_0 : FVec Ideal S2816x1024 .f32) bitsLt_bf16_f32 : FVec Ideal S2816x1024 .bf16) := by
  unfold V
  simp only [List.flatten_cons, List.flatten_nil, List.append_nil, hostOps0]
  entry_read
  rfl
theorem V_wu : V m c main_v3
    = (truncf .bf16 (transpose S2816x1024 [1, 0] (a3 m c) transposes_S1024x2816_S2816x1024_1_0 : FVec Ideal S2816x1024 .f32) bitsLt_bf16_f32 : FVec Ideal S2816x1024 .bf16) := by
  unfold V
  simp only [List.flatten_cons, List.flatten_nil, List.append_nil, hostOps0]
  entry_read
  rfl
theorem V_wd : V m c main_v4 = (truncf .bf16 (a4 m c : FVec Ideal S2816x1024 .f32) bitsLt_bf16_f32 : FVec Ideal S2816x1024 .bf16) := by
  unfold V
  simp only [List.flatten_cons, List.flatten_nil, List.append_nil, hostOps0]
  entry_read
  rfl

/-! ## The blocks -/

variable (t : Fin cfg0.N)

theorem x_blk (i : Fin 512) (l : Fin 1024) : iblk m c 0 t (ix2 i l) = a0 m c (ix2 (row (bp t) i) l) := by
  blk_ext [iblk, V_main_arg0, ix0_0 t, row, bp]
theorem g_blk (l : Fin 1024) : iblk m c 1 t (ix2 0 l) = a1 m c (ix2 0 l) := by
  blk_ext [iblk, V_main_arg1, ix0_1 t]
theorem iblk2_at (f : Fin 2816) (l : Fin 1024) : iblk m c 2 t (ix2 f l) = V m c main_v1 (ix2 f l) := by
  generalize hV : V m c main_v1 = G
  have h : iblk m c 2 t = ((cfg0.win 2).blk t).view.read (Elt Ideal) G := by rw [← hV]; rfl
  rw [h]
  blk_ext [ix0_2 t]
theorem iblk3_at (f : Fin 2816) (l : Fin 1024) : iblk m c 3 t (ix2 f l) = V m c main_v3 (ix2 f l) := by
  generalize hV : V m c main_v3 = G
  have h : iblk m c 3 t = ((cfg0.win 3).blk t).view.read (Elt Ideal) G := by rw [← hV]; rfl
  rw [h]
  blk_ext [ix0_3 t]
theorem iblk4_at (f : Fin 2816) (l : Fin 1024) : iblk m c 4 t (ix2 f l) = V m c main_v4 (ix2 f l) := by
  generalize hV : V m c main_v4 = G
  have h : iblk m c 4 t = ((cfg0.win 4).blk t).view.read (Elt Ideal) G := by rw [← hV]; rfl
  rw [h]
  blk_ext [ix0_4 t]
theorem wg_blk (f : Fin 2816) (l : Fin 1024) : iblk m c 2 t (ix2 f l) = a2 m c (ix2 l f) :=
  (iblk2_at m c t f l).trans ((congrFun (V_wg m c) _).trans
    (transpose_ix2_apply (a2 m c) transposes_S1024x2816_S2816x1024_1_0 _ _))
theorem wu_blk (f : Fin 2816) (l : Fin 1024) : iblk m c 3 t (ix2 f l) = a3 m c (ix2 l f) :=
  (iblk3_at m c t f l).trans ((congrFun (V_wu m c) _).trans
    (transpose_ix2_apply (a3 m c) transposes_S1024x2816_S2816x1024_1_0 _ _))
theorem wd_blk (f : Fin 2816) (l : Fin 1024) : iblk m c 4 t (ix2 f l) = a4 m c (ix2 f l) :=
  (iblk4_at m c t f l).trans (congrFun (V_wd m c) _)

/-! ## The block's expressions -/

theorem given : Given (a0 m c) (a1 m c) (a2 m c) (a3 m c) (a4 m c) (bp t) (iblk m c 0 t) (iblk m c 1 t) (iblk m c 2 t) (iblk m c 3 t)
    (iblk m c 4 t) :=
  ⟨x_blk m c t, g_blk m c t, wg_blk m c t, wu_blk m c t, wd_blk m c t⟩

theorem n_at (i : Fin 512) (l : Fin 1024) : nB m c t (ix2 i l) = val_main_v11 (F := Ideal) (a0 m c) (a1 m c) (ix2 (row (bp t) i) l) :=
  (given m c t).n_at i l
theorem gate_at (i : Fin 512) (f : Fin 2816) : dotOf (nB m c t) (iblk m c 2 t) i f
    = val_main_v12 (F := Ideal) (a0 m c) (a1 m c) (a2 m c) (ix2 (row (bp t) i) f) := (given m c t).gate_at i f
theorem up_at (i : Fin 512) (f : Fin 2816) : dotOf (nB m c t) (iblk m c 3 t) i f
    = val_main_v13 (F := Ideal) (a0 m c) (a1 m c) (a3 m c) (ix2 (row (bp t) i) f) := (given m c t).up_at i f
theorem act_at (i : Fin 512) (f : Fin 2816) : actOf (nB m c t) (iblk m c 2 t) (iblk m c 3 t) i f
    = val_main_v15 (F := Ideal) (a0 m c) (a1 m c) (a2 m c) (a3 m c) (ix2 (row (bp t) i) f) := (given m c t).act_at i f
theorem h_at (i : Fin 512) (l : Fin 1024) : (outsAt0 m c t).1 (ix2 i l)
    = val_main_v19 (F := Ideal) (a0 m c) (a1 m c) (a2 m c) (a3 m c) (a4 m c) (ix2 (row (bp t) i) l) :=
  (congrFun (h_out m c t) _).trans ((given m c t).h_at _ i l)
end

end Cert.Proof.FfnFwd

end
-- ==== Proof.FfnFwdResults.lean ====
/-
  The feed-forward forward pass: what the five output arrays hold after the run, the reference's five results.
-/
module

public import proofs.«01_k».proof.Proof.FfnFwdArrays

@[expose] public section

set_option maxRecDepth 16384

noncomputable section

namespace Cert.Proof.FfnFwd

open Cert.FfnFwdIdeal Cert.FfnFwdIdeal.Gen Idealize.ShloMosaic.TcCoe Idealize.ShloMosaic.ValueIdx
open Idealize.ShloMosaic hiding ix1 ix2 eq_ix2
open Cert.FfnFwdRefIdeal.Read (val_main_v19 val_main_v20 val_main_v21 val_main_v22 val_main_v23)
open Cert.Proof.FfnBwd.Ffn (row)
open Cert.Proof.Stripes (stripes_at dotStripe dotStripe_at dotOf actStripe actStripe_at actOf)

variable (m : (ℓ : Loc nD τ sig) → Buf (Elt Ideal) ℓ) (c : Dev nD)

/-- The block's output. -/
theorem arr5 : (dats m 0 c).arrAt 5 cfg0.N = val_main_v19 (F := Ideal) (a0 m c) (a1 m c) (a2 m c) (a3 m c) (a4 m c) := by
  have at_ := h_at m c
  generalize val_main_v19 (F := Ideal) (a0 m c) (a1 m c) (a2 m c) (a3 m c) (a4 m c) = G at at_ ⊢
  refine (dats m 0 c).arrAt_eq_of_covers 5 G (by decide +kernel) fun t hf y => ?_
  blk_simp
  rw [after0_5]
  obtain ⟨i, l, rfl⟩ : ∃ (i : Fin 512) (l : Fin 1024), y = ix2 i l := ⟨y 0, y 1, eq_ix2 y⟩
  refine (at_ t i l).trans ?_
  blk_ext [ix0_5 t, row, bp]

/-- The normed rows. -/
theorem arr6 : (dats m 0 c).arrAt 6 cfg0.N = val_main_v20 (F := Ideal) (a0 m c) (a1 m c) := by
  have at_ : ∀ t (i : Fin 512) (l : Fin 1024), nB m c t (ix2 i l) = val_main_v20 (F := Ideal) (a0 m c) (a1 m c) (ix2 (row (bp t) i) l) :=
    n_at m c
  generalize val_main_v20 (F := Ideal) (a0 m c) (a1 m c) = G at at_ ⊢
  refine (dats m 0 c).arrAt_eq_of_covers 6 G (by decide +kernel) fun t hf y => ?_
  blk_simp
  rw [after0_6]
  obtain ⟨i, l, rfl⟩ : ∃ (i : Fin 512) (l : Fin 1024), y = ix2 i l := ⟨y 0, y 1, eq_ix2 y⟩
  refine (congrFun (n_out m c t) _).trans ((at_ t i l).trans ?_)
  blk_ext [ix0_6 t, row, bp]

/-- The gate lanes. -/
theorem arr7 : (dats m 0 c).arrAt 7 cfg0.N = val_main_v21 (F := Ideal) (a0 m c) (a1 m c) (a2 m c) := by
  have at_ : ∀ t (i : Fin 512) (f : Fin 2816), dotOf (nB m c t) (iblk m c 2 t) i f
      = val_main_v21 (F := Ideal) (a0 m c) (a1 m c) (a2 m c) (ix2 (row (bp t) i) f) := gate_at m c
  generalize val_main_v21 (F := Ideal) (a0 m c) (a1 m c) (a2 m c) = G at at_ ⊢
  refine (dats m 0 c).arrAt_eq_of_covers 7 G (by decide +kernel) fun t hf y => ?_
  blk_simp
  rw [after0_7]
  obtain ⟨i, f, rfl⟩ : ∃ (i : Fin 512) (f : Fin 2816), y = ix2 i f := ⟨y 0, y 1, eq_ix2 y⟩
  refine (congrFun (gate_out m c t) _).trans ((stripes_at (dotStripe (nB m c t) (iblk m c 2 t)) (dotOf (nB m c t) (iblk m c 2 t))
    (dotStripe_at _ _) 11 (by decide) i f f.isLt).trans ((at_ t i f).trans ?_))
  blk_ext [ix0_7 t, row, bp]

/-- The up lanes. -/
theorem arr8 : (dats m 0 c).arrAt 8 cfg0.N = val_main_v22 (F := Ideal) (a0 m c) (a1 m c) (a3 m c) := by
  have at_ : ∀ t (i : Fin 512) (f : Fin 2816), dotOf (nB m c t) (iblk m c 3 t) i f
      = val_main_v22 (F := Ideal) (a0 m c) (a1 m c) (a3 m c) (ix2 (row (bp t) i) f) := up_at m c
  generalize val_main_v22 (F := Ideal) (a0 m c) (a1 m c) (a3 m c) = G at at_ ⊢
  refine (dats m 0 c).arrAt_eq_of_covers 8 G (by decide +kernel) fun t hf y => ?_
  blk_simp
  rw [after0_8]
  obtain ⟨i, f, rfl⟩ : ∃ (i : Fin 512) (f : Fin 2816), y = ix2 i f := ⟨y 0, y 1, eq_ix2 y⟩
  refine (congrFun (up_out m c t) _).trans ((stripes_at (dotStripe (nB m c t) (iblk m c 3 t)) (dotOf (nB m c t) (iblk m c 3 t))
    (dotStripe_at _ _) 11 (by decide) i f f.isLt).trans ((at_ t i f).trans ?_))
  blk_ext [ix0_8 t, row, bp]

/-- The gated products. -/
theorem arr9 : (dats m 0 c).arrAt 9 cfg0.N = val_main_v23 (F := Ideal) (a0 m c) (a1 m c) (a2 m c) (a3 m c) := by
  have at_ : ∀ t (i : Fin 512) (f : Fin 2816), actOf (nB m c t) (iblk m c 2 t) (iblk m c 3 t) i f
      = val_main_v23 (F := Ideal) (a0 m c) (a1 m c) (a2 m c) (a3 m c) (ix2 (row (bp t) i) f) := act_at m c
  generalize val_main_v23 (F := Ideal) (a0 m c) (a1 m c) (a2 m c) (a3 m c) = G at at_ ⊢
  refine (dats m 0 c).arrAt_eq_of_covers 9 G (by decide +kernel) fun t hf y => ?_
  blk_simp
  rw [after0_9]
  obtain ⟨i, f, rfl⟩ : ∃ (i : Fin 512) (f : Fin 2816), y = ix2 i f := ⟨y 0, y 1, eq_ix2 y⟩
  refine (congrFun (act_out m c t) _).trans ((stripes_at (actStripe (nB m c t) (iblk m c 2 t) (iblk m c 3 t))
    (actOf (nB m c t) (iblk m c 2 t) (iblk m c 3 t)) (actStripe_at _ _ _) 11 (by decide) i f f.isLt).trans ((at_ t i f).trans ?_))
  blk_ext [ix0_9 t, row, bp]

end Cert.Proof.FfnFwd

end
-- ==== Proof.FfnFwdClaims.lean ====
/-
  The claims about the feed-forward forward pass: the frames, and the kernel's five results being the reference's.
-/
module

public import proofs.«01_k».proof.Defs
public import proofs.«01_k».proof.Proof.Gen.FfnFwd.Frame
public import proofs.«01_k».proof.Proof.Gen.FfnFwdIdeal.Frame
public import proofs.«01_k».proof.Proof.Gen.FfnFwdIdeal.Value
public import proofs.«01_k».proof.Proof.Gen.FfnFwdRefIdeal.Run
public import proofs.«01_k».proof.Proof.FfnFwdResults
public import Idealize.ShloMosaic.Lib.Quiescent

@[expose] public section

set_option maxRecDepth 16384

noncomputable section

namespace Cert.Proof.FfnFwd

open Idealize.ShloMosaic Idealize.ShloMosaic.TcCoe Idealize.SL.Sem
open Cert.FfnFwdRefIdeal.Read (val_main_v19 val_main_v20 val_main_v21 val_main_v22 val_main_v23 val_main_v19_eq val_main_v20_eq val_main_v21_eq val_main_v22_eq val_main_v23_eq)

theorem frame_p : Cert.quiescent_FfnFwd := fun m ρ _ => Cert.FfnFwd.Gen.frame m ρ

theorem frame_pi : Cert.quiescent_FfnFwdIdeal := fun m ρ _ => Cert.FfnFwdIdeal.Gen.frame m ρ

/-- The reference has no semaphores, so its run alone gives the frame. -/
theorem frame_ri : Cert.quiescent_FfnFwdRefIdeal := fun m ρ _ =>
  (θ_run Cert.FfnFwdRefIdeal.defs _ _).mono
    (fun r h => ⟨fun c => (h c).2.2.2.2.2, sem_eq_zero_of_no_sems (by decide) r.2⟩)
    (Cert.FfnFwdRefIdeal.Value.run (F := Ideal) m ρ)

theorem algebraic : Cert.algebraic_FfnFwdIdeal_FfnFwdRefIdeal := by
  intro m g m' g' _ hargs
  refine ⟨fun c => val_main_v19 (F := Ideal) (a0 m c) (a1 m c) (a2 m c) (a3 m c) (a4 m c),
    fun c => val_main_v20 (F := Ideal) (a0 m c) (a1 m c), fun c => val_main_v21 (F := Ideal) (a0 m c) (a1 m c) (a2 m c),
    fun c => val_main_v22 (F := Ideal) (a0 m c) (a1 m c) (a3 m c),
    fun c => val_main_v23 (F := Ideal) (a0 m c) (a1 m c) (a2 m c) (a3 m c), ?_, ?_⟩
  · refine (θ_run Cert.FfnFwdIdeal.defs _ _).mono (fun r h c => ?_) (Cert.FfnFwdIdeal.Value.run_blocks (F := Ideal) m g)
    obtain ⟨e5, e6, e7, e8, e9, ha⟩ := h c
    exact ⟨e5.trans (arr5 m c), e6.trans (arr6 m c), e7.trans (arr7 m c), e8.trans (arr8 m c), e9.trans (arr9 m c), ha⟩
  · refine (θ_run Cert.FfnFwdRefIdeal.defs _ _).mono (fun r h c => ?_) (Cert.FfnFwdRefIdeal.Value.run (F := Ideal) m' g')
    obtain ⟨e0, e1, e2, e3, e4, ha⟩ := h c
    obtain ⟨g0, g1, g2, g3, g4⟩ := hargs c
    refine ⟨e0.trans ((val_main_v19_eq _ _ _ _ _).trans ?_), e1.trans ((val_main_v20_eq _ _).trans ?_),
      e2.trans ((val_main_v21_eq _ _ _).trans ?_), e3.trans ((val_main_v22_eq _ _ _).trans ?_),
      e4.trans ((val_main_v23_eq _ _ _ _).trans ?_), ha⟩
    · rw [g0, g1, g2, g3, g4]
    · rw [g0, g1]
    · rw [g0, g1, g2]
    · rw [g0, g1, g3]
    · rw [g0, g1, g2, g3]

end Cert.Proof.FfnFwd

end
-- ==== Proof.LossFwdOut.lean ====
/-
  The second feed-forward block with the loss head: what each grid point leaves in its seven outputs.
-/
module

public import proofs.«01_k».proof.Proof.HiddenTile
public import proofs.«01_k».proof.Proof.Gen.LossFwdIdeal.Frame
public import Idealize.ShloMosaic.Lib.Pipeline.ValueKit.Acc
public import Idealize.ShloMosaic.Lib.Pipeline.ReadBack
public import Idealize.ShloMosaic.Lib.WholeRead
public import Idealize.ShloMosaic.Lib.ValueLayout
public import Idealize.ShloMosaic.PureOps.Ideal.Laws

@[expose] public section

set_option maxRecDepth 16384

noncomputable section

namespace Cert.Proof.LossFwd

open Cert.LossFwdIdeal Cert.LossFwdIdeal.Gen Idealize.ShloMosaic Idealize.ShloMosaic.TcCoe
open Cert.Proof.Stripes (stripes dotStripe actStripe total)

variable (m : (ℓ : Loc nD τ sig) → Buf (Elt Ideal) ℓ) (c : Dev nD) (t : Fin cfg0.N)

/-- The block's normed rows. -/
abbrev nB : FVec Ideal S512x1024 .bf16 := k0_pay3 (F := Ideal) (iblk m c 0 t) (iblk m c 1 t)

/-- The rows of the block's output. -/
def hB : FVec Ideal S512x1024 .f32 :=
  addf (F := Ideal) (φ := .f32) (iblk m c 0 t : FVec Ideal S512x1024 .f32) (mulf (broadcast S512x1024 (Scalar.ofBits .f32 0x3F000000#32))
    (total (ms0_11 t).view (nB m c t) (iblk m c 2 t) (iblk m c 3 t) (iblk m c 4 t)))

/-- The mean squares of rows. -/
def meanSq (h : FVec Ideal S512x1024 .f32) : FVec Ideal S512x1 .f32 :=
  divf (shapeCast S512x1 (multiReduction .add [1] S512 (mulf h h) 0x00000000#32 reduces_S512x1024_S512 (.inl rfl) rfl)
    shapeCasts_S512_S512x1) (broadcast S512x1 (Scalar.ofBits .f32 0x44800000#32))

/-- The gradient the block's rows get from the loss. -/
def dhB : FVec Ideal S512x1024 .f32 :=
  k0_pay77 (F := Ideal) (hB m c t) (iblk m c 6 t) (meanSq (hB m c t)) (k0_pay72 (F := Ideal)) (iblk m c 5 t)
/-- What the block adds to the gradient of the last gain. -/
def dgB : FVec Ideal S1x1024 .f32 :=
  k0_pay78 (F := Ideal) (hB m c t) (iblk m c 6 t) (meanSq (hB m c t)) (k0_pay72 (F := Ideal)) (iblk m c 5 t)
/-- What it adds to the loss. -/
def lossB : FVec Ideal S1x1 .f32 :=
  k0_pay79 (F := Ideal) (hB m c t) (iblk m c 6 t) (meanSq (hB m c t)) (k0_pay72 (F := Ideal)) (iblk m c 5 t)

theorem n_out : (outsAt0 m c t.val t.isLt).2.1 = nB m c t := by
  by_cases h : t.val % 16 = 0
  · rw [outsAt0_A m c t h]
    frame_out
  · rw [outsAt0_B m c t h]
    frame_out

theorem gate_out : (outsAt0 m c t.val t.isLt).2.2.1 = View.canon (stripes (dotStripe (nB m c t) (iblk m c 2 t)) 11 (by decide)) := by
  by_cases h : t.val % 16 = 0
  · rw [outsAt0_A m c t h]
    frame_out
    rfl
  · rw [outsAt0_B m c t h]
    frame_out
    rfl

theorem up_out : (outsAt0 m c t.val t.isLt).2.2.2.1 = View.canon (stripes (dotStripe (nB m c t) (iblk m c 3 t)) 11 (by decide)) := by
  by_cases h : t.val % 16 = 0
  · rw [outsAt0_A m c t h]
    frame_out
    rfl
  · rw [outsAt0_B m c t h]
    frame_out
    rfl

theorem act_out : (outsAt0 m c t.val t.isLt).2.2.2.2.1
    = View.canon (stripes (actStripe (nB m c t) (iblk m c 2 t) (iblk m c 3 t)) 11 (by decide)) := by
  by_cases h : t.val % 16 = 0
  · rw [outsAt0_A m c t h]
    frame_out
    rfl
  · rw [outsAt0_B m c t h]
    frame_out
    rfl

theorem dh_out : (outsAt0 m c t.val t.isLt).1 = dhB m c t := by
  by_cases h : t.val % 16 = 0
  · rw [outsAt0_A m c t h]
    frame_out
    rfl
  · rw [outsAt0_B m c t h]
    frame_out
    rfl

/-- The first point starts the loss … -/
theorem loss_first (h : t.val % 16 = 0) : (outsAt0 m c t.val t.isLt).2.2.2.2.2.1
    = k0_pay1 (F := Ideal) (lossB m c t) (k0_pay82 (k0_pay80 (F := Ideal))) := by
  rw [outsAt0_A m c t h]
  frame_out
  rfl

/-- … the later ones add to it. -/
theorem loss_next (h : ¬t.val % 16 = 0) : (outsAt0 m c t.val t.isLt).2.2.2.2.2.1
    = k0_pay1 (F := Ideal) (lossB m c t) (k0_pay82 (outsAt0 m c (t.val - 1) (by omega)).2.2.2.2.2.1) := by
  rw [outsAt0_B m c t h]
  frame_out
  rfl

theorem dg_first (h : t.val % 16 = 0) : (outsAt0 m c t.val t.isLt).2.2.2.2.2.2
    = k0_pay2 (F := Ideal) (dgB m c t) (k0_pay81 (F := Ideal)) := by
  rw [outsAt0_A m c t h]
  frame_out
  rfl

theorem dg_next (h : ¬t.val % 16 = 0) : (outsAt0 m c t.val t.isLt).2.2.2.2.2.2
    = k0_pay2 (F := Ideal) (dgB m c t) (outsAt0 m c (t.val - 1) (by omega)).2.2.2.2.2.2 := by
  rw [outsAt0_B m c t h]
  frame_out
  rfl

end Cert.Proof.LossFwd

end
-- ==== Proof.LossRow.lean ====
/-
  One row of the loss head: the derivative of the loss through the last normalisation, as the kernel writes it and as the
  derivative of the formula gives it. The two agree for all rows, the infinite ones included: a row with an infinite entry
  has an infinite mean square, whose inverse root is zero, and both are then zero.
-/
module

public import proofs.«01_k».proof.Proof.FfnReal

@[expose] public section

noncomputable section

namespace Cert.Proof.Loss

open Idealize.ShloMosaic
open Cert.Proof.LatentBwd (coe_sum)
open Cert.Proof.FfnBwd (epsR ofBits_eps ofBits_width ofBits_half ofBits_neg_half rs rs_sq rsqrt_ms)
open scoped BigOperators

theorem ofBits_inv : Ideal.ofBits .f32 0x3A800000#32 = ((1 / 1024 : ℝ) : EReal) := by
  simp [Ideal.ofBits, Ideal.ieee, -EReal.coe_mul]
  norm_num

theorem ofBits_one : Ideal.ofBits .f32 0x3F800000#32 = ((1 : ℝ) : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem div_width (a : EReal) : Ideal.div a (Ideal.ofBits .f32 0x44800000#32) = a * ((1 / 1024 : ℝ) : EReal) := by
  rw [ofBits_width, Ideal.div_coe (by norm_num)]

/-- A nonnegative real factor goes into a sum. -/
theorem sum_mul_coe {ι : Type} (s : Finset ι) (f : ι → EReal) (r : ℝ) (hr : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

section
variable (h w : Fin 1024 → EReal)

/-- The sum of a row's squares. -/
def sq : EReal := ∑ k, h k * h k
/-- Its mean, with what is added to it. -/
def msOf : EReal := Ideal.div (sq h) (Ideal.ofBits .f32 0x44800000#32) + Ideal.ofBits .f32 0x358637BD#32
/-- One over the root of that. -/
def rOf : EReal := Ideal.rsqrt (msOf h)

/-- The gradient of the row as the kernel computes it, `w` being the gradient of the normed row. -/
def gradOf (l : Fin 1024) : EReal :=
  rOf h * (w l - h l * rOf h * Ideal.div (∑ k, w k * (h k * rOf h)) (Ideal.ofBits .f32 0x44800000#32))

/-- Half the factor the row has in the derivative of its inverse root mean square. -/
def coef : EReal :=
  Ideal.div ((∑ k, h k * w k) * (Ideal.ofBits .f32 0xBF000000#32 * Ideal.div (rOf h) (msOf h))) (Ideal.ofBits .f32 0x44800000#32)

theorem self_nonneg (a : EReal) : 0 ≤ a * a := by
  induction a with
  | bot => simp
  | top => simp
  | coe x => rw [← EReal.coe_mul]; exact_mod_cast mul_self_nonneg x

/-- A row whose squares have a finite sum is real. -/
theorem real_of_sq (hs : sq h ≠ ⊤) : ∃ x : Fin 1024 → ℝ, ∀ k, h k = (x k : EReal) := by
  have hk : ∀ k, h k * h k ≠ ⊤ := fun k e => hs (top_unique (e ▸ Finset.single_le_sum (f := fun k => h k * h k)
    (fun k _ => self_nonneg (h k)) (Finset.mem_univ k)))
  refine ⟨fun k => (h k).toReal, fun k => (EReal.coe_toReal ?_ ?_).symm⟩
  · intro e; exact hk k (by rw [e]; rfl)
  · intro e; exact hk k (by rw [e]; rfl)

/-- Twice a product. -/
theorem twice (z : EReal) (a : ℝ) : z * (a : EReal) + z * (a : EReal) = z * ((2 * a : ℝ) : EReal) := by
  have h2 : ((2 * a : ℝ) : EReal) = (a : EReal) * ((1 : EReal) + 1) := by
    rw [one_add_one_eq_two, mul_comm 2 a, EReal.coe_mul]
    rfl
  rw [h2, ← mul_assoc, EReal.left_distrib_of_nonneg (by norm_num) (by norm_num), mul_one]

theorem grad_real (x : Fin 1024 → ℝ) (hx : ∀ k, h k = (x k : EReal)) (l : Fin 1024) :
    w l * rOf h + h l * coef h w + coef h w * h l = gradOf h w l := by
  obtain rfl : h = fun k => (x k : EReal) := funext hx
  let X : Fin 1 → Fin 1024 → ℝ := fun _ => x
  have hm : msOf (fun k => (x k : EReal)) = ((FfnBwd.ms X 0 : ℝ) : EReal) := by
    unfold msOf sq
    rw [div_width, ofBits_eps, Finset.sum_congr rfl fun k _ => (EReal.coe_mul (x k) (x k)).symm, coe_sum, ← EReal.coe_mul, ← EReal.coe_add]
    rfl
  have hr : rOf (fun k => (x k : EReal)) = ((rs X 0 : ℝ) : EReal) := by
    unfold rOf
    rw [hm, rsqrt_ms]
  have hm0 := (FfnBwd.ms_pos X 0).ne'
  have hq := rs_sq X 0
  have hr0 : 0 ≤ rs X 0 := inv_nonneg.mpr (Real.sqrt_nonneg _)
  unfold gradOf coef
  rw [hr, hm, Ideal.div_coe hm0, div_width, div_width, ofBits_neg_half]
  generalize rs X 0 = r at hq hr0
  generalize FfnBwd.ms X 0 = m at hq
  have hS : ∑ k, w k * ((x k : EReal) * (r : EReal)) = (∑ k, (x k : EReal) * w k) * (r : EReal) := by
    rw [sum_mul_coe _ _ _ hr0]
    exact Finset.sum_congr rfl fun k _ => by rw [← mul_assoc, mul_comm (w k)]
  rw [hS]
  generalize ∑ k, (x k : EReal) * w k = z
  have e1 : (x l : EReal) * (r : EReal) * (z * (r : EReal) * ((1 / 1024 : ℝ) : EReal)) = z * ((x l * r * r * (1 / 1024) : ℝ) : EReal) := by
    simp only [EReal.coe_mul]
    ac_rfl
  have e2 : z * (((-(1 / 2) : ℝ) : EReal) * ((r : EReal) * ((1 / m : ℝ) : EReal))) * ((1 / 1024 : ℝ) : EReal)
      = z * ((-(1 / 2) * (r * (1 / m)) * (1 / 1024) : ℝ) : EReal) := by
    simp only [EReal.coe_mul]
    ac_rfl
  rw [e1, e2, hq, mul_comm (z * _) (x l : EReal), add_assoc]
  have e3 : (x l : EReal) * (z * ((-(1 / 2) * (r * r * r) * (1 / 1024) : ℝ) : EReal))
      = z * ((-(1 / 2) * (r * r * r) * (1 / 1024) * x l : ℝ) : EReal) := by
    simp only [EReal.coe_mul]
    ac_rfl
  rw [e3, twice, sub_eq_add_neg, EReal.left_distrib_of_nonneg_of_ne_top (by exact_mod_cast hr0) (EReal.coe_ne_top r), mul_comm (r : EReal) (w l)]
  refine congrArg (fun a : EReal => w l * (r : EReal) + a) ?_
  rw [← mul_neg, ← EReal.coe_neg, mul_left_comm (r : EReal), ← EReal.coe_mul]
  refine congrArg (fun a : ℝ => z * (a : EReal)) ?_
  ring

theorem grad_top (hs : sq h = ⊤) (l : Fin 1024) : w l * rOf h + h l * coef h w + coef h w * h l = gradOf h w l := by
  have hm : msOf h = ⊤ := by
    unfold msOf
    rw [hs, div_width, ofBits_eps, EReal.top_mul_coe_of_pos (by norm_num), EReal.top_add_coe]
  have hr : rOf h = 0 := by
    unfold rOf
    rw [hm, Ideal.rsqrt_top]
  have hd : Ideal.div 0 ⊤ = 0 := by
    unfold Ideal.div
    rw [if_neg EReal.top_ne_zero, zero_mul]
  unfold gradOf coef
  rw [hr, hm, hd, div_width]
  simp

/-- The derivative through the normalisation is the kernel's. -/
theorem grad_eq (l : Fin 1024) : w l * rOf h + h l * coef h w + coef h w * h l = gradOf h w l := by
  by_cases hs : sq h = ⊤
  · exact grad_top h w hs l
  · obtain ⟨x, hx⟩ := real_of_sq h hs
    exact grad_real h w x hx l
end

/-! ## The loss of a row -/

section
variable (h g t : Fin 1024 → EReal)

/-- The difference from the target. -/
def diffOf (l : Fin 1024) : EReal := h l * rOf h * g l - t l
/-- The gradient of the scaled normed row. -/
def dyOf (l : Fin 1024) : EReal := diffOf h g t l * Ideal.ofBits .f32 0x3A800000#32
/-- The mean square of the difference. -/
def meanOf : EReal := (∑ l, diffOf h g t l * diffOf h g t l) * Ideal.ofBits .f32 0x3A800000#32

theorem dy_eq (d : EReal) : Ideal.div (Ideal.ofBits .f32 0x3F000000#32 * Ideal.ofBits .f32 0x3F800000#32) (Ideal.ofBits .f32 0x44800000#32)
    * (Ideal.ofBits .f32 0x40000000#32 * d) = d * Ideal.ofBits .f32 0x3A800000#32 := by
  rw [div_width, ofBits_half, ofBits_one, ofBits_two, ofBits_inv, ← mul_assoc, ← EReal.coe_mul, ← EReal.coe_mul, ← EReal.coe_mul,
    mul_comm]
  refine congrArg (fun a : ℝ => d * (a : EReal)) ?_
  norm_num

theorem mean_eq (a : EReal) : Ideal.div a (Ideal.ofBits .f32 0x44800000#32) = a * Ideal.ofBits .f32 0x3A800000#32 := by
  rw [div_width, ofBits_inv]
end

end Cert.Proof.Loss

end
-- ==== Proof.LossFwdHead.lean ====
/-
  The loss head over one block of 512 rows: the kernel's expressions, row by row.
-/
module

public import proofs.«01_k».proof.Proof.LossFwdOut
public import proofs.«01_k».proof.Proof.LossRow
public import proofs.«01_k».proof.Proof.FfnFwdBlock
public import Idealize.ShloMosaic.Lib.ValueLayoutCasts

@[expose] public section

set_option maxRecDepth 16384

noncomputable section

namespace Cert.Proof.LossFwd

open Cert.LossFwdIdeal Cert.LossFwdIdeal.Gen Idealize.ShloMosaic Idealize.ShloMosaic.ValueIdx
open Cert.Proof.Loss
open Cert.Proof.FfnFwd (row_sum spread_at)
open scoped BigOperators

variable (h : FVec Ideal S512x1024 .f32) (g : Vec Ideal S1x1024 .f32) (t : Vec Ideal S512x1024 .f32)

/-- A row of a block. -/
def rowOf (y : FVec Ideal S512x1024 .f32) (i : Fin 512) : Fin 1024 → EReal := fun l => y (ix2 i l)
/-- A gain. -/
def laneOf : Fin 1024 → EReal := fun l => g (ix2 0 l)

theorem r_at (i : Fin 512) (z : Fin 1) : k0_pay73 (F := Ideal) (meanSq h) (k0_pay72 (F := Ideal)) (ix2 i z) = rOf (rowOf h i) := by
  unfold k0_pay73 meanSq k0_pay72
  exact congrArg (fun s : EReal => Ideal.rsqrt (Ideal.div s (Ideal.ofBits .f32 0x44800000#32) + Ideal.ofBits .f32 0x358637BD#32))
    (row_sum _ i z)

theorem unit_at (i : Fin 512) (l : Fin 1024) : k0_pay76 (F := Ideal) h (meanSq h) (k0_pay72 (F := Ideal)) (ix2 i l)
    = rowOf h i l * rOf (rowOf h i) := by
  unfold k0_pay76
  exact congrArg (fun r : EReal => rowOf h i l * r) ((spread_at _ i l).trans (r_at h i 0))

theorem diff_at (i : Fin 512) (l : Fin 1024) : k0_pay74 (F := Ideal) h g (meanSq h) (k0_pay72 (F := Ideal)) t (ix2 i l)
    = diffOf (rowOf h i) (laneOf g) (rowOf t i) l := by
  unfold k0_pay74
  exact congrArg₂ (fun a b : EReal => rowOf h i l * a * b - rowOf t i l) ((spread_at _ i l).trans (r_at h i 0))
    (broadcastTo_1b_ab_apply g broadcasts_S1x1024_S512x1024 i l)

theorem dy_at (i : Fin 512) (l : Fin 1024) : k0_pay75 (F := Ideal) h g (meanSq h) (k0_pay72 (F := Ideal)) t (ix2 i l)
    = dyOf (rowOf h i) (laneOf g) (rowOf t i) l := by
  unfold k0_pay75
  exact congrArg (fun d : EReal => d * Ideal.ofBits .f32 0x3A800000#32) (diff_at h g t i l)

/-- The gradient of the block's rows. -/
theorem grad_at (i : Fin 512) (l : Fin 1024) : k0_pay77 (F := Ideal) h g (meanSq h) (k0_pay72 (F := Ideal)) t (ix2 i l)
    = gradOf (rowOf h i) (fun l => dyOf (rowOf h i) (laneOf g) (rowOf t i) l * laneOf g l) l := by
  have hw : ∀ l, (mulf (k0_pay75 (F := Ideal) h g (meanSq h) (k0_pay72 (F := Ideal)) t)
      (broadcastTo S512x1024 g broadcasts_S1x1024_S512x1024) : FVec Ideal S512x1024 .f32) (ix2 i l)
      = dyOf (rowOf h i) (laneOf g) (rowOf t i) l * laneOf g l := fun l =>
    congrArg₂ (fun a b : EReal => a * b) (dy_at h g t i l) (broadcastTo_1b_ab_apply g broadcasts_S1x1024_S512x1024 i l)
  unfold k0_pay77
  refine congrArg₂ (fun a b : EReal => a * b) ((spread_at _ i l).trans (r_at h i 0)) ?_
  refine congrArg₂ (fun a b : EReal => a - b) (hw l) ?_
  refine congrArg₂ (fun a b : EReal => a * b) (unit_at h i l) ?_
  refine (spread_at _ i l).trans ?_
  refine congrArg (fun s : EReal => Ideal.div s (Ideal.ofBits .f32 0x44800000#32)) ?_
  refine (row_sum _ i 0).trans ?_
  exact Finset.sum_congr rfl fun k _ => congrArg₂ (fun a b : EReal => a * b) (hw k) (unit_at h i k)

/-- The block's part of the gradient of the gain. -/
theorem gain_at (z : Fin 1) (l : Fin 1024) : k0_pay78 (F := Ideal) h g (meanSq h) (k0_pay72 (F := Ideal)) t (ix2 z l)
    = ∑ i : Fin 512, dyOf (rowOf h i) (laneOf g) (rowOf t i) l * (rowOf h i l * rOf (rowOf h i)) := by
  unfold k0_pay78
  refine (shapeCast_a_1a_apply _ shapeCasts_S1024_S1x1024 z l).trans ?_
  refine (Ideal.multiReduction_add_single (φ := .f32) _ 0x00000000#32 reduces_S512x1024_S1024 (.inl rfl) rfl (ix1 l)).trans ?_
  refine Finset.sum_congr rfl fun k _ => ?_
  have hl : reduces_S512x1024_S1024.lift (ix1 l) k = ix2 k l :=
    funext fun a => Fin.ext (by match a with | ⟨0, _⟩ => rfl | ⟨1, _⟩ => rfl)
  refine (congrArg (mulf (k0_pay75 (F := Ideal) h g (meanSq h) (k0_pay72 (F := Ideal)) t)
    (k0_pay76 (F := Ideal) h (meanSq h) (k0_pay72 (F := Ideal)))) hl).trans ?_
  exact congrArg₂ (fun a b : EReal => a * b) (dy_at h g t k l) (unit_at h k l)

/-- The block's part of the loss. -/
theorem loss_at : k0_pay79 (F := Ideal) h g (meanSq h) (k0_pay72 (F := Ideal)) t (ix2 0 0)
    = Ideal.ofBits .f32 0x3F000000#32 * ∑ i : Fin 512, meanOf (rowOf h i) (laneOf g) (rowOf t i) := by
  unfold k0_pay79
  refine congrArg (fun s : EReal => Ideal.ofBits .f32 0x3F000000#32 * s) ?_
  refine (shapeCast_a_1a_apply _ shapeCasts_S1_S1x1 0 0).trans ?_
  refine (Ideal.multiReduction_add_single (φ := .f32) _ 0x00000000#32 reduces_S512x1_S1 (.inl rfl) rfl (ix1 0)).trans ?_
  refine Finset.sum_congr rfl fun k _ => ?_
  have hl : reduces_S512x1_S1.lift (ix1 0) k = ix2 k (0 : Fin 1) :=
    funext fun a => Fin.ext (by match a with | ⟨0, _⟩ => rfl | ⟨1, _⟩ => rfl)
  refine (congrArg (mulf (shapeCast S512x1 (multiReduction .add [1] S512 (mulf (k0_pay74 (F := Ideal) h g (meanSq h) (k0_pay72 (F := Ideal)) t)
    (k0_pay74 (F := Ideal) h g (meanSq h) (k0_pay72 (F := Ideal)) t)) 0x00000000#32 reduces_S512x1024_S512 (.inl rfl) rfl)
    shapeCasts_S512_S512x1) (broadcast S512x1 (Scalar.ofBits .f32 0x3A800000#32)) : FVec Ideal S512x1 .f32) hl).trans ?_
  refine congrArg (fun s : EReal => s * Ideal.ofBits .f32 0x3A800000#32) ((row_sum _ k 0).trans ?_)
  exact Finset.sum_congr rfl fun l _ => congrArg₂ (fun a b : EReal => a * b) (diff_at h g t k l) (diff_at h g t k l)

end Cert.Proof.LossFwd

end
-- ==== Proof.LossFwdRef.lean ====
/-
  The second feed-forward block with the loss head: what the reference's arrays hold, row by row.
-/
module

public import proofs.«01_k».proof.Proof.LossRow
public import proofs.«01_k».proof.Proof.Gen.LossFwdRefIdeal.Read
public import Idealize.ShloMosaic.Lib.ValueIdx

@[expose] public section

set_option maxRecDepth 16384

noncomputable section

namespace Cert.Proof.LossFwd

open Cert.LossFwdRefIdeal Cert.LossFwdRefIdeal.Gen Cert.LossFwdRefIdeal.Read Idealize.ShloMosaic Idealize.ShloMosaic.ValueIdx
open Cert.Proof.Loss
open scoped BigOperators

variable (x0 : (⟨S8192x1024, .f32⟩ : BufTy).Contents (Elt Ideal)) (x1 : (⟨S1x1024, .f32⟩ : BufTy).Contents (Elt Ideal))
  (x2 x3 : (⟨S1024x2816, .f32⟩ : BufTy).Contents (Elt Ideal)) (x4 : (⟨S2816x1024, .f32⟩ : BufTy).Contents (Elt Ideal))
  (x5 : (⟨S8192x1024, .f32⟩ : BufTy).Contents (Elt Ideal)) (x6 : (⟨S1x1024, .f32⟩ : BufTy).Contents (Elt Ideal))

/-- A row of the block's output. -/
def hRow (i : Fin 8192) : Fin 1024 → EReal := fun l => val_main_v19 (F := Ideal) x0 x1 x2 x3 x4 (ix2 i l)
/-- A row of the target. -/
def tRow (i : Fin 8192) : Fin 1024 → EReal := fun l => x5 (ix2 i l)
/-- The last gain. -/
def gRow : Fin 1024 → EReal := fun l => x6 (ix2 0 l)

theorem ms_ref (i : Fin 8192) (z : Fin 1) : val_main_v30 (F := Ideal) x0 x1 x2 x3 x4 (ix2 i z) = msOf (hRow x0 x1 x2 x3 x4 i) := by
  have h26 : idx_main_v26 (ix2 i z) = (ix1 i : S8192.Idx) := eq_ix1 _
  rw [val_main_v30_apply, val_main_v28_apply, val_main_v26_apply, h26, val_main_v27_apply, val_main_v29_apply, val_main_cst_4_apply,
    val_main_cst_5_apply, val_main_v25_apply]
  refine congrArg (fun s : EReal => Ideal.div s (Ideal.ofBits .f32 0x44800000#32) + Ideal.ofBits .f32 0x358637BD#32) ?_
  refine (congrArg₂ (· + ·) Ideal.ofBits_zero_f32 (Finset.sum_congr rfl fun k _ => ?_)).trans (zero_add _)
  have ha : idx_main_v25 (ix1 i : S8192.Idx) k = ix2 i k := eq_ix2 _
  rw [ha, val_main_v24_apply]
  rfl

theorem r_ref (i : Fin 8192) (z : Fin 1) : val_main_v31 (F := Ideal) x0 x1 x2 x3 x4 (ix2 i z) = rOf (hRow x0 x1 x2 x3 x4 i) := by
  rw [val_main_v31_apply]
  exact congrArg Ideal.rsqrt (ms_ref x0 x1 x2 x3 x4 i z)

theorem unit_ref (i : Fin 8192) (l : Fin 1024) : val_main_v36 (F := Ideal) x0 x1 x2 x3 x4 (ix2 i l)
    = hRow x0 x1 x2 x3 x4 i l * rOf (hRow x0 x1 x2 x3 x4 i) := by
  have h35 : idx_main_v35 (ix2 i l) = ix2 i (0 : Fin 1) := eq_ix2 _
  rw [val_main_v36_apply, val_main_v35_apply, h35]
  exact congrArg (fun r : EReal => hRow x0 x1 x2 x3 x4 i l * r) (r_ref x0 x1 x2 x3 x4 i 0)

theorem diff_ref (i : Fin 8192) (l : Fin 1024) : val_main_v39 (F := Ideal) x0 x1 x2 x3 x4 x5 x6 (ix2 i l)
    = diffOf (hRow x0 x1 x2 x3 x4 i) (gRow x6) (tRow x5 i) l := by
  have h37 : idx_main_v37 (ix2 i l) = ix2 (0 : Fin 1) l := eq_ix2 _
  rw [val_main_v39_apply, val_main_v38_apply, val_main_v37_apply, h37]
  exact congrArg (fun r : EReal => r * gRow x6 l - tRow x5 i l) (unit_ref x0 x1 x2 x3 x4 i l)

theorem dy_ref (i : Fin 8192) (l : Fin 1024) : val_main_v53 (F := Ideal) x0 x1 x2 x3 x4 x5 x6 (ix2 i l)
    = dyOf (hRow x0 x1 x2 x3 x4 i) (gRow x6) (tRow x5 i) l := by
  have h52 : idx_main_v52 (ix2 i l) = (ix1 i : S8192.Idx) := eq_ix1 _
  rw [val_main_v53_apply, val_main_v52_apply, h52, val_main_v51_apply, val_main_v49_apply, val_main_v50_apply, val_main_v48_apply,
    val_main_cst_12_apply, val_main_cst_13_apply, val_main_cst_14_apply, val_main_v42_apply, val_main_v41_apply, val_main_cst_7_apply]
  refine Eq.trans ?_ (dy_eq (diffOf (hRow x0 x1 x2 x3 x4 i) (gRow x6) (tRow x5 i) l))
  exact congrArg (fun d : EReal => Ideal.div (Ideal.ofBits .f32 0x3F000000#32 * Ideal.ofBits .f32 0x3F800000#32)
    (Ideal.ofBits .f32 0x44800000#32) * (Ideal.ofBits .f32 0x40000000#32 * d)) (diff_ref x0 x1 x2 x3 x4 x5 x6 i l)

/-- The gradient of the last gain: a sum over all rows. -/
theorem dg_ref (z : Fin 1) (l : Fin 1024) : val_main_v56 (F := Ideal) x0 x1 x2 x3 x4 x5 x6 (ix2 z l)
    = ∑ i : Fin 8192, dyOf (hRow x0 x1 x2 x3 x4 i) (gRow x6) (tRow x5 i) l * (hRow x0 x1 x2 x3 x4 i l * rOf (hRow x0 x1 x2 x3 x4 i)) := by
  have h56 : idx_main_v56 (ix2 z l) = (ix1 l : S1024.Idx) := by
    obtain rfl : z = 0 := Subsingleton.elim _ _
    refine funext fun a => Fin.ext ?_
    match a with
    | ⟨0, _⟩ => show 0 * 1024 + l.val = l.val; omega
  rw [val_main_v56_apply, h56, val_main_v55_apply, val_main_cst_15_apply]
  refine (congrArg₂ (· + ·) Ideal.ofBits_zero_f32 (Finset.sum_congr rfl fun i _ => ?_)).trans (zero_add _)
  have ha : idx_main_v55 (ix1 l : S1024.Idx) i = ix2 i l := eq_ix2 _
  rw [ha, val_main_v54_apply]
  exact (congrArg₂ (fun a b : EReal => a * b) (unit_ref x0 x1 x2 x3 x4 i l) (dy_ref x0 x1 x2 x3 x4 x5 x6 i l)).trans (mul_comm _ _)

/-- The gradient of the scaled normed row. -/
def wRow (i : Fin 8192) : Fin 1024 → EReal := fun l => dyOf (hRow x0 x1 x2 x3 x4 i) (gRow x6) (tRow x5 i) l * gRow x6 l

theorem w_ref (i : Fin 8192) (l : Fin 1024) : val_main_v58 (F := Ideal) x0 x1 x2 x3 x4 x5 x6 (ix2 i l) = wRow x0 x1 x2 x3 x4 x5 x6 i l := by
  have h57 : idx_main_v57 (ix2 i l) = ix2 (0 : Fin 1) l := eq_ix2 _
  rw [val_main_v58_apply, val_main_v57_apply, h57]
  exact congrArg (fun d : EReal => d * gRow x6 l) (dy_ref x0 x1 x2 x3 x4 x5 x6 i l)

theorem coef_ref (i : Fin 8192) : val_main_v67 (F := Ideal) x0 x1 x2 x3 x4 x5 x6 (ix1 i)
    = coef (hRow x0 x1 x2 x3 x4 i) (wRow x0 x1 x2 x3 x4 x5 x6 i) := by
  have h67 : idx_main_v67 (ix1 i : S8192.Idx) 0 = ix2 i (0 : Fin 1) := eq_ix2 _
  have h61 : idx_main_v61 (ix2 i (0 : Fin 1)) = (ix1 i : S8192.Idx) := by
    refine funext fun a => Fin.ext ?_
    match a with
    | ⟨0, _⟩ => show i.val * 1 + 0 = i.val; omega
  rw [val_main_v67_apply, Fin.sum_univ_one, h67, val_main_v66_apply, val_main_v64_apply, val_main_v61_apply, h61, val_main_v65_apply,
    val_main_cst_17_apply, val_main_cst_18_apply, val_main_v34_apply, val_main_v33_apply, val_main_cst_6_apply, val_main_v32_apply,
    val_main_v60_apply, val_main_cst_16_apply]
  refine (congrArg₂ (fun a b : EReal => a + b) Ideal.ofBits_zero_f32 ?_).trans (zero_add _)
  refine congrArg₂ (fun a b : EReal => Ideal.div (a * (Ideal.ofBits .f32 0xBF000000#32 * b)) (Ideal.ofBits .f32 0x44800000#32)) ?_
    (congrArg₂ Ideal.div (r_ref x0 x1 x2 x3 x4 i 0) (ms_ref x0 x1 x2 x3 x4 i 0))
  refine (congrArg₂ (· + ·) Ideal.ofBits_zero_f32 (Finset.sum_congr rfl fun k _ => ?_)).trans (zero_add _)
  have ha : idx_main_v60 (ix1 i : S8192.Idx) k = ix2 i k := eq_ix2 _
  rw [ha, val_main_v59_apply]
  exact congrArg (fun d : EReal => hRow x0 x1 x2 x3 x4 i k * d) (w_ref x0 x1 x2 x3 x4 x5 x6 i k)

/-- The gradient of the block's rows. -/
theorem dh_ref (i : Fin 8192) (l : Fin 1024) : val_main_v72 (F := Ideal) x0 x1 x2 x3 x4 x5 x6 (ix2 i l)
    = gradOf (hRow x0 x1 x2 x3 x4 i) (wRow x0 x1 x2 x3 x4 x5 x6 i) l := by
  have h62 : idx_main_v62 (ix2 i l) = ix2 i (0 : Fin 1) := eq_ix2 _
  have h68 : idx_main_v68 (ix2 i l) = (ix1 i : S8192.Idx) := eq_ix1 _
  rw [val_main_v72_apply, val_main_v70_apply, val_main_v71_apply, val_main_v63_apply, val_main_v69_apply, val_main_v62_apply, h62,
    val_main_v68_apply, h68]
  refine Eq.trans ?_ (grad_eq _ _ l)
  have hc := coef_ref x0 x1 x2 x3 x4 x5 x6 i
  exact congrArg₂ (fun a b : EReal => a + b) (congrArg₂ (fun a b : EReal => a + b)
    (congrArg₂ (fun a b : EReal => a * b) (w_ref x0 x1 x2 x3 x4 x5 x6 i l) (r_ref x0 x1 x2 x3 x4 i 0))
    (congrArg (fun b : EReal => hRow x0 x1 x2 x3 x4 i l * b) hc)) (congrArg (fun b : EReal => b * hRow x0 x1 x2 x3 x4 i l) hc)

theorem mean_ref (i : Fin 8192) : val_main_v45 (F := Ideal) x0 x1 x2 x3 x4 x5 x6 (ix1 i)
    = meanOf (hRow x0 x1 x2 x3 x4 i) (gRow x6) (tRow x5 i) := by
  rw [val_main_v45_apply, val_main_v44_apply, val_main_cst_9_apply, val_main_v43_apply, val_main_cst_8_apply]
  refine Eq.trans (congrArg (fun a : EReal => Ideal.div a (Ideal.ofBits .f32 0x44800000#32)) ?_) (mean_eq _)
  refine (congrArg₂ (· + ·) Ideal.ofBits_zero_f32 (Finset.sum_congr rfl fun k _ => ?_)).trans (zero_add _)
  have ha : idx_main_v43 (ix1 i : S8192.Idx) k = ix2 i k := eq_ix2 _
  have hd := diff_ref x0 x1 x2 x3 x4 x5 x6 i k
  rw [ha, val_main_v40_apply]
  exact congrArg₂ (fun a b : EReal => a * b) hd hd

/-- The loss: half the sum of the rows' mean squares. -/
theorem loss_ref (y : S1x128.Idx) : val_main_v73 (F := Ideal) x0 x1 x2 x3 x4 x5 x6 y
    = Ideal.ofBits .f32 0x3F000000#32 * ∑ i : Fin 8192, meanOf (hRow x0 x1 x2 x3 x4 i) (gRow x6) (tRow x5 i) := by
  rw [val_main_v73_apply, val_main_v47_apply, val_main_cst_11_apply, val_main_v46_apply, val_main_cst_10_apply]
  refine congrArg (fun s : EReal => Ideal.ofBits .f32 0x3F000000#32 * s) ?_
  refine (congrArg₂ (· + ·) Ideal.ofBits_zero_f32 ?_).trans (zero_add _)
  let e : Fin 8192 ≃ S8192.Idx := ⟨fun i => ix1 i, fun j => j 0, fun _ => rfl, fun j => (eq_ix1 j).symm⟩
  rw [← Equiv.sum_comp e]
  exact Finset.sum_congr rfl fun i _ => mean_ref x0 x1 x2 x3 x4 x5 x6 i

end Cert.Proof.LossFwd

end
-- ==== Proof.RowSum.lean ====
/-
  A sum over the 8192 rows taken in sixteen blocks of 512, one after another.
-/
module

public import proofs.«01_k».proof.Proof.FfnReal

@[expose] public section

noncomputable section

namespace Cert.Proof.RowSum

open Cert.Proof.FfnBwd.Ffn (row)
open scoped BigOperators

/-- The sum over the first `k` blocks. -/
def upTo (g : Fin 8192 → EReal) (k : ℕ) : EReal := ∑ b ∈ Finset.univ.filter (fun b : Fin 16 => b.val < k), ∑ i, g (row b i)

theorem upTo_zero (g : Fin 8192 → EReal) : upTo g 0 = 0 := by
  unfold upTo
  rw [Finset.filter_false_of_mem (fun b _ => Nat.not_lt_zero _), Finset.sum_empty]

theorem upTo_succ (g : Fin 8192 → EReal) (b : Fin 16) : upTo g (b.val + 1) = upTo g b.val + ∑ i, g (row b i) := by
  unfold upTo
  have h : Finset.univ.filter (fun a : Fin 16 => a.val < b.val + 1) = insert b (Finset.univ.filter fun a : Fin 16 => a.val < b.val) := by
    ext a
    simp only [Finset.mem_filter, Finset.mem_univ, true_and, Finset.mem_insert, Fin.ext_iff]
    omega
  rw [h, Finset.sum_insert (by simp), add_comm]

theorem upTo_all (g : Fin 8192 → EReal) : upTo g 16 = ∑ i, g i := by
  unfold upTo
  rw [Finset.filter_true_of_mem fun b _ => b.isLt, ← Fintype.sum_prod_type', ← Equiv.sum_comp (finProdFinEquiv (m := 16) (n := 512)) g]
  refine Finset.sum_congr rfl fun p _ => congrArg g (Fin.ext ?_)
  show p.1.val * 512 + p.2.val = p.2.val + 512 * p.1.val
  omega

end Cert.Proof.RowSum

end
-- ==== Proof.LossFwdArrays.lean ====
/-
  The second feed-forward block with the loss head: what a grid point is given, and that its expressions are the
  reference's arrays' entries.

  Grid point `t` handles the 512 rows of block `t`. The weights were laid out by the host.
-/
module

public import proofs.«01_k».proof.Proof.LossFwdHead
public import proofs.«01_k».proof.Proof.LossFwdRef
public import proofs.«01_k».proof.Proof.RowSum
public import Idealize.ShloMosaic.Lib.Pipeline.Value
public import Idealize.ShloMosaic.Lib.Pipeline.ValueKit.Point

@[expose] public section

set_option maxRecDepth 16384

noncomputable section

namespace Cert.Proof.LossFwd

open Cert.LossFwdIdeal Cert.LossFwdIdeal.Gen Idealize.ShloMosaic.TcCoe Idealize.ShloMosaic.ValueIdx
open Idealize.ShloMosaic hiding ix1 ix2 eq_ix2
open Cert.LossFwdRefIdeal.Read (val_main_v11 val_main_v12 val_main_v13 val_main_v15 val_main_v19 val_main_v72)
open Cert.Proof.FfnFwd (Given)
open Cert.Proof.Loss
open scoped BigOperators
open Cert.Proof.Stripes (dotOf actOf)
open Cert.Proof.FfnBwd.Ffn (row)

/-- The block of rows of a grid point. -/
def bp (t : Fin cfg0.N) : Fin 16 := ⟨t.val, by have := t.isLt; have h : cfg0.N = 16 := N_0; omega⟩

theorem ix0_0 : ∀ t : Fin cfg0.N, win0_0.index t = ![t.val, 0] := (by decide +kernel : ∀ t : Fin grid0.N, win0_0.index t = ![t.val, 0])
theorem ix0_1 : ∀ t : Fin cfg0.N, win0_1.index t = ![0, 0] := (by decide +kernel : ∀ t : Fin grid0.N, win0_1.index t = ![0, 0])
theorem ix0_2 : ∀ t : Fin cfg0.N, win0_2.index t = ![0, 0] := (by decide +kernel : ∀ t : Fin grid0.N, win0_2.index t = ![0, 0])
theorem ix0_3 : ∀ t : Fin cfg0.N, win0_3.index t = ![0, 0] := (by decide +kernel : ∀ t : Fin grid0.N, win0_3.index t = ![0, 0])
theorem ix0_4 : ∀ t : Fin cfg0.N, win0_4.index t = ![0, 0] := (by decide +kernel : ∀ t : Fin grid0.N, win0_4.index t = ![0, 0])
theorem ix0_5 : ∀ t : Fin cfg0.N, win0_5.index t = ![t.val, 0] := (by decide +kernel : ∀ t : Fin grid0.N, win0_5.index t = ![t.val, 0])
theorem ix0_6 : ∀ t : Fin cfg0.N, win0_6.index t = ![0, 0] := (by decide +kernel : ∀ t : Fin grid0.N, win0_6.index t = ![0, 0])
theorem ix0_7 : ∀ t : Fin cfg0.N, win0_7.index t = ![t.val, 0] := (by decide +kernel : ∀ t : Fin grid0.N, win0_7.index t = ![t.val, 0])
theorem ix0_8 : ∀ t : Fin cfg0.N, win0_8.index t = ![t.val, 0] := (by decide +kernel : ∀ t : Fin grid0.N, win0_8.index t = ![t.val, 0])
theorem ix0_9 : ∀ t : Fin cfg0.N, win0_9.index t = ![t.val, 0] := (by decide +kernel : ∀ t : Fin grid0.N, win0_9.index t = ![t.val, 0])
theorem ix0_10 : ∀ t : Fin cfg0.N, win0_10.index t = ![t.val, 0] := (by decide +kernel : ∀ t : Fin grid0.N, win0_10.index t = ![t.val, 0])
theorem ix0_11 : ∀ t : Fin cfg0.N, win0_11.index t = ![t.val, 0] := (by decide +kernel : ∀ t : Fin grid0.N, win0_11.index t = ![t.val, 0])
theorem ix0_12 : ∀ t : Fin cfg0.N, win0_12.index t = ![0, 0] := (by decide +kernel : ∀ t : Fin grid0.N, win0_12.index t = ![0, 0])
theorem ix0_13 : ∀ t : Fin cfg0.N, win0_13.index t = ![0, 0] := (by decide +kernel : ∀ t : Fin grid0.N, win0_13.index t = ![0, 0])

section
variable (m : (ℓ : Loc nD τ sig) → Buf (Elt Ideal) ℓ) (c : Dev nD)

/-- The seven arguments. -/
abbrev a0 : (⟨S8192x1024, .f32⟩ : BufTy).Contents (Elt Ideal) := m ((c.tc : Thread nD τ).loc main_arg0)
abbrev a1 : (⟨S1x1024, .f32⟩ : BufTy).Contents (Elt Ideal) := m ((c.tc : Thread nD τ).loc main_arg1)
abbrev a2 : (⟨S1024x2816, .f32⟩ : BufTy).Contents (Elt Ideal) := m ((c.tc : Thread nD τ).loc main_arg2)
abbrev a3 : (⟨S1024x2816, .f32⟩ : BufTy).Contents (Elt Ideal) := m ((c.tc : Thread nD τ).loc main_arg3)
abbrev a4 : (⟨S2816x1024, .f32⟩ : BufTy).Contents (Elt Ideal) := m ((c.tc : Thread nD τ).loc main_arg4)
abbrev a5 : (⟨S8192x1024, .f32⟩ : BufTy).Contents (Elt Ideal) := m ((c.tc : Thread nD τ).loc main_arg5)
abbrev a6 : (⟨S1x1024, .f32⟩ : BufTy).Contents (Elt Ideal) := m ((c.tc : Thread nD τ).loc main_arg6)

/-! ## What the host lays out first -/

theorem V_wg : V m c main_v1
    = (truncf .bf16 (transpose S2816x1024 [1, 0] (a2 m c) transposes_S1024x2816_S2816x1024_1_0 : FVec Ideal S2816x1024 .f32) bitsLt_bf16_f32 : FVec Ideal S2816x1024 .bf16) := by
  unfold V
  simp only [List.flatten_cons, List.flatten_nil, List.append_nil, hostOps0]
  entry_read
  rfl
theorem V_wu : V m c main_v3
    = (truncf .bf16 (transpose S2816x1024 [1, 0] (a3 m c) transposes_S1024x2816_S2816x1024_1_0 : FVec Ideal S2816x1024 .f32) bitsLt_bf16_f32 : FVec Ideal S2816x1024 .bf16) := by
  unfold V
  simp only [List.flatten_cons, List.flatten_nil, List.append_nil, hostOps0]
  entry_read
  rfl
theorem V_wd : V m c main_v4 = (truncf .bf16 (a4 m c : FVec Ideal S2816x1024 .f32) bitsLt_bf16_f32 : FVec Ideal S2816x1024 .bf16) := by
  unfold V
  simp only [List.flatten_cons, List.flatten_nil, List.append_nil, hostOps0]
  entry_read
  rfl

/-! ## The blocks -/

variable (t : Fin cfg0.N)

theorem x_blk (i : Fin 512) (l : Fin 1024) : iblk m c 0 t (ix2 i l) = a0 m c (ix2 (row (bp t) i) l) := by
  blk_ext [iblk, V_main_arg0, ix0_0 t, row, bp]
theorem g_blk (l : Fin 1024) : iblk m c 1 t (ix2 0 l) = a1 m c (ix2 0 l) := by
  blk_ext [iblk, V_main_arg1, ix0_1 t]
theorem t_blk (i : Fin 512) (l : Fin 1024) : iblk m c 5 t (ix2 i l) = a5 m c (ix2 (row (bp t) i) l) := by
  blk_ext [iblk, V_main_arg5, ix0_5 t, row, bp]
theorem gf_blk (l : Fin 1024) : iblk m c 6 t (ix2 0 l) = a6 m c (ix2 0 l) := by
  blk_ext [iblk, V_main_arg6, ix0_6 t]
theorem iblk2_at (f : Fin 2816) (l : Fin 1024) : iblk m c 2 t (ix2 f l) = V m c main_v1 (ix2 f l) := by
  generalize hV : V m c main_v1 = G
  have h : iblk m c 2 t = ((cfg0.win 2).blk t).view.read (Elt Ideal) G := by rw [← hV]; rfl
  rw [h]
  blk_ext [ix0_2 t]
theorem iblk3_at (f : Fin 2816) (l : Fin 1024) : iblk m c 3 t (ix2 f l) = V m c main_v3 (ix2 f l) := by
  generalize hV : V m c main_v3 = G
  have h : iblk m c 3 t = ((cfg0.win 3).blk t).view.read (Elt Ideal) G := by rw [← hV]; rfl
  rw [h]
  blk_ext [ix0_3 t]
theorem iblk4_at (f : Fin 2816) (l : Fin 1024) : iblk m c 4 t (ix2 f l) = V m c main_v4 (ix2 f l) := by
  generalize hV : V m c main_v4 = G
  have h : iblk m c 4 t = ((cfg0.win 4).blk t).view.read (Elt Ideal) G := by rw [← hV]; rfl
  rw [h]
  blk_ext [ix0_4 t]
theorem wg_blk (f : Fin 2816) (l : Fin 1024) : iblk m c 2 t (ix2 f l) = a2 m c (ix2 l f) :=
  (iblk2_at m c t f l).trans ((congrFun (V_wg m c) _).trans
    (transpose_ix2_apply (a2 m c) transposes_S1024x2816_S2816x1024_1_0 _ _))
theorem wu_blk (f : Fin 2816) (l : Fin 1024) : iblk m c 3 t (ix2 f l) = a3 m c (ix2 l f) :=
  (iblk3_at m c t f l).trans ((congrFun (V_wu m c) _).trans
    (transpose_ix2_apply (a3 m c) transposes_S1024x2816_S2816x1024_1_0 _ _))
theorem wd_blk (f : Fin 2816) (l : Fin 1024) : iblk m c 4 t (ix2 f l) = a4 m c (ix2 f l) :=
  (iblk4_at m c t f l).trans (congrFun (V_wd m c) _)

/-! ## The block's expressions -/

theorem given : Given (a0 m c) (a1 m c) (a2 m c) (a3 m c) (a4 m c) (bp t) (iblk m c 0 t) (iblk m c 1 t) (iblk m c 2 t) (iblk m c 3 t)
    (iblk m c 4 t) :=
  ⟨x_blk m c t, g_blk m c t, wg_blk m c t, wu_blk m c t, wd_blk m c t⟩

theorem n_at (i : Fin 512) (l : Fin 1024) : nB m c t (ix2 i l) = val_main_v11 (F := Ideal) (a0 m c) (a1 m c) (ix2 (row (bp t) i) l) :=
  (given m c t).n_at i l
theorem gate_at (i : Fin 512) (f : Fin 2816) : dotOf (nB m c t) (iblk m c 2 t) i f
    = val_main_v12 (F := Ideal) (a0 m c) (a1 m c) (a2 m c) (ix2 (row (bp t) i) f) := (given m c t).gate_at i f
theorem up_at (i : Fin 512) (f : Fin 2816) : dotOf (nB m c t) (iblk m c 3 t) i f
    = val_main_v13 (F := Ideal) (a0 m c) (a1 m c) (a3 m c) (ix2 (row (bp t) i) f) := (given m c t).up_at i f
theorem act_at (i : Fin 512) (f : Fin 2816) : actOf (nB m c t) (iblk m c 2 t) (iblk m c 3 t) i f
    = val_main_v15 (F := Ideal) (a0 m c) (a1 m c) (a2 m c) (a3 m c) (ix2 (row (bp t) i) f) := (given m c t).act_at i f
theorem h_at (i : Fin 512) (l : Fin 1024) : hB m c t (ix2 i l)
    = val_main_v19 (F := Ideal) (a0 m c) (a1 m c) (a2 m c) (a3 m c) (a4 m c) (ix2 (row (bp t) i) l) :=
  (given m c t).h_at (ms0_11 t).view i l

/-! ## The loss head's -/

/-- The rows of the block's output, of the target, the last gain, and the gradient of the scaled normed row. -/
abbrev hR : Fin 8192 → Fin 1024 → EReal := hRow (a0 m c) (a1 m c) (a2 m c) (a3 m c) (a4 m c)
abbrev tR : Fin 8192 → Fin 1024 → EReal := tRow (a5 m c)
abbrev gR : Fin 1024 → EReal := gRow (a6 m c)

theorem h_row (i : Fin 512) : rowOf (hB m c t) i = hR m c (row (bp t) i) := funext fun l => h_at m c t i l
theorem t_row (i : Fin 512) : rowOf (iblk m c 5 t) i = tR m c (row (bp t) i) := funext fun l => t_blk m c t i l
theorem gf_row : laneOf (iblk m c 6 t) = gR m c := funext fun l => gf_blk m c t l

theorem dh_at (i : Fin 512) (l : Fin 1024) : dhB m c t (ix2 i l)
    = val_main_v72 (F := Ideal) (a0 m c) (a1 m c) (a2 m c) (a3 m c) (a4 m c) (a5 m c) (a6 m c) (ix2 (row (bp t) i) l) := by
  refine (grad_at (hB m c t) (iblk m c 6 t) (iblk m c 5 t) i l).trans (Eq.trans ?_ (dh_ref _ _ _ _ _ _ _ _ l).symm)
  rw [h_row, t_row, gf_row]
  rfl

/-- A row's part of the gradient of the last gain. -/
def gainTerm (l : Fin 1024) (i : Fin 8192) : EReal :=
  dyOf (hR m c i) (gR m c) (tR m c i) l * (hR m c i l * rOf (hR m c i))
/-- A row's mean square difference. -/
def lossTerm (i : Fin 8192) : EReal := meanOf (hR m c i) (gR m c) (tR m c i)

theorem dg_part (l : Fin 1024) : dgB m c t (ix2 0 l) = ∑ i : Fin 512, gainTerm m c l (row (bp t) i) := by
  refine (gain_at (hB m c t) (iblk m c 6 t) (iblk m c 5 t) 0 l).trans (Finset.sum_congr rfl fun i _ => ?_)
  rw [h_row, t_row, gf_row]
  rfl

theorem loss_part : lossB m c t (ix2 0 0) = Ideal.ofBits .f32 0x3F000000#32 * ∑ i : Fin 512, lossTerm m c (row (bp t) i) := by
  refine (loss_at (hB m c t) (iblk m c 6 t) (iblk m c 5 t)).trans ?_
  refine congrArg (fun s : EReal => Ideal.ofBits .f32 0x3F000000#32 * s) (Finset.sum_congr rfl fun i _ => ?_)
  rw [h_row, t_row, gf_row]
  rfl

end

/-! ## The two running sums -/

section
variable (m : (ℓ : Loc nD τ sig) → Buf (Elt Ideal) ℓ) (c : Dev nD)

theorem half_add (a b : EReal) : Ideal.ofBits .f32 0x3F000000#32 * a + Ideal.ofBits .f32 0x3F000000#32 * b = Ideal.ofBits .f32 0x3F000000#32 * (a + b) := by
  rw [FfnBwd.ofBits_half, EReal.left_distrib_of_nonneg_of_ne_top (by exact_mod_cast (by norm_num : (0 : ℝ) ≤ 1 / 2)) (EReal.coe_ne_top _)]

theorem lossStore_at (p : FVec Ideal S1x1 .f32) (o : FVec Ideal S1x128 .f32) (l : Fin 128) :
    k0_pay1 (F := Ideal) p (k0_pay82 o) (ix2 0 l) = (show EReal from o (ix2 0 l)) + p (ix2 0 0) := by
  unfold k0_pay1 k0_pay82
  rw [shapeCast_self, shapeCast_self]
  refine congrArg (fun a : EReal => (show EReal from o (ix2 0 l)) + a) ?_
  refine broadcastTo_apply p broadcasts_S1x1_S1x128 (ix2 0 l) (ix2 (0 : Fin 1) (0 : Fin 1)) fun ax => ?_
  match ax with
  | ⟨0, _⟩ => rfl
  | ⟨1, _⟩ => rfl

theorem gainStore_at (p o : FVec Ideal S1x1024 .f32) (l : Fin 1024) :
    k0_pay2 (F := Ideal) p o (ix2 0 l) = (show EReal from o (ix2 0 l)) + p (ix2 0 l) := by
  unfold k0_pay2
  rw [shapeCast_self]
  rfl

theorem loss_run (n : ℕ) : ∀ (h : n < cfg0.N) (l : Fin 128), (outsAt0 m c n h).2.2.2.2.2.1 (ix2 0 l)
    = Ideal.ofBits .f32 0x3F000000#32 * RowSum.upTo (lossTerm m c) (n + 1) := by
  induction n with
  | zero =>
    intro h l
    refine (congrFun (loss_first m c ⟨0, h⟩ rfl) (ix2 0 l)).trans ((lossStore_at _ _ l).trans ?_)
    refine (congrArg₂ (fun a b : EReal => a + b) Ideal.ofBits_zero_f32 (loss_part m c ⟨0, h⟩)).trans ((zero_add _).trans ?_)
    refine congrArg (fun s : EReal => Ideal.ofBits .f32 0x3F000000#32 * s) ?_
    exact ((RowSum.upTo_succ (lossTerm m c) (bp ⟨0, h⟩)).trans ((congrArg (fun a : EReal => a + _) (RowSum.upTo_zero _)).trans (zero_add _))).symm
  | succ n ih =>
    intro h l
    have hN : cfg0.N = 16 := N_0
    refine (congrFun (loss_next m c ⟨n + 1, h⟩ (by show ¬(n + 1) % 16 = 0; omega)) (ix2 0 l)).trans ((lossStore_at _ _ l).trans ?_)
    refine (congrArg₂ (fun a b : EReal => a + b) (ih (Nat.lt_of_succ_lt h) l) (loss_part m c ⟨n + 1, h⟩)).trans ((half_add _ _).trans ?_)
    exact congrArg (fun s : EReal => Ideal.ofBits .f32 0x3F000000#32 * s) (RowSum.upTo_succ (lossTerm m c) (bp ⟨n + 1, h⟩)).symm

theorem dg_run (n : ℕ) : ∀ (h : n < cfg0.N) (l : Fin 1024), (outsAt0 m c n h).2.2.2.2.2.2 (ix2 0 l)
    = RowSum.upTo (gainTerm m c l) (n + 1) := by
  induction n with
  | zero =>
    intro h l
    refine (congrFun (dg_first m c ⟨0, h⟩ rfl) (ix2 0 l)).trans ((gainStore_at _ _ l).trans ?_)
    refine (congrArg₂ (fun a b : EReal => a + b) Ideal.ofBits_zero_f32 (dg_part m c ⟨0, h⟩ l)).trans ((zero_add _).trans ?_)
    exact ((RowSum.upTo_succ (gainTerm m c l) (bp ⟨0, h⟩)).trans ((congrArg (fun a : EReal => a + _) (RowSum.upTo_zero _)).trans (zero_add _))).symm
  | succ n ih =>
    intro h l
    have hN : cfg0.N = 16 := N_0
    refine (congrFun (dg_next m c ⟨n + 1, h⟩ (by show ¬(n + 1) % 16 = 0; omega)) (ix2 0 l)).trans ((gainStore_at _ _ l).trans ?_)
    refine (congrArg₂ (fun a b : EReal => a + b) (ih (Nat.lt_of_succ_lt h) l) (dg_part m c ⟨n + 1, h⟩ l)).trans ?_
    exact (RowSum.upTo_succ (gainTerm m c l) (bp ⟨n + 1, h⟩)).symm
end

end Cert.Proof.LossFwd

end
-- ==== Proof.LossFwdResults.lean ====
/-
  The second feed-forward block with the loss head: what the seven output arrays hold after the run, the reference's seven
  results.
-/
module

public import proofs.«01_k».proof.Proof.LossFwdArrays

@[expose] public section

set_option maxRecDepth 16384

noncomputable section

namespace Cert.Proof.LossFwd

open Cert.LossFwdIdeal Cert.LossFwdIdeal.Gen Idealize.ShloMosaic.TcCoe Idealize.ShloMosaic.ValueIdx
open Idealize.ShloMosaic hiding ix1 ix2 eq_ix2
open Cert.LossFwdRefIdeal.Read (val_main_v20 val_main_v21 val_main_v22 val_main_v23 val_main_v56 val_main_v72 val_main_v73)
open Cert.Proof.FfnBwd.Ffn (row)
open Cert.Proof.Stripes (stripes_at dotStripe dotStripe_at dotOf actStripe actStripe_at actOf)

variable (m : (ℓ : Loc nD τ sig) → Buf (Elt Ideal) ℓ) (c : Dev nD)

/-- The gradient of the block's rows. -/
theorem arr7 : (dats m 0 c).arrAt 7 cfg0.N = val_main_v72 (F := Ideal) (a0 m c) (a1 m c) (a2 m c) (a3 m c) (a4 m c) (a5 m c) (a6 m c) := by
  have at_ := dh_at m c
  generalize val_main_v72 (F := Ideal) (a0 m c) (a1 m c) (a2 m c) (a3 m c) (a4 m c) (a5 m c) (a6 m c) = G at at_ ⊢
  refine (dats m 0 c).arrAt_eq_of_covers 7 G (by decide +kernel) fun t hf y => ?_
  blk_simp
  rw [after0_7]
  obtain ⟨i, l, rfl⟩ : ∃ (i : Fin 512) (l : Fin 1024), y = ix2 i l := ⟨y 0, y 1, eq_ix2 y⟩
  refine (congrFun (dh_out m c t) _).trans ((at_ t i l).trans ?_)
  blk_ext [ix0_7 t, row, bp]

/-- The normed rows. -/
theorem arr8 : (dats m 0 c).arrAt 8 cfg0.N = val_main_v20 (F := Ideal) (a0 m c) (a1 m c) := by
  have at_ : ∀ t (i : Fin 512) (l : Fin 1024), nB m c t (ix2 i l) = val_main_v20 (F := Ideal) (a0 m c) (a1 m c) (ix2 (row (bp t) i) l) :=
    n_at m c
  generalize val_main_v20 (F := Ideal) (a0 m c) (a1 m c) = G at at_ ⊢
  refine (dats m 0 c).arrAt_eq_of_covers 8 G (by decide +kernel) fun t hf y => ?_
  blk_simp
  rw [after0_8]
  obtain ⟨i, l, rfl⟩ : ∃ (i : Fin 512) (l : Fin 1024), y = ix2 i l := ⟨y 0, y 1, eq_ix2 y⟩
  refine (congrFun (n_out m c t) _).trans ((at_ t i l).trans ?_)
  blk_ext [ix0_8 t, row, bp]

/-- The gate lanes. -/
theorem arr9 : (dats m 0 c).arrAt 9 cfg0.N = val_main_v21 (F := Ideal) (a0 m c) (a1 m c) (a2 m c) := by
  have at_ : ∀ t (i : Fin 512) (f : Fin 2816), dotOf (nB m c t) (iblk m c 2 t) i f
      = val_main_v21 (F := Ideal) (a0 m c) (a1 m c) (a2 m c) (ix2 (row (bp t) i) f) := gate_at m c
  generalize val_main_v21 (F := Ideal) (a0 m c) (a1 m c) (a2 m c) = G at at_ ⊢
  refine (dats m 0 c).arrAt_eq_of_covers 9 G (by decide +kernel) fun t hf y => ?_
  blk_simp
  rw [after0_9]
  obtain ⟨i, f, rfl⟩ : ∃ (i : Fin 512) (f : Fin 2816), y = ix2 i f := ⟨y 0, y 1, eq_ix2 y⟩
  refine (congrFun (gate_out m c t) _).trans ((stripes_at (dotStripe (nB m c t) (iblk m c 2 t)) (dotOf (nB m c t) (iblk m c 2 t))
    (dotStripe_at _ _) 11 (by decide) i f f.isLt).trans ((at_ t i f).trans ?_))
  blk_ext [ix0_9 t, row, bp]

/-- The up lanes. -/
theorem arr10 : (dats m 0 c).arrAt 10 cfg0.N = val_main_v22 (F := Ideal) (a0 m c) (a1 m c) (a3 m c) := by
  have at_ : ∀ t (i : Fin 512) (f : Fin 2816), dotOf (nB m c t) (iblk m c 3 t) i f
      = val_main_v22 (F := Ideal) (a0 m c) (a1 m c) (a3 m c) (ix2 (row (bp t) i) f) := up_at m c
  generalize val_main_v22 (F := Ideal) (a0 m c) (a1 m c) (a3 m c) = G at at_ ⊢
  refine (dats m 0 c).arrAt_eq_of_covers 10 G (by decide +kernel) fun t hf y => ?_
  blk_simp
  rw [after0_10]
  obtain ⟨i, f, rfl⟩ : ∃ (i : Fin 512) (f : Fin 2816), y = ix2 i f := ⟨y 0, y 1, eq_ix2 y⟩
  refine (congrFun (up_out m c t) _).trans ((stripes_at (dotStripe (nB m c t) (iblk m c 3 t)) (dotOf (nB m c t) (iblk m c 3 t))
    (dotStripe_at _ _) 11 (by decide) i f f.isLt).trans ((at_ t i f).trans ?_))
  blk_ext [ix0_10 t, row, bp]

/-- The gated products. -/
theorem arr11 : (dats m 0 c).arrAt 11 cfg0.N = val_main_v23 (F := Ideal) (a0 m c) (a1 m c) (a2 m c) (a3 m c) := by
  have at_ : ∀ t (i : Fin 512) (f : Fin 2816), actOf (nB m c t) (iblk m c 2 t) (iblk m c 3 t) i f
      = val_main_v23 (F := Ideal) (a0 m c) (a1 m c) (a2 m c) (a3 m c) (ix2 (row (bp t) i) f) := act_at m c
  generalize val_main_v23 (F := Ideal) (a0 m c) (a1 m c) (a2 m c) (a3 m c) = G at at_ ⊢
  refine (dats m 0 c).arrAt_eq_of_covers 11 G (by decide +kernel) fun t hf y => ?_
  blk_simp
  rw [after0_11]
  obtain ⟨i, f, rfl⟩ : ∃ (i : Fin 512) (f : Fin 2816), y = ix2 i f := ⟨y 0, y 1, eq_ix2 y⟩
  refine (congrFun (act_out m c t) _).trans ((stripes_at (actStripe (nB m c t) (iblk m c 2 t) (iblk m c 3 t))
    (actOf (nB m c t) (iblk m c 2 t) (iblk m c 3 t)) (actStripe_at _ _ _) 11 (by decide) i f f.isLt).trans ((at_ t i f).trans ?_))
  blk_ext [ix0_11 t, row, bp]

/-- The last point's block of a running sum. -/
theorem last {t : Fin cfg0.N} (h : t.val % 16 = 15) : t.val = 15 := by
  have := t.isLt
  have : cfg0.N = 16 := N_0
  omega

/-- The loss, on every lane. -/
theorem arr12 : (dats m 0 c).arrAt 12 cfg0.N = val_main_v73 (F := Ideal) (a0 m c) (a1 m c) (a2 m c) (a3 m c) (a4 m c) (a5 m c) (a6 m c) := by
  have at_ := loss_ref (a0 m c) (a1 m c) (a2 m c) (a3 m c) (a4 m c) (a5 m c) (a6 m c)
  generalize val_main_v73 (F := Ideal) (a0 m c) (a1 m c) (a2 m c) (a3 m c) (a4 m c) (a5 m c) (a6 m c) = G at at_ ⊢
  refine (dats m 0 c).arrAt_eq_of_covers 12 G (by decide +kernel) fun t hf y => ?_
  blk_simp
  rw [after0_12]
  obtain ⟨i, l, rfl⟩ : ∃ (i : Fin 1) (l : Fin 128), y = ix2 i l := ⟨y 0, y 1, eq_ix2 y⟩
  obtain rfl : i = 0 := Subsingleton.elim _ _
  refine (loss_run m c t.val t.isLt l).trans ?_
  rw [last ((flush0_12 t).mp hf), RowSum.upTo_all]
  refine (at_ (ix2 0 l)).symm.trans ?_
  blk_ext [ix0_12 t]

/-- The gradient of the last gain. -/
theorem arr13 : (dats m 0 c).arrAt 13 cfg0.N = val_main_v56 (F := Ideal) (a0 m c) (a1 m c) (a2 m c) (a3 m c) (a4 m c) (a5 m c) (a6 m c) := by
  have at_ := dg_ref (a0 m c) (a1 m c) (a2 m c) (a3 m c) (a4 m c) (a5 m c) (a6 m c)
  generalize val_main_v56 (F := Ideal) (a0 m c) (a1 m c) (a2 m c) (a3 m c) (a4 m c) (a5 m c) (a6 m c) = G at at_ ⊢
  refine (dats m 0 c).arrAt_eq_of_covers 13 G (by decide +kernel) fun t hf y => ?_
  blk_simp
  rw [after0_13]
  obtain ⟨i, l, rfl⟩ : ∃ (i : Fin 1) (l : Fin 1024), y = ix2 i l := ⟨y 0, y 1, eq_ix2 y⟩
  obtain rfl : i = 0 := Subsingleton.elim _ _
  refine (dg_run m c t.val t.isLt l).trans ?_
  rw [last ((flush0_13 t).mp hf), RowSum.upTo_all]
  refine (at_ 0 l).symm.trans ?_
  blk_ext [ix0_13 t]

end Cert.Proof.LossFwd

end
-- ==== Proof.LossFwdClaims.lean ====
/-
  The claims about the second feed-forward block with the loss head: the frames, and the kernel's seven results being the
  reference's.
-/
module

public import proofs.«01_k».proof.Defs
public import proofs.«01_k».proof.Proof.Gen.LossFwd.Frame
public import proofs.«01_k».proof.Proof.Gen.LossFwdIdeal.Frame
public import proofs.«01_k».proof.Proof.Gen.LossFwdIdeal.Value
public import proofs.«01_k».proof.Proof.Gen.LossFwdRefIdeal.Run
public import proofs.«01_k».proof.Proof.LossFwdResults
public import Idealize.ShloMosaic.Lib.Quiescent

@[expose] public section

set_option maxRecDepth 16384

noncomputable section

namespace Cert.Proof.LossFwd

open Idealize.ShloMosaic Idealize.ShloMosaic.TcCoe Idealize.SL.Sem
open Cert.LossFwdRefIdeal.Read (val_main_v20 val_main_v21 val_main_v22 val_main_v23 val_main_v56 val_main_v72 val_main_v73 val_main_v20_eq val_main_v21_eq
  val_main_v22_eq val_main_v23_eq val_main_v56_eq val_main_v72_eq val_main_v73_eq)

theorem frame_p : Cert.quiescent_LossFwd := fun m ρ _ => Cert.LossFwd.Gen.frame m ρ

theorem frame_pi : Cert.quiescent_LossFwdIdeal := fun m ρ _ => Cert.LossFwdIdeal.Gen.frame m ρ

/-- The reference has no semaphores, so its run alone gives the frame. -/
theorem frame_ri : Cert.quiescent_LossFwdRefIdeal := fun m ρ _ =>
  (θ_run Cert.LossFwdRefIdeal.defs _ _).mono
    (fun r h => ⟨fun c => (h c).2.2.2.2.2.2.2, sem_eq_zero_of_no_sems (by decide) r.2⟩)
    (Cert.LossFwdRefIdeal.Value.run (F := Ideal) m ρ)

theorem algebraic : Cert.algebraic_LossFwdIdeal_LossFwdRefIdeal := by
  intro m g m' g' _ hargs
  refine ⟨fun c => val_main_v72 (F := Ideal) (a0 m c) (a1 m c) (a2 m c) (a3 m c) (a4 m c) (a5 m c) (a6 m c),
    fun c => val_main_v20 (F := Ideal) (a0 m c) (a1 m c), fun c => val_main_v21 (F := Ideal) (a0 m c) (a1 m c) (a2 m c),
    fun c => val_main_v22 (F := Ideal) (a0 m c) (a1 m c) (a3 m c),
    fun c => val_main_v23 (F := Ideal) (a0 m c) (a1 m c) (a2 m c) (a3 m c),
    fun c => val_main_v73 (F := Ideal) (a0 m c) (a1 m c) (a2 m c) (a3 m c) (a4 m c) (a5 m c) (a6 m c),
    fun c => val_main_v56 (F := Ideal) (a0 m c) (a1 m c) (a2 m c) (a3 m c) (a4 m c) (a5 m c) (a6 m c), ?_, ?_⟩
  · refine (θ_run Cert.LossFwdIdeal.defs _ _).mono (fun r h c => ?_) (Cert.LossFwdIdeal.Value.run_blocks (F := Ideal) m g)
    obtain ⟨e7, e8, e9, e10, e11, e12, e13, ha⟩ := h c
    exact ⟨e7.trans (arr7 m c), e8.trans (arr8 m c), e9.trans (arr9 m c), e10.trans (arr10 m c), e11.trans (arr11 m c),
      e12.trans (arr12 m c), e13.trans (arr13 m c), ha⟩
  · refine (θ_run Cert.LossFwdRefIdeal.defs _ _).mono (fun r h c => ?_) (Cert.LossFwdRefIdeal.Value.run (F := Ideal) m' g')
    obtain ⟨e0, e1, e2, e3, e4, e5, e6, ha⟩ := h c
    obtain ⟨g0, g1, g2, g3, g4, g5, g6⟩ := hargs c
    refine ⟨e0.trans ((val_main_v72_eq _ _).trans ?_), e1.trans ((val_main_v20_eq _ _).trans ?_),
      e2.trans ((val_main_v21_eq _ _ _).trans ?_), e3.trans ((val_main_v22_eq _ _ _).trans ?_),
      e4.trans ((val_main_v23_eq _ _ _ _).trans ?_), e5.trans ((val_main_v73_eq _ _).trans ?_),
      e6.trans ((val_main_v56_eq _ _).trans ?_), ha⟩
    · rw [g0, g1, g2, g3, g4, g5, g6]
    · rw [g0, g1]
    · rw [g0, g1, g2]
    · rw [g0, g1, g3]
    · rw [g0, g1, g2, g3]
    · rw [g0, g1, g2, g3, g4, g5, g6]
    · rw [g0, g1, g2, g3, g4, g5, g6]

end Cert.Proof.LossFwd

end
-- ==== Proof.OutGrad.lean ====
/-
  The gradient of the output projection's weights: the kernel adds the products of four blocks of 2048 rows.
-/
module

public import proofs.«01_k».proof.Proof.TnSum
public import proofs.«01_k».proof.Proof.Gen.OutGradIdeal.Frame
public import proofs.«01_k».proof.Proof.Gen.OutGradRefIdeal.Read
public import Idealize.ShloMosaic.Lib.Pipeline.ValueKit.Acc
public import Idealize.ShloMosaic.Lib.Pipeline.ValueKit.Point
public import Idealize.ShloMosaic.Lib.Pipeline.ReadBack
public import Idealize.ShloMosaic.Lib.WholeRead
public import Idealize.ShloMosaic.Lib.ValueLayout
public import Idealize.ShloMosaic.PureOps.Ideal.Laws

@[expose] public section

set_option maxRecDepth 16384

noncomputable section

namespace Cert.Proof.OutGrad

open Cert.OutGradIdeal Cert.OutGradIdeal.Gen Idealize.ShloMosaic.TcCoe Idealize.ShloMosaic.ValueIdx
open Idealize.ShloMosaic hiding ix2 eq_ix2
open Cert.OutGradRefIdeal.Read
open TnSum (pos upTo_all add_block_at run_at)
open scoped BigOperators

/-! ## The reference -/

theorem v4_at (x0 : (⟨2, ![8192, 1024]⟩ : Shape).Idx → EReal) (x1 : (⟨2, ![8192, 1024]⟩ : Shape).Idx → EReal) (f : Fin 1024) (l : Fin 1024) :
    val_main_v4 (F := Ideal) x0 x1 (ix2 f l) = ∑ k, x1 (ix2 k l) * x0 (ix2 k f) := by
  rw [val_main_v4_apply, val_main_v3_apply]
  refine Finset.sum_congr rfl fun k _ => congrArg₂ (· * ·) (congrArg x1 ?_) (congrArg x0 ?_) <;>
    · funext a; match a with
      | ⟨0, _⟩ => rfl
      | ⟨1, _⟩ => rfl

theorem v5_at (x0 : (⟨2, ![8192, 1024]⟩ : Shape).Idx → EReal) (x1 : (⟨2, ![8192, 1024]⟩ : Shape).Idx → EReal) (f : Fin 1024) (l : Fin 1024) :
    val_main_v5 (F := Ideal) x0 x1 (ix2 f l) = ∑ k, x1 (ix2 k l) * x0 (ix2 k f) := v4_at x0 x1 f l

/-! ## What a grid point leaves -/

/-- Lane `f` of the `h`-th tile of 1024 lanes. -/
def lane (h : Fin 1) (f : Fin 1024) : Fin 1024 := ⟨h.val * 1024 + f.val, by omega⟩
/-- The tile of lanes of a grid point. -/
def hp (t : Fin cfg0.N) : Fin 1 := ⟨t.val / 4, by have := t.isLt; have h : cfg0.N = 4 := N_0; omega⟩
/-- The block of rows of a grid point. -/
def sp (t : Fin cfg0.N) : Fin 4 := ⟨t.val % 4, by omega⟩

theorem ix0_0 : ∀ t : Fin cfg0.N, win0_0.index t = ![t.val % 4, t.val / 4] := (by decide +kernel : ∀ t : Fin grid0.N, win0_0.index t = ![t.val % 4, t.val / 4])
theorem ix0_1 : ∀ t : Fin cfg0.N, win0_1.index t = ![t.val % 4, 0] := (by decide +kernel : ∀ t : Fin grid0.N, win0_1.index t = ![t.val % 4, 0])
theorem ix0_2 : ∀ t : Fin cfg0.N, win0_2.index t = ![t.val / 4, 0] := (by decide +kernel : ∀ t : Fin grid0.N, win0_2.index t = ![t.val / 4, 0])
theorem ix0_3 : ∀ t : Fin cfg0.N, win0_3.index t = ![t.val / 4, 0] := (by decide +kernel : ∀ t : Fin grid0.N, win0_3.index t = ![t.val / 4, 0])

variable (m : (ℓ : Loc nD τ sig) → Buf (Elt Ideal) ℓ) (c : Dev nD) (t : Fin cfg0.N)

/-- The two arguments. -/
abbrev a0 : (⟨S8192x1024, .bf16⟩ : BufTy).Contents (Elt Ideal) := m ((c.tc : Thread nD τ).loc main_arg0)
abbrev a1 : (⟨S8192x1024, .f32⟩ : BufTy).Contents (Elt Ideal) := m ((c.tc : Thread nD τ).loc main_arg1)

/-- The two blocks a grid point is given. -/
abbrev b0 : FVec Ideal S2048x1024 .bf16 := iblk m c 0 t
abbrev b1 : FVec Ideal S2048x1024 .f32 := iblk m c 1 t

theorem iblk0_at (r : Fin 2048) (f : Fin 1024) : b0 m c t (ix2 r f) = a0 m c (ix2 (pos (sp t) r) (lane (hp t) f)) := by
  blk_ext [b0, iblk, V_main_arg0, ix0_0 t, pos, sp, lane, hp]
theorem iblk1_at (r : Fin 2048) (l : Fin 1024) : b1 m c t (ix2 r l) = a1 m c (ix2 (pos (sp t) r) l) := by
  blk_ext [b1, iblk, V_main_arg1, ix0_1 t, pos, sp]

theorem first_out (h : t.val % 4 = 0) : (outsAt0 m c t.val t.isLt).1
    = k0_pay2 (F := Ideal) (k0_pay1 (F := Ideal)) (iblk m c 0 t) (iblk m c 1 t) := by
  rw [outsAt0_A m c t h (by omega)]
  frame_out
theorem later_out (h : ¬t.val % 4 = 0) : (outsAt0 m c t.val t.isLt).1
    = k0_pay2 (F := Ideal) (outsAt0 m c (t.val - 1) (Nat.lt_of_le_of_lt (Nat.sub_le _ _) t.isLt)).1 (iblk m c 0 t) (iblk m c 1 t) := by
  by_cases h3 : t.val % 4 = 3
  · rw [outsAt0_C m c t h h3]
    frame_out
  · rw [outsAt0_B m c t h h3]
    frame_out
theorem last_out16 (h : t.val % 4 = 3) : (outsAt0 m c t.val t.isLt).2
    = k0_pay3 (F := Ideal) (outsAt0 m c t.val t.isLt).1 := by
  rw [later_out m c t (by omega), outsAt0_C m c t (by omega) h]
  frame_out

theorem pay2_at (o : FVec Ideal S1024x1024 .f32) (p : FVec Ideal S2048x1024 .bf16) (q : FVec Ideal S2048x1024 .f32) (f : Fin 1024)
    (l : Fin 1024) : k0_pay2 (F := Ideal) o p q (ix2 f l) = o (ix2 f l) + ∑ r, p (ix2 r f) * q (ix2 r l) := by
  unfold k0_pay2
  rw [shapeCast_self]
  exact add_block_at o p (truncf .bf16 q bitsLt_bf16_f32) f l

/-- The products an entry of the gradient adds, the tile of lanes given by its number. -/
abbrev prods (h : ℕ) (f : Fin 1024) (l : Fin 1024) (k : Fin 8192) : EReal :=
  if hh : h < 1 then a0 m c (ix2 k (lane ⟨h, hh⟩ f)) * a1 m c (ix2 k l) else 0

theorem prods_eq (f : Fin 1024) (l : Fin 1024) (k : Fin 8192) :
    prods m c (t.val / 4) f l k = a0 m c (ix2 k (lane (hp t) f)) * a1 m c (ix2 k l) := dif_pos (hp t).isLt

theorem block_sum (f : Fin 1024) (l : Fin 1024) :
    ∑ r, b0 m c t (ix2 r f) * b1 m c t (ix2 r l) = ∑ r, prods m c (t.val / 4) f l (pos (sp t) r) :=
  Finset.sum_congr rfl fun r _ => (congrArg₂ (· * ·) (iblk0_at m c t r f) (iblk1_at m c t r l)).trans (prods_eq m c t f l _).symm

/-- At the last block of rows, the whole gradient. -/
theorem last_at (h : t.val % 4 = 3) (f : Fin 1024) (l : Fin 1024) :
    (outsAt0 m c t.val t.isLt).1 (ix2 f l) = ∑ k, a0 m c (ix2 k (lane (hp t) f)) * a1 m c (ix2 k l) := by
  refine (run_at (fun n hn => (outsAt0 m c n hn).1 (ix2 f l)) (fun h => prods m c h f l) (fun t h0 => ?_) (fun t h0 => ?_) t.val t.isLt).trans ?_
  · refine (congrFun (first_out m c t h0) (ix2 f l)).trans ((pay2_at _ _ _ f l).trans ?_)
    exact congrArg₂ (· + ·) Ideal.ofBits_zero_f32 (block_sum m c t f l)
  · refine (congrFun (later_out m c t h0) (ix2 f l)).trans ((pay2_at _ _ _ f l).trans ?_)
    exact congrArg (_ + ·) (block_sum m c t f l)
  · rw [h, upTo_all]
    exact Finset.sum_congr rfl fun k _ => prods_eq m c t f l k

theorem last16_at (h : t.val % 4 = 3) (f : Fin 1024) (l : Fin 1024) :
    (outsAt0 m c t.val t.isLt).2 (ix2 f l) = ∑ k, a0 m c (ix2 k (lane (hp t) f)) * a1 m c (ix2 k l) := by
  rw [last_out16 m c t h]
  unfold k0_pay3
  rw [shapeCast_self]
  exact last_at m c t h f l

/-! ## What the arrays hold -/

theorem arr2 : (dats m 0 c).arrAt 2 cfg0.N = val_main_v4 (F := Ideal) (a0 m c) (a1 m c) := by
  have at_ := v4_at (a0 m c) (a1 m c)
  generalize val_main_v4 (F := Ideal) (a0 m c) (a1 m c) = G at at_ ⊢
  refine (dats m 0 c).arrAt_eq_of_covers 2 G (by decide +kernel) fun t hf y => ?_
  blk_simp
  rw [after0_2]
  obtain ⟨f, l, rfl⟩ : ∃ (f : Fin 1024) (l : Fin 1024), y = ix2 f l := ⟨y 0, y 1, eq_ix2 y⟩
  refine (last_at m c t ((flush0_2 t).mp hf) f l).trans ((Finset.sum_congr rfl fun k _ => mul_comm _ _).trans ((at_ (lane (hp t) f) l).symm.trans ?_))
  blk_ext [ix0_2 t, lane, hp]

theorem arr3 : (dats m 0 c).arrAt 3 cfg0.N = val_main_v5 (F := Ideal) (a0 m c) (a1 m c) := by
  have at_ := v5_at (a0 m c) (a1 m c)
  generalize val_main_v5 (F := Ideal) (a0 m c) (a1 m c) = G at at_ ⊢
  refine (dats m 0 c).arrAt_eq_of_covers 3 G (by decide +kernel) fun t hf y => ?_
  blk_simp
  rw [after0_3]
  obtain ⟨f, l, rfl⟩ : ∃ (f : Fin 1024) (l : Fin 1024), y = ix2 f l := ⟨y 0, y 1, eq_ix2 y⟩
  refine (last16_at m c t ((flush0_3 t).mp hf) f l).trans ((Finset.sum_congr rfl fun k _ => mul_comm _ _).trans ((at_ (lane (hp t) f) l).symm.trans ?_))
  blk_ext [ix0_3 t, lane, hp]

end Cert.Proof.OutGrad

end
-- ==== Proof.OutClaims.lean ====
/-
  The claims about the gradient of the output projection's weights: the frames, and the kernel's two results being the reference's.
-/
module

public import proofs.«01_k».proof.Defs
public import proofs.«01_k».proof.Proof.Gen.OutGrad.Frame
public import proofs.«01_k».proof.Proof.Gen.OutGradIdeal.Frame
public import proofs.«01_k».proof.Proof.Gen.OutGradIdeal.Value
public import proofs.«01_k».proof.Proof.Gen.OutGradRefIdeal.Run
public import proofs.«01_k».proof.Proof.OutGrad
public import Idealize.ShloMosaic.Lib.Quiescent

@[expose] public section

set_option maxRecDepth 16384

noncomputable section

namespace Cert.Proof.OutGrad

open Idealize.ShloMosaic Idealize.ShloMosaic.TcCoe Idealize.SL.Sem
open Cert.OutGradRefIdeal.Read (val_main_v4 val_main_v5 val_main_v4_eq val_main_v5_eq)

theorem frame_p : Cert.quiescent_OutGrad := fun m ρ _ => Cert.OutGrad.Gen.frame m ρ

theorem frame_pi : Cert.quiescent_OutGradIdeal := fun m ρ _ => Cert.OutGradIdeal.Gen.frame m ρ

/-- The reference has no semaphores, so its run alone gives the frame. -/
theorem frame_ri : Cert.quiescent_OutGradRefIdeal := fun m ρ _ =>
  (θ_run Cert.OutGradRefIdeal.defs _ _).mono
    (fun r h => ⟨fun c => (h c).2.2, sem_eq_zero_of_no_sems (by decide) r.2⟩)
    (Cert.OutGradRefIdeal.Value.run (F := Ideal) m ρ)

theorem algebraic : Cert.algebraic_OutGradIdeal_OutGradRefIdeal := by
  intro m g m' g' _ hargs
  refine ⟨fun c => val_main_v4 (F := Ideal) (a0 m c) (a1 m c), fun c => val_main_v5 (F := Ideal) (a0 m c) (a1 m c), ?_, ?_⟩
  · refine (θ_run Cert.OutGradIdeal.defs _ _).mono (fun r h c => ?_) (Cert.OutGradIdeal.Value.run_blocks (F := Ideal) m g)
    obtain ⟨e2, e3, ha⟩ := h c
    exact ⟨e2.trans (arr2 m c), e3.trans (arr3 m c), ha⟩
  · refine (θ_run Cert.OutGradRefIdeal.defs _ _).mono (fun r h c => ?_) (Cert.OutGradRefIdeal.Value.run (F := Ideal) m' g')
    obtain ⟨e0, e1, ha⟩ := h c
    obtain ⟨g0, g1⟩ := hargs c
    refine ⟨e0.trans ((val_main_v4_eq _ _).trans ?_), e1.trans ((val_main_v5_eq _ _).trans ?_), ha⟩
    · rw [g0, g1]
    · rw [g0, g1]

end Cert.Proof.OutGrad

end
-- ==== Proof.InGrad.lean ====
/-
  The gradient of the input projection's weights: the kernel adds the products of four blocks of 2048 rows.
-/
module

public import proofs.«01_k».proof.Proof.TnSum
public import proofs.«01_k».proof.Proof.Gen.InGradIdeal.Frame
public import proofs.«01_k».proof.Proof.Gen.InGradRefIdeal.Read
public import Idealize.ShloMosaic.Lib.Pipeline.ValueKit.Acc
public import Idealize.ShloMosaic.Lib.Pipeline.ValueKit.Point
public import Idealize.ShloMosaic.Lib.Pipeline.ReadBack
public import Idealize.ShloMosaic.Lib.WholeRead
public import Idealize.ShloMosaic.Lib.ValueLayout
public import Idealize.ShloMosaic.PureOps.Ideal.Laws

@[expose] public section

set_option maxRecDepth 16384

noncomputable section

namespace Cert.Proof.InGrad

open Cert.InGradIdeal Cert.InGradIdeal.Gen Idealize.ShloMosaic.TcCoe Idealize.ShloMosaic.ValueIdx
open Idealize.ShloMosaic hiding ix2 eq_ix2
open Cert.InGradRefIdeal.Read
open TnSum (pos upTo_all add_block_at run_at)
open scoped BigOperators

/-! ## The reference -/

theorem v6_at (x0 : (⟨2, ![8192, 1280]⟩ : Shape).Idx → EReal) (x1 : (⟨2, ![8192, 1024]⟩ : Shape).Idx → EReal) (f : Fin 1280) (l : Fin 1024) :
    val_main_v6 (F := Ideal) x0 x1 (ix2 f l) = ∑ k, x0 (ix2 k f) * x1 (ix2 k l) := by
  rw [val_main_v6_apply, val_main_v5_apply, val_main_v4_apply]
  refine Finset.sum_congr rfl fun k _ => congrArg₂ (· * ·) (congrArg x0 ?_) (congrArg x1 ?_) <;>
    · funext a; match a with
      | ⟨0, _⟩ => rfl
      | ⟨1, _⟩ => rfl

theorem v8_at (x0 : (⟨2, ![8192, 1280]⟩ : Shape).Idx → EReal) (x1 : (⟨2, ![8192, 1024]⟩ : Shape).Idx → EReal) (f : Fin 1280) (l : Fin 1024) :
    val_main_v8 (F := Ideal) x0 x1 (ix2 f l) = ∑ k, x0 (ix2 k f) * x1 (ix2 k l) := v6_at x0 x1 f l

/-! ## What a grid point leaves -/

/-- Lane `f` of the `h`-th tile of 1280 lanes. -/
def lane (h : Fin 1) (f : Fin 1280) : Fin 1280 := ⟨h.val * 1280 + f.val, by omega⟩
/-- The tile of lanes of a grid point. -/
def hp (t : Fin cfg0.N) : Fin 1 := ⟨t.val / 4, by have := t.isLt; have h : cfg0.N = 4 := N_0; omega⟩
/-- The block of rows of a grid point. -/
def sp (t : Fin cfg0.N) : Fin 4 := ⟨t.val % 4, by omega⟩

theorem ix0_0 : ∀ t : Fin cfg0.N, win0_0.index t = ![t.val % 4, t.val / 4] := (by decide +kernel : ∀ t : Fin grid0.N, win0_0.index t = ![t.val % 4, t.val / 4])
theorem ix0_1 : ∀ t : Fin cfg0.N, win0_1.index t = ![t.val % 4, 0] := (by decide +kernel : ∀ t : Fin grid0.N, win0_1.index t = ![t.val % 4, 0])
theorem ix0_2 : ∀ t : Fin cfg0.N, win0_2.index t = ![t.val / 4, 0] := (by decide +kernel : ∀ t : Fin grid0.N, win0_2.index t = ![t.val / 4, 0])
theorem ix0_3 : ∀ t : Fin cfg0.N, win0_3.index t = ![t.val / 4, 0] := (by decide +kernel : ∀ t : Fin grid0.N, win0_3.index t = ![t.val / 4, 0])

variable (m : (ℓ : Loc nD τ sig) → Buf (Elt Ideal) ℓ) (c : Dev nD) (t : Fin cfg0.N)

/-- The two arguments. -/
abbrev a0 : (⟨S8192x1280, .bf16⟩ : BufTy).Contents (Elt Ideal) := m ((c.tc : Thread nD τ).loc main_arg0)
abbrev a1 : (⟨S8192x1024, .bf16⟩ : BufTy).Contents (Elt Ideal) := m ((c.tc : Thread nD τ).loc main_arg1)

/-- The two blocks a grid point is given. -/
abbrev b0 : FVec Ideal S2048x1280 .bf16 := iblk m c 0 t
abbrev b1 : FVec Ideal S2048x1024 .bf16 := iblk m c 1 t

theorem iblk0_at (r : Fin 2048) (f : Fin 1280) : b0 m c t (ix2 r f) = a0 m c (ix2 (pos (sp t) r) (lane (hp t) f)) := by
  blk_ext [b0, iblk, V_main_arg0, ix0_0 t, pos, sp, lane, hp]
theorem iblk1_at (r : Fin 2048) (l : Fin 1024) : b1 m c t (ix2 r l) = a1 m c (ix2 (pos (sp t) r) l) := by
  blk_ext [b1, iblk, V_main_arg1, ix0_1 t, pos, sp]

theorem first_out (h : t.val % 4 = 0) : (outsAt0 m c t.val t.isLt).1
    = k0_pay2 (F := Ideal) (k0_pay1 (F := Ideal)) (iblk m c 0 t) (iblk m c 1 t) := by
  rw [outsAt0_A m c t h (by omega)]
  frame_out
theorem later_out (h : ¬t.val % 4 = 0) : (outsAt0 m c t.val t.isLt).1
    = k0_pay2 (F := Ideal) (outsAt0 m c (t.val - 1) (Nat.lt_of_le_of_lt (Nat.sub_le _ _) t.isLt)).1 (iblk m c 0 t) (iblk m c 1 t) := by
  by_cases h3 : t.val % 4 = 3
  · rw [outsAt0_C m c t h h3]
    frame_out
  · rw [outsAt0_B m c t h h3]
    frame_out
theorem last_out16 (h : t.val % 4 = 3) : (outsAt0 m c t.val t.isLt).2
    = k0_pay3 (F := Ideal) (outsAt0 m c t.val t.isLt).1 := by
  rw [later_out m c t (by omega), outsAt0_C m c t (by omega) h]
  frame_out

theorem pay2_at (o : FVec Ideal S1280x1024 .f32) (p : FVec Ideal S2048x1280 .bf16) (q : FVec Ideal S2048x1024 .bf16) (f : Fin 1280)
    (l : Fin 1024) : k0_pay2 (F := Ideal) o p q (ix2 f l) = o (ix2 f l) + ∑ r, p (ix2 r f) * q (ix2 r l) := by
  unfold k0_pay2
  rw [shapeCast_self]
  exact add_block_at o p q f l

/-- The products an entry of the gradient adds, the tile of lanes given by its number. -/
abbrev prods (h : ℕ) (f : Fin 1280) (l : Fin 1024) (k : Fin 8192) : EReal :=
  if hh : h < 1 then a0 m c (ix2 k (lane ⟨h, hh⟩ f)) * a1 m c (ix2 k l) else 0

theorem prods_eq (f : Fin 1280) (l : Fin 1024) (k : Fin 8192) :
    prods m c (t.val / 4) f l k = a0 m c (ix2 k (lane (hp t) f)) * a1 m c (ix2 k l) := dif_pos (hp t).isLt

theorem block_sum (f : Fin 1280) (l : Fin 1024) :
    ∑ r, b0 m c t (ix2 r f) * b1 m c t (ix2 r l) = ∑ r, prods m c (t.val / 4) f l (pos (sp t) r) :=
  Finset.sum_congr rfl fun r _ => (congrArg₂ (· * ·) (iblk0_at m c t r f) (iblk1_at m c t r l)).trans (prods_eq m c t f l _).symm

/-- At the last block of rows, the whole gradient. -/
theorem last_at (h : t.val % 4 = 3) (f : Fin 1280) (l : Fin 1024) :
    (outsAt0 m c t.val t.isLt).1 (ix2 f l) = ∑ k, a0 m c (ix2 k (lane (hp t) f)) * a1 m c (ix2 k l) := by
  refine (run_at (fun n hn => (outsAt0 m c n hn).1 (ix2 f l)) (fun h => prods m c h f l) (fun t h0 => ?_) (fun t h0 => ?_) t.val t.isLt).trans ?_
  · refine (congrFun (first_out m c t h0) (ix2 f l)).trans ((pay2_at _ _ _ f l).trans ?_)
    exact congrArg₂ (· + ·) Ideal.ofBits_zero_f32 (block_sum m c t f l)
  · refine (congrFun (later_out m c t h0) (ix2 f l)).trans ((pay2_at _ _ _ f l).trans ?_)
    exact congrArg (_ + ·) (block_sum m c t f l)
  · rw [h, upTo_all]
    exact Finset.sum_congr rfl fun k _ => prods_eq m c t f l k

theorem last16_at (h : t.val % 4 = 3) (f : Fin 1280) (l : Fin 1024) :
    (outsAt0 m c t.val t.isLt).2 (ix2 f l) = ∑ k, a0 m c (ix2 k (lane (hp t) f)) * a1 m c (ix2 k l) := by
  rw [last_out16 m c t h]
  unfold k0_pay3
  rw [shapeCast_self]
  exact last_at m c t h f l

/-! ## What the arrays hold -/

theorem arr2 : (dats m 0 c).arrAt 2 cfg0.N = val_main_v6 (F := Ideal) (a0 m c) (a1 m c) := by
  have at_ := v6_at (a0 m c) (a1 m c)
  generalize val_main_v6 (F := Ideal) (a0 m c) (a1 m c) = G at at_ ⊢
  refine (dats m 0 c).arrAt_eq_of_covers 2 G (by decide +kernel) fun t hf y => ?_
  blk_simp
  rw [after0_2]
  obtain ⟨f, l, rfl⟩ : ∃ (f : Fin 1280) (l : Fin 1024), y = ix2 f l := ⟨y 0, y 1, eq_ix2 y⟩
  refine (last_at m c t ((flush0_2 t).mp hf) f l).trans ((at_ (lane (hp t) f) l).symm.trans ?_)
  blk_ext [ix0_2 t, lane, hp]

theorem arr3 : (dats m 0 c).arrAt 3 cfg0.N = val_main_v8 (F := Ideal) (a0 m c) (a1 m c) := by
  have at_ := v8_at (a0 m c) (a1 m c)
  generalize val_main_v8 (F := Ideal) (a0 m c) (a1 m c) = G at at_ ⊢
  refine (dats m 0 c).arrAt_eq_of_covers 3 G (by decide +kernel) fun t hf y => ?_
  blk_simp
  rw [after0_3]
  obtain ⟨f, l, rfl⟩ : ∃ (f : Fin 1280) (l : Fin 1024), y = ix2 f l := ⟨y 0, y 1, eq_ix2 y⟩
  refine (last16_at m c t ((flush0_3 t).mp hf) f l).trans ((at_ (lane (hp t) f) l).symm.trans ?_)
  blk_ext [ix0_3 t, lane, hp]

end Cert.Proof.InGrad

end
-- ==== Proof.InClaims.lean ====
/-
  The claims about the gradient of the input projection's weights: the frames, and the kernel's two results being the reference's.
-/
module

public import proofs.«01_k».proof.Defs
public import proofs.«01_k».proof.Proof.Gen.InGrad.Frame
public import proofs.«01_k».proof.Proof.Gen.InGradIdeal.Frame
public import proofs.«01_k».proof.Proof.Gen.InGradIdeal.Value
public import proofs.«01_k».proof.Proof.Gen.InGradRefIdeal.Run
public import proofs.«01_k».proof.Proof.InGrad
public import Idealize.ShloMosaic.Lib.Quiescent

@[expose] public section

set_option maxRecDepth 16384

noncomputable section

namespace Cert.Proof.InGrad

open Idealize.ShloMosaic Idealize.ShloMosaic.TcCoe Idealize.SL.Sem
open Cert.InGradRefIdeal.Read (val_main_v6 val_main_v8 val_main_v6_eq val_main_v8_eq)

theorem frame_p : Cert.quiescent_InGrad := fun m ρ _ => Cert.InGrad.Gen.frame m ρ

theorem frame_pi : Cert.quiescent_InGradIdeal := fun m ρ _ => Cert.InGradIdeal.Gen.frame m ρ

/-- The reference has no semaphores, so its run alone gives the frame. -/
theorem frame_ri : Cert.quiescent_InGradRefIdeal := fun m ρ _ =>
  (θ_run Cert.InGradRefIdeal.defs _ _).mono
    (fun r h => ⟨fun c => (h c).2.2, sem_eq_zero_of_no_sems (by decide) r.2⟩)
    (Cert.InGradRefIdeal.Value.run (F := Ideal) m ρ)

theorem algebraic : Cert.algebraic_InGradIdeal_InGradRefIdeal := by
  intro m g m' g' _ hargs
  refine ⟨fun c => val_main_v6 (F := Ideal) (a0 m c) (a1 m c), fun c => val_main_v8 (F := Ideal) (a0 m c) (a1 m c), ?_, ?_⟩
  · refine (θ_run Cert.InGradIdeal.defs _ _).mono (fun r h c => ?_) (Cert.InGradIdeal.Value.run_blocks (F := Ideal) m g)
    obtain ⟨e2, e3, ha⟩ := h c
    exact ⟨e2.trans (arr2 m c), e3.trans (arr3 m c), ha⟩
  · refine (θ_run Cert.InGradRefIdeal.defs _ _).mono (fun r h c => ?_) (Cert.InGradRefIdeal.Value.run (F := Ideal) m' g')
    obtain ⟨e0, e1, ha⟩ := h c
    obtain ⟨g0, g1⟩ := hargs c
    refine ⟨e0.trans ((val_main_v6_eq _ _).trans ?_), e1.trans ((val_main_v8_eq _ _).trans ?_), ha⟩
    · rw [g0, g1]
    · rw [g0, g1]

end Cert.Proof.InGrad

end
-- ==== Proof.QueryGrad.lean ====
/-
  The gradient of the query projection's weights: the kernel adds the products of four blocks of 2048 rows.
-/
module

public import proofs.«01_k».proof.Proof.TnSum
public import proofs.«01_k».proof.Proof.Gen.QueryGradIdeal.Frame
public import proofs.«01_k».proof.Proof.Gen.QueryGradRefIdeal.Read
public import Idealize.ShloMosaic.Lib.Pipeline.ValueKit.Acc
public import Idealize.ShloMosaic.Lib.Pipeline.ValueKit.Point
public import Idealize.ShloMosaic.Lib.Pipeline.ReadBack
public import Idealize.ShloMosaic.Lib.WholeRead
public import Idealize.ShloMosaic.Lib.ValueLayout
public import Idealize.ShloMosaic.PureOps.Ideal.Laws

@[expose] public section

set_option maxRecDepth 16384

noncomputable section

namespace Cert.Proof.QueryGrad

open Cert.QueryGradIdeal Cert.QueryGradIdeal.Gen Idealize.ShloMosaic.TcCoe Idealize.ShloMosaic.ValueIdx
open Idealize.ShloMosaic hiding ix2 eq_ix2
open Cert.QueryGradRefIdeal.Read
open TnSum (pos upTo_all add_block_at run_at)
open scoped BigOperators

/-! ## The reference -/

theorem v6_at (x0 : (⟨2, ![8192, 1024]⟩ : Shape).Idx → EReal) (x1 : (⟨2, ![8192, 256]⟩ : Shape).Idx → EReal) (f : Fin 1024) (l : Fin 256) :
    val_main_v6 (F := Ideal) x0 x1 (ix2 f l) = ∑ k, x0 (ix2 k f) * x1 (ix2 k l) := by
  rw [val_main_v6_apply, val_main_v5_apply, val_main_v4_apply]
  refine Finset.sum_congr rfl fun k _ => congrArg₂ (· * ·) (congrArg x0 ?_) (congrArg x1 ?_) <;>
    · funext a; match a with
      | ⟨0, _⟩ => rfl
      | ⟨1, _⟩ => rfl

theorem v8_at (x0 : (⟨2, ![8192, 1024]⟩ : Shape).Idx → EReal) (x1 : (⟨2, ![8192, 256]⟩ : Shape).Idx → EReal) (f : Fin 1024) (l : Fin 256) :
    val_main_v8 (F := Ideal) x0 x1 (ix2 f l) = ∑ k, x0 (ix2 k f) * x1 (ix2 k l) := v6_at x0 x1 f l

/-! ## What a grid point leaves -/

/-- Lane `f` of the `h`-th tile of 1024 lanes. -/
def lane (h : Fin 1) (f : Fin 1024) : Fin 1024 := ⟨h.val * 1024 + f.val, by omega⟩
/-- The tile of lanes of a grid point. -/
def hp (t : Fin cfg0.N) : Fin 1 := ⟨t.val / 4, by have := t.isLt; have h : cfg0.N = 4 := N_0; omega⟩
/-- The block of rows of a grid point. -/
def sp (t : Fin cfg0.N) : Fin 4 := ⟨t.val % 4, by omega⟩

theorem ix0_0 : ∀ t : Fin cfg0.N, win0_0.index t = ![t.val % 4, t.val / 4] := (by decide +kernel : ∀ t : Fin grid0.N, win0_0.index t = ![t.val % 4, t.val / 4])
theorem ix0_1 : ∀ t : Fin cfg0.N, win0_1.index t = ![t.val % 4, 0] := (by decide +kernel : ∀ t : Fin grid0.N, win0_1.index t = ![t.val % 4, 0])
theorem ix0_2 : ∀ t : Fin cfg0.N, win0_2.index t = ![t.val / 4, 0] := (by decide +kernel : ∀ t : Fin grid0.N, win0_2.index t = ![t.val / 4, 0])
theorem ix0_3 : ∀ t : Fin cfg0.N, win0_3.index t = ![t.val / 4, 0] := (by decide +kernel : ∀ t : Fin grid0.N, win0_3.index t = ![t.val / 4, 0])

variable (m : (ℓ : Loc nD τ sig) → Buf (Elt Ideal) ℓ) (c : Dev nD) (t : Fin cfg0.N)

/-- The two arguments. -/
abbrev a0 : (⟨S8192x1024, .bf16⟩ : BufTy).Contents (Elt Ideal) := m ((c.tc : Thread nD τ).loc main_arg0)
abbrev a1 : (⟨S8192x256, .bf16⟩ : BufTy).Contents (Elt Ideal) := m ((c.tc : Thread nD τ).loc main_arg1)

/-- The two blocks a grid point is given. -/
abbrev b0 : FVec Ideal S2048x1024 .bf16 := iblk m c 0 t
abbrev b1 : FVec Ideal S2048x256 .bf16 := iblk m c 1 t

theorem iblk0_at (r : Fin 2048) (f : Fin 1024) : b0 m c t (ix2 r f) = a0 m c (ix2 (pos (sp t) r) (lane (hp t) f)) := by
  blk_ext [b0, iblk, V_main_arg0, ix0_0 t, pos, sp, lane, hp]
theorem iblk1_at (r : Fin 2048) (l : Fin 256) : b1 m c t (ix2 r l) = a1 m c (ix2 (pos (sp t) r) l) := by
  blk_ext [b1, iblk, V_main_arg1, ix0_1 t, pos, sp]

theorem first_out (h : t.val % 4 = 0) : (outsAt0 m c t.val t.isLt).1
    = k0_pay2 (F := Ideal) (k0_pay1 (F := Ideal)) (iblk m c 0 t) (iblk m c 1 t) := by
  rw [outsAt0_A m c t h (by omega)]
  frame_out
theorem later_out (h : ¬t.val % 4 = 0) : (outsAt0 m c t.val t.isLt).1
    = k0_pay2 (F := Ideal) (outsAt0 m c (t.val - 1) (Nat.lt_of_le_of_lt (Nat.sub_le _ _) t.isLt)).1 (iblk m c 0 t) (iblk m c 1 t) := by
  by_cases h3 : t.val % 4 = 3
  · rw [outsAt0_C m c t h h3]
    frame_out
  · rw [outsAt0_B m c t h h3]
    frame_out
theorem last_out16 (h : t.val % 4 = 3) : (outsAt0 m c t.val t.isLt).2
    = k0_pay3 (F := Ideal) (outsAt0 m c t.val t.isLt).1 := by
  rw [later_out m c t (by omega), outsAt0_C m c t (by omega) h]
  frame_out

theorem pay2_at (o : FVec Ideal S1024x256 .f32) (p : FVec Ideal S2048x1024 .bf16) (q : FVec Ideal S2048x256 .bf16) (f : Fin 1024)
    (l : Fin 256) : k0_pay2 (F := Ideal) o p q (ix2 f l) = o (ix2 f l) + ∑ r, p (ix2 r f) * q (ix2 r l) := by
  unfold k0_pay2
  rw [shapeCast_self]
  exact add_block_at o p q f l

/-- The products an entry of the gradient adds, the tile of lanes given by its number. -/
abbrev prods (h : ℕ) (f : Fin 1024) (l : Fin 256) (k : Fin 8192) : EReal :=
  if hh : h < 1 then a0 m c (ix2 k (lane ⟨h, hh⟩ f)) * a1 m c (ix2 k l) else 0

theorem prods_eq (f : Fin 1024) (l : Fin 256) (k : Fin 8192) :
    prods m c (t.val / 4) f l k = a0 m c (ix2 k (lane (hp t) f)) * a1 m c (ix2 k l) := dif_pos (hp t).isLt

theorem block_sum (f : Fin 1024) (l : Fin 256) :
    ∑ r, b0 m c t (ix2 r f) * b1 m c t (ix2 r l) = ∑ r, prods m c (t.val / 4) f l (pos (sp t) r) :=
  Finset.sum_congr rfl fun r _ => (congrArg₂ (· * ·) (iblk0_at m c t r f) (iblk1_at m c t r l)).trans (prods_eq m c t f l _).symm

/-- At the last block of rows, the whole gradient. -/
theorem last_at (h : t.val % 4 = 3) (f : Fin 1024) (l : Fin 256) :
    (outsAt0 m c t.val t.isLt).1 (ix2 f l) = ∑ k, a0 m c (ix2 k (lane (hp t) f)) * a1 m c (ix2 k l) := by
  refine (run_at (fun n hn => (outsAt0 m c n hn).1 (ix2 f l)) (fun h => prods m c h f l) (fun t h0 => ?_) (fun t h0 => ?_) t.val t.isLt).trans ?_
  · refine (congrFun (first_out m c t h0) (ix2 f l)).trans ((pay2_at _ _ _ f l).trans ?_)
    exact congrArg₂ (· + ·) Ideal.ofBits_zero_f32 (block_sum m c t f l)
  · refine (congrFun (later_out m c t h0) (ix2 f l)).trans ((pay2_at _ _ _ f l).trans ?_)
    exact congrArg (_ + ·) (block_sum m c t f l)
  · rw [h, upTo_all]
    exact Finset.sum_congr rfl fun k _ => prods_eq m c t f l k

theorem last16_at (h : t.val % 4 = 3) (f : Fin 1024) (l : Fin 256) :
    (outsAt0 m c t.val t.isLt).2 (ix2 f l) = ∑ k, a0 m c (ix2 k (lane (hp t) f)) * a1 m c (ix2 k l) := by
  rw [last_out16 m c t h]
  unfold k0_pay3
  rw [shapeCast_self]
  exact last_at m c t h f l

/-! ## What the arrays hold -/

theorem arr2 : (dats m 0 c).arrAt 2 cfg0.N = val_main_v6 (F := Ideal) (a0 m c) (a1 m c) := by
  have at_ := v6_at (a0 m c) (a1 m c)
  generalize val_main_v6 (F := Ideal) (a0 m c) (a1 m c) = G at at_ ⊢
  refine (dats m 0 c).arrAt_eq_of_covers 2 G (by decide +kernel) fun t hf y => ?_
  blk_simp
  rw [after0_2]
  obtain ⟨f, l, rfl⟩ : ∃ (f : Fin 1024) (l : Fin 256), y = ix2 f l := ⟨y 0, y 1, eq_ix2 y⟩
  refine (last_at m c t ((flush0_2 t).mp hf) f l).trans ((at_ (lane (hp t) f) l).symm.trans ?_)
  blk_ext [ix0_2 t, lane, hp]

theorem arr3 : (dats m 0 c).arrAt 3 cfg0.N = val_main_v8 (F := Ideal) (a0 m c) (a1 m c) := by
  have at_ := v8_at (a0 m c) (a1 m c)
  generalize val_main_v8 (F := Ideal) (a0 m c) (a1 m c) = G at at_ ⊢
  refine (dats m 0 c).arrAt_eq_of_covers 3 G (by decide +kernel) fun t hf y => ?_
  blk_simp
  rw [after0_3]
  obtain ⟨f, l, rfl⟩ : ∃ (f : Fin 1024) (l : Fin 256), y = ix2 f l := ⟨y 0, y 1, eq_ix2 y⟩
  refine (last16_at m c t ((flush0_3 t).mp hf) f l).trans ((at_ (lane (hp t) f) l).symm.trans ?_)
  blk_ext [ix0_3 t, lane, hp]

end Cert.Proof.QueryGrad

end
-- ==== Proof.QueryClaims.lean ====
/-
  The claims about the gradient of the query projection's weights: the frames, and the kernel's two results being the reference's.
-/
module

public import proofs.«01_k».proof.Defs
public import proofs.«01_k».proof.Proof.Gen.QueryGrad.Frame
public import proofs.«01_k».proof.Proof.Gen.QueryGradIdeal.Frame
public import proofs.«01_k».proof.Proof.Gen.QueryGradIdeal.Value
public import proofs.«01_k».proof.Proof.Gen.QueryGradRefIdeal.Run
public import proofs.«01_k».proof.Proof.QueryGrad
public import Idealize.ShloMosaic.Lib.Quiescent

@[expose] public section

set_option maxRecDepth 16384

noncomputable section

namespace Cert.Proof.QueryGrad

open Idealize.ShloMosaic Idealize.ShloMosaic.TcCoe Idealize.SL.Sem
open Cert.QueryGradRefIdeal.Read (val_main_v6 val_main_v8 val_main_v6_eq val_main_v8_eq)

theorem frame_p : Cert.quiescent_QueryGrad := fun m ρ _ => Cert.QueryGrad.Gen.frame m ρ

theorem frame_pi : Cert.quiescent_QueryGradIdeal := fun m ρ _ => Cert.QueryGradIdeal.Gen.frame m ρ

/-- The reference has no semaphores, so its run alone gives the frame. -/
theorem frame_ri : Cert.quiescent_QueryGradRefIdeal := fun m ρ _ =>
  (θ_run Cert.QueryGradRefIdeal.defs _ _).mono
    (fun r h => ⟨fun c => (h c).2.2, sem_eq_zero_of_no_sems (by decide) r.2⟩)
    (Cert.QueryGradRefIdeal.Value.run (F := Ideal) m ρ)

theorem algebraic : Cert.algebraic_QueryGradIdeal_QueryGradRefIdeal := by
  intro m g m' g' _ hargs
  refine ⟨fun c => val_main_v6 (F := Ideal) (a0 m c) (a1 m c), fun c => val_main_v8 (F := Ideal) (a0 m c) (a1 m c), ?_, ?_⟩
  · refine (θ_run Cert.QueryGradIdeal.defs _ _).mono (fun r h c => ?_) (Cert.QueryGradIdeal.Value.run_blocks (F := Ideal) m g)
    obtain ⟨e2, e3, ha⟩ := h c
    exact ⟨e2.trans (arr2 m c), e3.trans (arr3 m c), ha⟩
  · refine (θ_run Cert.QueryGradRefIdeal.defs _ _).mono (fun r h c => ?_) (Cert.QueryGradRefIdeal.Value.run (F := Ideal) m' g')
    obtain ⟨e0, e1, ha⟩ := h c
    obtain ⟨g0, g1⟩ := hargs c
    refine ⟨e0.trans ((val_main_v6_eq _ _).trans ?_), e1.trans ((val_main_v8_eq _ _).trans ?_), ha⟩
    · rw [g0, g1]
    · rw [g0, g1]

end Cert.Proof.QueryGrad

end
-- ==== Proof.KeyGrad.lean ====
/-
  The gradient of the key and value projection's weights: the kernel adds the products of four blocks of 2048 rows, half of the lanes at a time.
-/
module

public import proofs.«01_k».proof.Proof.TnSum
public import proofs.«01_k».proof.Proof.Gen.KeyGradIdeal.Frame
public import proofs.«01_k».proof.Proof.Gen.KeyGradRefIdeal.Read
public import Idealize.ShloMosaic.Lib.Pipeline.ValueKit.Acc
public import Idealize.ShloMosaic.Lib.Pipeline.ValueKit.Point
public import Idealize.ShloMosaic.Lib.Pipeline.ReadBack
public import Idealize.ShloMosaic.Lib.WholeRead
public import Idealize.ShloMosaic.Lib.ValueLayout
public import Idealize.ShloMosaic.PureOps.Ideal.Laws

@[expose] public section

set_option maxRecDepth 16384

noncomputable section

namespace Cert.Proof.KeyGrad

open Cert.KeyGradIdeal Cert.KeyGradIdeal.Gen Idealize.ShloMosaic.TcCoe Idealize.ShloMosaic.ValueIdx
open Idealize.ShloMosaic hiding ix2 eq_ix2
open Cert.KeyGradRefIdeal.Read
open TnSum (pos upTo_all add_block_at run_at)
open scoped BigOperators

/-! ## The reference -/

theorem v6_at (x0 : (⟨2, ![8192, 1536]⟩ : Shape).Idx → EReal) (x1 : (⟨2, ![8192, 128]⟩ : Shape).Idx → EReal) (f : Fin 1536) (l : Fin 128) :
    val_main_v6 (F := Ideal) x0 x1 (ix2 f l) = ∑ k, x0 (ix2 k f) * x1 (ix2 k l) := by
  rw [val_main_v6_apply, val_main_v5_apply, val_main_v4_apply]
  refine Finset.sum_congr rfl fun k _ => congrArg₂ (· * ·) (congrArg x0 ?_) (congrArg x1 ?_) <;>
    · funext a; match a with
      | ⟨0, _⟩ => rfl
      | ⟨1, _⟩ => rfl

theorem v8_at (x0 : (⟨2, ![8192, 1536]⟩ : Shape).Idx → EReal) (x1 : (⟨2, ![8192, 128]⟩ : Shape).Idx → EReal) (f : Fin 1536) (l : Fin 128) :
    val_main_v8 (F := Ideal) x0 x1 (ix2 f l) = ∑ k, x0 (ix2 k f) * x1 (ix2 k l) := v6_at x0 x1 f l

/-! ## What a grid point leaves -/

/-- Lane `f` of the `h`-th tile of 768 lanes. -/
def lane (h : Fin 2) (f : Fin 768) : Fin 1536 := ⟨h.val * 768 + f.val, by omega⟩
/-- The tile of lanes of a grid point. -/
def hp (t : Fin cfg0.N) : Fin 2 := ⟨t.val / 4, by have := t.isLt; have h : cfg0.N = 8 := N_0; omega⟩
/-- The block of rows of a grid point. -/
def sp (t : Fin cfg0.N) : Fin 4 := ⟨t.val % 4, by omega⟩

theorem ix0_0 : ∀ t : Fin cfg0.N, win0_0.index t = ![t.val % 4, t.val / 4] := (by decide +kernel : ∀ t : Fin grid0.N, win0_0.index t = ![t.val % 4, t.val / 4])
theorem ix0_1 : ∀ t : Fin cfg0.N, win0_1.index t = ![t.val % 4, 0] := (by decide +kernel : ∀ t : Fin grid0.N, win0_1.index t = ![t.val % 4, 0])
theorem ix0_2 : ∀ t : Fin cfg0.N, win0_2.index t = ![t.val / 4, 0] := (by decide +kernel : ∀ t : Fin grid0.N, win0_2.index t = ![t.val / 4, 0])
theorem ix0_3 : ∀ t : Fin cfg0.N, win0_3.index t = ![t.val / 4, 0] := (by decide +kernel : ∀ t : Fin grid0.N, win0_3.index t = ![t.val / 4, 0])

variable (m : (ℓ : Loc nD τ sig) → Buf (Elt Ideal) ℓ) (c : Dev nD) (t : Fin cfg0.N)

/-- The two arguments. -/
abbrev a0 : (⟨S8192x1536, .bf16⟩ : BufTy).Contents (Elt Ideal) := m ((c.tc : Thread nD τ).loc main_arg0)
abbrev a1 : (⟨S8192x128, .bf16⟩ : BufTy).Contents (Elt Ideal) := m ((c.tc : Thread nD τ).loc main_arg1)

/-- The two blocks a grid point is given. -/
abbrev b0 : FVec Ideal S2048x768 .bf16 := iblk m c 0 t
abbrev b1 : FVec Ideal S2048x128 .bf16 := iblk m c 1 t

theorem iblk0_at (r : Fin 2048) (f : Fin 768) : b0 m c t (ix2 r f) = a0 m c (ix2 (pos (sp t) r) (lane (hp t) f)) := by
  blk_ext [b0, iblk, V_main_arg0, ix0_0 t, pos, sp, lane, hp]
theorem iblk1_at (r : Fin 2048) (l : Fin 128) : b1 m c t (ix2 r l) = a1 m c (ix2 (pos (sp t) r) l) := by
  blk_ext [b1, iblk, V_main_arg1, ix0_1 t, pos, sp]

theorem first_out (h : t.val % 4 = 0) : (outsAt0 m c t.val t.isLt).1
    = k0_pay2 (F := Ideal) (k0_pay1 (F := Ideal)) (iblk m c 0 t) (iblk m c 1 t) := by
  rw [outsAt0_A m c t h (by omega)]
  frame_out
theorem later_out (h : ¬t.val % 4 = 0) : (outsAt0 m c t.val t.isLt).1
    = k0_pay2 (F := Ideal) (outsAt0 m c (t.val - 1) (Nat.lt_of_le_of_lt (Nat.sub_le _ _) t.isLt)).1 (iblk m c 0 t) (iblk m c 1 t) := by
  by_cases h3 : t.val % 4 = 3
  · rw [outsAt0_C m c t h h3]
    frame_out
  · rw [outsAt0_B m c t h h3]
    frame_out
theorem last_out16 (h : t.val % 4 = 3) : (outsAt0 m c t.val t.isLt).2
    = k0_pay3 (F := Ideal) (outsAt0 m c t.val t.isLt).1 := by
  rw [later_out m c t (by omega), outsAt0_C m c t (by omega) h]
  frame_out

theorem pay2_at (o : FVec Ideal S768x128 .f32) (p : FVec Ideal S2048x768 .bf16) (q : FVec Ideal S2048x128 .bf16) (f : Fin 768)
    (l : Fin 128) : k0_pay2 (F := Ideal) o p q (ix2 f l) = o (ix2 f l) + ∑ r, p (ix2 r f) * q (ix2 r l) := by
  unfold k0_pay2
  rw [shapeCast_self]
  exact add_block_at o p q f l

/-- The products an entry of the gradient adds, the tile of lanes given by its number. -/
abbrev prods (h : ℕ) (f : Fin 768) (l : Fin 128) (k : Fin 8192) : EReal :=
  if hh : h < 2 then a0 m c (ix2 k (lane ⟨h, hh⟩ f)) * a1 m c (ix2 k l) else 0

theorem prods_eq (f : Fin 768) (l : Fin 128) (k : Fin 8192) :
    prods m c (t.val / 4) f l k = a0 m c (ix2 k (lane (hp t) f)) * a1 m c (ix2 k l) := dif_pos (hp t).isLt

theorem block_sum (f : Fin 768) (l : Fin 128) :
    ∑ r, b0 m c t (ix2 r f) * b1 m c t (ix2 r l) = ∑ r, prods m c (t.val / 4) f l (pos (sp t) r) :=
  Finset.sum_congr rfl fun r _ => (congrArg₂ (· * ·) (iblk0_at m c t r f) (iblk1_at m c t r l)).trans (prods_eq m c t f l _).symm

/-- At the last block of rows, the whole gradient. -/
theorem last_at (h : t.val % 4 = 3) (f : Fin 768) (l : Fin 128) :
    (outsAt0 m c t.val t.isLt).1 (ix2 f l) = ∑ k, a0 m c (ix2 k (lane (hp t) f)) * a1 m c (ix2 k l) := by
  refine (run_at (fun n hn => (outsAt0 m c n hn).1 (ix2 f l)) (fun h => prods m c h f l) (fun t h0 => ?_) (fun t h0 => ?_) t.val t.isLt).trans ?_
  · refine (congrFun (first_out m c t h0) (ix2 f l)).trans ((pay2_at _ _ _ f l).trans ?_)
    exact congrArg₂ (· + ·) Ideal.ofBits_zero_f32 (block_sum m c t f l)
  · refine (congrFun (later_out m c t h0) (ix2 f l)).trans ((pay2_at _ _ _ f l).trans ?_)
    exact congrArg (_ + ·) (block_sum m c t f l)
  · rw [h, upTo_all]
    exact Finset.sum_congr rfl fun k _ => prods_eq m c t f l k

theorem last16_at (h : t.val % 4 = 3) (f : Fin 768) (l : Fin 128) :
    (outsAt0 m c t.val t.isLt).2 (ix2 f l) = ∑ k, a0 m c (ix2 k (lane (hp t) f)) * a1 m c (ix2 k l) := by
  rw [last_out16 m c t h]
  unfold k0_pay3
  rw [shapeCast_self]
  exact last_at m c t h f l

/-! ## What the arrays hold -/

theorem arr2 : (dats m 0 c).arrAt 2 cfg0.N = val_main_v6 (F := Ideal) (a0 m c) (a1 m c) := by
  have at_ := v6_at (a0 m c) (a1 m c)
  generalize val_main_v6 (F := Ideal) (a0 m c) (a1 m c) = G at at_ ⊢
  refine (dats m 0 c).arrAt_eq_of_covers 2 G (by decide +kernel) fun t hf y => ?_
  blk_simp
  rw [after0_2]
  obtain ⟨f, l, rfl⟩ : ∃ (f : Fin 768) (l : Fin 128), y = ix2 f l := ⟨y 0, y 1, eq_ix2 y⟩
  refine (last_at m c t ((flush0_2 t).mp hf) f l).trans ((at_ (lane (hp t) f) l).symm.trans ?_)
  blk_ext [ix0_2 t, lane, hp]

theorem arr3 : (dats m 0 c).arrAt 3 cfg0.N = val_main_v8 (F := Ideal) (a0 m c) (a1 m c) := by
  have at_ := v8_at (a0 m c) (a1 m c)
  generalize val_main_v8 (F := Ideal) (a0 m c) (a1 m c) = G at at_ ⊢
  refine (dats m 0 c).arrAt_eq_of_covers 3 G (by decide +kernel) fun t hf y => ?_
  blk_simp
  rw [after0_3]
  obtain ⟨f, l, rfl⟩ : ∃ (f : Fin 768) (l : Fin 128), y = ix2 f l := ⟨y 0, y 1, eq_ix2 y⟩
  refine (last16_at m c t ((flush0_3 t).mp hf) f l).trans ((at_ (lane (hp t) f) l).symm.trans ?_)
  blk_ext [ix0_3 t, lane, hp]

end Cert.Proof.KeyGrad

end
-- ==== Proof.KeyClaims.lean ====
/-
  The claims about the gradient of the key and value projection's weights: the frames, and the kernel's two results being the reference's.
-/
module

public import proofs.«01_k».proof.Defs
public import proofs.«01_k».proof.Proof.Gen.KeyGrad.Frame
public import proofs.«01_k».proof.Proof.Gen.KeyGradIdeal.Frame
public import proofs.«01_k».proof.Proof.Gen.KeyGradIdeal.Value
public import proofs.«01_k».proof.Proof.Gen.KeyGradRefIdeal.Run
public import proofs.«01_k».proof.Proof.KeyGrad
public import Idealize.ShloMosaic.Lib.Quiescent

@[expose] public section

set_option maxRecDepth 16384

noncomputable section

namespace Cert.Proof.KeyGrad

open Idealize.ShloMosaic Idealize.ShloMosaic.TcCoe Idealize.SL.Sem
open Cert.KeyGradRefIdeal.Read (val_main_v6 val_main_v8 val_main_v6_eq val_main_v8_eq)

theorem frame_p : Cert.quiescent_KeyGrad := fun m ρ _ => Cert.KeyGrad.Gen.frame m ρ

theorem frame_pi : Cert.quiescent_KeyGradIdeal := fun m ρ _ => Cert.KeyGradIdeal.Gen.frame m ρ

/-- The reference has no semaphores, so its run alone gives the frame. -/
theorem frame_ri : Cert.quiescent_KeyGradRefIdeal := fun m ρ _ =>
  (θ_run Cert.KeyGradRefIdeal.defs _ _).mono
    (fun r h => ⟨fun c => (h c).2.2, sem_eq_zero_of_no_sems (by decide) r.2⟩)
    (Cert.KeyGradRefIdeal.Value.run (F := Ideal) m ρ)

theorem algebraic : Cert.algebraic_KeyGradIdeal_KeyGradRefIdeal := by
  intro m g m' g' _ hargs
  refine ⟨fun c => val_main_v6 (F := Ideal) (a0 m c) (a1 m c), fun c => val_main_v8 (F := Ideal) (a0 m c) (a1 m c), ?_, ?_⟩
  · refine (θ_run Cert.KeyGradIdeal.defs _ _).mono (fun r h c => ?_) (Cert.KeyGradIdeal.Value.run_blocks (F := Ideal) m g)
    obtain ⟨e2, e3, ha⟩ := h c
    exact ⟨e2.trans (arr2 m c), e3.trans (arr3 m c), ha⟩
  · refine (θ_run Cert.KeyGradRefIdeal.defs _ _).mono (fun r h c => ?_) (Cert.KeyGradRefIdeal.Value.run (F := Ideal) m' g')
    obtain ⟨e0, e1, ha⟩ := h c
    obtain ⟨g0, g1⟩ := hargs c
    refine ⟨e0.trans ((val_main_v6_eq _ _).trans ?_), e1.trans ((val_main_v8_eq _ _).trans ?_), ha⟩
    · rw [g0, g1]
    · rw [g0, g1]

end Cert.Proof.KeyGrad

end
-- ==== Proof.NormRow.lean ====
/-
  One row divided by the root of its mean square, at any width: the derivative as the kernels write it and as the derivative
  of the formula gives it. The two agree for all rows, the infinite ones included: a row with an infinite entry has an
  infinite mean square, whose inverse root is zero, and both are then zero.
-/
module

public import proofs.«01_k».proof.Proof.LossRow
public import Idealize.ShloMosaic.Lib.ValueLayout
public import Idealize.ShloMosaic.Lib.ValueLayoutCasts
public import Idealize.ShloMosaic.PureOps.Ideal.Laws

@[expose] public section

noncomputable section

namespace Cert.Proof.NormRow

open Idealize.ShloMosaic Idealize.ShloMosaic.ValueIdx
open Cert.Proof.LatentBwd (coe_sum)
open Cert.Proof.FfnBwd (epsR epsR_pos ofBits_eps ofBits_neg_half)
open Cert.Proof.Loss (sum_mul_coe self_nonneg twice)
open scoped BigOperators

section
variable {n : ℕ} (W : EReal) (h w : Fin n → EReal)

/-- The sum of a row's squares. -/
def sq : EReal := ∑ k, h k * h k
/-- Its mean, with what is added to it; `W` is the width. -/
def msOf : EReal := Ideal.div (sq h) W + Ideal.ofBits .f32 0x358637BD#32
/-- One over the root of that. -/
def rOf : EReal := Ideal.rsqrt (msOf W h)
/-- The gradient of the row as the kernels compute it, `w` being the gradient of the normed row. -/
def gradOf (l : Fin n) : EReal := rOf W h * (w l - h l * rOf W h * Ideal.div (∑ k, w k * (h k * rOf W h)) W)
/-- Half the factor the row has in the derivative of its inverse root mean square. -/
def coef : EReal := Ideal.div ((∑ k, h k * w k) * (Ideal.ofBits .f32 0xBF000000#32 * Ideal.div (rOf W h) (msOf W h))) W

/-- A row whose squares have a finite sum is real. -/
theorem real_of_sq (hs : sq h ≠ ⊤) : ∃ x : Fin n → ℝ, ∀ k, h k = (x k : EReal) := by
  have hk : ∀ k, h k * h k ≠ ⊤ := fun k e => hs (top_unique (e ▸ Finset.single_le_sum (f := fun k => h k * h k)
    (fun k _ => self_nonneg (h k)) (Finset.mem_univ k)))
  refine ⟨fun k => (h k).toReal, fun k => (EReal.coe_toReal ?_ ?_).symm⟩
  · intro e; exact hk k (by rw [e]; rfl)
  · intro e; exact hk k (by rw [e]; rfl)

variable (hn : 0 < n) (hW : W = ((n : ℝ) : EReal))
include hn hW

theorem div_width (a : EReal) : Ideal.div a W = a * ((1 / (n : ℝ) : ℝ) : EReal) := by
  rw [hW, Ideal.div_coe (by exact_mod_cast hn.ne')]

theorem grad_real (x : Fin n → ℝ) (hx : ∀ k, h k = (x k : EReal)) (l : Fin n) :
    w l * rOf W h + h l * coef W h w + coef W h w * h l = gradOf W h w l := by
  obtain rfl : h = fun k => (x k : EReal) := funext hx
  obtain ⟨m, hm0, hm⟩ : ∃ m : ℝ, 0 < m ∧ msOf W (fun k => (x k : EReal)) = (m : EReal) := by
    refine ⟨(∑ k, x k * x k) * (1 / (n : ℝ)) + epsR, ?_, ?_⟩
    · have h1 := Finset.sum_nonneg fun (c : Fin n) (_ : c ∈ Finset.univ) => mul_self_nonneg (x c)
      have h2 := epsR_pos
      positivity
    · unfold msOf sq
      rw [div_width W hn hW, ofBits_eps, Finset.sum_congr rfl fun k _ => (EReal.coe_mul (x k) (x k)).symm, coe_sum, ← EReal.coe_mul,
        ← EReal.coe_add]
  obtain ⟨r, hr0, hq, hr⟩ : ∃ r : ℝ, 0 ≤ r ∧ r * (1 / m) = r * r * r ∧ rOf W (fun k => (x k : EReal)) = (r : EReal) := by
    refine ⟨(√m)⁻¹, inv_nonneg.mpr (Real.sqrt_nonneg _), ?_, ?_⟩
    · have hs : √m * √m = m := Real.mul_self_sqrt hm0.le
      have : (√m)⁻¹ * (√m)⁻¹ = 1 / m := by rw [← mul_inv, hs, one_div]
      rw [← this, mul_assoc]
    · unfold rOf
      rw [hm, Ideal.rsqrt_coe, if_neg (not_lt.mpr hm0.le), if_neg hm0.ne']
  unfold gradOf coef
  rw [hr, hm, Ideal.div_coe hm0.ne', div_width W hn hW, div_width W hn hW, ofBits_neg_half]
  have hS : ∑ k, w k * ((x k : EReal) * (r : EReal)) = (∑ k, (x k : EReal) * w k) * (r : EReal) := by
    rw [sum_mul_coe _ _ _ hr0]
    exact Finset.sum_congr rfl fun k _ => by rw [← mul_assoc, mul_comm (w k)]
  rw [hS]
  generalize ∑ k, (x k : EReal) * w k = z
  generalize (1 / (n : ℝ)) = u
  have e1 : (x l : EReal) * (r : EReal) * (z * (r : EReal) * (u : EReal)) = z * ((x l * r * r * u : ℝ) : EReal) := by
    simp only [EReal.coe_mul]
    ac_rfl
  have e2 : z * (((-(1 / 2) : ℝ) : EReal) * ((r : EReal) * ((1 / m : ℝ) : EReal))) * (u : EReal)
      = z * ((-(1 / 2) * (r * (1 / m)) * u : ℝ) : EReal) := by
    simp only [EReal.coe_mul]
    ac_rfl
  rw [e1, e2, hq, mul_comm (z * _) (x l : EReal), add_assoc]
  have e3 : (x l : EReal) * (z * ((-(1 / 2) * (r * r * r) * u : ℝ) : EReal)) = z * ((-(1 / 2) * (r * r * r) * u * x l : ℝ) : EReal) := by
    simp only [EReal.coe_mul]
    ac_rfl
  rw [e3, twice, sub_eq_add_neg, EReal.left_distrib_of_nonneg_of_ne_top (by exact_mod_cast hr0) (EReal.coe_ne_top r), mul_comm (r : EReal) (w l)]
  refine congrArg (fun a : EReal => w l * (r : EReal) + a) ?_
  rw [← mul_neg, ← EReal.coe_neg, mul_left_comm (r : EReal), ← EReal.coe_mul]
  refine congrArg (fun a : ℝ => z * (a : EReal)) ?_
  ring

theorem grad_top (hs : sq h = ⊤) (l : Fin n) : w l * rOf W h + h l * coef W h w + coef W h w * h l = gradOf W h w l := by
  have hp : (0 : ℝ) < 1 / (n : ℝ) := by positivity
  have hm : msOf W h = ⊤ := by
    unfold msOf
    rw [hs, div_width W hn hW, ofBits_eps, EReal.top_mul_coe_of_pos hp, EReal.top_add_coe]
  have hr : rOf W h = 0 := by
    unfold rOf
    rw [hm, Ideal.rsqrt_top]
  have hd : Ideal.div 0 ⊤ = 0 := by
    unfold Ideal.div
    rw [if_neg EReal.top_ne_zero, zero_mul]
  unfold gradOf coef
  rw [hr, hm, hd, div_width W hn hW]
  simp

/-- The derivative through the normalisation is the kernels'. -/
theorem grad_eq (l : Fin n) : w l * rOf W h + h l * coef W h w + coef W h w * h l = gradOf W h w l := by
  by_cases hs : sq h = ⊤
  · exact grad_top W h w hn hW hs l
  · obtain ⟨x, hx⟩ := real_of_sq h hs
    exact grad_real W h w hn hW x hx l
end

/-! ## Sums of a block's rows and columns -/

section
variable {T n : ℕ}

/-- The sum of a row, as a column. -/
theorem row_sum (y : FVec Ideal ⟨2, ![T, n]⟩ .f32) (hr : Shape.Reduces (⟨2, ![T, n]⟩ : Shape) [1] ⟨1, ![T]⟩) (hf : FKind.Formats .f32)
    (ha : (0x00000000#32 : BitVec FTy.f32.bits) = FKind.add.neutral .f32 hf) (hc : Shape.ShapeCasts (⟨1, ![T]⟩ : Shape) ⟨2, ![T, 1]⟩)
    (i : Fin T) (z : Fin 1) :
    (shapeCast (⟨2, ![T, 1]⟩ : Shape) (multiReduction .add [1] (⟨1, ![T]⟩ : Shape) y 0x00000000#32 hr hf ha) hc : FVec Ideal ⟨2, ![T, 1]⟩ .f32) (ix2 i z)
      = ∑ c : Fin n, (show EReal from y (ix2 i c)) := by
  refine (shapeCast_a_a1_apply _ hc i z).trans ?_
  refine (Ideal.multiReduction_add_single (φ := .f32) y 0x00000000#32 hr hf ha (ix1 i)).trans ?_
  refine Finset.sum_congr rfl fun c _ => ?_
  have hl : hr.lift (ix1 i) c = ix2 i c :=
    funext fun a => Fin.ext (by match a with | ⟨0, _⟩ => rfl | ⟨1, _⟩ => rfl)
  exact congrArg y hl

/-- The sum of a column, as a row. -/
theorem col_sum (y : FVec Ideal ⟨2, ![T, n]⟩ .f32) (hr : Shape.Reduces (⟨2, ![T, n]⟩ : Shape) [0] ⟨1, ![n]⟩) (hf : FKind.Formats .f32)
    (ha : (0x00000000#32 : BitVec FTy.f32.bits) = FKind.add.neutral .f32 hf) (hc : Shape.ShapeCasts (⟨1, ![n]⟩ : Shape) ⟨2, ![1, n]⟩)
    (z : Fin 1) (l : Fin n) :
    (shapeCast (⟨2, ![1, n]⟩ : Shape) (multiReduction .add [0] (⟨1, ![n]⟩ : Shape) y 0x00000000#32 hr hf ha) hc : FVec Ideal ⟨2, ![1, n]⟩ .f32) (ix2 z l)
      = ∑ i : Fin T, (show EReal from y (ix2 i l)) := by
  refine (shapeCast_a_1a_apply _ hc z l).trans ?_
  refine (Ideal.multiReduction_add_single (φ := .f32) y 0x00000000#32 hr hf ha (ix1 l)).trans ?_
  refine Finset.sum_congr rfl fun c _ => ?_
  have hl : hr.lift (ix1 l) c = ix2 c l :=
    funext fun a => Fin.ext (by match a with | ⟨0, _⟩ => rfl | ⟨1, _⟩ => rfl)
  exact congrArg y hl

/-- A column spread over the lanes. -/
theorem spread_at (v : FVec Ideal ⟨2, ![T, 1]⟩ .f32) (hb : Shape.Broadcasts (⟨2, ![T, 1]⟩ : Shape) ⟨2, ![T, n]⟩) (hT : T ≠ 1) (i : Fin T) (c : Fin n) :
    (broadcastTo (⟨2, ![T, n]⟩ : Shape) v hb : FVec Ideal ⟨2, ![T, n]⟩ .f32) (ix2 i c) = v (ix2 i 0) := by
  refine broadcastTo_apply v _ (ix2 i c) (ix2 i (0 : Fin 1)) fun ax => ?_
  match ax with
  | ⟨0, _⟩ => exact (if_neg hT).symm
  | ⟨1, _⟩ => rfl
end

end Cert.Proof.NormRow

end
-- ==== Proof.OutBwdRef.lean ====
/-
  The gradient through the output projection and the two normalisations before it: what the reference's arrays hold, row by
  row.
-/
module

public import proofs.«01_k».proof.Proof.NormRow
public import proofs.«01_k».proof.Proof.Gen.OutBwdRefIdeal.Read
public import Idealize.ShloMosaic.Lib.ValueIdx

@[expose] public section

set_option maxRecDepth 16384

noncomputable section

namespace Cert.Proof.OutBwd

open Cert.OutBwdRefIdeal Cert.OutBwdRefIdeal.Gen Cert.OutBwdRefIdeal.Read Idealize.ShloMosaic Idealize.ShloMosaic.ValueIdx
open Cert.Proof.NormRow
open scoped BigOperators

/-- The width of a half. -/
abbrev W : EReal := Ideal.ofBits .f32 0x44000000#32

theorem ofBits_W : W = (((512 : ℕ) : ℝ) : EReal) := by
  simp [W, Ideal.ofBits, Ideal.ieee, -EReal.coe_mul]
  norm_num

/-- A lane of the first half, … -/
def lowLane (l : Fin 512) : Fin 1024 := ⟨l.val, by omega⟩
/-- … and one of the second. -/
def highLane (l : Fin 512) : Fin 1024 := ⟨512 + l.val, by omega⟩

/-- A row of an attention's output. -/
def oRow (x : (⟨2, ![8192, 512]⟩ : Shape).Idx → EReal) (i : Fin 8192) : Fin 512 → EReal := fun l => x (ix2 i l)
/-- The gradient of a row of the normed outputs side by side. -/
def dRow (x0 : (⟨2, ![8192, 1024]⟩ : Shape).Idx → EReal) (x5 : (⟨2, ![1024, 1024]⟩ : Shape).Idx → EReal) (i : Fin 8192) (j : Fin 1024) : EReal :=
  ∑ k : Fin 1024, x0 (ix2 i k) * x5 (ix2 j k)
/-- That of a half, times the gain: the gradient of the row before the gain. -/
def wRow (d : Fin 8192 → Fin 1024 → EReal) (lane : Fin 512 → Fin 1024) (g : (⟨2, ![1, 512]⟩ : Shape).Idx → EReal) (i : Fin 8192) : Fin 512 → EReal :=
  fun l => d i (lane l) * g (ix2 0 l)
/-- A row's part of the gradient of a gain. -/
def gainTerm (d : Fin 8192 → Fin 1024 → EReal) (lane : Fin 512 → Fin 1024) (x : (⟨2, ![8192, 512]⟩ : Shape).Idx → EReal) (l : Fin 512) (i : Fin 8192) : EReal :=
  d i (lane l) * (oRow x i l * rOf W (oRow x i))

theorem d_ref (x0 : (⟨S8192x1024, .f32⟩ : BufTy).Contents (Elt Ideal)) (x5 : (⟨S1024x1024, .f32⟩ : BufTy).Contents (Elt Ideal)) (i : Fin 8192) (j : Fin 1024) :
    val_main_v32 (F := Ideal) x0 x5 (ix2 i j) = dRow x0 x5 i j := by
  rw [val_main_v32_apply]
  refine Finset.sum_congr rfl fun k _ => congrArg₂ (fun a b : EReal => a * b) (congrArg x0 ?_) (congrArg x5 ?_) <;>
    · funext a; match a with
      | ⟨0, _⟩ => rfl
      | ⟨1, _⟩ => rfl

/-! ## The latent attention's half -/

section
variable (x0 : (⟨S8192x1024, .f32⟩ : BufTy).Contents (Elt Ideal)) (x1 : (⟨S8192x512, .f32⟩ : BufTy).Contents (Elt Ideal))
  (x3 : (⟨S1x512, .f32⟩ : BufTy).Contents (Elt Ideal)) (x5 : (⟨S1024x1024, .f32⟩ : BufTy).Contents (Elt Ideal))

theorem ms_m (i : Fin 8192) (z : Fin 1) : val_main_v6 (F := Ideal) x1 (ix2 i z) = msOf W (oRow x1 i) := by
  have h2 : idx_main_v2 (ix2 i z) = (ix1 i : S8192.Idx) := eq_ix1 _
  rw [val_main_v6_apply, val_main_v4_apply, val_main_v2_apply, h2, val_main_v3_apply, val_main_v5_apply, val_main_cst_0_apply,
    val_main_cst_1_apply, val_main_v1_apply]
  refine congrArg (fun s : EReal => Ideal.div s W + Ideal.ofBits .f32 0x358637BD#32) ?_
  refine (congrArg₂ (· + ·) Ideal.ofBits_zero_f32 (Finset.sum_congr rfl fun k _ => ?_)).trans (zero_add _)
  have ha : idx_main_v1 (ix1 i : S8192.Idx) k = ix2 i k := eq_ix2 _
  rw [ha, val_main_v0_apply]
  rfl

theorem r_m (i : Fin 8192) (z : Fin 1) : val_main_v7 (F := Ideal) x1 (ix2 i z) = rOf W (oRow x1 i) := by
  rw [val_main_v7_apply]
  exact congrArg Ideal.rsqrt (ms_m x1 i z)

theorem unit_m (i : Fin 8192) (l : Fin 512) : val_main_v12 (F := Ideal) x1 (ix2 i l) = oRow x1 i l * rOf W (oRow x1 i) := by
  have h : idx_main_v11 (ix2 i l) = ix2 i (0 : Fin 1) := eq_ix2 _
  rw [val_main_v12_apply, val_main_v11_apply, h]
  exact congrArg (fun r : EReal => oRow x1 i l * r) (r_m x1 i 0)

theorem part_m (i : Fin 8192) (l : Fin 512) : val_main_v33 (F := Ideal) x0 x5 (ix2 i l) = dRow x0 x5 i (lowLane l) := by
  have h : idx_main_v33 (ix2 i l) = ix2 i (lowLane l) := funext fun a => Fin.ext (by match a with | ⟨0, _⟩ => rfl | ⟨1, _⟩ => rfl)
  rw [val_main_v33_apply, h, d_ref]

theorem w_m (i : Fin 8192) (l : Fin 512) : val_main_v58 (F := Ideal) x0 x3 x5 (ix2 i l) = wRow (dRow x0 x5) lowLane x3 i l := by
  have h : idx_main_v57 (ix2 i l) = ix2 (0 : Fin 1) l := eq_ix2 _
  rw [val_main_v58_apply, val_main_v57_apply, h]
  exact congrArg (fun d : EReal => d * x3 (ix2 0 l)) (part_m x0 x5 i l)

/-- The gradient of the gain: a sum over all rows. -/
theorem dg_m (z : Fin 1) (l : Fin 512) : val_main_v56 (F := Ideal) x0 x1 x5 (ix2 z l) = ∑ i : Fin 8192, gainTerm (dRow x0 x5) lowLane x1 l i := by
  have h1 : idx_main_v56 (ix2 z l) = (ix1 l : S512.Idx) := by
    obtain rfl : z = 0 := Subsingleton.elim _ _
    refine funext fun a => Fin.ext ?_
    match a with
    | ⟨0, _⟩ => show 0 * 512 + l.val = l.val; omega
  rw [val_main_v56_apply, h1, val_main_v55_apply, val_main_cst_11_apply]
  refine (congrArg₂ (· + ·) Ideal.ofBits_zero_f32 (Finset.sum_congr rfl fun i _ => ?_)).trans (zero_add _)
  have ha : idx_main_v55 (ix1 l : S512.Idx) i = ix2 i l := eq_ix2 _
  rw [ha, val_main_v54_apply]
  exact (congrArg₂ (fun a b : EReal => a * b) (unit_m x1 i l) (part_m x0 x5 i l)).trans (mul_comm _ _)

theorem coef_m (i : Fin 8192) : val_main_v67 (F := Ideal) x0 x1 x3 x5 (ix1 i) = coef W (oRow x1 i) (wRow (dRow x0 x5) lowLane x3 i) := by
  have h1 : idx_main_v67 (ix1 i : S8192.Idx) 0 = ix2 i (0 : Fin 1) := eq_ix2 _
  have h2 : idx_main_v61 (ix2 i (0 : Fin 1)) = (ix1 i : S8192.Idx) := by
    refine funext fun a => Fin.ext ?_
    match a with
    | ⟨0, _⟩ => show i.val * 1 + 0 = i.val; omega
  rw [val_main_v67_apply, Fin.sum_univ_one, h1, val_main_v66_apply, val_main_v64_apply, val_main_v61_apply, h2, val_main_v65_apply,
    val_main_cst_13_apply, val_main_cst_14_apply, val_main_v10_apply, val_main_v9_apply, val_main_cst_2_apply, val_main_v8_apply,
    val_main_v60_apply, val_main_cst_12_apply]
  refine (congrArg₂ (fun a b : EReal => a + b) Ideal.ofBits_zero_f32 ?_).trans (zero_add _)
  refine congrArg₂ (fun a b : EReal => Ideal.div (a * (Ideal.ofBits .f32 0xBF000000#32 * b)) W) ?_
    (congrArg₂ Ideal.div (r_m x1 i 0) (ms_m x1 i 0))
  refine (congrArg₂ (· + ·) Ideal.ofBits_zero_f32 (Finset.sum_congr rfl fun k _ => ?_)).trans (zero_add _)
  have ha : idx_main_v60 (ix1 i : S8192.Idx) k = ix2 i k := eq_ix2 _
  rw [ha, val_main_v59_apply]
  exact congrArg (fun d : EReal => oRow x1 i k * d) (w_m x0 x3 x5 i k)

/-- The gradient of the rows. -/
theorem do_m (i : Fin 8192) (l : Fin 512) : val_main_v72 (F := Ideal) x0 x1 x3 x5 (ix2 i l)
    = gradOf W (oRow x1 i) (wRow (dRow x0 x5) lowLane x3 i) l := by
  have h1 : idx_main_v62 (ix2 i l) = ix2 i (0 : Fin 1) := eq_ix2 _
  have h2 : idx_main_v68 (ix2 i l) = (ix1 i : S8192.Idx) := eq_ix1 _
  rw [val_main_v72_apply, val_main_v70_apply, val_main_v71_apply, val_main_v63_apply, val_main_v69_apply, val_main_v62_apply, h1,
    val_main_v68_apply, h2]
  refine Eq.trans ?_ (grad_eq W _ _ (by decide) ofBits_W l)
  have hc := coef_m x0 x1 x3 x5 i
  exact congrArg₂ (fun a b : EReal => a + b) (congrArg₂ (fun a b : EReal => a + b)
    (congrArg₂ (fun a b : EReal => a * b) (w_m x0 x3 x5 i l) (r_m x1 i 0))
    (congrArg (fun b : EReal => oRow x1 i l * b) hc)) (congrArg (fun b : EReal => b * oRow x1 i l) hc)
end

/-! ## The window attention's half -/

section
variable (x0 : (⟨S8192x1024, .f32⟩ : BufTy).Contents (Elt Ideal)) (x2 : (⟨S8192x512, .f32⟩ : BufTy).Contents (Elt Ideal))
  (x4 : (⟨S1x512, .f32⟩ : BufTy).Contents (Elt Ideal)) (x5 : (⟨S1024x1024, .f32⟩ : BufTy).Contents (Elt Ideal))

theorem ms_s (i : Fin 8192) (z : Fin 1) : val_main_v21 (F := Ideal) x2 (ix2 i z) = msOf W (oRow x2 i) := by
  have h2 : idx_main_v17 (ix2 i z) = (ix1 i : S8192.Idx) := eq_ix1 _
  rw [val_main_v21_apply, val_main_v19_apply, val_main_v17_apply, h2, val_main_v18_apply, val_main_v20_apply, val_main_cst_4_apply,
    val_main_cst_5_apply, val_main_v16_apply]
  refine congrArg (fun s : EReal => Ideal.div s W + Ideal.ofBits .f32 0x358637BD#32) ?_
  refine (congrArg₂ (· + ·) Ideal.ofBits_zero_f32 (Finset.sum_congr rfl fun k _ => ?_)).trans (zero_add _)
  have ha : idx_main_v16 (ix1 i : S8192.Idx) k = ix2 i k := eq_ix2 _
  rw [ha, val_main_v15_apply]
  rfl

theorem r_s (i : Fin 8192) (z : Fin 1) : val_main_v22 (F := Ideal) x2 (ix2 i z) = rOf W (oRow x2 i) := by
  rw [val_main_v22_apply]
  exact congrArg Ideal.rsqrt (ms_s x2 i z)

theorem unit_s (i : Fin 8192) (l : Fin 512) : val_main_v27 (F := Ideal) x2 (ix2 i l) = oRow x2 i l * rOf W (oRow x2 i) := by
  have h : idx_main_v26 (ix2 i l) = ix2 i (0 : Fin 1) := eq_ix2 _
  rw [val_main_v27_apply, val_main_v26_apply, h]
  exact congrArg (fun r : EReal => oRow x2 i l * r) (r_s x2 i 0)

theorem part_s (i : Fin 8192) (l : Fin 512) : val_main_v34 (F := Ideal) x0 x5 (ix2 i l) = dRow x0 x5 i (highLane l) := by
  have h : idx_main_v34 (ix2 i l) = ix2 i (highLane l) := funext fun a => Fin.ext (by match a with | ⟨0, _⟩ => rfl | ⟨1, _⟩ => rfl)
  rw [val_main_v34_apply, h, d_ref]

theorem w_s (i : Fin 8192) (l : Fin 512) : val_main_v39 (F := Ideal) x0 x4 x5 (ix2 i l) = wRow (dRow x0 x5) highLane x4 i l := by
  have h : idx_main_v38 (ix2 i l) = ix2 (0 : Fin 1) l := eq_ix2 _
  rw [val_main_v39_apply, val_main_v38_apply, h]
  exact congrArg (fun d : EReal => d * x4 (ix2 0 l)) (part_s x0 x5 i l)

/-- The gradient of the gain: a sum over all rows. -/
theorem dg_s (z : Fin 1) (l : Fin 512) : val_main_v37 (F := Ideal) x0 x2 x5 (ix2 z l) = ∑ i : Fin 8192, gainTerm (dRow x0 x5) highLane x2 l i := by
  have h1 : idx_main_v37 (ix2 z l) = (ix1 l : S512.Idx) := by
    obtain rfl : z = 0 := Subsingleton.elim _ _
    refine funext fun a => Fin.ext ?_
    match a with
    | ⟨0, _⟩ => show 0 * 512 + l.val = l.val; omega
  rw [val_main_v37_apply, h1, val_main_v36_apply, val_main_cst_7_apply]
  refine (congrArg₂ (· + ·) Ideal.ofBits_zero_f32 (Finset.sum_congr rfl fun i _ => ?_)).trans (zero_add _)
  have ha : idx_main_v36 (ix1 l : S512.Idx) i = ix2 i l := eq_ix2 _
  rw [ha, val_main_v35_apply]
  exact (congrArg₂ (fun a b : EReal => a * b) (unit_s x2 i l) (part_s x0 x5 i l)).trans (mul_comm _ _)

theorem coef_s (i : Fin 8192) : val_main_v48 (F := Ideal) x0 x2 x4 x5 (ix1 i) = coef W (oRow x2 i) (wRow (dRow x0 x5) highLane x4 i) := by
  have h1 : idx_main_v48 (ix1 i : S8192.Idx) 0 = ix2 i (0 : Fin 1) := eq_ix2 _
  have h2 : idx_main_v42 (ix2 i (0 : Fin 1)) = (ix1 i : S8192.Idx) := by
    refine funext fun a => Fin.ext ?_
    match a with
    | ⟨0, _⟩ => show i.val * 1 + 0 = i.val; omega
  rw [val_main_v48_apply, Fin.sum_univ_one, h1, val_main_v47_apply, val_main_v45_apply, val_main_v42_apply, h2, val_main_v46_apply,
    val_main_cst_9_apply, val_main_cst_10_apply, val_main_v25_apply, val_main_v24_apply, val_main_cst_6_apply, val_main_v23_apply,
    val_main_v41_apply, val_main_cst_8_apply]
  refine (congrArg₂ (fun a b : EReal => a + b) Ideal.ofBits_zero_f32 ?_).trans (zero_add _)
  refine congrArg₂ (fun a b : EReal => Ideal.div (a * (Ideal.ofBits .f32 0xBF000000#32 * b)) W) ?_
    (congrArg₂ Ideal.div (r_s x2 i 0) (ms_s x2 i 0))
  refine (congrArg₂ (· + ·) Ideal.ofBits_zero_f32 (Finset.sum_congr rfl fun k _ => ?_)).trans (zero_add _)
  have ha : idx_main_v41 (ix1 i : S8192.Idx) k = ix2 i k := eq_ix2 _
  rw [ha, val_main_v40_apply]
  exact congrArg (fun d : EReal => oRow x2 i k * d) (w_s x0 x4 x5 i k)

/-- The gradient of the rows. -/
theorem do_s (i : Fin 8192) (l : Fin 512) : val_main_v53 (F := Ideal) x0 x2 x4 x5 (ix2 i l)
    = gradOf W (oRow x2 i) (wRow (dRow x0 x5) highLane x4 i) l := by
  have h1 : idx_main_v43 (ix2 i l) = ix2 i (0 : Fin 1) := eq_ix2 _
  have h2 : idx_main_v49 (ix2 i l) = (ix1 i : S8192.Idx) := eq_ix1 _
  rw [val_main_v53_apply, val_main_v51_apply, val_main_v52_apply, val_main_v44_apply, val_main_v50_apply, val_main_v43_apply, h1,
    val_main_v49_apply, h2]
  refine Eq.trans ?_ (grad_eq W _ _ (by decide) ofBits_W l)
  have hc := coef_s x0 x2 x4 x5 i
  exact congrArg₂ (fun a b : EReal => a + b) (congrArg₂ (fun a b : EReal => a + b)
    (congrArg₂ (fun a b : EReal => a * b) (w_s x0 x4 x5 i l) (r_s x2 i 0))
    (congrArg (fun b : EReal => oRow x2 i l * b) hc)) (congrArg (fun b : EReal => b * oRow x2 i l) hc)
end

end Cert.Proof.OutBwd

end
-- ==== Proof.OutBwdBlock.lean ====
/-
  The gradient through the output projection and the two normalisations: what a grid point computes from its block of 1024
  rows, row by row.
-/
module

public import proofs.«01_k».proof.Proof.OutBwdRef
public import proofs.«01_k».proof.Proof.Gen.OutBwdIdeal.Frame
public import Idealize.ShloMosaic.Lib.Pipeline.ValueKit.Acc
public import Idealize.ShloMosaic.Lib.Pipeline.ReadBack
public import Idealize.ShloMosaic.Lib.WholeRead
public import Idealize.ShloMosaic.Lib.MatmulPlain

@[expose] public section

set_option maxRecDepth 16384

noncomputable section

namespace Cert.Proof.OutBwd

open Cert.OutBwdIdeal Cert.OutBwdIdeal.Gen Idealize.ShloMosaic Idealize.ShloMosaic.ValueIdx
open Cert.Proof.NormRow
open scoped BigOperators

/-- One over the root mean squares of rows. -/
def invB (h : FVec Ideal S1024x512 .f32) : FVec Ideal S1024x1 .f32 := k0_pay2 (F := Ideal) h
/-- The normed rows. -/
def unitB (h : FVec Ideal S1024x512 .f32) : FVec Ideal S1024x512 .f32 := mulf h (broadcastTo S1024x512 (invB h) broadcasts_S1024x1_S1024x512)
/-- A gain times rows. -/
def scaleB (d : FVec Ideal S1024x512 .f32) (g : Vec Ideal S1x512 .f32) : FVec Ideal S1024x512 .f32 :=
  mulf d (broadcastTo S1024x512 g broadcasts_S1x512_S1024x512)
/-- The means of rows. -/
def meanB (y : FVec Ideal S1024x512 .f32) : FVec Ideal S1024x1 .f32 :=
  divf (shapeCast S1024x1 (multiReduction .add [1] S1024 y 0x00000000#32 reduces_S1024x512_S1024 (.inl rfl) rfl) shapeCasts_S1024_S1024x1)
    (broadcast S1024x1 (Scalar.ofBits .f32 0x44000000#32))
/-- The gradient of rows through their normalisation and gain. -/
def gradB (d h : FVec Ideal S1024x512 .f32) (g : Vec Ideal S1x512 .f32) : FVec Ideal S1024x512 .f32 :=
  mulf (broadcastTo S1024x512 (invB h) broadcasts_S1024x1_S1024x512)
    (subf (scaleB d g) (mulf (unitB h) (broadcastTo S1024x512 (meanB (mulf (scaleB d g) (unitB h))) broadcasts_S1024x1_S1024x512)))
/-- What a block adds to the gradient of a gain. -/
def gainB (d h : FVec Ideal S1024x512 .f32) : FVec Ideal S1x512 .f32 :=
  shapeCast S1x512 (multiReduction .add [0] S512 (mulf d (unitB h)) 0x00000000#32 reduces_S1024x512_S512 (.inl rfl) rfl) shapeCasts_S512_S1x512

section
variable (d h : FVec Ideal S1024x512 .f32) (g : Vec Ideal S1x512 .f32)

/-- A row of a block. -/
def rowOf (y : FVec Ideal S1024x512 .f32) (i : Fin 1024) : Fin 512 → EReal := fun l => y (ix2 i l)

theorem inv_at (i : Fin 1024) (z : Fin 1) : invB h (ix2 i z) = rOf W (rowOf h i) := by
  unfold invB k0_pay2
  exact congrArg (fun s : EReal => Ideal.rsqrt (Ideal.div s W + Ideal.ofBits .f32 0x358637BD#32)) (row_sum (mulf h h) _ _ _ _ i z)

theorem unit_at (i : Fin 1024) (l : Fin 512) : unitB h (ix2 i l) = rowOf h i l * rOf W (rowOf h i) := by
  unfold unitB
  exact congrArg (fun r : EReal => rowOf h i l * r) ((spread_at _ _ (by decide) i l).trans (inv_at h i 0))

theorem scale_at (i : Fin 1024) (l : Fin 512) : scaleB d g (ix2 i l) = rowOf d i l * g (ix2 0 l) := by
  unfold scaleB
  exact congrArg (fun r : EReal => rowOf d i l * r) (broadcastTo_1b_ab_apply g broadcasts_S1x512_S1024x512 i l)

theorem grad_at (i : Fin 1024) (l : Fin 512) : gradB d h g (ix2 i l) = gradOf W (rowOf h i) (fun l => rowOf d i l * g (ix2 0 l)) l := by
  unfold gradB
  refine congrArg₂ (fun a b : EReal => a * b) ((spread_at _ _ (by decide) i l).trans (inv_at h i 0)) ?_
  refine congrArg₂ (fun a b : EReal => a - b) (scale_at d g i l) ?_
  refine congrArg₂ (fun a b : EReal => a * b) (unit_at h i l) ?_
  refine (spread_at _ _ (by decide) i l).trans ?_
  unfold meanB
  refine congrArg (fun s : EReal => Ideal.div s W) ?_
  refine (row_sum _ _ _ _ _ i 0).trans ?_
  exact Finset.sum_congr rfl fun k _ => congrArg₂ (fun a b : EReal => a * b) (scale_at d g i k) (unit_at h i k)

theorem gain_at (z : Fin 1) (l : Fin 512) : gainB d h (ix2 z l) = ∑ i : Fin 1024, rowOf d i l * (rowOf h i l * rOf W (rowOf h i)) := by
  unfold gainB
  refine (col_sum _ _ _ _ _ z l).trans ?_
  exact Finset.sum_congr rfl fun i _ => congrArg (fun b : EReal => rowOf d i l * b) (unit_at h i l)
end

/-! ## The product with the weights and its halves -/

section
variable (a : Vec Ideal S1024x1024 .f32) (w : Vec Ideal S1024x1024 .bf16)

theorem product_at (i j : Fin 1024) : k0_pay1 (F := Ideal) a w (ix2 i j) = ∑ k : Fin 1024, (show EReal from a (ix2 i k)) * w (ix2 j k) := by
  unfold k0_pay1
  rw [shapeCast_self]
  refine (Ideal.matmul_transposedRhs_apply none _ _ _ i j).trans ?_
  exact (congrArg₂ (· + ·) Ideal.ofBits_zero_f32 rfl).trans (zero_add _)

theorem low_at (i : Fin 1024) (l : Fin 512) : k0_pay4 (F := Ideal) a w (ix2 i l) = k0_pay1 (F := Ideal) a w (ix2 i (lowLane l)) := by
  unfold k0_pay4
  exact slice2_axis1_apply 0 _ slices_S1024x1024_o0_0_S1024x512 i l (lowLane l) (Nat.zero_add _).symm

theorem high_at (y : FVec Ideal S1024x1024 .f32) (i : Fin 1024) (l : Fin 512) : k0_pay8 (F := Ideal) y (ix2 i l) = y (ix2 i (highLane l)) := by
  unfold k0_pay8
  exact slice2_axis1_apply 512 _ slices_S1024x1024_o0_512_S1024x512 i l (highLane l) rfl
end

/-! ## What a grid point leaves -/

section
variable (m : (ℓ : Loc nD τ sig) → Buf (Elt Ideal) ℓ) (c : Dev nD) (t : Fin cfg0.N)

/-- The halves of the block's gradient. -/
def lowB : FVec Ideal S1024x512 .f32 := k0_pay4 (F := Ideal) (iblk m c 0 t) (iblk m c 5 t)
def highB : FVec Ideal S1024x512 .f32 := k0_pay8 (F := Ideal) (k0_pay1 (F := Ideal) (iblk m c 0 t) (iblk m c 5 t))

theorem low_out : (outsAt0 m c t.val t.isLt).1 = gradB (lowB m c t) (iblk m c 1 t) (iblk m c 3 t) := by
  by_cases h : t.val % 8 = 0
  · rw [outsAt0_A m c t h]
    frame_out
    rfl
  · rw [outsAt0_B m c t h]
    frame_out
    rfl

theorem high_out : (outsAt0 m c t.val t.isLt).2.1 = gradB (highB m c t) (iblk m c 2 t) (iblk m c 4 t) := by
  by_cases h : t.val % 8 = 0
  · rw [outsAt0_A m c t h]
    frame_out
    rfl
  · rw [outsAt0_B m c t h]
    frame_out
    rfl

/-- The first point starts the two sums … -/
theorem lowGain_first (h : t.val % 8 = 0) (l : Fin 512) : (outsAt0 m c t.val t.isLt).2.2.1 (ix2 0 l)
    = (0 : EReal) + gainB (lowB m c t) (iblk m c 1 t) (ix2 0 l) := by
  have e : (outsAt0 m c t.val t.isLt).2.2.1 = addf (F := Ideal) (φ := .f32) (shapeCast S1x512 (k0_pay11 (F := Ideal)) shapeCasts_S1x512_S1x512)
      (gainB (lowB m c t) (iblk m c 1 t)) := by
    rw [outsAt0_A m c t h]
    frame_out
    rfl
  rw [e, shapeCast_self]
  exact congrArg (fun a : EReal => a + _) Ideal.ofBits_zero_f32
theorem highGain_first (h : t.val % 8 = 0) (l : Fin 512) : (outsAt0 m c t.val t.isLt).2.2.2 (ix2 0 l)
    = (0 : EReal) + gainB (highB m c t) (iblk m c 2 t) (ix2 0 l) := by
  have e : (outsAt0 m c t.val t.isLt).2.2.2 = addf (F := Ideal) (φ := .f32) (shapeCast S1x512 (k0_pay12 (F := Ideal)) shapeCasts_S1x512_S1x512)
      (gainB (highB m c t) (iblk m c 2 t)) := by
    rw [outsAt0_A m c t h]
    frame_out
    rfl
  rw [e, shapeCast_self]
  exact congrArg (fun a : EReal => a + _) Ideal.ofBits_zero_f32
/-- … and the later ones add to them. -/
theorem lowGain_next (h : ¬t.val % 8 = 0) (l : Fin 512) : (outsAt0 m c t.val t.isLt).2.2.1 (ix2 0 l)
    = (show EReal from (outsAt0 m c (t.val - 1) (by omega)).2.2.1 (ix2 0 l)) + gainB (lowB m c t) (iblk m c 1 t) (ix2 0 l) := by
  have e : (outsAt0 m c t.val t.isLt).2.2.1 = addf (F := Ideal) (φ := .f32)
      (shapeCast S1x512 (outsAt0 m c (t.val - 1) (by omega)).2.2.1 shapeCasts_S1x512_S1x512) (gainB (lowB m c t) (iblk m c 1 t)) := by
    rw [outsAt0_B m c t h]
    frame_out
    rfl
  rw [e, shapeCast_self]
  rfl
theorem highGain_next (h : ¬t.val % 8 = 0) (l : Fin 512) : (outsAt0 m c t.val t.isLt).2.2.2 (ix2 0 l)
    = (show EReal from (outsAt0 m c (t.val - 1) (by omega)).2.2.2 (ix2 0 l)) + gainB (highB m c t) (iblk m c 2 t) (ix2 0 l) := by
  have e : (outsAt0 m c t.val t.isLt).2.2.2 = addf (F := Ideal) (φ := .f32)
      (shapeCast S1x512 (outsAt0 m c (t.val - 1) (by omega)).2.2.2 shapeCasts_S1x512_S1x512) (gainB (highB m c t) (iblk m c 2 t)) := by
    rw [outsAt0_B m c t h]
    frame_out
    rfl
  rw [e, shapeCast_self]
  rfl
end

end Cert.Proof.OutBwd

end
-- ==== Proof.BlockSum.lean ====
/-
  A sum over all rows taken block by block, one block after another.
-/
module

public import proofs.«01_k».proof.Proof.FfnReal

@[expose] public section

noncomputable section

namespace Cert.Proof.BlockSum

open scoped BigOperators

variable {B R N : ℕ} (hN : B * R = N)

/-- Row `i` of block `b`. -/
def pos (b : Fin B) (i : Fin R) : Fin N := ⟨b.val * R + i.val, by
  have h1 := b.isLt
  have h2 := i.isLt
  have h3 : (b.val + 1) * R ≤ B * R := Nat.mul_le_mul_right R h1
  rw [Nat.add_mul, one_mul] at h3
  omega⟩

/-- The sum over the first `k` blocks. -/
def upTo (g : Fin N → EReal) (k : ℕ) : EReal := ∑ b ∈ Finset.univ.filter (fun b : Fin B => b.val < k), ∑ i, g (pos hN b i)

theorem upTo_zero (g : Fin N → EReal) : upTo hN g 0 = 0 := by
  unfold upTo
  rw [Finset.filter_false_of_mem (fun b _ => Nat.not_lt_zero _), Finset.sum_empty]

theorem upTo_succ (g : Fin N → EReal) (b : Fin B) : upTo hN g (b.val + 1) = upTo hN g b.val + ∑ i, g (pos hN b i) := by
  unfold upTo
  have h : Finset.univ.filter (fun a : Fin B => a.val < b.val + 1) = insert b (Finset.univ.filter fun a : Fin B => a.val < b.val) := by
    ext a
    simp only [Finset.mem_filter, Finset.mem_univ, true_and, Finset.mem_insert, Fin.ext_iff]
    omega
  rw [h, Finset.sum_insert (by simp), add_comm]

theorem upTo_all (g : Fin N → EReal) : upTo hN g B = ∑ i, g i := by
  subst hN
  unfold upTo
  rw [Finset.filter_true_of_mem fun b _ => b.isLt, ← Fintype.sum_prod_type', ← Equiv.sum_comp (finProdFinEquiv (m := B) (n := R)) g]
  refine Finset.sum_congr rfl fun p _ => congrArg g (Fin.ext ?_)
  show p.1.val * R + p.2.val = p.2.val + R * p.1.val
  rw [mul_comm, add_comm]

/-- A running sum: it starts at zero, and each block adds its rows. -/
theorem run_eq (g : Fin N → EReal) (s : ℕ → EReal) (h0 : ∀ h : 0 < B, s 0 = 0 + ∑ i, g (pos hN ⟨0, h⟩ i))
    (hs : ∀ k (h : k + 1 < B), s (k + 1) = s k + ∑ i, g (pos hN ⟨k + 1, h⟩ i)) : ∀ k, k < B → s k = upTo hN g (k + 1) := by
  intro k
  induction k with
  | zero =>
    intro h
    rw [h0 h]
    exact (congrArg (fun a : EReal => a + _) (upTo_zero hN g).symm).trans (upTo_succ hN g ⟨0, h⟩).symm
  | succ k ih =>
    intro h
    rw [hs k h, ih (Nat.lt_of_succ_lt h)]
    exact (upTo_succ hN g ⟨k + 1, h⟩).symm

end Cert.Proof.BlockSum

end
-- ==== Proof.OutBwdArrays.lean ====
/-
  The gradient through the output projection and the two normalisations: what the four output arrays hold after the run, the
  reference's four results.

  Grid point `t` handles the 1024 rows of block `t`.
-/
module

public import proofs.«01_k».proof.Proof.OutBwdBlock
public import proofs.«01_k».proof.Proof.BlockSum
public import Idealize.ShloMosaic.Lib.Pipeline.Value
public import Idealize.ShloMosaic.Lib.Pipeline.ValueKit.Point

@[expose] public section

set_option maxRecDepth 16384

noncomputable section

namespace Cert.Proof.OutBwd

open Cert.OutBwdIdeal Cert.OutBwdIdeal.Gen Idealize.ShloMosaic.TcCoe Idealize.ShloMosaic.ValueIdx
open Idealize.ShloMosaic hiding ix1 ix2 eq_ix2
open Cert.OutBwdRefIdeal.Read (val_main_v37 val_main_v53 val_main_v56 val_main_v72)
open Cert.Proof.NormRow
open scoped BigOperators

/-- Eight blocks of 1024 rows. -/
theorem rows_eq : 8 * 1024 = 8192 := by decide
/-- The block of rows of a grid point. -/
def bp (t : Fin cfg0.N) : Fin 8 := ⟨t.val, by have := t.isLt; have h : cfg0.N = 8 := N_0; omega⟩
/-- Row `i` of a grid point's block. -/
abbrev row (t : Fin cfg0.N) (i : Fin 1024) : Fin 8192 := BlockSum.pos rows_eq (bp t) i

theorem ix0_0 : ∀ t : Fin cfg0.N, win0_0.index t = ![t.val, 0] := (by decide +kernel : ∀ t : Fin grid0.N, win0_0.index t = ![t.val, 0])
theorem ix0_1 : ∀ t : Fin cfg0.N, win0_1.index t = ![t.val, 0] := (by decide +kernel : ∀ t : Fin grid0.N, win0_1.index t = ![t.val, 0])
theorem ix0_2 : ∀ t : Fin cfg0.N, win0_2.index t = ![t.val, 0] := (by decide +kernel : ∀ t : Fin grid0.N, win0_2.index t = ![t.val, 0])
theorem ix0_3 : ∀ t : Fin cfg0.N, win0_3.index t = ![0, 0] := (by decide +kernel : ∀ t : Fin grid0.N, win0_3.index t = ![0, 0])
theorem ix0_4 : ∀ t : Fin cfg0.N, win0_4.index t = ![0, 0] := (by decide +kernel : ∀ t : Fin grid0.N, win0_4.index t = ![0, 0])
theorem ix0_5 : ∀ t : Fin cfg0.N, win0_5.index t = ![0, 0] := (by decide +kernel : ∀ t : Fin grid0.N, win0_5.index t = ![0, 0])
theorem ix0_6 : ∀ t : Fin cfg0.N, win0_6.index t = ![t.val, 0] := (by decide +kernel : ∀ t : Fin grid0.N, win0_6.index t = ![t.val, 0])
theorem ix0_7 : ∀ t : Fin cfg0.N, win0_7.index t = ![t.val, 0] := (by decide +kernel : ∀ t : Fin grid0.N, win0_7.index t = ![t.val, 0])
theorem ix0_8 : ∀ t : Fin cfg0.N, win0_8.index t = ![0, 0] := (by decide +kernel : ∀ t : Fin grid0.N, win0_8.index t = ![0, 0])
theorem ix0_9 : ∀ t : Fin cfg0.N, win0_9.index t = ![0, 0] := (by decide +kernel : ∀ t : Fin grid0.N, win0_9.index t = ![0, 0])

variable (m : (ℓ : Loc nD τ sig) → Buf (Elt Ideal) ℓ) (c : Dev nD)

/-- The six arguments. -/
abbrev a0 : (⟨S8192x1024, .f32⟩ : BufTy).Contents (Elt Ideal) := m ((c.tc : Thread nD τ).loc main_arg0)
abbrev a1 : (⟨S8192x512, .f32⟩ : BufTy).Contents (Elt Ideal) := m ((c.tc : Thread nD τ).loc main_arg1)
abbrev a2 : (⟨S8192x512, .f32⟩ : BufTy).Contents (Elt Ideal) := m ((c.tc : Thread nD τ).loc main_arg2)
abbrev a3 : (⟨S1x512, .f32⟩ : BufTy).Contents (Elt Ideal) := m ((c.tc : Thread nD τ).loc main_arg3)
abbrev a4 : (⟨S1x512, .f32⟩ : BufTy).Contents (Elt Ideal) := m ((c.tc : Thread nD τ).loc main_arg4)
abbrev a5 : (⟨S1024x1024, .f32⟩ : BufTy).Contents (Elt Ideal) := m ((c.tc : Thread nD τ).loc main_arg5)

/-- The host rounds the weights first. -/
theorem V_w : V m c main_v0 = (truncf .bf16 (a5 m c : FVec Ideal S1024x1024 .f32) bitsLt_bf16_f32 : FVec Ideal S1024x1024 .bf16) := by
  unfold V
  simp only [List.flatten_cons, List.flatten_nil, List.append_nil, hostOps0]
  entry_read
  rfl

section
variable (t : Fin cfg0.N)

theorem d_blk (i : Fin 1024) (l : Fin 1024) : iblk m c 0 t (ix2 i l) = a0 m c (ix2 (row t i) l) := by
  blk_ext [iblk, V_main_arg0, ix0_0 t, row, BlockSum.pos, bp]
theorem m_blk (i : Fin 1024) (l : Fin 512) : iblk m c 1 t (ix2 i l) = a1 m c (ix2 (row t i) l) := by
  blk_ext [iblk, V_main_arg1, ix0_1 t, row, BlockSum.pos, bp]
theorem s_blk (i : Fin 1024) (l : Fin 512) : iblk m c 2 t (ix2 i l) = a2 m c (ix2 (row t i) l) := by
  blk_ext [iblk, V_main_arg2, ix0_2 t, row, BlockSum.pos, bp]
theorem gm_blk (l : Fin 512) : iblk m c 3 t (ix2 0 l) = a3 m c (ix2 0 l) := by
  blk_ext [iblk, V_main_arg3, ix0_3 t]
theorem gs_blk (l : Fin 512) : iblk m c 4 t (ix2 0 l) = a4 m c (ix2 0 l) := by
  blk_ext [iblk, V_main_arg4, ix0_4 t]
theorem iblk5_at (j l : Fin 1024) : iblk m c 5 t (ix2 j l) = V m c main_v0 (ix2 j l) := by
  generalize hV : V m c main_v0 = G
  have h : iblk m c 5 t = ((cfg0.win 5).blk t).view.read (Elt Ideal) G := by rw [← hV]; rfl
  rw [h]
  blk_ext [ix0_5 t]
theorem w_blk (j l : Fin 1024) : iblk m c 5 t (ix2 j l) = a5 m c (ix2 j l) := (iblk5_at m c t j l).trans (congrFun (V_w m c) _)

/-! ## The block's expressions -/

/-- The gradient of the rows of the normed outputs. -/
abbrev dR : Fin 8192 → Fin 1024 → EReal := dRow (a0 m c) (a5 m c)

theorem product_row (i j : Fin 1024) : k0_pay1 (F := Ideal) (iblk m c 0 t) (iblk m c 5 t) (ix2 i j) = dR m c (row t i) j := by
  refine (product_at (iblk m c 0 t) (iblk m c 5 t) i j).trans (Finset.sum_congr rfl fun k _ => ?_)
  exact congrArg₂ (fun a b : EReal => a * b) (d_blk m c t i k) (w_blk m c t j k)

theorem low_row (i : Fin 1024) (l : Fin 512) : rowOf (lowB m c t) i l = dR m c (row t i) (lowLane l) :=
  (low_at (iblk m c 0 t) (iblk m c 5 t) i l).trans (product_row m c t i (lowLane l))
theorem high_row (i : Fin 1024) (l : Fin 512) : rowOf (highB m c t) i l = dR m c (row t i) (highLane l) :=
  (high_at _ i l).trans (product_row m c t i (highLane l))
theorem m_row (i : Fin 1024) : rowOf (iblk m c 1 t) i = oRow (a1 m c) (row t i) := funext fun l => m_blk m c t i l
theorem s_row (i : Fin 1024) : rowOf (iblk m c 2 t) i = oRow (a2 m c) (row t i) := funext fun l => s_blk m c t i l

theorem low_grad (i : Fin 1024) (l : Fin 512) : gradB (lowB m c t) (iblk m c 1 t) (iblk m c 3 t) (ix2 i l)
    = val_main_v72 (F := Ideal) (a0 m c) (a1 m c) (a3 m c) (a5 m c) (ix2 (row t i) l) := by
  have hw : (fun l => rowOf (lowB m c t) i l * iblk m c 3 t (ix2 0 l)) = wRow (dR m c) lowLane (a3 m c) (row t i) :=
    funext fun l => congrArg₂ (fun a b : EReal => a * b) (low_row m c t i l) (gm_blk m c t l)
  refine (grad_at _ _ _ i l).trans (Eq.trans ?_ (do_m _ _ _ _ _ l).symm)
  rw [m_row, hw]
theorem high_grad (i : Fin 1024) (l : Fin 512) : gradB (highB m c t) (iblk m c 2 t) (iblk m c 4 t) (ix2 i l)
    = val_main_v53 (F := Ideal) (a0 m c) (a2 m c) (a4 m c) (a5 m c) (ix2 (row t i) l) := by
  have hw : (fun l => rowOf (highB m c t) i l * iblk m c 4 t (ix2 0 l)) = wRow (dR m c) highLane (a4 m c) (row t i) :=
    funext fun l => congrArg₂ (fun a b : EReal => a * b) (high_row m c t i l) (gs_blk m c t l)
  refine (grad_at _ _ _ i l).trans (Eq.trans ?_ (do_s _ _ _ _ _ l).symm)
  rw [s_row, hw]

theorem low_gain (l : Fin 512) : gainB (lowB m c t) (iblk m c 1 t) (ix2 0 l) = ∑ i : Fin 1024, gainTerm (dR m c) lowLane (a1 m c) l (row t i) := by
  refine (gain_at _ _ 0 l).trans (Finset.sum_congr rfl fun i _ => ?_)
  rw [m_row, low_row]
  rfl
theorem high_gain (l : Fin 512) : gainB (highB m c t) (iblk m c 2 t) (ix2 0 l) = ∑ i : Fin 1024, gainTerm (dR m c) highLane (a2 m c) l (row t i) := by
  refine (gain_at _ _ 0 l).trans (Finset.sum_congr rfl fun i _ => ?_)
  rw [s_row, high_row]
  rfl
end

/-! ## The two running sums -/

theorem low_run (l : Fin 512) (t : Fin cfg0.N) : (outsAt0 m c t.val t.isLt).2.2.1 (ix2 0 l)
    = BlockSum.upTo rows_eq (gainTerm (dR m c) lowLane (a1 m c) l) (t.val + 1) := by
  have hN : cfg0.N = 8 := N_0
  let s : ℕ → EReal := fun k => if h : k < cfg0.N then (outsAt0 m c k h).2.2.1 (ix2 0 l) else 0
  have hs : ∀ k (h : k < cfg0.N), s k = (outsAt0 m c k h).2.2.1 (ix2 0 l) := fun k h => dif_pos h
  rw [← hs t.val t.isLt]
  refine BlockSum.run_eq rows_eq _ s (fun h => ?_) (fun k h => ?_) t.val (bp t).isLt
  · have h0 : 0 < cfg0.N := hN.symm ▸ h
    exact (hs 0 h0).trans ((lowGain_first m c ⟨0, h0⟩ rfl l).trans (congrArg (fun a : EReal => 0 + a) (low_gain m c ⟨0, h0⟩ l)))
  · have h0 : k + 1 < cfg0.N := hN.symm ▸ h
    rw [hs (k + 1) h0, hs k (Nat.lt_of_succ_lt h0)]
    exact (lowGain_next m c ⟨k + 1, h0⟩ (by show ¬(k + 1) % 8 = 0; omega) l).trans
      (congrArg (fun a : EReal => _ + a) (low_gain m c ⟨k + 1, h0⟩ l))

theorem high_run (l : Fin 512) (t : Fin cfg0.N) : (outsAt0 m c t.val t.isLt).2.2.2 (ix2 0 l)
    = BlockSum.upTo rows_eq (gainTerm (dR m c) highLane (a2 m c) l) (t.val + 1) := by
  have hN : cfg0.N = 8 := N_0
  let s : ℕ → EReal := fun k => if h : k < cfg0.N then (outsAt0 m c k h).2.2.2 (ix2 0 l) else 0
  have hs : ∀ k (h : k < cfg0.N), s k = (outsAt0 m c k h).2.2.2 (ix2 0 l) := fun k h => dif_pos h
  rw [← hs t.val t.isLt]
  refine BlockSum.run_eq rows_eq _ s (fun h => ?_) (fun k h => ?_) t.val (bp t).isLt
  · have h0 : 0 < cfg0.N := hN.symm ▸ h
    exact (hs 0 h0).trans ((highGain_first m c ⟨0, h0⟩ rfl l).trans (congrArg (fun a : EReal => 0 + a) (high_gain m c ⟨0, h0⟩ l)))
  · have h0 : k + 1 < cfg0.N := hN.symm ▸ h
    rw [hs (k + 1) h0, hs k (Nat.lt_of_succ_lt h0)]
    exact (highGain_next m c ⟨k + 1, h0⟩ (by show ¬(k + 1) % 8 = 0; omega) l).trans
      (congrArg (fun a : EReal => _ + a) (high_gain m c ⟨k + 1, h0⟩ l))

/-! ## The output arrays -/

/-- The gradient of the latent attention's output. -/
theorem arr6 : (dats m 0 c).arrAt 6 cfg0.N = val_main_v72 (F := Ideal) (a0 m c) (a1 m c) (a3 m c) (a5 m c) := by
  have at_ := low_grad m c
  generalize val_main_v72 (F := Ideal) (a0 m c) (a1 m c) (a3 m c) (a5 m c) = G at at_ ⊢
  refine (dats m 0 c).arrAt_eq_of_covers 6 G (by decide +kernel) fun t hf y => ?_
  blk_simp
  rw [after0_6]
  obtain ⟨i, l, rfl⟩ : ∃ (i : Fin 1024) (l : Fin 512), y = ix2 i l := ⟨y 0, y 1, eq_ix2 y⟩
  refine (congrFun (low_out m c t) _).trans ((at_ t i l).trans ?_)
  blk_ext [ix0_6 t, row, BlockSum.pos, bp]

/-- The gradient of the window attention's output. -/
theorem arr7 : (dats m 0 c).arrAt 7 cfg0.N = val_main_v53 (F := Ideal) (a0 m c) (a2 m c) (a4 m c) (a5 m c) := by
  have at_ := high_grad m c
  generalize val_main_v53 (F := Ideal) (a0 m c) (a2 m c) (a4 m c) (a5 m c) = G at at_ ⊢
  refine (dats m 0 c).arrAt_eq_of_covers 7 G (by decide +kernel) fun t hf y => ?_
  blk_simp
  rw [after0_7]
  obtain ⟨i, l, rfl⟩ : ∃ (i : Fin 1024) (l : Fin 512), y = ix2 i l := ⟨y 0, y 1, eq_ix2 y⟩
  refine (congrFun (high_out m c t) _).trans ((at_ t i l).trans ?_)
  blk_ext [ix0_7 t, row, BlockSum.pos, bp]

/-- The last point's block of a running sum. -/
theorem last {t : Fin cfg0.N} (h : t.val % 8 = 7) : t.val = 7 := by
  have := t.isLt
  have : cfg0.N = 8 := N_0
  omega

/-- The gradient of the latent attention's gain. -/
theorem arr8 : (dats m 0 c).arrAt 8 cfg0.N = val_main_v56 (F := Ideal) (a0 m c) (a1 m c) (a5 m c) := by
  have at_ := dg_m (a0 m c) (a1 m c) (a5 m c)
  generalize val_main_v56 (F := Ideal) (a0 m c) (a1 m c) (a5 m c) = G at at_ ⊢
  refine (dats m 0 c).arrAt_eq_of_covers 8 G (by decide +kernel) fun t hf y => ?_
  blk_simp
  rw [after0_8]
  obtain ⟨i, l, rfl⟩ : ∃ (i : Fin 1) (l : Fin 512), y = ix2 i l := ⟨y 0, y 1, eq_ix2 y⟩
  obtain rfl : i = 0 := Subsingleton.elim _ _
  refine (low_run m c l t).trans ?_
  rw [last ((flush0_8 t).mp hf), BlockSum.upTo_all]
  refine (at_ 0 l).symm.trans ?_
  blk_ext [ix0_8 t]

/-- The gradient of the window attention's gain. -/
theorem arr9 : (dats m 0 c).arrAt 9 cfg0.N = val_main_v37 (F := Ideal) (a0 m c) (a2 m c) (a5 m c) := by
  have at_ := dg_s (a0 m c) (a2 m c) (a5 m c)
  generalize val_main_v37 (F := Ideal) (a0 m c) (a2 m c) (a5 m c) = G at at_ ⊢
  refine (dats m 0 c).arrAt_eq_of_covers 9 G (by decide +kernel) fun t hf y => ?_
  blk_simp
  rw [after0_9]
  obtain ⟨i, l, rfl⟩ : ∃ (i : Fin 1) (l : Fin 512), y = ix2 i l := ⟨y 0, y 1, eq_ix2 y⟩
  obtain rfl : i = 0 := Subsingleton.elim _ _
  refine (high_run m c l t).trans ?_
  rw [last ((flush0_9 t).mp hf), BlockSum.upTo_all]
  refine (at_ 0 l).symm.trans ?_
  blk_ext [ix0_9 t]

end Cert.Proof.OutBwd

end
-- ==== Proof.OutBwdClaims.lean ====
/-
  The claims about the gradient through the output projection and the two normalisations: the frames, and the kernel's four
  results being the reference's.
-/
module

public import proofs.«01_k».proof.Defs
public import proofs.«01_k».proof.Proof.Gen.OutBwd.Frame
public import proofs.«01_k».proof.Proof.Gen.OutBwdIdeal.Frame
public import proofs.«01_k».proof.Proof.Gen.OutBwdIdeal.Value
public import proofs.«01_k».proof.Proof.Gen.OutBwdRefIdeal.Run
public import proofs.«01_k».proof.Proof.OutBwdArrays
public import Idealize.ShloMosaic.Lib.Quiescent

@[expose] public section

set_option maxRecDepth 16384

noncomputable section

namespace Cert.Proof.OutBwd

open Idealize.ShloMosaic Idealize.ShloMosaic.TcCoe Idealize.SL.Sem
open Cert.OutBwdRefIdeal.Read (val_main_v37 val_main_v53 val_main_v56 val_main_v72 val_main_v37_eq val_main_v53_eq val_main_v56_eq val_main_v72_eq)

theorem frame_p : Cert.quiescent_OutBwd := fun m ρ _ => Cert.OutBwd.Gen.frame m ρ

theorem frame_pi : Cert.quiescent_OutBwdIdeal := fun m ρ _ => Cert.OutBwdIdeal.Gen.frame m ρ

/-- The reference has no semaphores, so its run alone gives the frame. -/
theorem frame_ri : Cert.quiescent_OutBwdRefIdeal := fun m ρ _ =>
  (θ_run Cert.OutBwdRefIdeal.defs _ _).mono
    (fun r h => ⟨fun c => (h c).2.2.2.2, sem_eq_zero_of_no_sems (by decide) r.2⟩)
    (Cert.OutBwdRefIdeal.Value.run (F := Ideal) m ρ)

theorem algebraic : Cert.algebraic_OutBwdIdeal_OutBwdRefIdeal := by
  intro m g m' g' _ hargs
  refine ⟨fun c => val_main_v72 (F := Ideal) (a0 m c) (a1 m c) (a3 m c) (a5 m c),
    fun c => val_main_v53 (F := Ideal) (a0 m c) (a2 m c) (a4 m c) (a5 m c),
    fun c => val_main_v56 (F := Ideal) (a0 m c) (a1 m c) (a5 m c), fun c => val_main_v37 (F := Ideal) (a0 m c) (a2 m c) (a5 m c), ?_, ?_⟩
  · refine (θ_run Cert.OutBwdIdeal.defs _ _).mono (fun r h c => ?_) (Cert.OutBwdIdeal.Value.run_blocks (F := Ideal) m g)
    obtain ⟨e6, e7, e8, e9, ha⟩ := h c
    exact ⟨e6.trans (arr6 m c), e7.trans (arr7 m c), e8.trans (arr8 m c), e9.trans (arr9 m c), ha⟩
  · refine (θ_run Cert.OutBwdRefIdeal.defs _ _).mono (fun r h c => ?_) (Cert.OutBwdRefIdeal.Value.run (F := Ideal) m' g')
    obtain ⟨e0, e1, e2, e3, ha⟩ := h c
    obtain ⟨g0, g1, g2, g3, g4, g5⟩ := hargs c
    refine ⟨e0.trans ((val_main_v72_eq _ _).trans ?_), e1.trans ((val_main_v53_eq _ _).trans ?_),
      e2.trans ((val_main_v56_eq _ _ _).trans ?_), e3.trans ((val_main_v37_eq _ _ _).trans ?_), ha⟩
    · rw [g0, g1, g3, g5]
    · rw [g0, g2, g4, g5]
    · rw [g0, g1, g5]
    · rw [g0, g2, g5]

end Cert.Proof.OutBwd

end
-- ==== Proof.OutFwdRows.lean ====
/-
  The two normalisations and the output projection: what the reference's arrays hold and what a grid point computes from its
  block of 1024 rows, row by row.
-/
module

public import proofs.«01_k».proof.Proof.NormRow
public import proofs.«01_k».proof.Proof.Gen.OutFwdRefIdeal.Read
public import proofs.«01_k».proof.Proof.Gen.OutFwdIdeal.Frame
public import Idealize.ShloMosaic.Lib.ValueIdx
public import Idealize.ShloMosaic.Lib.MatmulPlain
public import Idealize.ShloMosaic.Lib.Pipeline.Value
public import Idealize.ShloMosaic.Lib.Pipeline.ValueKit.Acc
public import Idealize.ShloMosaic.Lib.Pipeline.ReadBack
public import Idealize.ShloMosaic.Lib.WholeRead

@[expose] public section

set_option maxRecDepth 16384

noncomputable section

namespace Cert.Proof.OutFwd

open Idealize.ShloMosaic Idealize.ShloMosaic.ValueIdx
open Cert.Proof.NormRow
open scoped BigOperators

/-- The width of an attention's output. -/
abbrev W : EReal := Ideal.ofBits .f32 0x44000000#32

/-- A lane of the first of two arrays side by side, … -/
def lowLane (l : Fin 512) : Fin 1024 := ⟨l.val, by omega⟩
/-- … and one of the second. -/
def highLane (l : Fin 512) : Fin 1024 := ⟨512 + l.val, by omega⟩

theorem lane_cases (j : Fin 1024) : (∃ l, j = lowLane l) ∨ ∃ l, j = highLane l := by
  by_cases h : j.val < 512
  · exact .inl ⟨⟨j.val, h⟩, rfl⟩
  · exact .inr ⟨⟨j.val - 512, by omega⟩, Fin.ext (by show j.val = 512 + (j.val - 512); omega)⟩

/-! ## Two arrays side by side -/

section
variable {R : ℕ} {α : Type} (x₁ x₂ : (⟨2, ![R, 512]⟩ : Shape).Idx → α)

theorem side_low (h : Shape.Concatenates [⟨2, ![R, 512]⟩, ⟨2, ![R, 512]⟩] ⟨2, ![R, 1024]⟩ 1) (i : Fin R) (l : Fin 512) :
    concatenate ⟨2, ![R, 1024]⟩ 1 [⟨⟨2, ![R, 512]⟩, x₁⟩, ⟨⟨2, ![R, 512]⟩, x₂⟩] h (ix2 i (lowLane l)) = x₁ (ix2 i l) :=
  concatenate_pair_apply_left 1 x₁ x₂ h _ rfl (ix2 i l) fun b => by
    match b with
    | ⟨0, _⟩ => rfl
    | ⟨1, _⟩ => rfl

theorem side_high (h : Shape.Concatenates [⟨2, ![R, 512]⟩, ⟨2, ![R, 512]⟩] ⟨2, ![R, 1024]⟩ 1) (i : Fin R) (l : Fin 512) :
    concatenate ⟨2, ![R, 1024]⟩ 1 [⟨⟨2, ![R, 512]⟩, x₁⟩, ⟨⟨2, ![R, 512]⟩, x₂⟩] h (ix2 i (highLane l)) = x₂ (ix2 i l) :=
  concatenate_pair_apply_right 1 x₁ x₂ h _ rfl rfl (ix2 i l) (fun b hb => by
    match b, hb with
    | ⟨0, _⟩, _ => rfl
    | ⟨1, _⟩, hb => exact absurd rfl hb) (by show l.val + 512 = 512 + l.val; omega)
end

/-- A row divided by the root of its mean square, times the gain. -/
def normOf (h g : Fin 512 → EReal) (l : Fin 512) : EReal := h l * rOf W h * g l

/-! ## The reference -/

section
open Cert.OutFwdRefIdeal Cert.OutFwdRefIdeal.Gen Cert.OutFwdRefIdeal.Read
variable (x0 x1 : (⟨S8192x512, .f32⟩ : BufTy).Contents (Elt Ideal)) (x2 x3 : (⟨S1x512, .f32⟩ : BufTy).Contents (Elt Ideal))
  (x4 : (⟨S1024x1024, .f32⟩ : BufTy).Contents (Elt Ideal)) (x5 : (⟨S8192x1024, .f32⟩ : BufTy).Contents (Elt Ideal))

/-- A row of an attention's output, and a gain. -/
def oRow (x : (⟨2, ![8192, 512]⟩ : Shape).Idx → EReal) (i : Fin 8192) : Fin 512 → EReal := fun l => x (ix2 i l)
def gRow (x : (⟨2, ![1, 512]⟩ : Shape).Idx → EReal) : Fin 512 → EReal := fun l => x (ix2 0 l)

theorem r_m (i : Fin 8192) (z : Fin 1) : val_main_v7 (F := Ideal) x0 (ix2 i z) = rOf W (oRow x0 i) := by
  have h2 : idx_main_v2 (ix2 i z) = (ix1 i : S8192.Idx) := eq_ix1 _
  rw [val_main_v7_apply, val_main_v6_apply, val_main_v4_apply, val_main_v2_apply, h2, val_main_v3_apply, val_main_v5_apply,
    val_main_cst_0_apply, val_main_cst_1_apply, val_main_v1_apply]
  refine congrArg (fun s : EReal => Ideal.rsqrt (Ideal.div s W + Ideal.ofBits .f32 0x358637BD#32)) ?_
  refine (congrArg₂ (· + ·) Ideal.ofBits_zero_f32 (Finset.sum_congr rfl fun k _ => ?_)).trans (zero_add _)
  have ha : idx_main_v1 (ix1 i : S8192.Idx) k = ix2 i k := eq_ix2 _
  rw [ha, val_main_v0_apply]
  rfl

theorem norm_m (i : Fin 8192) (l : Fin 512) : val_main_v11 (F := Ideal) x0 x2 (ix2 i l) = normOf (oRow x0 i) (gRow x2) l := by
  have h1 : idx_main_v8 (ix2 i l) = ix2 i (0 : Fin 1) := eq_ix2 _
  have h2 : idx_main_v10 (ix2 i l) = ix2 (0 : Fin 1) l := eq_ix2 _
  rw [val_main_v11_apply, val_main_v9_apply, val_main_v8_apply, h1, val_main_v10_apply, h2]
  exact congrArg (fun r : EReal => oRow x0 i l * r * gRow x2 l) (r_m x0 i 0)

theorem r_s (i : Fin 8192) (z : Fin 1) : val_main_v19 (F := Ideal) x1 (ix2 i z) = rOf W (oRow x1 i) := by
  have h2 : idx_main_v14 (ix2 i z) = (ix1 i : S8192.Idx) := eq_ix1 _
  rw [val_main_v19_apply, val_main_v18_apply, val_main_v16_apply, val_main_v14_apply, h2, val_main_v15_apply, val_main_v17_apply,
    val_main_cst_3_apply, val_main_cst_4_apply, val_main_v13_apply]
  refine congrArg (fun s : EReal => Ideal.rsqrt (Ideal.div s W + Ideal.ofBits .f32 0x358637BD#32)) ?_
  refine (congrArg₂ (· + ·) Ideal.ofBits_zero_f32 (Finset.sum_congr rfl fun k _ => ?_)).trans (zero_add _)
  have ha : idx_main_v13 (ix1 i : S8192.Idx) k = ix2 i k := eq_ix2 _
  rw [ha, val_main_v12_apply]
  rfl

theorem norm_s (i : Fin 8192) (l : Fin 512) : val_main_v23 (F := Ideal) x1 x3 (ix2 i l) = normOf (oRow x1 i) (gRow x3) l := by
  have h1 : idx_main_v20 (ix2 i l) = ix2 i (0 : Fin 1) := eq_ix2 _
  have h2 : idx_main_v22 (ix2 i l) = ix2 (0 : Fin 1) l := eq_ix2 _
  rw [val_main_v23_apply, val_main_v21_apply, val_main_v20_apply, h1, val_main_v22_apply, h2]
  exact congrArg (fun r : EReal => oRow x1 i l * r * gRow x3 l) (r_s x1 i 0)

theorem cat_low (i : Fin 8192) (l : Fin 512) : val_main_v24 (F := Ideal) x0 x1 x2 x3 (ix2 i (lowLane l)) = normOf (oRow x0 i) (gRow x2) l := by
  unfold val_main_v24
  exact (side_low _ _ _ i l).trans (norm_m x0 x2 i l)

theorem cat_high (i : Fin 8192) (l : Fin 512) : val_main_v24 (F := Ideal) x0 x1 x2 x3 (ix2 i (highLane l)) = normOf (oRow x1 i) (gRow x3) l := by
  unfold val_main_v24
  exact (side_high _ _ _ i l).trans (norm_s x1 x3 i l)

theorem result_at (i : Fin 8192) (j : Fin 1024) : val_main_v26 (F := Ideal) x0 x1 x2 x3 x4 x5 (ix2 i j)
    = (show EReal from x5 (ix2 i j)) + ∑ k : Fin 1024, (show EReal from val_main_v24 (F := Ideal) x0 x1 x2 x3 (ix2 i k)) * x4 (ix2 k j) := by
  rw [val_main_v26_apply, val_main_v25_apply]
  refine congrArg (fun s : EReal => (show EReal from x5 (ix2 i j)) + s) (Finset.sum_congr rfl fun k _ => ?_)
  refine congrArg₂ (fun a b : EReal => a * b) (congrArg (val_main_v24 (F := Ideal) x0 x1 x2 x3) ?_) (congrArg x4 ?_) <;>
    · funext a; match a with
      | ⟨0, _⟩ => rfl
      | ⟨1, _⟩ => rfl
end

/-! ## A block -/

section
open Cert.OutFwdIdeal Cert.OutFwdIdeal.Gen

/-- A row of a block. -/
def rowOf (y : FVec Ideal S1024x512 .f32) (i : Fin 1024) : Fin 512 → EReal := fun l => y (ix2 i l)

/-- One over the root mean squares of rows. -/
def invB (h : FVec Ideal S1024x512 .f32) : FVec Ideal S1024x1 .f32 :=
  rsqrt (addf (divf (shapeCast S1024x1 (multiReduction .add [1] S1024 (mulf h h) 0x00000000#32 reduces_S1024x512_S1024 (.inl rfl) rfl)
    shapeCasts_S1024_S1024x1) (broadcast S1024x1 (Scalar.ofBits .f32 0x44000000#32))) (broadcast S1024x1 (Scalar.ofBits .f32 0x358637BD#32)))
/-- The normed rows times the gain. -/
def normB (h : FVec Ideal S1024x512 .f32) (g : Vec Ideal S1x512 .f32) : FVec Ideal S1024x512 .f32 :=
  mulf (mulf h (broadcastTo S1024x512 (invB h) broadcasts_S1024x1_S1024x512)) (broadcastTo S1024x512 g broadcasts_S1x512_S1024x512)

variable (h k : FVec Ideal S1024x512 .f32) (g q : Vec Ideal S1x512 .f32) (x : FVec Ideal S1024x1024 .f32) (w : FVec Ideal S1024x1024 .bf16)

theorem inv_at (i : Fin 1024) (z : Fin 1) : invB h (ix2 i z) = rOf W (rowOf h i) := by
  unfold invB
  exact congrArg (fun s : EReal => Ideal.rsqrt (Ideal.div s W + Ideal.ofBits .f32 0x358637BD#32)) (row_sum (mulf h h) _ _ _ _ i z)

theorem norm_at (i : Fin 1024) (l : Fin 512) : normB h g (ix2 i l) = normOf (rowOf h i) (gRow g) l := by
  unfold normB
  refine congrArg₂ (fun a b : EReal => a * b) ?_ (broadcastTo_1b_ab_apply g broadcasts_S1x512_S1024x512 i l)
  exact congrArg (fun r : EReal => rowOf h i l * r) ((spread_at _ _ (by decide) i l).trans (inv_at h i 0))

theorem both_low (i : Fin 1024) (l : Fin 512) : k0_pay1 (F := Ideal) h g k q (ix2 i (lowLane l)) = normOf (rowOf h i) (gRow g) l := by
  have e : k0_pay1 (F := Ideal) h g k q (ix2 i (lowLane l)) = normB h g (ix2 i l) := by
    unfold k0_pay1
    exact side_low _ _ _ i l
  exact e.trans (norm_at h g i l)

theorem both_high (i : Fin 1024) (l : Fin 512) : k0_pay1 (F := Ideal) h g k q (ix2 i (highLane l)) = normOf (rowOf k i) (gRow q) l := by
  have e : k0_pay1 (F := Ideal) h g k q (ix2 i (highLane l)) = normB k q (ix2 i l) := by
    unfold k0_pay1
    exact side_high _ _ _ i l
  exact e.trans (norm_at k q i l)

theorem sum_at (i j : Fin 1024) : k0_pay2 (F := Ideal) h g k q x w (ix2 i j)
    = (show EReal from x (ix2 i j)) + ∑ n : Fin 1024, (show EReal from k0_pay1 (F := Ideal) h g k q (ix2 i n)) * w (ix2 n j) := by
  unfold k0_pay2
  rw [shapeCast_self]
  refine congrArg (fun s : EReal => (show EReal from x (ix2 i j)) + s) ?_
  refine (Ideal.matmul_plain_apply none _ _ _ i j).trans ?_
  exact (congrArg₂ (· + ·) Ideal.ofBits_zero_f32 rfl).trans (zero_add _)

/-! ## What a grid point leaves -/

variable (m : (ℓ : Loc nD τ sig) → Buf (Elt Ideal) ℓ) (c : Dev nD) (t : Fin cfg0.N)

/-- The normed rows of the block, side by side. -/
def bothB : FVec Ideal S1024x1024 .bf16 := k0_pay1 (F := Ideal) (iblk m c 0 t) (iblk m c 2 t) (iblk m c 1 t) (iblk m c 3 t)
/-- The block's rows of the residual stream. -/
def resB : FVec Ideal S1024x1024 .f32 :=
  k0_pay2 (F := Ideal) (iblk m c 0 t) (iblk m c 2 t) (iblk m c 1 t) (iblk m c 3 t) (iblk m c 5 t) (iblk m c 4 t)

theorem res_out : out0_6 (F := Ideal) (iblk m c 0 t) (iblk m c 1 t) (iblk m c 2 t) (iblk m c 3 t) (iblk m c 4 t) (iblk m c 5 t) = resB m c t := by
  unfold out0_6
  frame_out
  rfl
theorem both_out : out0_7 (F := Ideal) (iblk m c 0 t) (iblk m c 1 t) (iblk m c 2 t) (iblk m c 3 t) (iblk m c 4 t) (iblk m c 5 t) = bothB m c t := by
  unfold out0_7
  frame_out
  rfl
end

end Cert.Proof.OutFwd

end
-- ==== Proof.OutFwdArrays.lean ====
/-
  The two normalisations and the output projection: what the two output arrays hold after the run, the reference's two
  results.

  Grid point `t` handles the 1024 rows of block `t`.
-/
module

public import proofs.«01_k».proof.Proof.OutFwdRows
public import proofs.«01_k».proof.Proof.BlockSum
public import Idealize.ShloMosaic.Lib.Pipeline.ValueKit.Point

@[expose] public section

set_option maxRecDepth 16384

noncomputable section

namespace Cert.Proof.OutFwd

open Cert.OutFwdIdeal Cert.OutFwdIdeal.Gen Idealize.ShloMosaic.TcCoe Idealize.ShloMosaic.ValueIdx
open Idealize.ShloMosaic hiding ix1 ix2 eq_ix2
open Cert.OutFwdRefIdeal.Read (val_main_v24 val_main_v26 val_main_v27 val_main_v27_apply)
open Cert.Proof.NormRow
open scoped BigOperators

/-- Eight blocks of 1024 rows. -/
theorem rows_eq : 8 * 1024 = 8192 := by decide
/-- The block of rows of a grid point. -/
def bp (t : Fin cfg0.N) : Fin 8 := ⟨t.val, by have := t.isLt; have h : cfg0.N = 8 := N_0; omega⟩
/-- Row `i` of a grid point's block. -/
abbrev row (t : Fin cfg0.N) (i : Fin 1024) : Fin 8192 := BlockSum.pos rows_eq (bp t) i

theorem ix0_0 : ∀ t : Fin cfg0.N, win0_0.index t = ![t.val, 0] := (by decide +kernel : ∀ t : Fin grid0.N, win0_0.index t = ![t.val, 0])
theorem ix0_1 : ∀ t : Fin cfg0.N, win0_1.index t = ![t.val, 0] := (by decide +kernel : ∀ t : Fin grid0.N, win0_1.index t = ![t.val, 0])
theorem ix0_2 : ∀ t : Fin cfg0.N, win0_2.index t = ![0, 0] := (by decide +kernel : ∀ t : Fin grid0.N, win0_2.index t = ![0, 0])
theorem ix0_3 : ∀ t : Fin cfg0.N, win0_3.index t = ![0, 0] := (by decide +kernel : ∀ t : Fin grid0.N, win0_3.index t = ![0, 0])
theorem ix0_4 : ∀ t : Fin cfg0.N, win0_4.index t = ![0, 0] := (by decide +kernel : ∀ t : Fin grid0.N, win0_4.index t = ![0, 0])
theorem ix0_5 : ∀ t : Fin cfg0.N, win0_5.index t = ![t.val, 0] := (by decide +kernel : ∀ t : Fin grid0.N, win0_5.index t = ![t.val, 0])
theorem ix0_6 : ∀ t : Fin cfg0.N, win0_6.index t = ![t.val, 0] := (by decide +kernel : ∀ t : Fin grid0.N, win0_6.index t = ![t.val, 0])
theorem ix0_7 : ∀ t : Fin cfg0.N, win0_7.index t = ![t.val, 0] := (by decide +kernel : ∀ t : Fin grid0.N, win0_7.index t = ![t.val, 0])

variable (m : (ℓ : Loc nD τ sig) → Buf (Elt Ideal) ℓ) (c : Dev nD)

/-- The six arguments. -/
abbrev a0 : (⟨S8192x512, .f32⟩ : BufTy).Contents (Elt Ideal) := m ((c.tc : Thread nD τ).loc main_arg0)
abbrev a1 : (⟨S8192x512, .f32⟩ : BufTy).Contents (Elt Ideal) := m ((c.tc : Thread nD τ).loc main_arg1)
abbrev a2 : (⟨S1x512, .f32⟩ : BufTy).Contents (Elt Ideal) := m ((c.tc : Thread nD τ).loc main_arg2)
abbrev a3 : (⟨S1x512, .f32⟩ : BufTy).Contents (Elt Ideal) := m ((c.tc : Thread nD τ).loc main_arg3)
abbrev a4 : (⟨S1024x1024, .f32⟩ : BufTy).Contents (Elt Ideal) := m ((c.tc : Thread nD τ).loc main_arg4)
abbrev a5 : (⟨S8192x1024, .f32⟩ : BufTy).Contents (Elt Ideal) := m ((c.tc : Thread nD τ).loc main_arg5)

/-- The host rounds the weights first. -/
theorem V_w : V m c main_v0 = (truncf .bf16 (a4 m c : FVec Ideal S1024x1024 .f32) bitsLt_bf16_f32 : FVec Ideal S1024x1024 .bf16) := by
  unfold V
  simp only [List.flatten_cons, List.flatten_nil, List.append_nil, hostOps0]
  entry_read
  rfl

section
variable (t : Fin cfg0.N)

theorem m_blk (i : Fin 1024) (l : Fin 512) : iblk m c 0 t (ix2 i l) = a0 m c (ix2 (row t i) l) := by
  blk_ext [iblk, V_main_arg0, ix0_0 t, row, BlockSum.pos, bp]
theorem s_blk (i : Fin 1024) (l : Fin 512) : iblk m c 1 t (ix2 i l) = a1 m c (ix2 (row t i) l) := by
  blk_ext [iblk, V_main_arg1, ix0_1 t, row, BlockSum.pos, bp]
theorem gm_blk (l : Fin 512) : iblk m c 2 t (ix2 0 l) = a2 m c (ix2 0 l) := by
  blk_ext [iblk, V_main_arg2, ix0_2 t]
theorem gs_blk (l : Fin 512) : iblk m c 3 t (ix2 0 l) = a3 m c (ix2 0 l) := by
  blk_ext [iblk, V_main_arg3, ix0_3 t]
theorem iblk4_at (j l : Fin 1024) : iblk m c 4 t (ix2 j l) = V m c main_v0 (ix2 j l) := by
  generalize hV : V m c main_v0 = G
  have h : iblk m c 4 t = ((cfg0.win 4).blk t).view.read (Elt Ideal) G := by rw [← hV]; rfl
  rw [h]
  blk_ext [ix0_4 t]
theorem w_blk (j l : Fin 1024) : iblk m c 4 t (ix2 j l) = a4 m c (ix2 j l) := (iblk4_at m c t j l).trans (congrFun (V_w m c) _)
theorem h_blk (i : Fin 1024) (l : Fin 1024) : iblk m c 5 t (ix2 i l) = a5 m c (ix2 (row t i) l) := by
  blk_ext [iblk, V_main_arg5, ix0_5 t, row, BlockSum.pos, bp]

theorem m_row (i : Fin 1024) : rowOf (iblk m c 0 t) i = oRow (a0 m c) (row t i) := funext fun l => m_blk m c t i l
theorem s_row (i : Fin 1024) : rowOf (iblk m c 1 t) i = oRow (a1 m c) (row t i) := funext fun l => s_blk m c t i l
theorem gm_row : gRow (iblk m c 2 t) = gRow (a2 m c) := funext fun l => gm_blk m c t l
theorem gs_row : gRow (iblk m c 3 t) = gRow (a3 m c) := funext fun l => gs_blk m c t l

theorem both_row (i j : Fin 1024) : (show EReal from bothB m c t (ix2 i j)) = val_main_v24 (F := Ideal) (a0 m c) (a1 m c) (a2 m c) (a3 m c) (ix2 (row t i) j) := by
  unfold bothB
  rcases lane_cases j with ⟨l, rfl⟩ | ⟨l, rfl⟩
  · refine (both_low _ _ _ _ i l).trans (Eq.trans ?_ (cat_low _ _ _ _ _ l).symm)
    rw [m_row, gm_row]
  · refine (both_high _ _ _ _ i l).trans (Eq.trans ?_ (cat_high _ _ _ _ _ l).symm)
    rw [s_row, gs_row]

theorem res_row (i j : Fin 1024) : resB m c t (ix2 i j)
    = val_main_v26 (F := Ideal) (a0 m c) (a1 m c) (a2 m c) (a3 m c) (a4 m c) (a5 m c) (ix2 (row t i) j) := by
  unfold resB
  refine (sum_at _ _ _ _ _ _ i j).trans (Eq.trans ?_ (result_at _ _ _ _ _ _ _ j).symm)
  refine congrArg₂ (fun a b : EReal => a + b) (h_blk m c t i j) (Finset.sum_congr rfl fun n _ => ?_)
  exact congrArg₂ (fun a b : EReal => a * b) (both_row m c t i n) (w_blk m c t n j)
end

/-! ## The output arrays -/

/-- The residual stream. -/
theorem arr6 : (dats m 0 c).arrAt 6 cfg0.N = val_main_v26 (F := Ideal) (a0 m c) (a1 m c) (a2 m c) (a3 m c) (a4 m c) (a5 m c) := by
  have at_ := res_row m c
  generalize val_main_v26 (F := Ideal) (a0 m c) (a1 m c) (a2 m c) (a3 m c) (a4 m c) (a5 m c) = G at at_ ⊢
  refine (dats m 0 c).arrAt_eq_of_covers 6 G (by decide +kernel) fun t hf y => ?_
  blk_simp
  rw [after0_6]
  obtain ⟨i, l, rfl⟩ : ∃ (i : Fin 1024) (l : Fin 1024), y = ix2 i l := ⟨y 0, y 1, eq_ix2 y⟩
  refine (congrFun (res_out m c t) _).trans ((at_ t i l).trans ?_)
  blk_ext [ix0_6 t, row, BlockSum.pos, bp]

/-- The two normed outputs side by side, as the gradient of the weights takes them. -/
theorem arr7 : (dats m 0 c).arrAt 7 cfg0.N = val_main_v27 (F := Ideal) (a0 m c) (a1 m c) (a2 m c) (a3 m c) := by
  have at_ : ∀ t (i j : Fin 1024), bothB m c t (ix2 i j) = val_main_v27 (F := Ideal) (a0 m c) (a1 m c) (a2 m c) (a3 m c) (ix2 (row t i) j) :=
    fun t i j => (both_row m c t i j).trans (val_main_v27_apply (F := Ideal) _ _ _ _ _).symm
  generalize val_main_v27 (F := Ideal) (a0 m c) (a1 m c) (a2 m c) (a3 m c) = G at at_ ⊢
  refine (dats m 0 c).arrAt_eq_of_covers 7 G (by decide +kernel) fun t hf y => ?_
  blk_simp
  rw [after0_7]
  obtain ⟨i, l, rfl⟩ : ∃ (i : Fin 1024) (l : Fin 1024), y = ix2 i l := ⟨y 0, y 1, eq_ix2 y⟩
  refine (congrFun (both_out m c t) _).trans ((at_ t i l).trans ?_)
  blk_ext [ix0_7 t, row, BlockSum.pos, bp]

end Cert.Proof.OutFwd

end
-- ==== Proof.OutFwdClaims.lean ====
/-
  The claims about the two normalisations and the output projection: the frames, and the kernel's two
  results being the reference's.
-/
module

public import proofs.«01_k».proof.Defs
public import proofs.«01_k».proof.Proof.Gen.OutFwd.Frame
public import proofs.«01_k».proof.Proof.Gen.OutFwdIdeal.Frame
public import proofs.«01_k».proof.Proof.Gen.OutFwdIdeal.Value
public import proofs.«01_k».proof.Proof.Gen.OutFwdRefIdeal.Run
public import proofs.«01_k».proof.Proof.OutFwdArrays
public import Idealize.ShloMosaic.Lib.Quiescent

@[expose] public section

set_option maxRecDepth 16384

noncomputable section

namespace Cert.Proof.OutFwd

open Idealize.ShloMosaic Idealize.ShloMosaic.TcCoe Idealize.SL.Sem
open Cert.OutFwdRefIdeal.Read (val_main_v26 val_main_v27 val_main_v26_eq val_main_v27_eq)

theorem frame_p : Cert.quiescent_OutFwd := fun m ρ _ => Cert.OutFwd.Gen.frame m ρ

theorem frame_pi : Cert.quiescent_OutFwdIdeal := fun m ρ _ => Cert.OutFwdIdeal.Gen.frame m ρ

/-- The reference has no semaphores, so its run alone gives the frame. -/
theorem frame_ri : Cert.quiescent_OutFwdRefIdeal := fun m ρ _ =>
  (θ_run Cert.OutFwdRefIdeal.defs _ _).mono
    (fun r h => ⟨fun c => (h c).2.2, sem_eq_zero_of_no_sems (by decide) r.2⟩)
    (Cert.OutFwdRefIdeal.Value.run (F := Ideal) m ρ)

theorem algebraic : Cert.algebraic_OutFwdIdeal_OutFwdRefIdeal := by
  intro m g m' g' _ hargs
  refine ⟨fun c => val_main_v26 (F := Ideal) (a0 m c) (a1 m c) (a2 m c) (a3 m c) (a4 m c) (a5 m c),
    fun c => val_main_v27 (F := Ideal) (a0 m c) (a1 m c) (a2 m c) (a3 m c), ?_, ?_⟩
  · refine (θ_run Cert.OutFwdIdeal.defs _ _).mono (fun r h c => ?_) (Cert.OutFwdIdeal.Value.run_blocks (F := Ideal) m g)
    obtain ⟨e6, e7, ha⟩ := h c
    exact ⟨e6.trans (arr6 m c), e7.trans (arr7 m c), ha⟩
  · refine (θ_run Cert.OutFwdRefIdeal.defs _ _).mono (fun r h c => ?_) (Cert.OutFwdRefIdeal.Value.run (F := Ideal) m' g')
    obtain ⟨e0, e1, ha⟩ := h c
    obtain ⟨g0, g1, g2, g3, g4, g5⟩ := hargs c
    refine ⟨e0.trans ((val_main_v26_eq _ _ _ _ _ _).trans ?_), e1.trans ((val_main_v27_eq _ _ _ _).trans ?_), ha⟩
    · rw [g0, g1, g2, g3, g4, g5]
    · rw [g0, g1, g2, g3]

end Cert.Proof.OutFwd

end
-- ==== Proof.AttnFwd.lean ====
/-
  One attention head over the real numbers, forwards: with base-two exponentials taken relative to any number at all, the
  weighted sum of the values over the sum of the weights is the head's output, and the number plus the base-two logarithm of
  that sum is the head's row logarithm.
-/
module

public import proofs.«01_k».proof.Proof.Attn

@[expose] public section

noncomputable section

namespace Cert.Proof.LatentFwd

open Idealize.ShloMosaic
open Cert.Proof.LatentBwd
open scoped BigOperators

section
variable (A : Attn) (i : Fin 2048) (M : ℝ)

/-- The score in base two. -/
def score (j : Fin 2048) : ℝ := (∑ d, A.Q i d * A.K j d) * scale2
/-- What the weights relative to `M` are times the head's. -/
def shift : ℝ := Real.exp (A.M i - M * Real.log 2)
/-- A weight: zero after the query. -/
def weight (j : Fin 2048) : ℝ := A.e i j * shift A i M

theorem shift_pos : 0 < shift A i M := Real.exp_pos _

theorem weight_of_le {j : Fin 2048} (h : j ≤ i) : Real.rpow 2 (score A i j - M) = weight A i M j := by
  have h2 : Real.log 2 ≠ 0 := (Real.log_pos one_lt_two).ne'
  show (2 : ℝ) ^ (score A i j - M) = _
  unfold weight shift Attn.e
  rw [if_pos h, ← Real.exp_add, Real.rpow_def_of_pos two_pos]
  congr 1
  unfold score Attn.s scale2 scaleR
  field_simp
  ring

theorem weight_of_lt {j : Fin 2048} (h : i < j) : weight A i M j = 0 := by
  unfold weight Attn.e
  rw [if_neg (not_le.mpr h), zero_mul]

theorem sum_weight : ∑ j, weight A i M j = A.l i * shift A i M := by
  simp only [weight, Attn.l, Finset.sum_mul]

theorem sum_weight_pos : 0 < ∑ j, weight A i M j := by
  rw [sum_weight]
  exact mul_pos (A.l_pos i) (shift_pos A i M)

theorem prob_eq (j : Fin 2048) : weight A i M j * (1 / ∑ j, weight A i M j) = A.p i j := by
  have hl := (A.l_pos i).ne'
  have hs := (shift_pos A i M).ne'
  rw [sum_weight]
  unfold weight Attn.p
  field_simp

theorem lse_eq : M + Real.log (∑ j, weight A i M j) / Real.log 2 = A.lse i := by
  have h2 : Real.log 2 ≠ 0 := (Real.log_pos one_lt_two).ne'
  rw [sum_weight, Real.log_mul (A.l_pos i).ne' (shift_pos A i M).ne', Attn.lse]
  unfold shift
  rw [Real.log_exp]
  field_simp
  ring
end

/-! ## Values that may be infinite -/

/-- A positive number multiplies a sum of two, infinite terms included. -/
theorem add_mul_pos (y z : EReal) {c : ℝ} (hc : 0 < c) : (y + z) * (c : EReal) = y * (c : EReal) + z * (c : EReal) := by
  induction y with
  | bot => rw [EReal.bot_add, EReal.bot_mul_coe_of_pos hc, EReal.bot_add]
  | top =>
    induction z with
    | bot => rw [EReal.add_bot, EReal.bot_mul_coe_of_pos hc, EReal.add_bot]
    | top => rw [EReal.top_add_top, EReal.top_mul_coe_of_pos hc, EReal.top_add_top]
    | coe z => rw [EReal.top_add_coe, EReal.top_mul_coe_of_pos hc, ← EReal.coe_mul, EReal.top_add_coe]
  | coe y =>
    induction z with
    | bot => rw [EReal.add_bot, EReal.bot_mul_coe_of_pos hc, EReal.add_bot]
    | top => rw [EReal.coe_add_top, EReal.top_mul_coe_of_pos hc, ← EReal.coe_mul, EReal.coe_add_top]
    | coe z => rw [← EReal.coe_add, ← EReal.coe_mul, ← EReal.coe_mul, ← EReal.coe_mul, ← EReal.coe_add, add_mul]

/-- A positive number multiplies a sum term by term, infinite terms included. -/
theorem sum_mul_pos {ι : Type} (s : Finset ι) (f : ι → EReal) {c : ℝ} (hc : 0 < c) :
    (∑ j ∈ s, f j) * (c : EReal) = ∑ j ∈ s, f j * (c : EReal) := by
  classical
  induction s using Finset.induction_on with
  | empty => rw [Finset.sum_empty, Finset.sum_empty, zero_mul]
  | insert j s hj ih => rw [Finset.sum_insert hj, Finset.sum_insert hj, add_mul_pos _ _ hc, ih]

/-- A head's output where its values `W` may be infinite. -/
def outW (A : Attn) (W : Fin 2048 → Fin 64 → EReal) (i : Fin 2048) (d : Fin 64) : EReal := ∑ j, (A.p i j : EReal) * W j d

/-! ## The largest of finitely many scores -/

theorem fold_ne_top {n : ℕ} (f : Fin n → EReal) (h : ∀ j, f j ≠ ⊤) : (Finset.univ : Finset (Fin n)).fold max ⊥ f ≠ ⊤ :=
  ne_of_lt ((Finset.fold_max_lt _).mpr ⟨bot_lt_top, fun j _ => lt_top_iff_ne_top.mpr (h j)⟩)

theorem fold_ne_bot {n : ℕ} (f : Fin n → EReal) (j : Fin n) (h : f j ≠ ⊥) : (Finset.univ : Finset (Fin n)).fold max ⊥ f ≠ ⊥ :=
  ne_of_gt (lt_of_lt_of_le (bot_lt_iff_ne_bot.mpr h) ((Finset.le_fold_max _).mpr (Or.inr ⟨j, Finset.mem_univ _, le_rfl⟩)))

/-! ## A row of a tile: `r` keys before the tile and the tile's own 512 -/

/-- The row's score at one of the tile's own keys. -/
def diagScore (A : Attn) (r : ℕ) (hr : r + 512 ≤ 2048) (a j : Fin 512) : EReal :=
  if j ≤ a then (score A (pos r hr a) (pos r hr j) : EReal) else ⊥
/-- The row's score at a key before the tile. -/
def pastScore (A : Attn) (r : ℕ) (hr : r + 512 ≤ 2048) (h0 : 0 + r ≤ 2048) (a : Fin 512) (j : Fin r) : EReal :=
  (score A (pos r hr a) (pos 0 h0 j) : EReal)

section
variable (A : Attn) (r : ℕ) (hr : r + 512 ≤ 2048) (h0 : 0 + r ≤ 2048) (a : Fin 512) (M : ℝ)

theorem diag_weight (j : Fin 512) : Ideal.exp2 (diagScore A r hr a j - (M : EReal)) = (weight A (pos r hr a) M (pos r hr j) : EReal) := by
  unfold diagScore
  by_cases h : j ≤ a
  · rw [if_pos h, ← EReal.coe_sub, Ideal.exp2_coe, weight_of_le]
    exact Fin.le_def.mpr (Nat.add_le_add_left (Fin.le_def.mp h) r)
  · rw [if_neg h, EReal.bot_sub, Ideal.exp2_bot, weight_of_lt, EReal.coe_zero]
    exact Fin.lt_def.mpr (Nat.add_lt_add_left (Fin.lt_def.mp (not_le.mp h)) r)

theorem past_weight (j : Fin r) : Ideal.exp2 (pastScore A r hr h0 a j - (M : EReal)) = (weight A (pos r hr a) M (pos 0 h0 j) : EReal) := by
  unfold pastScore
  rw [← EReal.coe_sub, Ideal.exp2_coe, weight_of_le]
  exact Fin.le_def.mpr (by show 0 + j.val ≤ r + a.val; omega)

theorem after_zero (j : Fin 2048) (h : r + 512 ≤ j.val) : weight A (pos r hr a) M j = 0 :=
  weight_of_lt _ _ _ (Fin.lt_def.mpr (by show r + a.val < j.val; omega))

/-- The row's sum of weights. -/
theorem weights_sum : (∑ j : Fin 512, Ideal.exp2 (diagScore A r hr a j - (M : EReal))) + ∑ j : Fin r, Ideal.exp2 (pastScore A r hr h0 a j - (M : EReal))
    = ((∑ j, weight A (pos r hr a) M j : ℝ) : EReal) := by
  simp only [diag_weight, past_weight]
  rw [← coe_sum]
  exact (sum_past_diag (fun j => (weight A (pos r hr a) M j : EReal)) r h0 hr
    fun j h => by rw [after_zero A r hr a M j h, EReal.coe_zero]).symm

/-- The row's weighted sum of values. -/
theorem values_sum (W : Fin 2048 → Fin 64 → EReal) (d : Fin 64) :
    (∑ j : Fin 512, Ideal.exp2 (diagScore A r hr a j - (M : EReal)) * W (pos r hr j) d)
      + ∑ j : Fin r, Ideal.exp2 (pastScore A r hr h0 a j - (M : EReal)) * W (pos 0 h0 j) d
    = ∑ j, (weight A (pos r hr a) M j : EReal) * W j d := by
  simp only [diag_weight, past_weight]
  exact (sum_past_diag (fun j => (weight A (pos r hr a) M j : EReal) * W j d) r h0 hr
    fun j h => by rw [after_zero A r hr a M j h, EReal.coe_zero, zero_mul]).symm

/-- The row's output from the two sums. -/
theorem row_out (W : Fin 2048 → Fin 64 → EReal) (d : Fin 64) : (∑ j, (weight A (pos r hr a) M j : EReal) * W j d)
      * Ideal.div ((1 : ℝ) : EReal) ((∑ j, weight A (pos r hr a) M j : ℝ) : EReal) = outW A W (pos r hr a) d := by
  rw [Ideal.div_coe (sum_weight_pos A _ M).ne', ← EReal.coe_mul, one_mul,
    sum_mul_pos _ _ (one_div_pos.mpr (sum_weight_pos A _ M)), outW]
  refine Finset.sum_congr rfl fun j _ => ?_
  rw [mul_right_comm, ← EReal.coe_mul, prob_eq]

/-- The row's logarithm from the sum of the weights. -/
theorem row_lse : (M : EReal) + Ideal.div (Ideal.log ((∑ j, weight A (pos r hr a) M j : ℝ) : EReal)) (Ideal.log ((2 : ℝ) : EReal))
    = (A.lse (pos r hr a) : EReal) := by
  rw [Ideal.log_coe, Ideal.log_coe, if_neg (not_le.mpr (sum_weight_pos A _ M)), if_neg (by norm_num),
    Ideal.div_coe (Real.log_pos one_lt_two).ne', ← EReal.coe_mul, ← EReal.coe_add, mul_one_div, lse_eq]
end

end Cert.Proof.LatentFwd

end
-- ==== Proof.FwdTile.lean ====
/-
  What one tile of 512 queries of the latent attention's forward pass computes for one head, for any number `n` of keys
  before the tile, and that it is the head's output and row logarithm.
-/
module

public import proofs.«01_k».proof.Proof.Gen.LatentFwdIdeal.Skeleton
public import proofs.«01_k».proof.Proof.AttnFwd
public import proofs.«01_k».proof.Proof.Ref
public import proofs.«01_k».proof.Proof.Loads
public import Idealize.ShloMosaic.Lib.MatmulPlain
public import Idealize.ShloMosaic.Lib.WordCmp
public import Idealize.ShloMosaic.Lib.ValueLayoutCasts

@[expose] public section

set_option maxRecDepth 16384

noncomputable section

namespace Cert.Proof.LatentFwd

open Cert.LatentFwdIdeal Cert.LatentFwdIdeal.Gen Idealize.ShloMosaic Idealize.ShloMosaic.ValueIdx
open Cert.Proof.LatentBwd (Attn coe_sum pos lane zeros zeros_apply broadcastTo_col_apply select_ofBool scale2 ofBits_one ofBits_neg_inf)
open scoped BigOperators

theorem ofBits_two : Ideal.ofBits .f32 0x40000000#32 = ((2 : ℝ) : EReal) := by
  simp [Ideal.ofBits, Ideal.ieee, -EReal.coe_mul]
  norm_num

/-! ## The tile's functions -/

variable {n : ℕ}

/-- Scores at `n` keys. -/
def scoreT (q : FVec Ideal S512x128 .bf16) (k : FVec Ideal ⟨2, ![n, 128]⟩ .bf16) : FVec Ideal ⟨2, ![512, n]⟩ .f32 :=
  mulf (matmul (DotDims.transposedRhs 512 128 n) none q k (zeros ⟨2, ![512, n]⟩))
    (broadcast ⟨2, ![512, n]⟩ (Named.named κ "scale2" 0x3E16C740#32))

/-- Scores at the tile's own keys, masked after the query. -/
def ownT (q k : FVec Ideal S512x128 .bf16) : FVec Ideal S512x512 .f32 :=
  select k0_pay1 (scoreT (n := 512) q k) (broadcast S512x512 (Named.named κ "mask" 0xF149F2CA#32))

/-- Each row's largest score. -/
def maxT (s : FVec Ideal ⟨2, ![512, n]⟩ .f32) (h : (⟨2, ![512, n]⟩ : Shape).Reduces [1] S512) : FVec Ideal S512x1 .f32 :=
  shapeCast S512x1 (multiReduction .maximumf [1] S512 s 0xFF800000#32 h (.inl rfl) rfl) shapeCasts_S512_S512x1

/-- Weights relative to a column. -/
def weightT (s : FVec Ideal ⟨2, ![512, n]⟩ .f32) (m : FVec Ideal S512x1 .f32) (hb : S512x1.Broadcasts ⟨2, ![512, n]⟩) :
    FVec Ideal ⟨2, ![512, n]⟩ .f32 := exp2 (subf s (broadcastTo ⟨2, ![512, n]⟩ m hb))

/-- Each row's sum. -/
def sumT (p : FVec Ideal ⟨2, ![512, n]⟩ .f32) (h : (⟨2, ![512, n]⟩ : Shape).Reduces [1] S512) : FVec Ideal S512x1 .f32 :=
  shapeCast S512x1 (multiReduction .add [1] S512 p 0x00000000#32 h (.inl rfl) rfl) shapeCasts_S512_S512x1

/-- The weighted sum of the values. -/
def valueT (p : FVec Ideal ⟨2, ![512, n]⟩ .f32) (v : FVec Ideal ⟨2, ![n, 128]⟩ .bf16) : FVec Ideal S512x128 .f32 :=
  matmul (DotDims.plain 512 n 128) none (truncf .bf16 p bitsLt_bf16_f32 : FVec Ideal ⟨2, ![512, n]⟩ .bf16) v (zeros S512x128)

/-- The output from the two sums. -/
def outT (acc : FVec Ideal S512x128 .f32) (l : FVec Ideal S512x1 .f32) : FVec Ideal S512x128 .f32 :=
  mulf acc (broadcastTo S512x128 (divf (broadcast S512x1 (Scalar.ofBits .f32 0x3F800000#32)) l) broadcasts_S512x1_S512x128)

/-- The base-two logarithm, on every lane. -/
def lseT (m l : FVec Ideal S512x1 .f32) : FVec Ideal S512x128 .f32 :=
  broadcastTo S512x128 (shapeCast S512x1 (addf m (divf (log l) (log (broadcast S512x1 (Scalar.ofBits .f32 0x40000000#32)))))
    shapeCasts_S512x1_S512x1) broadcasts_S512x1_S512x128

/-- The first tile's weights: no keys before it. -/
def firstP (q k : FVec Ideal S512x128 .bf16) : FVec Ideal S512x512 .f32 :=
  weightT (n := 512) (ownT q k) (maxT (n := 512) (ownT q k) reduces_S512x512_S512) broadcasts_S512x1_S512x512
/-- The first tile's output. -/
def firstO (q k v : FVec Ideal S512x128 .bf16) : FVec Ideal S512x128 .f32 :=
  outT (valueT (n := 512) (firstP q k) v) (sumT (n := 512) (firstP q k) reduces_S512x512_S512)
/-- The first tile's row logarithms. -/
def firstL (q k : FVec Ideal S512x128 .bf16) : FVec Ideal S512x128 .f32 :=
  lseT (maxT (n := 512) (ownT q k) reduces_S512x512_S512) (sumT (n := 512) (firstP q k) reduces_S512x512_S512)

section
variable (q k : FVec Ideal S512x128 .bf16) (kp : FVec Ideal ⟨2, ![n, 128]⟩ .bf16) (h : (⟨2, ![512, n]⟩ : Shape).Reduces [1] S512)
  (hb : S512x1.Broadcasts ⟨2, ![512, n]⟩)

/-- A later tile's largest scores. -/
def laterM : FVec Ideal S512x1 .f32 := maximumf (maxT (n := 512) (ownT q k) reduces_S512x512_S512) (maxT (scoreT q kp) h)
/-- Its weights at its own keys. -/
def laterD : FVec Ideal S512x512 .f32 := weightT (n := 512) (ownT q k) (laterM q k kp h) broadcasts_S512x1_S512x512
/-- Its weights at the keys before it. -/
def laterP : FVec Ideal ⟨2, ![512, n]⟩ .f32 := weightT (scoreT q kp) (laterM q k kp h) hb
/-- Its sums of weights. -/
def laterS : FVec Ideal S512x1 .f32 :=
  addf (sumT (n := 512) (laterD q k kp h) reduces_S512x512_S512) (sumT (laterP q k kp h hb) h)
/-- Its output. -/
def laterO (v : FVec Ideal S512x128 .bf16) (vp : FVec Ideal ⟨2, ![n, 128]⟩ .bf16) : FVec Ideal S512x128 .f32 :=
  outT (addf (valueT (n := 512) (laterD q k kp h) v) (valueT (laterP q k kp h hb) vp)) (laterS q k kp h hb)
/-- Its row logarithms. -/
def laterL : FVec Ideal S512x128 .f32 := lseT (laterM q k kp h) (laterS q k kp h hb)
end

/-! ## Their entries -/

/-- The causal mask of a tile's own keys. -/
theorem pay1_apply (i j : Fin 512) : k0_pay1 (ix2 i j) = BitVec.ofBool (decide (j.val ≤ i.val)) := by
  show IntOp.cmpi .sle (BitVec.ofNat 32 (0 * 512 + j.val)) (BitVec.ofNat 32 (0 * 512 + i.val)) = _
  rw [zero_mul, zero_add, zero_add, WordCmp.cmpi_sle_ofNat (by omega) (by omega)]

theorem pay2_apply (i : Fin 512) (d : Fin 128) : k0_pay2 (ix2 i d) = BitVec.ofBool (decide (d.val < 64)) := by
  show IntOp.cmpi .slt (BitVec.ofNat 32 (0 * 128 + d.val)) (BitVec.ofNat 32 64) = _
  rw [zero_mul, zero_add, WordCmp.cmpi_slt_ofNat (by omega) (by omega)]

theorem named_scale2 : (Named.named κ "scale2" 0x3E16C740#32 : Ideal .f32) = (scale2 : EReal) :=
  IdealRules.named_const.ideal_named_scalar _ _ _ _ rfl
theorem named_mask : (Named.named κ "mask" 0xF149F2CA#32 : Ideal .f32) = (⊥ : EReal) :=
  IdealRules.named_const.ideal_named_scalar _ _ _ _ rfl

theorem lift_eq (h : (⟨2, ![512, n]⟩ : Shape).Reduces [1] S512) (i : Fin 512) (j : Fin n) : h.lift (ix1 i) j = ix2 i j := by
  funext a; apply Fin.ext
  match a with
  | ⟨0, _⟩ => rfl
  | ⟨1, _⟩ => rfl

theorem maxT_apply (s : FVec Ideal ⟨2, ![512, n]⟩ .f32) (h : (⟨2, ![512, n]⟩ : Shape).Reduces [1] S512) (i : Fin 512) :
    maxT s h (ix2 i 0) = (Finset.univ : Finset (Fin n)).fold max ⊥ (fun j => s (ix2 i j)) := by
  rw [maxT, shapeCast_a_a1_apply]
  refine (Ideal.multiReduction_maximumf_single _ _ h _ _ _).trans ?_
  have e : (s ∘ h.lift (ix1 i)) = fun j : Fin n => s (ix2 i j) := funext fun j => congrArg s (lift_eq h i j)
  rw [← ofBits_neg_inf]
  exact congrArg ((Finset.univ : Finset (Fin n)).fold max (Ideal.ofBits .f32 0xFF800000#32)) e

theorem sumT_apply (p : FVec Ideal ⟨2, ![512, n]⟩ .f32) (h : (⟨2, ![512, n]⟩ : Shape).Reduces [1] S512) (i : Fin 512) :
    sumT p h (ix2 i 0) = ∑ j : Fin n, p (ix2 i j) := by
  rw [sumT, shapeCast_a_a1_apply]
  exact (Ideal.multiReduction_add_single _ _ h _ _ _).trans (Finset.sum_congr rfl fun j _ => congrArg p (lift_eq h i j))

theorem weightT_apply (s : FVec Ideal ⟨2, ![512, n]⟩ .f32) (m : FVec Ideal S512x1 .f32) (hb : S512x1.Broadcasts ⟨2, ![512, n]⟩)
    (i : Fin 512) (j : Fin n) : weightT s m hb (ix2 i j) = Ideal.exp2 (s (ix2 i j) - m (ix2 i 0)) := by
  show Ideal.exp2 (s (ix2 i j) - broadcastTo ⟨2, ![512, n]⟩ m hb (ix2 i j)) = _
  rw [broadcastTo_col_apply]

theorem valueT_apply (p : FVec Ideal ⟨2, ![512, n]⟩ .f32) (v : FVec Ideal ⟨2, ![n, 128]⟩ .bf16) (i : Fin 512) (d : Fin 128) :
    valueT p v (ix2 i d) = ∑ j : Fin n, p (ix2 i j) * v (ix2 j d) := by
  rw [valueT, matmul, Ideal.matmul_plain_apply, zeros_apply, zero_add]
  rfl

theorem outT_apply (acc : FVec Ideal S512x128 .f32) (l : FVec Ideal S512x1 .f32) (i : Fin 512) (d : Fin 128) :
    outT acc l (ix2 i d) = acc (ix2 i d) * Ideal.div ((1 : ℝ) : EReal) (l (ix2 i 0)) := by
  show acc (ix2 i d) * broadcastTo ⟨2, ![512, 128]⟩ (divf (broadcast S512x1 (Scalar.ofBits .f32 0x3F800000#32)) l)
    broadcasts_S512x1_S512x128 (ix2 i d) = _
  rw [broadcastTo_col_apply, ← ofBits_one]
  rfl

theorem lseT_apply (m l : FVec Ideal S512x1 .f32) (i : Fin 512) (d : Fin 128) :
    lseT m l (ix2 i d) = m (ix2 i 0) + Ideal.div (Ideal.log (l (ix2 i 0))) (Ideal.log ((2 : ℝ) : EReal)) := by
  rw [lseT, broadcastTo_col_apply, shapeCast_self, ← ofBits_two]
  rfl

/-! ## One head -/

/-- The tile's own rows of a head. -/
structure Own (A : Attn) (W : Fin 2048 → Fin 64 → EReal) (half : Fin 2) (r : ℕ) (hr : r + 512 ≤ 2048) (q k v : FVec Ideal S512x128 .bf16) : Prop where
  q : ∀ i d, q (ix2 i d) = (A.Q (pos r hr i) d : EReal)
  k : ∀ j d, k (ix2 j d) = (A.K (pos r hr j) d : EReal)
  v : ∀ j d, v (ix2 j (lane half d)) = W (pos r hr j) d

/-- The keys and values of a head before the tile. -/
structure Past (A : Attn) (W : Fin 2048 → Fin 64 → EReal) (half : Fin 2) (r : ℕ) (h0 : 0 + r ≤ 2048) (k v : FVec Ideal ⟨2, ![r, 128]⟩ .bf16) : Prop where
  k : ∀ j d, k (ix2 j d) = (A.K (pos 0 h0 j) d : EReal)
  v : ∀ j d, v (ix2 j (lane half d)) = W (pos 0 h0 j) d

theorem scoreT_apply {A : Attn} {r c : ℕ} {hr : r + 512 ≤ 2048} {hc : c + n ≤ 2048} {q : FVec Ideal S512x128 .bf16}
    {k : FVec Ideal ⟨2, ![n, 128]⟩ .bf16} (hq : ∀ i d, q (ix2 i d) = (A.Q (pos r hr i) d : EReal))
    (hk : ∀ j d, k (ix2 j d) = (A.K (pos c hc j) d : EReal)) (i : Fin 512) (j : Fin n) :
    scoreT q k (ix2 i j) = (score A (pos r hr i) (pos c hc j) : EReal) := by
  show FloatOps.matmul (DotDims.transposedRhs 512 128 n) none q k (zeros ⟨2, ![512, n]⟩) (ix2 i j)
    * (Named.named κ "scale2" 0x3E16C740#32 : Ideal .f32) = _
  rw [Ideal.matmul_transposedRhs_apply, named_scale2, zeros_apply, zero_add]
  simp only [hq, hk, ← EReal.coe_mul]
  rw [coe_sum, ← EReal.coe_mul]
  rfl

section
variable {A : Attn} {W : Fin 2048 → Fin 64 → EReal} {half : Fin 2} {r : ℕ} {hr : r + 512 ≤ 2048} {q k v : FVec Ideal S512x128 .bf16}

theorem ownT_apply (O : Own A W half r hr q k v) (i j : Fin 512) : ownT q k (ix2 i j) = diagScore A r hr i j := by
  show Scalar.select (k0_pay1 (ix2 i j)) (scoreT (n := 512) q k (ix2 i j)) (Named.named κ "mask" 0xF149F2CA#32 : Ideal .f32) = _
  rw [pay1_apply, select_ofBool, scoreT_apply O.q O.k, named_mask, diagScore]
  refine if_congr ?_ rfl rfl
  rw [decide_eq_true_eq, Fin.le_def]

theorem diag_ne_top (i j : Fin 512) : diagScore A r hr i j ≠ ⊤ := by
  unfold diagScore
  split
  · exact EReal.coe_ne_top _
  · exact bot_ne_top

theorem diag_ne_bot (i : Fin 512) : diagScore A r hr i i ≠ ⊥ := by
  unfold diagScore
  rw [if_pos le_rfl]
  exact EReal.coe_ne_bot _

theorem own_max (O : Own A W half r hr q k v) (i : Fin 512) :
    maxT (n := 512) (ownT q k) reduces_S512x512_S512 (ix2 i 0) = (Finset.univ : Finset (Fin 512)).fold max ⊥ (diagScore A r hr i) := by
  rw [maxT_apply]
  exact congrArg ((Finset.univ : Finset (Fin 512)).fold max ⊥) (funext fun j => ownT_apply O i j)

theorem first_max (O : Own A W half r hr q k v) (i : Fin 512) :
    ∃ M : ℝ, maxT (n := 512) (ownT q k) reduces_S512x512_S512 (ix2 i 0) = (M : EReal) := by
  rw [own_max O]
  exact ⟨_, (EReal.coe_toReal (fold_ne_top _ (diag_ne_top i)) (fold_ne_bot _ i (diag_ne_bot i))).symm⟩

theorem firstP_apply (O : Own A W half r hr q k v) {M : ℝ} {i : Fin 512}
    (hM : maxT (n := 512) (ownT q k) reduces_S512x512_S512 (ix2 i 0) = (M : EReal)) (j : Fin 512) :
    firstP q k (ix2 i j) = Ideal.exp2 (diagScore A r hr i j - (M : EReal)) := by
  rw [firstP, weightT_apply, hM, ownT_apply O]

theorem first_out {hr : 0 + 512 ≤ 2048} (O : Own A W half 0 hr q k v) (i : Fin 512) (d : Fin 64) :
    firstO q k v (ix2 i (lane half d)) = outW A W (pos 0 hr i) d := by
  obtain ⟨M, hM⟩ := first_max O i
  have hw := weights_sum A 0 hr (by decide) i M
  have hv := values_sum A 0 hr (by decide) i M W d
  rw [Fin.sum_univ_zero, add_zero] at hw hv
  rw [firstO, outT_apply, valueT_apply, sumT_apply]
  simp only [firstP_apply O hM, O.v]
  rw [hw, hv, row_out]

theorem first_lse {hr : 0 + 512 ≤ 2048} (O : Own A W half 0 hr q k v) (i : Fin 512) (l : Fin 128) :
    firstL q k (ix2 i l) = (A.lse (pos 0 hr i) : EReal) := by
  obtain ⟨M, hM⟩ := first_max O i
  have hw := weights_sum A 0 hr (by decide) i M
  rw [Fin.sum_univ_zero, add_zero] at hw
  rw [firstL, lseT_apply, hM, sumT_apply]
  simp only [firstP_apply O hM]
  rw [hw, row_lse]

variable {h0 : 0 + r ≤ 2048} {kp vp : FVec Ideal ⟨2, ![r, 128]⟩ .bf16} (h : (⟨2, ![512, r]⟩ : Shape).Reduces [1] S512)
  (hb : S512x1.Broadcasts ⟨2, ![512, r]⟩)

theorem later_max (O : Own A W half r hr q k v) (P : Past A W half r h0 kp vp) (i : Fin 512) :
    ∃ M : ℝ, laterM q k kp h (ix2 i 0) = (M : EReal) := by
  have e : laterM q k kp h (ix2 i 0) = max ((Finset.univ : Finset (Fin 512)).fold max ⊥ (diagScore A r hr i))
      ((Finset.univ : Finset (Fin r)).fold max ⊥ (pastScore A r hr h0 i)) := by
    show max (maxT (n := 512) (ownT q k) reduces_S512x512_S512 (ix2 i 0)) (maxT (scoreT q kp) h (ix2 i 0)) = _
    rw [own_max O, maxT_apply]
    exact congrArg (fun f => max _ ((Finset.univ : Finset (Fin r)).fold max ⊥ f)) (funext fun j => scoreT_apply O.q P.k i j)
  rw [e]
  refine ⟨_, (EReal.coe_toReal ?_ ?_).symm⟩
  · refine ne_of_lt (max_lt ?_ ?_)
    · exact lt_top_iff_ne_top.mpr (fold_ne_top _ (diag_ne_top i))
    · exact lt_top_iff_ne_top.mpr (fold_ne_top _ fun j => EReal.coe_ne_top _)
  · exact ne_of_gt (lt_of_lt_of_le (bot_lt_iff_ne_bot.mpr (fold_ne_bot _ i (diag_ne_bot i))) (le_max_left _ _))

theorem laterD_apply (O : Own A W half r hr q k v) {M : ℝ} {i : Fin 512} (hM : laterM q k kp h (ix2 i 0) = (M : EReal)) (j : Fin 512) :
    laterD q k kp h (ix2 i j) = Ideal.exp2 (diagScore A r hr i j - (M : EReal)) := by
  rw [laterD, weightT_apply, hM, ownT_apply O]

theorem laterP_apply (O : Own A W half r hr q k v) (P : Past A W half r h0 kp vp) {M : ℝ} {i : Fin 512}
    (hM : laterM q k kp h (ix2 i 0) = (M : EReal)) (j : Fin r) :
    laterP q k kp h hb (ix2 i j) = Ideal.exp2 (pastScore A r hr h0 i j - (M : EReal)) := by
  rw [laterP, weightT_apply, hM, scoreT_apply O.q P.k, pastScore]

theorem later_sum (O : Own A W half r hr q k v) (P : Past A W half r h0 kp vp) {M : ℝ} {i : Fin 512}
    (hM : laterM q k kp h (ix2 i 0) = (M : EReal)) :
    laterS q k kp h hb (ix2 i 0) = ((∑ j, weight A (pos r hr i) M j : ℝ) : EReal) := by
  show sumT (n := 512) (laterD q k kp h) reduces_S512x512_S512 (ix2 i 0) + sumT (laterP q k kp h hb) h (ix2 i 0) = _
  rw [sumT_apply, sumT_apply]
  simp only [laterD_apply h O hM, laterP_apply h hb O P hM]
  exact weights_sum A r hr h0 i M

theorem later_out (O : Own A W half r hr q k v) (P : Past A W half r h0 kp vp) (i : Fin 512) (d : Fin 64) :
    laterO q k kp h hb v vp (ix2 i (lane half d)) = outW A W (pos r hr i) d := by
  obtain ⟨M, hM⟩ := later_max h O P i
  have e : addf (valueT (n := 512) (laterD q k kp h) v) (valueT (laterP q k kp h hb) vp) (ix2 i (lane half d))
      = ∑ j, (weight A (pos r hr i) M j : EReal) * W j d := by
    show valueT (n := 512) (laterD q k kp h) v (ix2 i (lane half d)) + valueT (laterP q k kp h hb) vp (ix2 i (lane half d)) = _
    rw [valueT_apply, valueT_apply]
    simp only [laterD_apply h O hM, laterP_apply h hb O P hM, O.v, P.v]
    exact values_sum A r hr h0 i M W d
  rw [laterO, outT_apply, e, later_sum h hb O P hM, row_out]

theorem later_lse (O : Own A W half r hr q k v) (P : Past A W half r h0 kp vp) (i : Fin 512) (l : Fin 128) :
    laterL q k kp h hb (ix2 i l) = (A.lse (pos r hr i) : EReal) := by
  obtain ⟨M, hM⟩ := later_max h O P i
  rw [laterL, lseT_apply, hM, later_sum h hb O P hM, row_lse]

end

end Cert.Proof.LatentFwd

end
-- ==== Proof.FwdBlock.lean ====
/-
  What one block of the latent attention's forward pass, four batch rows by four pairs of heads, leaves in its two outputs:
  each of its two heads' output and row logarithms on the head's lanes.
-/
module

public import proofs.«01_k».proof.Proof.FwdTile
public import proofs.«01_k».proof.Proof.Gen.LatentFwdIdeal.Frame
public import Idealize.ShloMosaic.Lib.Pipeline.Value

@[expose] public section

set_option maxRecDepth 16384

noncomputable section

namespace Cert.Proof.LatentFwd

open Cert.LatentFwdIdeal Cert.LatentFwdIdeal.Gen Idealize.ShloMosaic Idealize.ShloMosaic.ValueIdx
open Cert.Proof.LatentBwd (Attn pos lane unit_idx2 select_ofBool)

variable (x0 x1 : Vec Ideal S2048x256 .bf16) (x2 : Vec Ideal S2048x128 .bf16)

/-- The head's lane `d` among the block's 256. -/
def qwide (half : Fin 2) (d : Fin 128) : Fin 256 := ⟨half.val * 128 + d.val, by omega⟩

/-- What the block holds of one of its heads. -/
structure Holds (A : Attn) (W : Fin 2048 → Fin 64 → EReal) (half : Fin 2) : Prop where
  q : ∀ i d, x0 (ix2 i (qwide half d)) = (A.Q i d : EReal)
  k : ∀ i d, x1 (ix2 i (qwide half d)) = (A.K i d : EReal)
  v : ∀ i d, x2 (ix2 i (lane half d)) = W i d

variable {x0 x1 x2}

theorem ld_at {A B a b o l : ℕ} {e : EltTy} (x : Vec Ideal ⟨2, ![A, B]⟩ e)
    (inb : ∀ x, (![o, l] : Fin 2 → ℕ) x + (![a, b] : Fin 2 → ℕ) x ≤ (⟨2, ![A, B]⟩ : Shape).size x)
    (h0 : o + a ≤ A) (h1 : l + b ≤ B) (i : Fin a) (j : Fin b) :
    View.ld x (Rect.unit (s := ⟨2, ![A, B]⟩) ![o, l] ![a, b] inb) (ix2 i j)
      = x (ix2 (⟨o + i.val, by omega⟩ : Fin A) (⟨l + j.val, by omega⟩ : Fin B)) := congrArg x (unit_idx2 inb h0 h1 i j)

section
variable {A : Attn} {W : Fin 2048 → Fin 64 → EReal} {half : Fin 2} (H : Holds x0 x1 x2 A W half)
include H

theorem own_of (r c : ℕ) (hr : r + 512 ≤ 2048) (ec : c = half.val * 128)
    (i0 : ∀ x, (![r, c] : Fin 2 → ℕ) x + (![512, 128] : Fin 2 → ℕ) x ≤ S2048x256.size x)
    (i2 : ∀ x, (![r, 0] : Fin 2 → ℕ) x + (![512, 128] : Fin 2 → ℕ) x ≤ S2048x128.size x) :
    Own A W half r hr (View.ld x0 (Rect.unit (s := S2048x256) ![r, c] ![512, 128] i0))
      (View.ld x1 (Rect.unit (s := S2048x256) ![r, c] ![512, 128] i0))
      (View.ld x2 (Rect.unit (s := S2048x128) ![r, 0] ![512, 128] i2)) := by
  subst ec
  refine ⟨fun i d => ?_, fun i d => ?_, fun i d => ?_⟩
  · exact (ld_at x0 i0 hr (by omega) i d).trans (H.q _ _)
  · exact (ld_at x1 i0 hr (by omega) i d).trans (H.k _ _)
  · refine (ld_at x2 i2 hr (by omega) i (lane half d)).trans (Eq.trans (congrArg (fun l => x2 (ix2 (pos r hr i) l)) (Fin.ext ?_)) (H.v _ _))
    exact Nat.zero_add _

theorem past_of (r c : ℕ) (h0 : 0 + r ≤ 2048) (ec : c = half.val * 128)
    (i1 : ∀ x, (![0, c] : Fin 2 → ℕ) x + (![r, 128] : Fin 2 → ℕ) x ≤ S2048x256.size x)
    (i2 : ∀ x, (![0, 0] : Fin 2 → ℕ) x + (![r, 128] : Fin 2 → ℕ) x ≤ S2048x128.size x) :
    Past A W half r h0 (View.ld x1 (Rect.unit (s := S2048x256) ![0, c] ![r, 128] i1))
      (View.ld x2 (Rect.unit (s := S2048x128) ![0, 0] ![r, 128] i2)) := by
  subst ec
  refine ⟨fun i d => ?_, fun i d => ?_⟩
  · exact (ld_at x1 i1 h0 (by omega) i d).trans (H.k _ _)
  · refine (ld_at x2 i2 h0 (by omega) i (lane half d)).trans (Eq.trans (congrArg (fun l => x2 (ix2 (pos 0 h0 i) l)) (Fin.ext ?_)) (H.v _ _))
    exact Nat.zero_add _
end

/-! ## The two heads' lanes -/

/-- Head 0's lanes of one array, head 1's of the other. -/
abbrev both (a b : FVec Ideal S512x128 .f32) : FVec Ideal S512x128 .f32 := select k0_pay2 a b

theorem both_low (a b : FVec Ideal S512x128 .f32) (i : Fin 512) (d : Fin 64) : both a b (ix2 i (lane 0 d)) = a (ix2 i (lane 0 d)) := by
  show Scalar.select (k0_pay2 (ix2 i (lane 0 d))) (a (ix2 i (lane 0 d))) (b (ix2 i (lane 0 d))) = _
  rw [pay2_apply, select_ofBool, decide_eq_true (by show 0 * 64 + d.val < 64; omega)]
  rfl

theorem both_high (a b : FVec Ideal S512x128 .f32) (i : Fin 512) (d : Fin 64) : both a b (ix2 i (lane 1 d)) = b (ix2 i (lane 1 d)) := by
  show Scalar.select (k0_pay2 (ix2 i (lane 1 d))) (a (ix2 i (lane 1 d))) (b (ix2 i (lane 1 d))) = _
  rw [pay2_apply, select_ofBool, decide_eq_false (by show ¬ 1 * 64 + d.val < 64; omega)]
  rfl

theorem lane_cases (l : Fin 128) : ∃ (half : Fin 2) (d : Fin 64), l = lane half d := by
  by_cases h : l.val < 64
  · exact ⟨0, ⟨l.val, h⟩, Fin.ext (by show l.val = 0 * 64 + l.val; omega)⟩
  · exact ⟨1, ⟨l.val - 64, by omega⟩, Fin.ext (by show l.val = 1 * 64 + (l.val - 64); omega)⟩

/-- A function of a head, a row and a lane of the head, as an array of the block. -/
def spread (g : Fin 2 → Fin 2048 → Fin 64 → EReal) (i : Fin 2048) (l : Fin 128) : EReal :=
  g ⟨l.val / 64, by omega⟩ i ⟨l.val % 64, by omega⟩

theorem spread_lane (g : Fin 2 → Fin 2048 → Fin 64 → EReal) (i : Fin 2048) (half : Fin 2) (d : Fin 64) :
    spread g i (lane half d) = g half i d := by
  have e0 : (⟨(lane half d).val / 64, by have := (lane half d).isLt; omega⟩ : Fin 2) = half :=
    Fin.ext (by show (half.val * 64 + d.val) / 64 = half.val; omega)
  have e1 : (⟨(lane half d).val % 64, by omega⟩ : Fin 64) = d := Fin.ext (by show (half.val * 64 + d.val) % 64 = d.val; omega)
  exact congrArg₂ (fun a b => g a i b) e0 e1

theorem both_at {g : Fin 2 → Fin 2048 → Fin 64 → EReal} {r : ℕ} {hr : r + 512 ≤ 2048} {a b : FVec Ideal S512x128 .f32}
    (ha : ∀ i d, a (ix2 i (lane 0 d)) = g 0 (pos r hr i) d) (hb : ∀ i d, b (ix2 i (lane 1 d)) = g 1 (pos r hr i) d)
    (i : Fin 512) (l : Fin 128) : both a b (ix2 i l) = spread g (pos r hr i) l := by
  obtain ⟨half, d, rfl⟩ := lane_cases l
  rw [spread_lane]
  match half with
  | ⟨0, _⟩ => exact (both_low a b i d).trans (ha i d)
  | ⟨1, _⟩ => exact (both_high a b i d).trans (hb i d)

/-- One stored tile of rows. -/
theorem tile_agree (G : Fin 2048 → Fin 128 → EReal) (r : ℕ) (hr : r + 512 ≤ 2048) (p : FVec Ideal S512x128 .f32)
    (hp : ∀ i l, p (ix2 i l) = G (pos r hr i) l)
    (i2 : ∀ x, (![r, 0] : Fin 2 → ℕ) x + (![512, 128] : Fin 2 → ℕ) x ≤ S2048x128.size x) (x : S512x128.Idx) :
    p x = (fun y : S2048x128.Idx => G (y 0) (y 1)) ((Rect.unit (s := S2048x128) ![r, 0] ![512, 128] i2).emb x) := by
  obtain ⟨i, l, rfl⟩ : ∃ (i : Fin 512) (l : Fin 128), x = ix2 i l := ⟨x 0, x 1, eq_ix2 x⟩
  refine (hp i l).trans ?_
  have he := unit_idx2 (A := 2048) (B := 128) i2 hr (by decide) i l
  refine Eq.trans ?_ (congrArg (fun y : S2048x128.Idx => G (y 0) (y 1)) he).symm
  exact congrArg (G (pos r hr i)) (Fin.ext (Nat.zero_add l.val).symm)

/-- The four tiles of rows, stored one after another. -/
theorem tiles_at (G : Fin 2048 → Fin 128 → EReal) (p3 p2 p1 p0 : FVec Ideal S512x128 .f32)
    (h3 : ∀ i l, p3 (ix2 i l) = G (pos 1536 (by decide) i) l) (h2 : ∀ i l, p2 (ix2 i l) = G (pos 1024 (by decide) i) l)
    (h1 : ∀ i l, p1 (ix2 i l) = G (pos 512 (by decide) i) l) (h0 : ∀ i l, p0 (ix2 i l) = G (pos 0 (by decide) i) l)
    (i : Fin 2048) (l : Fin 128) :
    View.canon ([⟨r0_14, p3⟩, ⟨r0_8, p2⟩, ⟨r0_4, p1⟩, ⟨r0_1, p0⟩] : List (View.Piece (Elt Ideal) S2048x128 .f32)) (ix2 i l) = G i l := by
  refine View.canon_apply_of_pieces (Val := Elt Ideal) (e := .f32) (fun y : S2048x128.Idx => G (y 0) (y 1)) _ ?_ (ix2 i l)
    (cover0_3 (F := Ideal) p3 p2 p1 p0 (ix2 i l))
  refine List.forall_mem_cons.mpr ⟨tile_agree G 1536 _ p3 h3 inb_S2048x128_S512x128_1536_0, ?_⟩
  refine List.forall_mem_cons.mpr ⟨tile_agree G 1024 _ p2 h2 inb_S2048x128_S512x128_1024_0, ?_⟩
  refine List.forall_mem_cons.mpr ⟨tile_agree G 512 _ p1 h1 inb_S2048x128_S512x128_512_0, ?_⟩
  refine List.forall_mem_cons.mpr ⟨tile_agree G 0 _ p0 h0 inb_S2048x128_S512x128_0_0, List.forall_mem_nil _⟩

/-! ## The block's outputs -/

theorem out3_eq : out0_3 (F := Ideal) x0 x1 x2 = View.canon (Val := Elt Ideal) (e := .f32)
    [⟨r0_14, both (laterO (n := 1536) (View.ld x0 r0_12) (View.ld x1 r0_12) (View.ld x1 r0_13) reduces_S512x1536_S512
        broadcasts_S512x1_S512x1536 (View.ld x2 r0_14) (View.ld x2 r0_15))
      (laterO (n := 1536) (View.ld x0 r0_16) (View.ld x1 r0_16) (View.ld x1 r0_17) reduces_S512x1536_S512
        broadcasts_S512x1_S512x1536 (View.ld x2 r0_14) (View.ld x2 r0_15))⟩,
     ⟨r0_8, both (laterO (n := 1024) (View.ld x0 r0_6) (View.ld x1 r0_6) (View.ld x1 r0_7) reduces_S512x1024_S512
        broadcasts_S512x1_S512x1024 (View.ld x2 r0_8) (View.ld x2 r0_9))
      (laterO (n := 1024) (View.ld x0 r0_10) (View.ld x1 r0_10) (View.ld x1 r0_11) reduces_S512x1024_S512
        broadcasts_S512x1_S512x1024 (View.ld x2 r0_8) (View.ld x2 r0_9))⟩,
     ⟨r0_4, both (laterO (n := 512) (View.ld x0 r0_3) (View.ld x1 r0_3) (View.ld x1 r0_0) reduces_S512x512_S512
        broadcasts_S512x1_S512x512 (View.ld x2 r0_4) (View.ld x2 r0_1))
      (laterO (n := 512) (View.ld x0 r0_5) (View.ld x1 r0_5) (View.ld x1 r0_2) reduces_S512x512_S512
        broadcasts_S512x1_S512x512 (View.ld x2 r0_4) (View.ld x2 r0_1))⟩,
     ⟨r0_1, both (firstO (View.ld x0 r0_0) (View.ld x1 r0_0) (View.ld x2 r0_1)) (firstO (View.ld x0 r0_2) (View.ld x1 r0_2) (View.ld x2 r0_1))⟩] := rfl

theorem out4_eq : out0_4 (F := Ideal) x0 x1 x2 = View.canon (Val := Elt Ideal) (e := .f32)
    [⟨r0_14, both (laterL (n := 1536) (View.ld x0 r0_12) (View.ld x1 r0_12) (View.ld x1 r0_13) reduces_S512x1536_S512 broadcasts_S512x1_S512x1536)
      (laterL (n := 1536) (View.ld x0 r0_16) (View.ld x1 r0_16) (View.ld x1 r0_17) reduces_S512x1536_S512 broadcasts_S512x1_S512x1536)⟩,
     ⟨r0_8, both (laterL (n := 1024) (View.ld x0 r0_6) (View.ld x1 r0_6) (View.ld x1 r0_7) reduces_S512x1024_S512 broadcasts_S512x1_S512x1024)
      (laterL (n := 1024) (View.ld x0 r0_10) (View.ld x1 r0_10) (View.ld x1 r0_11) reduces_S512x1024_S512 broadcasts_S512x1_S512x1024)⟩,
     ⟨r0_4, both (laterL (n := 512) (View.ld x0 r0_3) (View.ld x1 r0_3) (View.ld x1 r0_0) reduces_S512x512_S512 broadcasts_S512x1_S512x512)
      (laterL (n := 512) (View.ld x0 r0_5) (View.ld x1 r0_5) (View.ld x1 r0_2) reduces_S512x512_S512 broadcasts_S512x1_S512x512)⟩,
     ⟨r0_1, both (firstL (View.ld x0 r0_0) (View.ld x1 r0_0)) (firstL (View.ld x0 r0_2) (View.ld x1 r0_2))⟩] := rfl

section
variable {A : Fin 2 → Attn} {W : Fin 2 → Fin 2048 → Fin 64 → EReal} (H : ∀ half, Holds x0 x1 x2 (A half) (W half) half)
include H

theorem out3_at (i : Fin 2048) (l : Fin 128) : out0_3 (F := Ideal) x0 x1 x2 (ix2 i l) = spread (fun half i d => outW (A half) (W half) i d) i l := by
  rw [out3_eq]
  refine tiles_at (spread fun half i d => outW (A half) (W half) i d) _ _ _ _ ?_ ?_ ?_ ?_ i l
  · exact both_at (fun i d => later_out _ _ (own_of (H 0) 1536 0 (by decide) rfl _ _) (past_of (H 0) 1536 0 (by decide) rfl _ _) i d)
      (fun i d => later_out _ _ (own_of (H 1) 1536 128 (by decide) rfl _ _) (past_of (H 1) 1536 128 (by decide) rfl _ _) i d)
  · exact both_at (fun i d => later_out _ _ (own_of (H 0) 1024 0 (by decide) rfl _ _) (past_of (H 0) 1024 0 (by decide) rfl _ _) i d)
      (fun i d => later_out _ _ (own_of (H 1) 1024 128 (by decide) rfl _ _) (past_of (H 1) 1024 128 (by decide) rfl _ _) i d)
  · exact both_at (fun i d => later_out _ _ (own_of (H 0) 512 0 (by decide) rfl _ _) (past_of (H 0) 512 0 (by decide) rfl _ _) i d)
      (fun i d => later_out _ _ (own_of (H 1) 512 128 (by decide) rfl _ _) (past_of (H 1) 512 128 (by decide) rfl _ _) i d)
  · exact both_at (fun i d => first_out (own_of (H 0) 0 0 (by decide) rfl _ _) i d)
      (fun i d => first_out (own_of (H 1) 0 128 (by decide) rfl _ _) i d)

theorem out4_at (i : Fin 2048) (l : Fin 128) : out0_4 (F := Ideal) x0 x1 x2 (ix2 i l) = spread (fun half i _ => ((A half).lse i : EReal)) i l := by
  rw [out4_eq]
  refine tiles_at (spread fun half i _ => ((A half).lse i : EReal)) _ _ _ _ ?_ ?_ ?_ ?_ i l
  · exact both_at (fun i d => later_lse _ _ (own_of (H 0) 1536 0 (by decide) rfl _ inb_S2048x128_S512x128_1536_0)
        (past_of (H 0) 1536 0 (by decide) rfl _ inb_S2048x128_S1536x128_0_0) i _)
      (fun i d => later_lse _ _ (own_of (H 1) 1536 128 (by decide) rfl _ inb_S2048x128_S512x128_1536_0)
        (past_of (H 1) 1536 128 (by decide) rfl _ inb_S2048x128_S1536x128_0_0) i _)
  · exact both_at (fun i d => later_lse _ _ (own_of (H 0) 1024 0 (by decide) rfl _ inb_S2048x128_S512x128_1024_0)
        (past_of (H 0) 1024 0 (by decide) rfl _ inb_S2048x128_S1024x128_0_0) i _)
      (fun i d => later_lse _ _ (own_of (H 1) 1024 128 (by decide) rfl _ inb_S2048x128_S512x128_1024_0)
        (past_of (H 1) 1024 128 (by decide) rfl _ inb_S2048x128_S1024x128_0_0) i _)
  · exact both_at (fun i d => later_lse _ _ (own_of (H 0) 512 0 (by decide) rfl _ inb_S2048x128_S512x128_512_0)
        (past_of (H 0) 512 0 (by decide) rfl _ inb_S2048x128_S512x128_0_0) i _)
      (fun i d => later_lse _ _ (own_of (H 1) 512 128 (by decide) rfl _ inb_S2048x128_S512x128_512_0)
        (past_of (H 1) 512 128 (by decide) rfl _ inb_S2048x128_S512x128_0_0) i _)
  · exact both_at (fun i d => first_lse (own_of (H 0) 0 0 (by decide) rfl _ inb_S2048x128_S512x128_0_0) i _)
      (fun i d => first_lse (own_of (H 1) 0 128 (by decide) rfl _ inb_S2048x128_S512x128_0_0) i _)
end

end Cert.Proof.LatentFwd

end
-- ==== Proof.FwdArrays.lean ====
/-
  The forward pass's two results, as arrays.

  Grid point `t` reads two heads of one batch row and writes their outputs and their row logarithms, so its blocks of the two
  results are blocks of the reference's.
-/
module

public import proofs.«01_k».proof.Proof.FwdBlock
public import proofs.«01_k».proof.Proof.Host
public import proofs.«01_k».proof.Proof.Gen.LatentFwdIdeal.Value
public import proofs.«01_k».proof.Proof.Gen.LatentFwdRefIdeal.Read
public import Idealize.ShloMosaic.Lib.Pipeline.ValueKit.Point

@[expose] public section

set_option maxRecDepth 16384

noncomputable section

namespace Cert.Proof.LatentFwd

open Cert.LatentFwdIdeal Cert.LatentFwdIdeal.Gen Idealize.ShloMosaic.TcCoe Idealize.ShloMosaic.ValueIdx
open Idealize.ShloMosaic hiding ix2 eq_ix2 ix4 eq_ix4
open Cert.Proof.LatentBwd (Attn lane row qlane vlane IsReal headAt v24_eq v1_at v41_at hostLse lseOf hostLse_at)
open Cert.LatentFwdRefIdeal.Read (val_main_v28 val_main_v36)

/-! ## The reference's two results -/

section
open Cert.ReferenceIdeal.Read (val_main_v47 val_main_v46 val_main_v45 val_main_v41 val_main_v40 val_main_v39 val_main_v38
  val_main_v37 val_main_v35 val_main_v34 val_main_v47_apply val_main_v46_apply val_main_v45_apply idx_main_v46 idx_main_v47
  lidx_main_v45 ridx_main_v45)

/-- The reference's output is the one its backward pass computes on the way. -/
theorem v28_eq (x0 x1 : (⟨S8192x1024, .bf16⟩ : BufTy).Contents (Elt Ideal)) (x2 : (⟨S8192x512, .bf16⟩ : BufTy).Contents (Elt Ideal)) :
    val_main_v28 (F := Ideal) x0 x1 x2 = val_main_v47 (F := Ideal) x0 x1 x2 := by
  unfold val_main_v47 val_main_v46 val_main_v45 val_main_v41 val_main_v40 val_main_v39 val_main_v38 val_main_v37
    Cert.ReferenceIdeal.Read.val_main_v36 val_main_v35 val_main_v34
  rw [v24_eq]
  rfl

/-- An entry of the reference's output, the values being any numbers or infinities. -/
theorem v28_at {x0 x1 : (⟨S8192x1024, .bf16⟩ : BufTy).Contents (Elt Ideal)} (x2 : (⟨S8192x512, .bf16⟩ : BufTy).Contents (Elt Ideal))
    (y2 : (⟨S8192x512, .bf16⟩ : BufTy).Contents (Elt Ideal)) (y3 : (⟨S8192x512, .f32⟩ : BufTy).Contents (Elt Ideal))
    (h0 : IsReal x0) (h1 : IsReal x1) (b : Fin 4) (h : Fin 8) (i : Fin 2048) (d : Fin 64) :
    val_main_v28 (F := Ideal) x0 x1 x2 (ix2 (row b i) (vlane h d))
      = outW (headAt x0 x1 y2 y3 b h) (fun j d => x2 (ix2 (row b j) (vlane h d))) i d := by
  have ha : idx_main_v46 (idx_main_v47 (ix2 (row b i) (vlane h d))) = ix4 b h d i := by
    refine funext fun a => Fin.ext ?_
    have := b.isLt; have := h.isLt; have := i.isLt; have := d.isLt
    match a with
    | ⟨0, _⟩ => show _ = b.val; simp [row, vlane]; omega
    | ⟨1, _⟩ => show _ = h.val; simp [row, vlane]; omega
    | ⟨2, _⟩ => show _ = d.val; simp [row, vlane]; omega
    | ⟨3, _⟩ => show _ = i.val; simp [row, vlane]; omega
  rw [v28_eq, val_main_v47_apply, val_main_v46_apply, ha, val_main_v45_apply, outW]
  refine Finset.sum_congr rfl fun j _ => ?_
  have hc : lidx_main_v45 (ix4 b h d i) j = ix4 b j h d := eq_ix4 _
  have hb : ridx_main_v45 (ix4 b h d i) j = ix4 b h i j := eq_ix4 _
  rw [hc, hb, v1_at, v41_at (x2 := y2) (x3 := y3) h0 h1, mul_comm]

/-- The reference's logarithms are the ones its backward pass is handed. -/
theorem v36_eq (x0 x1 : (⟨S8192x1024, .bf16⟩ : BufTy).Contents (Elt Ideal)) : val_main_v36 (F := Ideal) x0 x1 = hostLse x0 x1 := by
  unfold hostLse lseOf val_main_v39 val_main_v38 val_main_v37 Cert.ReferenceIdeal.Read.val_main_v36 val_main_v35 val_main_v34
  rw [v24_eq]
  rfl
end

/-! ## The blocks -/

/-- The batch row of a grid point. -/
def bp (t : Fin cfg0.N) : Fin 4 := ⟨(grid0.coords t 0).val, (grid0.coords t 0).isLt⟩
/-- The pair of heads of a grid point. -/
def gp (t : Fin cfg0.N) : Fin 4 := ⟨(grid0.coords t 1).val, (grid0.coords t 1).isLt⟩
/-- Head `half` of the pair. -/
def hd (t : Fin cfg0.N) (half : Fin 2) : Fin 8 := ⟨2 * (gp t).val + half.val, by omega⟩

theorem ix0_0 : ∀ t : Fin cfg0.N, win0_0.index t = ![(bp t).val, (gp t).val] :=
  (by decide +kernel : ∀ t : Fin grid0.N, win0_0.index t = ![(grid0.coords t 0).val, (grid0.coords t 1).val])
theorem ix0_1 : ∀ t : Fin cfg0.N, win0_1.index t = ![(bp t).val, (gp t).val] :=
  (by decide +kernel : ∀ t : Fin grid0.N, win0_1.index t = ![(grid0.coords t 0).val, (grid0.coords t 1).val])
theorem ix0_2 : ∀ t : Fin cfg0.N, win0_2.index t = ![(bp t).val, (gp t).val] :=
  (by decide +kernel : ∀ t : Fin grid0.N, win0_2.index t = ![(grid0.coords t 0).val, (grid0.coords t 1).val])
theorem ix0_3 : ∀ t : Fin cfg0.N, win0_3.index t = ![(bp t).val, (gp t).val] :=
  (by decide +kernel : ∀ t : Fin grid0.N, win0_3.index t = ![(grid0.coords t 0).val, (grid0.coords t 1).val])
theorem ix0_4 : ∀ t : Fin cfg0.N, win0_4.index t = ![(bp t).val, (gp t).val] :=
  (by decide +kernel : ∀ t : Fin grid0.N, win0_4.index t = ![(grid0.coords t 0).val, (grid0.coords t 1).val])

/-- Lane `l` of a block of the queries or the keys, among all the lanes. -/
def wide (t : Fin cfg0.N) (l : Fin 256) : Fin 1024 := ⟨(gp t).val * 256 + l.val, by omega⟩
/-- Lane `l` of a block of the values, among all the lanes. -/
def narrow (t : Fin cfg0.N) (l : Fin 128) : Fin 512 := ⟨(gp t).val * 128 + l.val, by omega⟩

theorem wide_eq (t : Fin cfg0.N) (half : Fin 2) (d : Fin 128) : wide t (qwide half d) = qlane (hd t half) d := Fin.ext (by
  show (gp t).val * 256 + (half.val * 128 + d.val) = (2 * (gp t).val + half.val) * 128 + d.val
  omega)
theorem narrow_eq (t : Fin cfg0.N) (half : Fin 2) (d : Fin 64) : narrow t (lane half d) = vlane (hd t half) d := Fin.ext (by
  show (gp t).val * 128 + (half.val * 64 + d.val) = (2 * (gp t).val + half.val) * 64 + d.val
  omega)

variable (m : (ℓ : Loc nD τ sig) → Buf (Elt Ideal) ℓ) (c : Dev nD)

section
variable (t : Fin cfg0.N)

theorem iblk0_at (i : Fin 2048) (l : Fin 256) : iblk m c 0 t (ix2 i l) = m ((c.tc : Thread nD τ).loc main_arg0) (ix2 (row (bp t) i) (wide t l)) := by
  blk_ext [iblk, V_main_arg0, ix0_0 t, row, wide]
theorem iblk1_at (i : Fin 2048) (l : Fin 256) : iblk m c 1 t (ix2 i l) = m ((c.tc : Thread nD τ).loc main_arg1) (ix2 (row (bp t) i) (wide t l)) := by
  blk_ext [iblk, V_main_arg1, ix0_1 t, row, wide]
theorem iblk2_at (i : Fin 2048) (l : Fin 128) : iblk m c 2 t (ix2 i l) = m ((c.tc : Thread nD τ).loc main_arg2) (ix2 (row (bp t) i) (narrow t l)) := by
  blk_ext [iblk, V_main_arg2, ix0_2 t, row, narrow]
end

/-- The three arguments. -/
abbrev a0 : (⟨S8192x1024, .bf16⟩ : BufTy).Contents (Elt Ideal) := m ((c.tc : Thread nD τ).loc main_arg0)
abbrev a1 : (⟨S8192x1024, .bf16⟩ : BufTy).Contents (Elt Ideal) := m ((c.tc : Thread nD τ).loc main_arg1)
abbrev a2 : (⟨S8192x512, .bf16⟩ : BufTy).Contents (Elt Ideal) := m ((c.tc : Thread nD τ).loc main_arg2)

/-- The forward pass has no incoming gradient: a head's is nought. -/
def nought : (⟨S8192x512, .f32⟩ : BufTy).Contents (Elt Ideal) := fun _ => (0 : EReal)

/-- A head of the reference. -/
abbrev headOf (b : Fin 4) (h : Fin 8) : Attn := headAt (a0 m c) (a1 m c) (a2 m c) nought b h
/-- The head's values, as they are. -/
abbrev valuesOf (b : Fin 4) (h : Fin 8) (j : Fin 2048) (d : Fin 64) : EReal := a2 m c (ix2 (row b j) (vlane h d))

variable {m c} (h0 : IsReal (a0 m c)) (h1 : IsReal (a1 m c))
include h0 h1

/-- A block holds two heads of the reference, whatever its values are. -/
theorem holds (t : Fin cfg0.N) (half : Fin 2) : Holds (iblk m c 0 t) (iblk m c 1 t) (iblk m c 2 t) (headOf m c (bp t) (hd t half))
    (valuesOf m c (bp t) (hd t half)) half := by
  refine ⟨fun i d => ?_, fun i d => ?_, fun i d => ?_⟩
  · refine (iblk0_at m c t i _).trans ?_
    rw [wide_eq]
    exact h0 _
  · refine (iblk1_at m c t i _).trans ?_
    rw [wide_eq]
    exact h1 _
  · refine (iblk2_at m c t i _).trans ?_
    rw [narrow_eq]

/-! ## The results -/

/-- The output. -/
theorem arr3 : (dats m 0 c).arrAt 3 cfg0.N = val_main_v28 (F := Ideal) (a0 m c) (a1 m c) (a2 m c) := by
  have at_ : ∀ t : Fin cfg0.N, ∀ half i d, _ := fun t half i d => v28_at (a2 m c) (a2 m c) nought h0 h1 (bp t) (hd t half) i d
  generalize val_main_v28 (F := Ideal) (a0 m c) (a1 m c) (a2 m c) = G at at_ ⊢
  refine (dats m 0 c).arrAt_eq_of_covers 3 G (by decide +kernel) fun t hf y => ?_
  blk_simp
  rw [after0_3]
  obtain ⟨i, l, rfl⟩ : ∃ (i : Fin 2048) (l : Fin 128), y = ix2 i l := ⟨y 0, y 1, eq_ix2 y⟩
  refine (out3_at (A := fun half => headOf m c (bp t) (hd t half)) (W := fun half => valuesOf m c (bp t) (hd t half)) (holds h0 h1 t) i l).trans ?_
  obtain ⟨half, d, rfl⟩ := lane_cases l
  rw [spread_lane]
  refine (at_ t half i d).symm.trans ?_
  rw [← narrow_eq]
  blk_ext [ix0_3 t, row, narrow]

/-- The row logarithms. -/
theorem arr4 : (dats m 0 c).arrAt 4 cfg0.N = val_main_v36 (F := Ideal) (a0 m c) (a1 m c) := by
  rw [v36_eq]
  have at_ : ∀ t : Fin cfg0.N, ∀ half i d, _ := fun t half i d =>
    hostLse_at (x2 := a2 m c) (x3 := nought) h0 h1 (bp t) (hd t half) i d
  generalize hostLse (a0 m c) (a1 m c) = G at at_ ⊢
  refine (dats m 0 c).arrAt_eq_of_covers 4 G (by decide +kernel) fun t hf y => ?_
  blk_simp
  rw [after0_4]
  obtain ⟨i, l, rfl⟩ : ∃ (i : Fin 2048) (l : Fin 128), y = ix2 i l := ⟨y 0, y 1, eq_ix2 y⟩
  refine (out4_at (A := fun half => headOf m c (bp t) (hd t half)) (W := fun half => valuesOf m c (bp t) (hd t half)) (holds h0 h1 t) i l).trans ?_
  obtain ⟨half, d, rfl⟩ := lane_cases l
  rw [spread_lane]
  refine (at_ t half i d).symm.trans ?_
  rw [← narrow_eq]
  blk_ext [ix0_4 t, row, narrow]

end Cert.Proof.LatentFwd

end
-- ==== Proof.FwdClaims.lean ====
/-
  The claims about the latent attention's forward pass: the precondition read, the frames, the two named constants, and the
  kernel's two results being the reference's.
-/
module

public import proofs.«01_k».proof.Defs
public import proofs.«01_k».proof.Pre_latent_finite
public import proofs.«01_k».proof.Proof.Pre
public import proofs.«01_k».proof.Proof.Gen.LatentFwd.Frame
public import proofs.«01_k».proof.Proof.Gen.LatentFwdIdeal.Frame
public import proofs.«01_k».proof.Proof.Gen.LatentFwdIdeal.Value
public import proofs.«01_k».proof.Proof.Gen.LatentFwdRefIdeal.Run
public import proofs.«01_k».proof.Proof.FwdArrays
public import Idealize.ShloMosaic.Lib.Quiescent

@[expose] public section

set_option maxRecDepth 16384

noncomputable section

namespace Cert.Proof.LatentFwd

open Idealize.ShloMosaic Idealize.ShloMosaic.TcCoe Idealize.SL.Sem
open Cert.Proof.LatentBwd (IsReal isReal_of ofBits_inf)
open Cert.LatentFwdRefIdeal.Read (val_main_v28 val_main_v36 val_main_v28_eq val_main_v36_eq)

/-! ## The precondition: every entry of the queries and the keys is a real number -/

section
open Cert.Pre_latent_finite

/-- The shape relations the precondition's operations state. -/
instance factsFinite : Cert.Pre_latent_finite.Facts where
  bitsLt_bf16_f32 := by decide
  bcast_S_S8192x1024 := by decide
  reducesTo_S8192x1024_S_d0_1 := by decide
  h_S_ := by decide

theorem finite_real {x0 x1 : FVec Ideal S8192x1024 .bf16} {x2 : FVec Ideal S8192x512 .bf16}
    (h : Cert.Pre_latent_finite.fn (F := Ideal) x0 x1 x2 = fun _ => 1#1) : IsReal x0 ∧ IsReal x1 := by
  have hs := congrFun h (fun i : Fin 0 => i.elim0)
  dsimp only [fn] at hs
  obtain ⟨e0, e1⟩ := IntOp.andi_eq_one.1 hs
  have sub : Subsingleton S_.Idx := ⟨fun a b => funext fun i => i.elim0⟩
  refine ⟨isReal_of _ _ (fun _ => ofBits_inf) (Host.reduce_andi_all _ _ _ _ _ e0),
    isReal_of _ _ (fun _ => ofBits_inf) (Host.reduce_andi_all _ _ _ _ _ e1)⟩
end

/-! ## The frames -/

theorem frame_p : Cert.quiescent_LatentFwd := fun m ρ _ => Cert.LatentFwd.Gen.frame m ρ

theorem frame_pi : Cert.quiescent_LatentFwdIdeal := fun m ρ _ => Cert.LatentFwdIdeal.Gen.frame m ρ

/-- The reference has no semaphores, so its run alone gives the frame. -/
theorem frame_ri : Cert.quiescent_LatentFwdRefIdeal := fun m ρ _ =>
  (θ_run Cert.LatentFwdRefIdeal.defs _ _).mono
    (fun r h => ⟨fun c => (h c).2.2, sem_eq_zero_of_no_sems (by decide) r.2⟩)
    (Cert.LatentFwdRefIdeal.Value.run (F := Ideal) m ρ)

/-! ## The named constants -/

theorem preserves : Cert.preserves_LatentFwd_LatentFwdIdeal :=
  ⟨IdealRules.named_const.statement Cert.LatentFwdIdeal.κ "scale2" .f32 0x3E16C740#32 _ rfl,
    IdealRules.named_const.statement Cert.LatentFwdIdeal.κ "mask" .f32 0xF149F2CA#32 _ rfl⟩

/-! ## The values -/

theorem algebraic : Cert.algebraic_LatentFwdIdeal_LatentFwdRefIdeal_pre_latent_finite := by
  intro m g m' g' hpre hargs
  refine ⟨fun c => val_main_v28 (F := Ideal) (a0 m c) (a1 m c) (a2 m c), fun c => val_main_v36 (F := Ideal) (a0 m c) (a1 m c), ?_, ?_⟩
  · refine (θ_run Cert.LatentFwdIdeal.defs _ _).mono (fun r h c => ?_) (Cert.LatentFwdIdeal.Value.run_blocks (F := Ideal) m g)
    obtain ⟨e3, e4, ha⟩ := h c
    obtain ⟨h0, h1⟩ := finite_real (hpre c)
    exact ⟨e3.trans (arr3 h0 h1), e4.trans (arr4 h0 h1), ha⟩
  · refine (θ_run Cert.LatentFwdRefIdeal.defs _ _).mono (fun r h c => ?_) (Cert.LatentFwdRefIdeal.Value.run (F := Ideal) m' g')
    obtain ⟨e0, e1, ha⟩ := h c
    obtain ⟨g0, g1, g2⟩ := hargs c
    refine ⟨e0.trans ((val_main_v28_eq m' c).trans ?_), e1.trans ((val_main_v36_eq _ _).trans ?_), ha⟩
    · rw [g0, g1, g2]
    · rw [g0, g1]

end Cert.Proof.LatentFwd

end
-- ==== Proof.lean ====
/-
  Calls of the training step and their mathematics: every claim, assembled.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnBwdIdeal.Value
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.Gen.WideGrad
public import proofs.«01_k».proof.Proof.Gen.WideGrad.Frame
public import proofs.«01_k».proof.Proof.Gen.WideGradIdeal
public import proofs.«01_k».proof.Proof.Gen.WideGradIdeal.Frame
public import proofs.«01_k».proof.Proof.Gen.WideGradIdeal.Value
public import proofs.«01_k».proof.Proof.Gen.WideGradRefIdeal
public import proofs.«01_k».proof.Proof.Gen.WideGradRefIdeal.Run
public import proofs.«01_k».proof.Proof.Gen.WideGradRefIdeal.Read
public import proofs.«01_k».proof.Proof.Gen.DownGrad
public import proofs.«01_k».proof.Proof.Gen.DownGrad.Frame
public import proofs.«01_k».proof.Proof.Gen.DownGradIdeal
public import proofs.«01_k».proof.Proof.Gen.DownGradIdeal.Frame
public import proofs.«01_k».proof.Proof.Gen.DownGradIdeal.Value
public import proofs.«01_k».proof.Proof.Gen.DownGradRefIdeal
public import proofs.«01_k».proof.Proof.Gen.DownGradRefIdeal.Run
public import proofs.«01_k».proof.Proof.Gen.DownGradRefIdeal.Read
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.LossFwd
public import proofs.«01_k».proof.Proof.Gen.LossFwd.Frame
public import proofs.«01_k».proof.Proof.Gen.LossFwdIdeal
public import proofs.«01_k».proof.Proof.Gen.LossFwdIdeal.Frame
public import proofs.«01_k».proof.Proof.Gen.LossFwdIdeal.Value
public import proofs.«01_k».proof.Proof.Gen.LossFwdRefIdeal
public import proofs.«01_k».proof.Proof.Gen.LossFwdRefIdeal.Run
public import proofs.«01_k».proof.Proof.Gen.LossFwdRefIdeal.Read
public import proofs.«01_k».proof.Proof.Gen.OutGrad
public import proofs.«01_k».proof.Proof.Gen.OutGrad.Frame
public import proofs.«01_k».proof.Proof.Gen.OutGradIdeal
public import proofs.«01_k».proof.Proof.Gen.OutGradIdeal.Frame
public import proofs.«01_k».proof.Proof.Gen.OutGradIdeal.Value
public import proofs.«01_k».proof.Proof.Gen.OutGradRefIdeal
public import proofs.«01_k».proof.Proof.Gen.OutGradRefIdeal.Run
public import proofs.«01_k».proof.Proof.Gen.OutGradRefIdeal.Read
public import proofs.«01_k».proof.Proof.Gen.InGrad
public import proofs.«01_k».proof.Proof.Gen.InGrad.Frame
public import proofs.«01_k».proof.Proof.Gen.InGradIdeal
public import proofs.«01_k».proof.Proof.Gen.InGradIdeal.Frame
public import proofs.«01_k».proof.Proof.Gen.InGradIdeal.Value
public import proofs.«01_k».proof.Proof.Gen.InGradRefIdeal
public import proofs.«01_k».proof.Proof.Gen.InGradRefIdeal.Run
public import proofs.«01_k».proof.Proof.Gen.InGradRefIdeal.Read
public import proofs.«01_k».proof.Proof.Gen.QueryGrad
public import proofs.«01_k».proof.Proof.Gen.QueryGrad.Frame
public import proofs.«01_k».proof.Proof.Gen.QueryGradIdeal
public import proofs.«01_k».proof.Proof.Gen.QueryGradIdeal.Frame
public import proofs.«01_k».proof.Proof.Gen.QueryGradIdeal.Value
public import proofs.«01_k».proof.Proof.Gen.QueryGradRefIdeal
public import proofs.«01_k».proof.Proof.Gen.QueryGradRefIdeal.Run
public import proofs.«01_k».proof.Proof.Gen.QueryGradRefIdeal.Read
public import proofs.«01_k».proof.Proof.Gen.KeyGrad
public import proofs.«01_k».proof.Proof.Gen.KeyGrad.Frame
public import proofs.«01_k».proof.Proof.Gen.KeyGradIdeal
public import proofs.«01_k».proof.Proof.Gen.KeyGradIdeal.Frame
public import proofs.«01_k».proof.Proof.Gen.KeyGradIdeal.Value
public import proofs.«01_k».proof.Proof.Gen.KeyGradRefIdeal
public import proofs.«01_k».proof.Proof.Gen.KeyGradRefIdeal.Run
public import proofs.«01_k».proof.Proof.Gen.KeyGradRefIdeal.Read
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutBwdIdeal.Value
public import proofs.«01_k».proof.Proof.Gen.OutBwdRefIdeal
public import proofs.«01_k».proof.Proof.Gen.OutBwdRefIdeal.Run
public import proofs.«01_k».proof.Proof.Gen.OutBwdRefIdeal.Read
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Gen.LatentFwd
public import proofs.«01_k».proof.Proof.Gen.LatentFwd.Frame
public import proofs.«01_k».proof.Proof.Gen.LatentFwdIdeal
public import proofs.«01_k».proof.Proof.Gen.LatentFwdIdeal.Frame
public import proofs.«01_k».proof.Proof.Gen.LatentFwdIdeal.Value
public import proofs.«01_k».proof.Proof.Gen.LatentFwdRefIdeal
public import proofs.«01_k».proof.Proof.Gen.LatentFwdRefIdeal.Run
public import proofs.«01_k».proof.Proof.Gen.LatentFwdRefIdeal.Read
public import proofs.«01_k».proof.Proof.Frames
public import proofs.«01_k».proof.Proof.Algebraic
public import proofs.«01_k».proof.Proof.FfnClaims
public import proofs.«01_k».proof.Proof.WideClaims
public import proofs.«01_k».proof.Proof.DownClaims
public import proofs.«01_k».proof.Proof.FfnFwdClaims
public import proofs.«01_k».proof.Proof.LossFwdClaims
public import proofs.«01_k».proof.Proof.OutClaims
public import proofs.«01_k».proof.Proof.InClaims
public import proofs.«01_k».proof.Proof.QueryClaims
public import proofs.«01_k».proof.Proof.KeyClaims
public import proofs.«01_k».proof.Proof.OutBwdClaims
public import proofs.«01_k».proof.Proof.OutFwdClaims
public import proofs.«01_k».proof.Proof.FwdClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.FfnBwd.Gen.facts, Cert.FfnBwdIdeal.Gen.facts, Cert.FfnBwdRefIdeal.Gen.facts,
    Cert.WideGrad.Gen.facts, Cert.WideGradIdeal.Gen.facts, Cert.WideGradRefIdeal.Gen.facts,
    Cert.DownGrad.Gen.facts, Cert.DownGradIdeal.Gen.facts, Cert.DownGradRefIdeal.Gen.facts,
    Cert.FfnFwd.Gen.facts, Cert.FfnFwdIdeal.Gen.facts, Cert.FfnFwdRefIdeal.Gen.facts,
    Cert.LossFwd.Gen.facts, Cert.LossFwdIdeal.Gen.facts, Cert.LossFwdRefIdeal.Gen.facts,
    Cert.OutGrad.Gen.facts, Cert.OutGradIdeal.Gen.facts, Cert.OutGradRefIdeal.Gen.facts,
    Cert.InGrad.Gen.facts, Cert.InGradIdeal.Gen.facts, Cert.InGradRefIdeal.Gen.facts,
    Cert.QueryGrad.Gen.facts, Cert.QueryGradIdeal.Gen.facts, Cert.QueryGradRefIdeal.Gen.facts,
    Cert.KeyGrad.Gen.facts, Cert.KeyGradIdeal.Gen.facts, Cert.KeyGradRefIdeal.Gen.facts,
    Cert.OutBwd.Gen.facts, Cert.OutBwdIdeal.Gen.facts, Cert.OutBwdRefIdeal.Gen.facts,
    Cert.OutFwd.Gen.facts, Cert.OutFwdIdeal.Gen.facts, Cert.OutFwdRefIdeal.Gen.facts,
    Cert.LatentFwd.Gen.facts, Cert.LatentFwdIdeal.Gen.facts, Cert.LatentFwdRefIdeal.Gen.facts,
    LatentBwd.factsFinite, FfnBwd.factsFinite, LatentFwd.factsFinite,
    LatentBwd.frame_p, LatentBwd.frame_pi, fun m g _ => LatentBwd.frame_pi m g trivial,
    LatentBwd.frame_ri, fun m g _ => LatentBwd.frame_ri m g trivial,
    FfnBwd.frame_p, FfnBwd.frame_pi, fun m g _ => FfnBwd.frame_pi m g trivial,
    FfnBwd.frame_ri, fun m g _ => FfnBwd.frame_ri m g trivial,
    WideGrad.frame_p, WideGrad.frame_pi, WideGrad.frame_ri, DownGrad.frame_p, DownGrad.frame_pi, DownGrad.frame_ri,
    FfnFwd.frame_p, FfnFwd.frame_pi, FfnFwd.frame_ri, LossFwd.frame_p, LossFwd.frame_pi, LossFwd.frame_ri,
    OutGrad.frame_p, OutGrad.frame_pi, OutGrad.frame_ri,
    InGrad.frame_p, InGrad.frame_pi, InGrad.frame_ri,
    QueryGrad.frame_p, QueryGrad.frame_pi, QueryGrad.frame_ri,
    KeyGrad.frame_p, KeyGrad.frame_pi, KeyGrad.frame_ri,
    OutBwd.frame_p, OutBwd.frame_pi, OutBwd.frame_ri, OutFwd.frame_p, OutFwd.frame_pi, OutFwd.frame_ri,
    LatentFwd.frame_p, LatentFwd.frame_pi, fun m g _ => LatentFwd.frame_pi m g trivial,
    LatentFwd.frame_ri, fun m g _ => LatentFwd.frame_ri m g trivial,
    LatentBwd.preserves, LatentBwd.algebraic, trivial, FfnBwd.algebraic, trivial, WideGrad.algebraic,
    trivial, DownGrad.algebraic, trivial, FfnFwd.algebraic, trivial, LossFwd.algebraic,
    trivial, OutGrad.algebraic, trivial, InGrad.algebraic, trivial, QueryGrad.algebraic, trivial, KeyGrad.algebraic,
    trivial, OutBwd.algebraic, trivial, OutFwd.algebraic,
    LatentFwd.preserves, LatentFwd.algebraic⟩

end Cert.Proof

end
